-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.2.2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.2.2.2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.2.2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.2.2.2 = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def preserves_Kernel_KernelIdeal : Prop :=
  IdealRules.named_const.Statement Cert.KernelIdeal.κ "sqrt_half" .f32 0x3F3504F3#32 (((Real.sqrt 2)⁻¹ : ℝ) : EReal)
  ∧ IdealRules.named_const.Statement Cert.KernelIdeal.κ "erf_slope_over_sqrt_8" .f32 0x3ECC422A#32 (((9465531 / 8388608) * (Real.sqrt 8)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v120) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_v76) = v3 c
          ∧ r.2.mem ((c.tc : Thread Cert.ReferenceIdeal.nD Cert.ReferenceIdeal.τ).loc Cert.ReferenceIdeal.main_v73) = v4 c
          ∧ r.2.mem ((c.tc : Thread Cert.ReferenceIdeal.nD Cert.ReferenceIdeal.τ).loc Cert.ReferenceIdeal.main_v119) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v17_0)) (v1 : (c : Dev Cert.Kernel2Ideal.nD) → Buf (Elt Ideal) ((c.tc : Thread Cert.Kernel2Ideal.nD Cert.Kernel2Ideal.τ).loc Cert.Kernel2Ideal.main_v17_1)) (v2 : (c : Dev Cert.Kernel2Ideal.nD) → Buf (Elt Ideal) ((c.tc : Thread Cert.Kernel2Ideal.nD Cert.Kernel2Ideal.τ).loc Cert.Kernel2Ideal.main_v17_2)) (v3 : (c : Dev Cert.Kernel2Ideal.nD) → Buf (Elt Ideal) ((c.tc : Thread Cert.Kernel2Ideal.nD Cert.Kernel2Ideal.τ).loc Cert.Kernel2Ideal.main_v17_3)) (v4 : (c : Dev Cert.Kernel2Ideal.nD) → Buf (Elt Ideal) ((c.tc : Thread Cert.Kernel2Ideal.nD Cert.Kernel2Ideal.τ).loc Cert.Kernel2Ideal.main_v17_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17_0) = v0 c
          ∧ r.2.mem ((c.tc : Thread Cert.Kernel2Ideal.nD Cert.Kernel2Ideal.τ).loc Cert.Kernel2Ideal.main_v17_1) = v1 c
          ∧ r.2.mem ((c.tc : Thread Cert.Kernel2Ideal.nD Cert.Kernel2Ideal.τ).loc Cert.Kernel2Ideal.main_v17_2) = v2 c
          ∧ r.2.mem ((c.tc : Thread Cert.Kernel2Ideal.nD Cert.Kernel2Ideal.τ).loc Cert.Kernel2Ideal.main_v17_3) = v3 c
          ∧ r.2.mem ((c.tc : Thread Cert.Kernel2Ideal.nD Cert.Kernel2Ideal.τ).loc Cert.Kernel2Ideal.main_v17_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_v37) = v1 c
          ∧ r.2.mem ((c.tc : Thread Cert.Reference2Ideal.nD Cert.Reference2Ideal.τ).loc Cert.Reference2Ideal.main_v57) = v2 c
          ∧ r.2.mem ((c.tc : Thread Cert.Reference2Ideal.nD Cert.Reference2Ideal.τ).loc Cert.Reference2Ideal.main_v58) = v3 c
          ∧ r.2.mem ((c.tc : Thread Cert.Reference2Ideal.nD Cert.Reference2Ideal.τ).loc Cert.Reference2Ideal.main_v59) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)) (v3 : (c : Dev Cert.Kernel3Ideal.nD) → Buf (Elt Ideal) ((c.tc : Thread Cert.Kernel3Ideal.nD Cert.Kernel3Ideal.τ).loc Cert.Kernel3Ideal.main_v4_3)) (v4 : (c : Dev Cert.Kernel3Ideal.nD) → Buf (Elt Ideal) ((c.tc : Thread Cert.Kernel3Ideal.nD Cert.Kernel3Ideal.τ).loc Cert.Kernel3Ideal.main_v4_4)) (v5 : (c : Dev Cert.Kernel3Ideal.nD) → Buf (Elt Ideal) ((c.tc : Thread Cert.Kernel3Ideal.nD Cert.Kernel3Ideal.τ).loc Cert.Kernel3Ideal.main_v4_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_v4_3) = v3 c
          ∧ r.2.mem ((c.tc : Thread Cert.Kernel3Ideal.nD Cert.Kernel3Ideal.τ).loc Cert.Kernel3Ideal.main_v4_4) = v4 c
          ∧ r.2.mem ((c.tc : Thread Cert.Kernel3Ideal.nD Cert.Kernel3Ideal.τ).loc Cert.Kernel3Ideal.main_v4_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_v73) = v1 c
          ∧ r.2.mem ((c.tc : Thread Cert.Reference3Ideal.nD Cert.Reference3Ideal.τ).loc Cert.Reference3Ideal.main_v72) = v2 c
          ∧ r.2.mem ((c.tc : Thread Cert.Reference3Ideal.nD Cert.Reference3Ideal.τ).loc Cert.Reference3Ideal.main_v56) = v3 c
          ∧ r.2.mem ((c.tc : Thread Cert.Reference3Ideal.nD Cert.Reference3Ideal.τ).loc Cert.Reference3Ideal.main_v74) = v4 c
          ∧ r.2.mem ((c.tc : Thread Cert.Reference3Ideal.nD Cert.Reference3Ideal.τ).loc Cert.Reference3Ideal.main_v75) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_v20) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_v11) = v1 c
          ∧ r.2.mem ((c.tc : Thread Cert.Reference6Ideal.nD Cert.Reference6Ideal.τ).loc Cert.Reference6Ideal.main_v19) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)) (v2 : (c : Dev Cert.Kernel8Ideal.nD) → Buf (Elt Ideal) ((c.tc : Thread Cert.Kernel8Ideal.nD Cert.Kernel8Ideal.τ).loc Cert.Kernel8Ideal.main_v3_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_v3_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v20) = v0 c
          ∧ r.2.mem ((c.tc : Thread Cert.Reference8Ideal.nD Cert.Reference8Ideal.τ).loc Cert.Reference8Ideal.main_v21) = v1 c
          ∧ r.2.mem ((c.tc : Thread Cert.Reference8Ideal.nD Cert.Reference8Ideal.τ).loc Cert.Reference8Ideal.main_v22) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v37) = v0 c
          ∧ r.2.mem ((c.tc : Thread Cert.Reference9Ideal.nD Cert.Reference9Ideal.τ).loc Cert.Reference9Ideal.main_v20) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)) (v3 : (c : Dev Cert.Kernel10Ideal.nD) → Buf (Elt Ideal) ((c.tc : Thread Cert.Kernel10Ideal.nD Cert.Kernel10Ideal.τ).loc Cert.Kernel10Ideal.main_v4_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_v4_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_v23) = v1 c
          ∧ r.2.mem ((c.tc : Thread Cert.Reference10Ideal.nD Cert.Reference10Ideal.τ).loc Cert.Reference10Ideal.main_v24) = v2 c
          ∧ r.2.mem ((c.tc : Thread Cert.Reference10Ideal.nD Cert.Reference10Ideal.τ).loc Cert.Reference10Ideal.main_v25) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v37) = v0 c
          ∧ r.2.mem ((c.tc : Thread Cert.Reference14Ideal.nD Cert.Reference14Ideal.τ).loc Cert.Reference14Ideal.main_v20) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v3) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  IdealRules.named_const.Statement Cert.Kernel16Ideal.κ "sqrt_half" .f32 0x3F3504F3#32 (((Real.sqrt 2)⁻¹ : ℝ) : EReal)

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)) (v2 : (c : Dev Cert.Kernel16Ideal.nD) → Buf (Elt Ideal) ((c.tc : Thread Cert.Kernel16Ideal.nD Cert.Kernel16Ideal.τ).loc Cert.Kernel16Ideal.main_v1_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_v1_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v13) = v0 c
          ∧ r.2.mem ((c.tc : Thread Cert.Reference16Ideal.nD Cert.Reference16Ideal.τ).loc Cert.Reference16Ideal.main_v14) = v1 c
          ∧ r.2.mem ((c.tc : Thread Cert.Reference16Ideal.nD Cert.Reference16Ideal.τ).loc Cert.Reference16Ideal.main_v62) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite2 : Cert.Pre_finite2.Facts) (hPre_finite3 : Cert.Pre_finite3.Facts) (hPre_finite4 : Cert.Pre_finite4.Facts) (hPre_finite6 : Cert.Pre_finite6.Facts) (hPre_finite9 : Cert.Pre_finite9.Facts) (hPre_finite14 : Cert.Pre_finite14.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite14 (hKernel14Ideal := hKernel14Ideal) (hReference14Ideal := hReference14Ideal) (hPre_finite14 := hPre_finite14)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S8192x2048 : Shape := ⟨2, ![8192, 2048]⟩
abbrev S8192x1024 : Shape := ⟨2, ![8192, 1024]⟩
abbrev S1024x1024 : Shape := ⟨2, ![1024, 1024]⟩
abbrev S1x1024 : Shape := ⟨2, ![1, 1024]⟩
abbrev S8x128x128 : Shape := ⟨3, ![8, 128, 128]⟩
abbrev S8x128x1 : Shape := ⟨3, ![8, 128, 1]⟩
abbrev S_ : Shape := ⟨0, ![]⟩

class Facts : Prop where
  bcast_S_S8192x2048 : S_.BroadcastsInDim S8192x2048 (![] : Fin 0 → Fin S8192x2048.rank)
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S1x1024 : S_.BroadcastsInDim S1x1024 (![] : Fin 0 → Fin S1x1024.rank)
  bcast_S_S8x128x128 : S_.BroadcastsInDim S8x128x128 (![] : Fin 0 → Fin S8x128x128.rank)
  bcast_S_S8x128x1 : S_.BroadcastsInDim S8x128x1 (![] : Fin 0 → Fin S8x128x1.rank)

variable [Facts]

def fn_part1 {F : FTy → Type} [FloatOps F] (main_arg6 : FVec F S8x128x1 .f32) (main_v2 : IVec S8192x2048 1) (main_v5 : IVec S8192x1024 1) (main_v8 : IVec S1024x1024 1) (main_v11 : IVec S1x1024 1) (main_v14 : IVec S1x1024 1) (main_v17 : IVec S8x128x128 1) : IVec S8192x2048 1 × IVec S8192x1024 1 × IVec S1024x1024 1 × IVec S1x1024 1 × IVec S1x1024 1 × IVec S8x128x128 1 × IVec S8x128x1 1 :=
  let main_v18 : FVec F S8x128x1 .f32 := Host.absf main_arg6
  let main_cst_5 : FVec F S_ .f32 := constant S_ .f32 0x7F800000#32
  let main_v19 : FVec F S8x128x1 .f32 := broadcastInDim S8x128x1 ![] bcast_S_S8x128x1 main_cst_5
  let main_v20 : IVec S8x128x1 1 := cmpf .olt main_v18 main_v19
  (main_v2, main_v5, main_v8, main_v11, main_v14, main_v17, main_v20)

def fn {F : FTy → Type} [FloatOps F] (main_arg0 : FVec F S8192x2048 .bf16) (main_arg1 : FVec F S8192x1024 .f32) (main_arg2 : FVec F S1024x1024 .bf16) (main_arg3 : FVec F S1x1024 .f32) (main_arg4 : FVec F S1x1024 .f32) (main_arg5 : FVec F S8x128x128 .f32) (main_arg6 : FVec F S8x128x1 .f32) : IVec S8192x2048 1 × IVec S8192x1024 1 × IVec S1024x1024 1 × IVec S1x1024 1 × IVec S1x1024 1 × IVec S8x128x128 1 × IVec S8x128x1 1 :=
  let main_v0 : FVec F S8192x2048 .bf16 := Host.absf main_arg0
  let main_cst : FVec F S_ .bf16 := constant S_ .bf16 0x7F80#16
  let main_v1 : FVec F S8192x2048 .bf16 := broadcastInDim S8192x2048 ![] bcast_S_S8192x2048 main_cst
  let main_v2 : IVec S8192x2048 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024x1024 .bf16 := Host.absf main_arg2
  let main_cst_1 : FVec F S_ .bf16 := constant S_ .bf16 0x7F80#16
  let main_v7 : FVec F S1024x1024 .bf16 := broadcastInDim S1024x1024 ![] bcast_S_S1024x1024 main_cst_1
  let main_v8 : IVec S1024x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S8x128x128 .f32 := Host.absf main_arg5
  let main_cst_4 : FVec F S_ .f32 := constant S_ .f32 0x7F800000#32
  let main_v16 : FVec F S8x128x128 .f32 := broadcastInDim S8x128x128 ![] bcast_S_S8x128x128 main_cst_4
  let main_v17 : IVec S8x128x128 1 := cmpf .olt main_v15 main_v16
  fn_part1 (F := F) main_arg6 main_v2 main_v5 main_v8 main_v11 main_v14 main_v17
-- ==== Pre_finite14.lean ====
abbrev S8192x1536 : Shape := ⟨2, ![8192, 1536]⟩
abbrev S8192x1024 : Shape := ⟨2, ![8192, 1024]⟩
abbrev S1x1024 : Shape := ⟨2, ![1, 1024]⟩
abbrev S1024x1536 : Shape := ⟨2, ![1024, 1536]⟩
abbrev S_ : Shape := ⟨0, ![]⟩

class Facts : Prop where
  bcast_S_S8192x1536 : S_.BroadcastsInDim S8192x1536 (![] : Fin 0 → Fin S8192x1536.rank)
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x1536 : S_.BroadcastsInDim S1024x1536 (![] : Fin 0 → Fin S1024x1536.rank)

variable [Facts]

def fn {F : FTy → Type} [FloatOps F] (main_arg0 : FVec F S8192x1536 .bf16) (main_arg1 : FVec F S8192x1024 .f32) (main_arg2 : FVec F S8192x1024 .f32) (main_arg3 : FVec F S1x1024 .f32) (main_arg4 : FVec F S1024x1536 .f32) : IVec S8192x1536 1 × IVec S8192x1024 1 × IVec S8192x1024 1 × IVec S1x1024 1 × IVec S1024x1536 1 :=
  let main_v0 : FVec F S8192x1536 .bf16 := Host.absf main_arg0
  let main_cst : FVec F S_ .bf16 := constant S_ .bf16 0x7F80#16
  let main_v1 : FVec F S8192x1536 .bf16 := broadcastInDim S8192x1536 ![] bcast_S_S8192x1536 main_cst
  let main_v2 : IVec S8192x1536 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024x1536 .f32 := Host.absf main_arg4
  let main_cst_3 : FVec F S_ .f32 := constant S_ .f32 0x7F800000#32
  let main_v13 : FVec F S1024x1536 .f32 := broadcastInDim S1024x1536 ![] bcast_S_S1024x1536 main_cst_3
  let main_v14 : IVec S1024x1536 1 := cmpf .olt main_v12 main_v13
  (main_v2, main_v5, main_v8, main_v11, main_v14)
-- ==== Pre_finite2.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S8192x1024 .f32) (main_arg2 : FVec F S1x1024 .f32) (main_arg3 : FVec F S1024x5632 .f32) (main_arg4 : FVec F S2816x1024 .f32) : IVec S8192x1024 1 × IVec S8192x1024 1 × IVec S1x1024 1 × IVec S1024x5632 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  (main_v2, main_v5, main_v8, main_v11, main_v14)
-- ==== Pre_finite3.lean ====
abbrev S8192x1024 : Shape := ⟨2, ![8192, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn_part1 {F : FTy → Type} [FloatOps F] (main_arg6 : FVec F S1x1024 .f32) (main_arg7 : FVec F S8192x1024 .f32) (main_v2 : IVec S8192x1024 1) (main_v5 : IVec S8192x1024 1) (main_v8 : IVec S1024x1024 1) (main_v11 : IVec S1x1024 1) (main_v14 : IVec S1024x5632 1) (main_v17 : IVec S2816x1024 1) : IVec S8192x1024 1 × IVec S8192x1024 1 × IVec S1024x1024 1 × IVec S1x1024 1 × IVec S1024x5632 1 × IVec S2816x1024 1 × IVec S1x1024 1 × IVec S8192x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S8192x1024 .f32 := Host.absf main_arg7
  let main_cst_6 : FVec F S_ .f32 := constant S_ .f32 0x7F800000#32
  let main_v22 : FVec F S8192x1024 .f32 := broadcastInDim S8192x1024 ![] bcast_S_S8192x1024 main_cst_6
  let main_v23 : IVec S8192x1024 1 := cmpf .olt main_v21 main_v22
  (main_v2, main_v5, main_v8, main_v11, main_v14, main_v17, main_v20, main_v23)

def fn {F : FTy → Type} [FloatOps F] (main_arg0 : FVec F S8192x1024 .f32) (main_arg1 : FVec F S8192x1024 .bf16) (main_arg2 : FVec F S1024x1024 .f32) (main_arg3 : FVec F S1x1024 .f32) (main_arg4 : FVec F S1024x5632 .f32) (main_arg5 : FVec F S2816x1024 .f32) (main_arg6 : FVec F S1x1024 .f32) (main_arg7 : FVec F S8192x1024 .f32) : IVec S8192x1024 1 × IVec S8192x1024 1 × IVec S1024x1024 1 × IVec S1x1024 1 × IVec S1024x5632 1 × IVec S2816x1024 1 × IVec S1x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .bf16 := Host.absf main_arg1
  let main_cst_0 : FVec F S_ .bf16 := constant S_ .bf16 0x7F80#16
  let main_v4 : FVec F S8192x1024 .bf16 := broadcastInDim S8192x1024 ![] bcast_S_S8192x1024 main_cst_0
  let main_v5 : IVec S8192x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024x5632 .f32 := Host.absf main_arg4
  let main_cst_3 : FVec F S_ .f32 := constant S_ .f32 0x7F800000#32
  let main_v13 : FVec F S1024x5632 .f32 := broadcastInDim S1024x5632 ![] bcast_S_S1024x5632 main_cst_3
  let main_v14 : IVec S1024x5632 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  fn_part1 (F := F) main_arg6 main_arg7 main_v2 main_v5 main_v8 main_v11 main_v14 main_v17
-- ==== Pre_finite4.lean ====
abbrev S8192x2048 : Shape := ⟨2, ![8192, 2048]⟩
abbrev S8192x1024 : Shape := ⟨2, ![8192, 1024]⟩
abbrev S1x1024 : Shape := ⟨2, ![1, 1024]⟩
abbrev S1024x2048 : Shape := ⟨2, ![1024, 2048]⟩
abbrev S_ : Shape := ⟨0, ![]⟩

class Facts : Prop where
  bcast_S_S8192x2048 : S_.BroadcastsInDim S8192x2048 (![] : Fin 0 → Fin S8192x2048.rank)
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x2048 : S_.BroadcastsInDim S1024x2048 (![] : Fin 0 → Fin S1024x2048.rank)

variable [Facts]

def fn {F : FTy → Type} [FloatOps F] (main_arg0 : FVec F S8192x2048 .bf16) (main_arg1 : FVec F S8192x1024 .f32) (main_arg2 : FVec F S8192x1024 .f32) (main_arg3 : FVec F S1x1024 .f32) (main_arg4 : FVec F S1024x2048 .f32) : IVec S8192x2048 1 × IVec S8192x1024 1 × IVec S8192x1024 1 × IVec S1x1024 1 × IVec S1024x2048 1 :=
  let main_v0 : FVec F S8192x2048 .bf16 := Host.absf main_arg0
  let main_cst : FVec F S_ .bf16 := constant S_ .bf16 0x7F80#16
  let main_v1 : FVec F S8192x2048 .bf16 := broadcastInDim S8192x2048 ![] bcast_S_S8192x2048 main_cst
  let main_v2 : IVec S8192x2048 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024x2048 .f32 := Host.absf main_arg4
  let main_cst_3 : FVec F S_ .f32 := constant S_ .f32 0x7F800000#32
  let main_v13 : FVec F S1024x2048 .f32 := broadcastInDim S1024x2048 ![] bcast_S_S1024x2048 main_cst_3
  let main_v14 : IVec S1024x2048 1 := cmpf .olt main_v12 main_v13
  (main_v2, main_v5, main_v8, main_v11, main_v14)
-- ==== Pre_finite6.lean ====
abbrev S8192x1024 : Shape := ⟨2, ![8192, 1024]⟩
abbrev S8192x5632 : Shape := ⟨2, ![8192, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S8192x5632 : S_.BroadcastsInDim S8192x5632 (![] : Fin 0 → Fin S8192x5632.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S8192x5632 .bf16) (main_arg2 : FVec F S2816x1024 .f32) : IVec S8192x1024 1 × IVec S8192x5632 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x5632 .bf16 := Host.absf main_arg1
  let main_cst_0 : FVec F S_ .bf16 := constant S_ .bf16 0x7F80#16
  let main_v4 : FVec F S8192x5632 .bf16 := broadcastInDim S8192x5632 ![] bcast_S_S8192x5632 main_cst_0
  let main_v5 : IVec S8192x5632 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  (main_v2, main_v5, main_v8)
-- ==== Pre_finite9.lean ====
abbrev S8192x5632 : Shape := ⟨2, ![8192, 5632]⟩
abbrev S8192x1024 : Shape := ⟨2, ![8192, 1024]⟩
abbrev S1x1024 : Shape := ⟨2, ![1, 1024]⟩
abbrev S1024x5632 : Shape := ⟨2, ![1024, 5632]⟩
abbrev S_ : Shape := ⟨0, ![]⟩

class Facts : Prop where
  bcast_S_S8192x5632 : S_.BroadcastsInDim S8192x5632 (![] : Fin 0 → Fin S8192x5632.rank)
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x5632 : S_.BroadcastsInDim S1024x5632 (![] : Fin 0 → Fin S1024x5632.rank)

variable [Facts]

def fn {F : FTy → Type} [FloatOps F] (main_arg0 : FVec F S8192x5632 .bf16) (main_arg1 : FVec F S8192x1024 .f32) (main_arg2 : FVec F S8192x1024 .f32) (main_arg3 : FVec F S1x1024 .f32) (main_arg4 : FVec F S1024x5632 .f32) : IVec S8192x5632 1 × IVec S8192x1024 1 × IVec S8192x1024 1 × IVec S1x1024 1 × IVec S1024x5632 1 :=
  let main_v0 : FVec F S8192x5632 .bf16 := Host.absf main_arg0
  let main_cst : FVec F S_ .bf16 := constant S_ .bf16 0x7F80#16
  let main_v1 : FVec F S8192x5632 .bf16 := broadcastInDim S8192x5632 ![] bcast_S_S8192x5632 main_cst
  let main_v2 : IVec S8192x5632 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024x5632 .f32 := Host.absf main_arg4
  let main_cst_3 : FVec F S_ .f32 := constant S_ .f32 0x7F800000#32
  let main_v13 : FVec F S1024x5632 .f32 := broadcastInDim S1024x5632 ![] bcast_S_S1024x5632 main_cst_3
  let main_v14 : IVec S1024x5632 1 := cmpf .olt main_v12 main_v13
  (main_v2, main_v5, main_v8, main_v11, main_v14)
-- ==== Kernel.lean ====
abbrev S8192x2048 : Shape := ⟨2, ![8192, 2048]⟩
abbrev S8192x1024 : Shape := ⟨2, ![8192, 1024]⟩
abbrev S1024x1024 : Shape := ⟨2, ![1024, 1024]⟩
abbrev S1x1024 : Shape := ⟨2, ![1, 1024]⟩
abbrev S8x128x128 : Shape := ⟨3, ![8, 128, 128]⟩
abbrev S8x128x1 : Shape := ⟨3, ![8, 128, 1]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S1x128x1 : Shape := ⟨3, ![1, 128, 1]⟩
abbrev S128x1 : Shape := ⟨2, ![128, 1]⟩
abbrev S128 : Shape := ⟨1, ![128]⟩
abbrev S1024 : Shape := ⟨1, ![1024]⟩

abbrev nBuf : Space → Nat
  | .hbm => 13
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S1024x1024, .bf16⟩
  | .hbm, ⟨3, _⟩ => ⟨S1x1024, .f32⟩
  | .hbm, ⟨4, _⟩ => ⟨S1x1024, .f32⟩
  | .hbm, ⟨5, _⟩ => ⟨S8x128x128, .f32⟩
  | .hbm, ⟨6, _⟩ => ⟨S8x128x1, .f32⟩
  | .hbm, ⟨7, _⟩ => ⟨S8192x2048, .bf16⟩
  | .hbm, ⟨8, _⟩ => ⟨S8192x1024, .bf16⟩
  | .hbm, ⟨9, _⟩ => ⟨S1x1024, .f32⟩
  | .hbm, ⟨10, _⟩ => ⟨S1x1024, .f32⟩
  | .hbm, ⟨11, _⟩ => ⟨S8x128x128, .f32⟩
  | .hbm, ⟨12, _⟩ => ⟨S8x128x1, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S8x128x128, .f32⟩
  | .local _ .vmem, ⟨8, _⟩ => ⟨S8x128x1, .f32⟩
  | .local _ .vmem, ⟨9, _⟩ => ⟨S512x2048, .bf16⟩
  | .local _ .vmem, ⟨10, _⟩ => ⟨S512x2048, .bf16⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1024, .f32⟩
  | .local _ .vmem, ⟨15, _⟩ => ⟨S8x128x128, .f32⟩
  | .local _ .vmem, ⟨16, _⟩ => ⟨S8x128x1, .f32⟩
  | .local _ .vmem, ⟨17, _⟩ => ⟨S512x1024, .f32⟩
  | .local _ .vmem, ⟨18, _⟩ => ⟨S512x1024, .f32⟩
  | .local _ .vmem, ⟨19, _⟩ => ⟨S8x128x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v1141 : BitVec 1 := Scalar.cmpi .eq arg0 c15_i32
  let v1142 : BitVec 32 := Scalar.extui v1141
  let c0_i32_791 : BitVec 32 := 0#32
  let v1143 : BitVec 1 := Scalar.cmpi .ne v1142 c0_i32_791
  v1143

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "erf_slope_over_sqrt_8" => some (((9465531 / 8388608) * (Real.sqrt 8)⁻¹ : ℝ) : EReal)
  | "sqrt_half" => some (((Real.sqrt 2)⁻¹ : ℝ) : EReal)
  | _ => none
-- ==== ReferenceIdeal.lean ====
abbrev S8192x2048 : Shape := ⟨2, ![8192, 2048]⟩
abbrev S8192x1024 : Shape := ⟨2, ![8192, 1024]⟩
abbrev S1024x1024 : Shape := ⟨2, ![1024, 1024]⟩
abbrev S1x1024 : Shape := ⟨2, ![1, 1024]⟩
abbrev S8x128x128 : Shape := ⟨3, ![8, 128, 128]⟩
abbrev S8x128x1 : Shape := ⟨3, ![8, 128, 1]⟩
abbrev S8x128 : Shape := ⟨2, ![8, 128]⟩
abbrev S_ : Shape := ⟨0, ![]⟩
abbrev S8192 : Shape := ⟨1, ![8192]⟩
abbrev S8192x1 : Shape := ⟨2, ![8192, 1]⟩
abbrev S64x128x8x128 : Shape := ⟨4, ![64, 128, 8, 128]⟩
abbrev S128x128 : Shape := ⟨2, ![128, 128]⟩
abbrev S1x128x128 : Shape := ⟨3, ![1, 128, 128]⟩
abbrev S8x64x128x128 : Shape := ⟨4, ![8, 64, 128, 128]⟩
abbrev S128x8 : Shape := ⟨2, ![128, 8]⟩
abbrev S1x128x8x1 : Shape := ⟨4, ![1, 128, 8, 1]⟩
abbrev S1024 : Shape := ⟨1, ![1024]⟩

abbrev nBuf : Space → Nat
  | .hbm => 159
  | .vmem => 0
  | .smem => 0
  | _ => 0

abbrev hbmTy0_0 (i : Nat) : BufTy := match i % 128 with
  | 0 => ⟨S8192x2048, .bf16⟩
  | 1 => ⟨S8192x1024, .f32⟩
  | 2 => ⟨S1024x1024, .bf16⟩
  | 3 => ⟨S1x1024, .f32⟩
  | 4 => ⟨S1x1024, .f32⟩
  | 5 => ⟨S8x128x128, .f32⟩
  | 6 => ⟨S8x128x1, .f32⟩
  | 7 => ⟨S8192x2048, .f32⟩
  | 8 => ⟨S8x128, .f32⟩
  | 9 => ⟨S1024x1024, .f32⟩
  | 10 => ⟨S_, .f32⟩
  | 11 => ⟨S8192x2048, .f32⟩
  | 12 => ⟨S8192x2048, .f32⟩
  | 13 => ⟨S8192x2048, .f32⟩
  | 14 => ⟨S_, .f32⟩
  | 15 => ⟨S_, .f32⟩
  | 16 => ⟨S8192x2048, .f32⟩
  | 17 => ⟨S8192x2048, .f32⟩
  | 18 => ⟨S8192x2048, .f32⟩
  | 19 => ⟨S8192x2048, .f32⟩
  | 20 => ⟨S8192x2048, .f32⟩
  | 21 => ⟨S8192x2048, .f32⟩
  | 22 => ⟨S8192x2048, .f32⟩
  | 23 => ⟨S8192x1024, .f32⟩
  | 24 => ⟨S8192x1024, .f32⟩
  | 25 => ⟨S_, .f32⟩
  | 26 => ⟨S8192, .f32⟩
  | 27 => ⟨S8192x1, .f32⟩
  | 28 => ⟨S_, .f32⟩
  | 29 => ⟨S8192x1, .f32⟩
  | 30 => ⟨S8192x1, .f32⟩
  | 31 => ⟨S8192x1024, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S_, .f32⟩
  | 38 => ⟨S8192, .f32⟩
  | 39 => ⟨S8192x1, .f32⟩
  | 40 => ⟨S_, .f32⟩
  | 41 => ⟨S8192x1, .f32⟩
  | 42 => ⟨S8192x1, .f32⟩
  | 43 => ⟨S8192x1024, .f32⟩
  | 44 => ⟨S8192x1024, .f32⟩
  | 45 => ⟨S_, .f32⟩
  | 46 => ⟨S8192x1, .f32⟩
  | 47 => ⟨S8192x1, .f32⟩
  | 48 => ⟨S8192x1, .f32⟩
  | 49 => ⟨S8192x1, .f32⟩
  | 50 => ⟨S_, .f32⟩
  | 51 => ⟨S8192x1, .f32⟩
  | 52 => ⟨S8192x1, .f32⟩
  | 53 => ⟨S8192x1024, .f32⟩
  | 54 => ⟨S8192x1024, .f32⟩
  | 55 => ⟨S8192x1024, .f32⟩
  | 56 => ⟨S8192x1024, .f32⟩
  | 57 => ⟨S8192x1024, .f32⟩
  | 58 => ⟨S8192x1024, .f32⟩
  | 59 => ⟨S64x128x8x128, .f32⟩
  | 60 => ⟨S_, .f32⟩
  | 61 => ⟨S128x128, .f32⟩
  | 62 => ⟨S128x128, .i32⟩
  | 63 => ⟨S_, .i32⟩
  | 64 => ⟨S128x128, .i32⟩
  | 65 => ⟨S128x128, .i32⟩
  | 66 => ⟨S128x128, .i32⟩
  | 67 => ⟨S128x128, .i1⟩
  | 68 => ⟨S_, .f32⟩
  | 69 => ⟨S128x128, .f32⟩
  | 70 => ⟨S128x128, .f32⟩
  | 71 => ⟨S1x128x128, .f32⟩
  | 72 => ⟨S8x128x128, .f32⟩
  | 73 => ⟨S8x128x128, .f32⟩
  | 74 => ⟨S8x64x128x128, .f32⟩
  | 75 => ⟨S64x128x8x128, .f32⟩
  | 76 => ⟨S128x8, .f32⟩
  | 77 => ⟨S1x128x8x1, .f32⟩
  | 78 => ⟨S64x128x8x128, .f32⟩
  | 79 => ⟨S64x128x8x128, .f32⟩
  | 80 => ⟨S8192x1024, .f32⟩
  | 81 => ⟨S8192x1024, .f32⟩
  | 82 => ⟨S8192x1024, .f32⟩
  | 83 => ⟨S1024x1024, .f32⟩
  | 84 => ⟨S1024x1024, .f32⟩
  | 85 => ⟨S8192x1024, .f32⟩
  | 86 => ⟨S8192x1024, .f32⟩
  | 87 => ⟨S8192x1024, .f32⟩
  | 88 => ⟨S64x128x8x128, .f32⟩
  | 89 => ⟨S_, .f32⟩
  | 90 => ⟨S128x8, .f32⟩
  | 91 => ⟨S1x128x8x1, .f32⟩
  | 92 => ⟨S_, .f32⟩
  | 93 => ⟨S128x8, .f32⟩
  | 94 => ⟨S8x128, .f32⟩
  | 95 => ⟨S8x64x128x128, .f32⟩
  | 96 => ⟨S8x128x128, .f32⟩
  | 97 => ⟨S8x64x128x128, .f32⟩
  | 98 => ⟨S64x128x8x128, .f32⟩
  | 99 => ⟨S8x128x128, .f32⟩
  | 100 => ⟨S8x128x128, .f32⟩
  | 101 => ⟨S8192x1024, .f32⟩
  | 102 => ⟨S_, .f32⟩
  | 103 => ⟨S1024, .f32⟩
  | 104 => ⟨S1x1024, .f32⟩
  | 105 => ⟨S8192x1024, .f32⟩
  | 106 => ⟨S_, .f32⟩
  | 107 => ⟨S1024, .f32⟩
  | 108 => ⟨S1x1024, .f32⟩
  | 109 => ⟨S8192x1024, .f32⟩
  | 110 => ⟨S8192x1024, .f32⟩
  | 111 => ⟨S8192x1024, .f32⟩
  | 112 => ⟨S_, .f32⟩
  | 113 => ⟨S8192, .f32⟩
  | 114 => ⟨S8192x1, .f32⟩
  | 115 => ⟨S8192x1024, .f32⟩
  | 116 => ⟨S8192x1024, .f32⟩
  | 117 => ⟨S8192x1, .f32⟩
  | 118 => ⟨S8192x1024, .f32⟩
  | 119 => ⟨S_, .f32⟩
  | 120 => ⟨S8192, .f32⟩
  | 121 => ⟨S8192x1, .f32⟩
  | 122 => ⟨S_, .f32⟩
  | 123 => ⟨S8192x1, .f32⟩
  | 124 => ⟨S8192x1, .f32⟩
  | 125 => ⟨S_, .f32⟩
  | 126 => ⟨S8192, .f32⟩
  | 127 => ⟨S8192x1024, .f32⟩
  | _ => ⟨S8192x2048, .bf16⟩

abbrev hbmTy0_1 (i : Nat) : BufTy := match i % 128 with
  | 0 => ⟨S8192x1024, .f32⟩
  | 1 => ⟨S8192x1024, .f32⟩
  | 2 => ⟨S_, .f32⟩
  | 3 => ⟨S8192, .f32⟩
  | 4 => ⟨S8192x1, .f32⟩
  | 5 => ⟨S8192x1024, .f32⟩
  | 6 => ⟨S8192x1, .f32⟩
  | 7 => ⟨S_, .f32⟩
  | 8 => ⟨S8192x1, .f32⟩
  | 9 => ⟨S8192x1, .f32⟩
  | 10 => ⟨S_, .f32⟩
  | 11 => ⟨S8192, .f32⟩
  | 12 => ⟨S8192x1024, .f32⟩
  | 13 => ⟨S8192x1024, .f32⟩
  | 14 => ⟨S8192x2048, .f32⟩
  | 15 => ⟨S8192x2048, .f32⟩
  | 16 => ⟨S8192x2048, .f32⟩
  | 17 => ⟨S_, .f32⟩
  | 18 => ⟨S8192x2048, .f32⟩
  | 19 => ⟨S8192x2048, .f32⟩
  | 20 => ⟨S8192x2048, .f32⟩
  | 21 => ⟨S8192x2048, .f32⟩
  | 22 => ⟨S8192x2048, .f32⟩
  | 23 => ⟨S8192x2048, .f32⟩
  | 24 => ⟨S_, .f32⟩
  | 25 => ⟨S8192x2048, .f32⟩
  | 26 => ⟨S8192x2048, .f32⟩
  | 27 => ⟨S8192x2048, .f32⟩
  | 28 => ⟨S8192x2048, .bf16⟩
  | 29 => ⟨S8x128x1, .f32⟩
  | 30 => ⟨S8192x1024, .bf16⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_call0_v0 : Ref sig .tc := ⟨.hbm, 62, rfl⟩
abbrev main_call0_c : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_cst : Ref sig .tc := ⟨.hbm, 68, rfl⟩
abbrev main_call0_v5 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_9 : Ref sig .tc := ⟨.hbm, 89, rfl⟩
abbrev main_v64 : Ref sig .tc := ⟨.hbm, 90, rfl⟩
abbrev main_v65 : Ref sig .tc := ⟨.hbm, 91, rfl⟩
abbrev main_cst_10 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_11 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_12 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_13 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_14 : Ref sig .tc := ⟨.hbm, 119, rfl⟩
abbrev main_v89 : Ref sig .tc := ⟨.hbm, 120, rfl⟩
abbrev main_v90 : Ref sig .tc := ⟨.hbm, 121, rfl⟩
abbrev main_cst_15 : Ref sig .tc := ⟨.hbm, 122, rfl⟩
abbrev main_v91 : Ref sig .tc := ⟨.hbm, 123, rfl⟩
abbrev main_v92 : Ref sig .tc := ⟨.hbm, 124, rfl⟩
abbrev main_cst_16 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_17 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_18 : Ref sig .tc := ⟨.hbm, 135, rfl⟩
abbrev main_v101 : Ref sig .tc := ⟨.hbm, 136, rfl⟩
abbrev main_v102 : Ref sig .tc := ⟨.hbm, 137, rfl⟩
abbrev main_cst_19 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_20 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_cst_21 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S5632x1024 : Shape := ⟨2, ![5632, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S256x1024 : Shape := ⟨2, ![256, 1024]⟩
abbrev S256x5632 : Shape := ⟨2, ![256, 5632]⟩
abbrev S256x2816 : Shape := ⟨2, ![256, 2816]⟩
abbrev S2 : Shape := ⟨1, ![2]⟩
abbrev S1 : Shape := ⟨1, ![1]⟩
abbrev S1408x1024 : Shape := ⟨2, ![1408, 1024]⟩
abbrev S256x1408 : Shape := ⟨2, ![256, 1408]⟩
abbrev S256 : Shape := ⟨1, ![256]⟩
abbrev S256x1 : Shape := ⟨2, ![256, 1]⟩
abbrev S1024 : Shape := ⟨1, ![1024]⟩

abbrev nBuf : Space → Nat
  | .hbm => 30
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S5632x1024, .f32⟩
  | .hbm, ⟨6, _⟩ => ⟨S5632x1024, .bf16⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x5632, .f32⟩
  | .hbm, ⟨23, _⟩ => ⟨S8192x5632, .bf16⟩
  | .hbm, ⟨24, _⟩ => ⟨S2816x1024, .bf16⟩
  | .hbm, ⟨25, _⟩ => ⟨S8192x1024, .f32⟩
  | .hbm, ⟨26, _⟩ => ⟨S1x1024, .f32⟩
  | .hbm, ⟨27, _⟩ => ⟨S8192x1024, .bf16⟩
  | .hbm, ⟨28, _⟩ => ⟨S8192x2816, .bf16⟩
  | .hbm, ⟨29, _⟩ => ⟨S8192x5632, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x5632, .bf16⟩
  | .local _ .vmem, ⟨6, _⟩ => ⟨S256x5632, .bf16⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S256x2816, .bf16⟩
  | .local _ .vmem, ⟨13, _⟩ => ⟨S256x2816, .bf16⟩
  | .local _ .vmem, ⟨14, _⟩ => ⟨S256x5632, .bf16⟩
  | .local _ .vmem, ⟨15, _⟩ => ⟨S256x5632, .bf16⟩
  | .local _ .vmem, ⟨16, _⟩ => ⟨S5632x1024, .bf16⟩
  | .local _ .vmem, ⟨17, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev main_v17_3 : Ref sig .tc := ⟨.hbm, 28, rfl⟩
abbrev main_v17_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192x5632 : Shape := ⟨2, ![8192, 5632]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S_, .f32⟩
  | .hbm, ⟨6, _⟩ => ⟨S8192x5632, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x5632, .f32⟩
  | .hbm, ⟨27, _⟩ => ⟨S8192x5632, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x5632, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S8192x1024, .f32⟩
  | .hbm, ⟨88, _⟩ => ⟨S8192x1024, .f32⟩
  | .hbm, ⟨89, _⟩ => ⟨S8192x1024, .bf16⟩
  | .hbm, ⟨90, _⟩ => ⟨S8192x2816, .bf16⟩
  | .hbm, ⟨91, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v20_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v20_1 : Ref sig .tc := ⟨.hbm, 41, rfl⟩
abbrev main_v20_0 : Ref sig .tc := ⟨.hbm, 42, rfl⟩
abbrev main_v21 : Ref sig .tc := ⟨.hbm, 43, rfl⟩
abbrev main_v22 : Ref sig .tc := ⟨.hbm, 44, rfl⟩
abbrev main_cst_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_6 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_7 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_10 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩

abbrev nD : Nat := 1
abbrev τ : Topo := Topo.v7x

variable {F : FTy → Type} [FloatOps F]
-- ==== Kernel3.lean ====
abbrev S8192x1024 : Shape := ⟨2, ![8192, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S5632x1024 : Shape := ⟨2, ![5632, 1024]⟩
abbrev S1x1 : Shape := ⟨2, ![1, 1]⟩
abbrev S8192x5632 : Shape := ⟨2, ![8192, 5632]⟩
abbrev S256x1024 : Shape := ⟨2, ![256, 1024]⟩
abbrev S256x5632 : Shape := ⟨2, ![256, 5632]⟩
abbrev S256x2816 : Shape := ⟨2, ![256, 2816]⟩
abbrev S2 : Shape := ⟨1, ![2]⟩
abbrev S1 : Shape := ⟨1, ![1]⟩
abbrev S_ : Shape := ⟨0, ![]⟩
abbrev S256 : Shape := ⟨1, ![256]⟩
abbrev S256x1 : Shape := ⟨2, ![256, 1]⟩
abbrev S1408x1024 : Shape := ⟨2, ![1408, 1024]⟩
abbrev S256x1408 : Shape := ⟨2, ![256, 1408]⟩
abbrev S1024 : Shape := ⟨1, ![1024]⟩

abbrev nBuf : Space → Nat
  | .hbm => 18
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .f32⟩
  | .hbm, ⟨3, _⟩ => ⟨S1x1024, .f32⟩
  | .hbm, ⟨4, _⟩ => ⟨S1024x5632, .f32⟩
  | .hbm, ⟨5, _⟩ => ⟨S2816x1024, .f32⟩
  | .hbm, ⟨6, _⟩ => ⟨S1x1024, .f32⟩
  | .hbm, ⟨7, _⟩ => ⟨S8192x1024, .f32⟩
  | .hbm, ⟨8, _⟩ => ⟨S5632x1024, .f32⟩
  | .hbm, ⟨9, _⟩ => ⟨S5632x1024, .bf16⟩
  | .hbm, ⟨10, _⟩ => ⟨S2816x1024, .bf16⟩
  | .hbm, ⟨11, _⟩ => ⟨S1024x1024, .bf16⟩
  | .hbm, ⟨12, _⟩ => ⟨S8192x1024, .f32⟩
  | .hbm, ⟨13, _⟩ => ⟨S1x1, .f32⟩
  | .hbm, ⟨14, _⟩ => ⟨S8192x1024, .f32⟩
  | .hbm, ⟨15, _⟩ => ⟨S1x1024, .f32⟩
  | .hbm, ⟨16, _⟩ => ⟨S8192x1024, .bf16⟩
  | .hbm, ⟨17, _⟩ => ⟨S8192x5632, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S1024x1024, .bf16⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S256x1024, .bf16⟩
  | .local _ .vmem, ⟨16, _⟩ => ⟨S256x1024, .bf16⟩
  | .local _ .vmem, ⟨17, _⟩ => ⟨S256x5632, .bf16⟩
  | .local _ .vmem, ⟨18, _⟩ => ⟨S256x5632, .bf16⟩
  | .local _ .vmem, ⟨19, _⟩ => ⟨S5632x1024, .bf16⟩
  | .local _ .vmem, ⟨20, _⟩ => ⟨S2816x1024, .bf16⟩
  | .local _ .vmem, ⟨21, _⟩ => ⟨S256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S8192x1024 : Shape := ⟨2, ![8192, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1024 : Shape := ⟨1, ![1024]⟩
abbrev S1x1 : Shape := ⟨2, ![1, 1]⟩

abbrev nBuf : Space → Nat
  | .hbm => 112
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .f32⟩
  | .hbm, ⟨3, _⟩ => ⟨S1x1024, .f32⟩
  | .hbm, ⟨4, _⟩ => ⟨S1024x5632, .f32⟩
  | .hbm, ⟨5, _⟩ => ⟨S2816x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x5632, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S8192, .f32⟩
  | .hbm, ⟨81, _⟩ => ⟨S_, .f32⟩
  | .hbm, ⟨82, _⟩ => ⟨S8192, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S_, .f32⟩
  | .hbm, ⟨94, _⟩ => ⟨S8192, .f32⟩
  | .hbm, ⟨95, _⟩ => ⟨S8192x1, .f32⟩
  | .hbm, ⟨96, _⟩ => ⟨S8192x1024, .f32⟩
  | .hbm, ⟨97, _⟩ => ⟨S8192x1024, .f32⟩
  | .hbm, ⟨98, _⟩ => ⟨S8192x1, .f32⟩
  | .hbm, ⟨99, _⟩ => ⟨S_, .f32⟩
  | .hbm, ⟨100, _⟩ => ⟨S8192x1, .f32⟩
  | .hbm, ⟨101, _⟩ => ⟨S8192x1, .f32⟩
  | .hbm, ⟨102, _⟩ => ⟨S_, .f32⟩
  | .hbm, ⟨103, _⟩ => ⟨S8192, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x1024, .f32⟩
  | .hbm, ⟨109, _⟩ => ⟨S1x1, .f32⟩
  | .hbm, ⟨110, _⟩ => ⟨S8192x1024, .bf16⟩
  | .hbm, ⟨111, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_cst_10 : Ref sig .tc := ⟨.hbm, 73, rfl⟩
abbrev main_v46 : Ref sig .tc := ⟨.hbm, 74, rfl⟩
abbrev main_cst_11 : Ref sig .tc := ⟨.hbm, 75, rfl⟩
abbrev main_v47 : Ref sig .tc := ⟨.hbm, 76, rfl⟩
abbrev main_cst_12 : Ref sig .tc := ⟨.hbm, 77, rfl⟩
abbrev main_cst_13 : Ref sig .tc := ⟨.hbm, 78, rfl⟩
abbrev main_v48 : Ref sig .tc := ⟨.hbm, 79, rfl⟩
abbrev main_v49 : Ref sig .tc := ⟨.hbm, 80, rfl⟩
abbrev main_cst_14 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_15 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_16 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_17 : Ref sig .tc := ⟨.hbm, 99, rfl⟩
abbrev main_v65 : Ref sig .tc := ⟨.hbm, 100, rfl⟩
abbrev main_v66 : Ref sig .tc := ⟨.hbm, 101, rfl⟩
abbrev main_cst_18 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩

abbrev nD : Nat := 1
abbrev τ : Topo := Topo.v7x

variable {F : FTy → Type} [FloatOps F]
-- ==== Kernel4.lean ====
abbrev S8192x2048 : Shape := ⟨2, ![8192, 2048]⟩
abbrev S8192x1024 : Shape := ⟨2, ![8192, 1024]⟩
abbrev S1x1024 : Shape := ⟨2, ![1, 1024]⟩
abbrev S1024x2048 : Shape := ⟨2, ![1024, 2048]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024x2048, .f32⟩
  | .hbm, ⟨5, _⟩ => ⟨S1024x2048, .bf16⟩
  | .hbm, ⟨6, _⟩ => ⟨S8192x1024, .f32⟩
  | .hbm, ⟨7, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S8192x2048 : Shape := ⟨2, ![8192, 2048]⟩
abbrev S8192x1024 : Shape := ⟨2, ![8192, 1024]⟩
abbrev S1x1024 : Shape := ⟨2, ![1, 1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024x2048, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x2048, .f32⟩
  | .hbm, ⟨25, _⟩ => ⟨S8192x2048, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2x1408x1024 : Shape := ⟨3, ![2, 1408, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2x1408x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S2x1408x1024 : Shape := ⟨3, ![2, 1408, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S2x1408x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S8192x1024 : Shape := ⟨2, ![8192, 1024]⟩
abbrev S8192x5632 : Shape := ⟨2, ![8192, 5632]⟩
abbrev S2816x1024 : Shape := ⟨2, ![2816, 1024]⟩
abbrev S8192x2816 : Shape := ⟨2, ![8192, 2816]⟩
abbrev S256x1024 : Shape := ⟨2, ![256, 1024]⟩
abbrev S256x5632 : Shape := ⟨2, ![256, 5632]⟩
abbrev S256x2816 : Shape := ⟨2, ![256, 2816]⟩
abbrev S1 : Shape := ⟨1, ![1]⟩
abbrev S_ : Shape := ⟨0, ![]⟩
abbrev S1408x1024 : Shape := ⟨2, ![1408, 1024]⟩
abbrev S256x1408 : Shape := ⟨2, ![256, 1408]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S2816x1024, .f32⟩
  | .hbm, ⟨3, _⟩ => ⟨S2816x1024, .bf16⟩
  | .hbm, ⟨4, _⟩ => ⟨S8192x1024, .bf16⟩
  | .hbm, ⟨5, _⟩ => ⟨S8192x2816, .bf16⟩
  | .hbm, ⟨6, _⟩ => ⟨S8192x5632, .bf16⟩
  | .local _ .vmem, ⟨0, _⟩ => ⟨S256x1024, .f32⟩
  | .local _ .vmem, ⟨1, _⟩ => ⟨S256x1024, .f32⟩
  | .local _ .vmem, ⟨2, _⟩ => ⟨S256x5632, .bf16⟩
  | .local _ .vmem, ⟨3, _⟩ => ⟨S256x5632, .bf16⟩
  | .local _ .vmem, ⟨4, _⟩ => ⟨S256x1024, .bf16⟩
  | .local _ .vmem, ⟨5, _⟩ => ⟨S256x1024, .bf16⟩
  | .local _ .vmem, ⟨6, _⟩ => ⟨S256x2816, .bf16⟩
  | .local _ .vmem, ⟨7, _⟩ => ⟨S256x2816, .bf16⟩
  | .local _ .vmem, ⟨8, _⟩ => ⟨S256x5632, .bf16⟩
  | .local _ .vmem, ⟨9, _⟩ => ⟨S256x5632, .bf16⟩
  | .local _ .vmem, ⟨10, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S8192x1024 : Shape := ⟨2, ![8192, 1024]⟩
abbrev S8192x5632 : Shape := ⟨2, ![8192, 5632]⟩
abbrev S2816x1024 : Shape := ⟨2, ![2816, 1024]⟩
abbrev S8192x2816 : Shape := ⟨2, ![8192, 2816]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S2816x1024, .f32⟩
  | .hbm, ⟨3, _⟩ => ⟨S8192x5632, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S8192x2816, .bf16⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x5632, .f32⟩
  | .hbm, ⟨40, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩

abbrev nD : Nat := 1
abbrev τ : Topo := Topo.v7x

variable {F : FTy → Type} [FloatOps F]
-- ==== Kernel7.lean ====
abbrev S8192x5632 : Shape := ⟨2, ![8192, 5632]⟩
abbrev S8192x1024 : Shape := ⟨2, ![8192, 1024]⟩
abbrev S4x1408x1024 : Shape := ⟨3, ![4, 1408, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S4x1408x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S8192x5632 : Shape := ⟨2, ![8192, 5632]⟩
abbrev S8192x1024 : Shape := ⟨2, ![8192, 1024]⟩
abbrev S_ : Shape := ⟨0, ![]⟩
abbrev S1024x5632 : Shape := ⟨2, ![1024, 5632]⟩
abbrev S5632x1024 : Shape := ⟨2, ![5632, 1024]⟩
abbrev S4x1408x1024 : Shape := ⟨3, ![4, 1408, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | .hbm, ⟨11, _⟩ => ⟨S4x1408x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S5632x1024 : Shape := ⟨2, ![5632, 1024]⟩
abbrev S8192x5632 : Shape := ⟨2, ![8192, 5632]⟩
abbrev S256x1024 : Shape := ⟨2, ![256, 1024]⟩
abbrev S256x5632 : Shape := ⟨2, ![256, 5632]⟩
abbrev S256x2816 : Shape := ⟨2, ![256, 2816]⟩
abbrev S2 : Shape := ⟨1, ![2]⟩
abbrev S1 : Shape := ⟨1, ![1]⟩
abbrev S_ : Shape := ⟨0, ![]⟩
abbrev S256 : Shape := ⟨1, ![256]⟩
abbrev S256x1 : Shape := ⟨2, ![256, 1]⟩
abbrev S1408x1024 : Shape := ⟨2, ![1408, 1024]⟩
abbrev S256x1408 : Shape := ⟨2, ![256, 1408]⟩

abbrev nBuf : Space → Nat
  | .hbm => 10
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S5632x1024, .f32⟩
  | .hbm, ⟨5, _⟩ => ⟨S5632x1024, .bf16⟩
  | .hbm, ⟨6, _⟩ => ⟨S2816x1024, .bf16⟩
  | .hbm, ⟨7, _⟩ => ⟨S8192x1024, .f32⟩
  | .hbm, ⟨8, _⟩ => ⟨S8192x1024, .bf16⟩
  | .hbm, ⟨9, _⟩ => ⟨S8192x5632, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | .local _ .vmem, ⟨7, _⟩ => ⟨S256x5632, .bf16⟩
  | .local _ .vmem, ⟨8, _⟩ => ⟨S256x5632, .bf16⟩
  | .local _ .vmem, ⟨9, _⟩ => ⟨S5632x1024, .bf16⟩
  | .local _ .vmem, ⟨10, _⟩ => ⟨S2816x1024, .bf16⟩
  | .local _ .vmem, ⟨11, _⟩ => ⟨S256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x5632, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S_, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | .hbm, ⟨38, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Kernel9.lean ====
abbrev S8192x5632 : Shape := ⟨2, ![8192, 5632]⟩
abbrev S8192x1024 : Shape := ⟨2, ![8192, 1024]⟩
abbrev S1x1024 : Shape := ⟨2, ![1, 1024]⟩
abbrev S1024x5632 : Shape := ⟨2, ![1024, 5632]⟩
abbrev S5632x1024 : Shape := ⟨2, ![5632, 1024]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024x5632, .f32⟩
  | .hbm, ⟨5, _⟩ => ⟨S5632x1024, .f32⟩
  | .hbm, ⟨6, _⟩ => ⟨S5632x1024, .bf16⟩
  | .hbm, ⟨7, _⟩ => ⟨S8192x1024, .f32⟩
  | .hbm, ⟨8, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S5632x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference9Ideal.lean ====
abbrev S8192x5632 : Shape := ⟨2, ![8192, 5632]⟩
abbrev S8192x1024 : Shape := ⟨2, ![8192, 1024]⟩
abbrev S1x1024 : Shape := ⟨2, ![1, 1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024x5632, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x5632, .f32⟩
  | .hbm, ⟨25, _⟩ => ⟨S8192x5632, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S5632x1024 : Shape := ⟨2, ![5632, 1024]⟩
abbrev S8192x5632 : Shape := ⟨2, ![8192, 5632]⟩
abbrev S256x1024 : Shape := ⟨2, ![256, 1024]⟩
abbrev S256x5632 : Shape := ⟨2, ![256, 5632]⟩
abbrev S256x2816 : Shape := ⟨2, ![256, 2816]⟩
abbrev S2 : Shape := ⟨1, ![2]⟩
abbrev S1 : Shape := ⟨1, ![1]⟩
abbrev S_ : Shape := ⟨0, ![]⟩
abbrev S256 : Shape := ⟨1, ![256]⟩
abbrev S256x1 : Shape := ⟨2, ![256, 1]⟩
abbrev S1408x1024 : Shape := ⟨2, ![1408, 1024]⟩
abbrev S256x1408 : Shape := ⟨2, ![256, 1408]⟩

abbrev nBuf : Space → Nat
  | .hbm => 14
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .f32⟩
  | .hbm, ⟨3, _⟩ => ⟨S1x1024, .f32⟩
  | .hbm, ⟨4, _⟩ => ⟨S1024x5632, .f32⟩
  | .hbm, ⟨5, _⟩ => ⟨S2816x1024, .f32⟩
  | .hbm, ⟨6, _⟩ => ⟨S5632x1024, .f32⟩
  | .hbm, ⟨7, _⟩ => ⟨S5632x1024, .bf16⟩
  | .hbm, ⟨8, _⟩ => ⟨S2816x1024, .bf16⟩
  | .hbm, ⟨9, _⟩ => ⟨S1024x1024, .bf16⟩
  | .hbm, ⟨10, _⟩ => ⟨S8192x1024, .f32⟩
  | .hbm, ⟨11, _⟩ => ⟨S8192x1024, .f32⟩
  | .hbm, ⟨12, _⟩ => ⟨S8192x1024, .bf16⟩
  | .hbm, ⟨13, _⟩ => ⟨S8192x5632, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S1024x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x5632, .bf16⟩
  | .local _ .vmem, ⟨13, _⟩ => ⟨S256x5632, .bf16⟩
  | .local _ .vmem, ⟨14, _⟩ => ⟨S5632x1024, .bf16⟩
  | .local _ .vmem, ⟨15, _⟩ => ⟨S2816x1024, .bf16⟩
  | .local _ .vmem, ⟨16, _⟩ => ⟨S256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S8192x1024 : Shape := ⟨2, ![8192, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .f32⟩
  | .hbm, ⟨3, _⟩ => ⟨S1x1024, .f32⟩
  | .hbm, ⟨4, _⟩ => ⟨S1024x5632, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x5632, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .bf16⟩
  | .hbm, ⟨43, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== Kernel11.lean ====
abbrev S8192x1024 : Shape := ⟨2, ![8192, 1024]⟩
abbrev S8192x2048 : Shape := ⟨2, ![8192, 2048]⟩
abbrev S1x1024x2048 : Shape := ⟨3, ![1, 1024, 2048]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1x1024x2048, .bf16⟩
  | .local _ .vmem, ⟨5, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference11Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1x1024x2048 : Shape := ⟨3, ![1, 1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | .hbm, ⟨10, _⟩ => ⟨S1x1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S8192x1024 : Shape := ⟨2, ![8192, 1024]⟩
abbrev S8192x1536 : Shape := ⟨2, ![8192, 1536]⟩
abbrev S1x1024x1536 : Shape := ⟨3, ![1, 1024, 1536]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1x1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1x1024x1536, .bf16⟩
  | .local _ .vmem, ⟨5, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference12Ideal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩
abbrev S1x1024x1536 : Shape := ⟨3, ![1, 1024, 1536]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S_, .f32⟩
  | .hbm, ⟨3, _⟩ => ⟨S1024x1536, .f32⟩
  | .hbm, ⟨4, _⟩ => ⟨S8192x1024, .f32⟩
  | .hbm, ⟨5, _⟩ => ⟨S8192x1536, .f32⟩
  | .hbm, ⟨6, _⟩ => ⟨S8192x1536, .f32⟩
  | .hbm, ⟨7, _⟩ => ⟨S1536x1024, .f32⟩
  | .hbm, ⟨8, _⟩ => ⟨S1024x1536, .f32⟩
  | .hbm, ⟨9, _⟩ => ⟨S1024x1536, .bf16⟩
  | .hbm, ⟨10, _⟩ => ⟨S1x1024x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel13.lean ====
abbrev S8192x1024 : Shape := ⟨2, ![8192, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference13Ideal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel14.lean ====
abbrev S8192x1536 : Shape := ⟨2, ![8192, 1536]⟩
abbrev S8192x1024 : Shape := ⟨2, ![8192, 1024]⟩
abbrev S1x1024 : Shape := ⟨2, ![1, 1024]⟩
abbrev S1024x1536 : Shape := ⟨2, ![1024, 1536]⟩
abbrev S512x1536 : Shape := ⟨2, ![512, 1536]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 11
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024x1536, .f32⟩
  | .hbm, ⟨5, _⟩ => ⟨S1024x1536, .bf16⟩
  | .hbm, ⟨6, _⟩ => ⟨S8192x1024, .f32⟩
  | .hbm, ⟨7, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S1024x1536, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference14Ideal.lean ====
abbrev S8192x1536 : Shape := ⟨2, ![8192, 1536]⟩
abbrev S8192x1024 : Shape := ⟨2, ![8192, 1024]⟩
abbrev S1x1024 : Shape := ⟨2, ![1, 1024]⟩
abbrev S1024x1536 : Shape := ⟨2, ![1024, 1536]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024x1536, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1536, .f32⟩
  | .hbm, ⟨25, _⟩ => ⟨S8192x1536, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8192x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference15Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S8192x1024 : Shape := ⟨2, ![8192, 1024]⟩
abbrev S1x1024 : Shape := ⟨2, ![1, 1024]⟩
abbrev S1024x2048 : Shape := ⟨2, ![1024, 2048]⟩
abbrev S8x128x128 : Shape := ⟨3, ![8, 128, 128]⟩
abbrev S8x128x1 : Shape := ⟨3, ![8, 128, 1]⟩
abbrev S8192x2048 : Shape := ⟨2, ![8192, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S1x128x1 : Shape := ⟨3, ![1, 128, 1]⟩
abbrev S128x1 : Shape := ⟨2, ![128, 1]⟩

abbrev nBuf : Space → Nat
  | .hbm => 11
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .f32⟩
  | .hbm, ⟨3, _⟩ => ⟨S1x1024, .f32⟩
  | .hbm, ⟨4, _⟩ => ⟨S1x1024, .f32⟩
  | .hbm, ⟨5, _⟩ => ⟨S8x128x128, .f32⟩
  | .hbm, ⟨6, _⟩ => ⟨S8x128x1, .f32⟩
  | .hbm, ⟨7, _⟩ => ⟨S1024x2048, .bf16⟩
  | .hbm, ⟨8, _⟩ => ⟨S8192x1024, .bf16⟩
  | .hbm, ⟨9, _⟩ => ⟨S8192x2048, .bf16⟩
  | .hbm, ⟨10, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S8x128x1, .f32⟩
  | .local _ .vmem, ⟨8, _⟩ => ⟨S512x1024, .bf16⟩
  | .local _ .vmem, ⟨9, _⟩ => ⟨S512x1024, .bf16⟩
  | .local _ .vmem, ⟨10, _⟩ => ⟨S512x2048, .bf16⟩
  | .local _ .vmem, ⟨11, _⟩ => ⟨S512x2048, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel16Ideal.lean ====
variable {F : FTy → Type} [FloatOps F] [Named F]
def κ : String → Option EReal := fun
  | "sqrt_half" => some (((Real.sqrt 2)⁻¹ : ℝ) : EReal)
  | _ => none
-- ==== Reference16Ideal.lean ====
abbrev S8192x1024 : Shape := ⟨2, ![8192, 1024]⟩
abbrev S1x1024 : Shape := ⟨2, ![1, 1024]⟩
abbrev S1024x2048 : Shape := ⟨2, ![1024, 2048]⟩
abbrev S8x128x128 : Shape := ⟨3, ![8, 128, 128]⟩
abbrev S8x128x1 : Shape := ⟨3, ![8, 128, 1]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S8x128 : Shape := ⟨2, ![8, 128]⟩
abbrev S64x128x8x128 : Shape := ⟨4, ![64, 128, 8, 128]⟩
abbrev S128x128 : Shape := ⟨2, ![128, 128]⟩
abbrev S1x128x128 : Shape := ⟨3, ![1, 128, 128]⟩
abbrev S8x64x128x128 : Shape := ⟨4, ![8, 64, 128, 128]⟩
abbrev S128x8 : Shape := ⟨2, ![128, 8]⟩
abbrev S1x128x8x1 : Shape := ⟨4, ![1, 128, 8, 1]⟩

abbrev nBuf : Space → Nat
  | .hbm => 89
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .f32⟩
  | .hbm, ⟨3, _⟩ => ⟨S1x1024, .f32⟩
  | .hbm, ⟨4, _⟩ => ⟨S1x1024, .f32⟩
  | .hbm, ⟨5, _⟩ => ⟨S8x128x128, .f32⟩
  | .hbm, ⟨6, _⟩ => ⟨S8x128x1, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x2048, .f32⟩
  | .hbm, ⟨23, _⟩ => ⟨S8192x1024, .bf16⟩
  | .hbm, ⟨24, _⟩ => ⟨S8192x2048, .bf16⟩
  | .hbm, ⟨25, _⟩ => ⟨S8x128, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S64x128x8x128, .f32⟩
  | .hbm, ⟨66, _⟩ => ⟨S_, .f32⟩
  | .hbm, ⟨67, _⟩ => ⟨S128x128, .f32⟩
  | .hbm, ⟨68, _⟩ => ⟨S128x128, .i32⟩
  | .hbm, ⟨69, _⟩ => ⟨S_, .i32⟩
  | .hbm, ⟨70, _⟩ => ⟨S128x128, .i32⟩
  | .hbm, ⟨71, _⟩ => ⟨S128x128, .i32⟩
  | .hbm, ⟨72, _⟩ => ⟨S128x128, .i32⟩
  | .hbm, ⟨73, _⟩ => ⟨S128x128, .i1⟩
  | .hbm, ⟨74, _⟩ => ⟨S_, .f32⟩
  | .hbm, ⟨75, _⟩ => ⟨S128x128, .f32⟩
  | .hbm, ⟨76, _⟩ => ⟨S128x128, .f32⟩
  | .hbm, ⟨77, _⟩ => ⟨S1x128x128, .f32⟩
  | .hbm, ⟨78, _⟩ => ⟨S8x128x128, .f32⟩
  | .hbm, ⟨79, _⟩ => ⟨S8x128x128, .f32⟩
  | .hbm, ⟨80, _⟩ => ⟨S8x64x128x128, .f32⟩
  | .hbm, ⟨81, _⟩ => ⟨S64x128x8x128, .f32⟩
  | .hbm, ⟨82, _⟩ => ⟨S128x8, .f32⟩
  | .hbm, ⟨83, _⟩ => ⟨S1x128x8x1, .f32⟩
  | .hbm, ⟨84, _⟩ => ⟨S64x128x8x128, .f32⟩
  | .hbm, ⟨85, _⟩ => ⟨S64x128x8x128, .f32⟩
  | .hbm, ⟨86, _⟩ => ⟨S8192x1024, .f32⟩
  | .hbm, ⟨87, _⟩ => ⟨S8192x1024, .f32⟩
  | .hbm, ⟨88, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_call0_v0 : Ref sig .tc := ⟨.hbm, 68, rfl⟩
abbrev main_call0_c : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_cst : Ref sig .tc := ⟨.hbm, 74, rfl⟩
abbrev main_call0_v5 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩

abbrev nD : Nat := 1
abbrev τ : Topo := Topo.v7x

variable {F : FTy → Type} [FloatOps F]
-- ==== Proof.Spec.lean ====
/-
  The spatial gating unit's gradient over the reals. `Args` holds the seven arguments as functions of natural indices, each
  definition below is one line of the backward pass, and the last five are the five results. Proof/Arrays.lean shows that the
  kernel computes them and Proof/VjpBackward.lean that the reference does.
-/
module

public import Idealize.ShloMosaic.PureOps.Ideal.Laws

@[expose] public section

noncomputable section

open Idealize.ShloMosaic

namespace Cert.Sgu

/-- A finite sum of reals, formed in the extended reals, is the real sum. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The literal `1e-6` as its bit pattern reads: `8796093 / 2 ^ 43`. -/
def eps : ℝ := 8796093 / 8796093022208

theorem eps_pos : 0 < eps := by unfold eps; norm_num

/-- The error function. -/
def erf (x : ℝ) : ℝ := 2 / Real.sqrt Real.pi * ∫ t in (0 : ℝ)..x, Real.exp (-(t ^ 2))

/-- The normal distribution function, as both programs form it from `erf`. -/
def cdf (x : ℝ) : ℝ := 1 / 2 * (1 + erf (x * (Real.sqrt 2)⁻¹))

/-- The exact GELU. -/
def gelu (x : ℝ) : ℝ := x * cdf x

/-- The derivative of the exact GELU, with the slope `2 / √π` of `erf` as its single-precision word reads. -/
def dgelu (x : ℝ) : ℝ := cdf x + x * (9465531 / 8388608 * (Real.sqrt 8)⁻¹ * Real.exp (-(1 / 2) * x * x))

/-- The arguments at natural indices: the hidden layer `z` (row, column), the incoming gradient `dy`, the output projection
    `w`, the layer norm's gain `g` and bias `b`, and the spatial mixer's weights `s` (head, row, column) and bias `d`. -/
structure Args where
  z : ℕ → ℕ → ℝ
  dy : ℕ → ℕ → ℝ
  w : ℕ → ℕ → ℝ
  g : ℕ → ℝ
  b : ℕ → ℝ
  s : ℕ → ℕ → ℕ → ℝ
  d : ℕ → ℕ → ℝ

namespace Args

variable (A : Args)

/-- The arguments as grid point `t` sees them: rows counted from `512 t`. -/
def block (t : ℕ) : Args := { A with z := fun r c => A.z (512 * t + r) c, dy := fun r c => A.dy (512 * t + r) c }

/-- The gate's left half. -/
def U (t c : ℕ) : ℝ := gelu (A.z t c)

/-- The gate's right half, before its layer norm. -/
def V (t c : ℕ) : ℝ := gelu (A.z t (1024 + c))

/-- A row's mean. -/
def mu (t : ℕ) : ℝ := (∑ k : Fin 1024, A.V t k) / 1024

/-- A row less its mean. -/
def cen (t c : ℕ) : ℝ := A.V t c - A.mu t

/-- A row's variance. -/
def var (t : ℕ) : ℝ := (∑ k : Fin 1024, A.cen t k * A.cen t k) / 1024

/-- The reciprocal standard deviation of a row. -/
def rstd (t : ℕ) : ℝ := (Real.sqrt (A.var t + eps))⁻¹

/-- The normalized row. -/
def norm (t c : ℕ) : ℝ := A.cen t c * A.rstd t

/-- The layer norm's output. -/
def vb (t c : ℕ) : ℝ := A.norm t c * A.g c + A.b c

/-- The causal mask. -/
def mask (i j : ℕ) : ℝ := if j ≤ i then 1 else 0

/-- The masked weights of head `h`. -/
def wm (h i j : ℕ) : ℝ := A.s h i j * mask i j

/-- The spatial mixer's output: row `t` mixes the 128 rows of its own chunk, head by head. -/
def vo (t c : ℕ) : ℝ := ∑ k : Fin 128, A.wm (c / 128) (t % 128) k * A.vb (t / 128 * 128 + k) c + A.d (c / 128) (t % 128)

/-- The gradient of the gated product: `dy · wᵀ`. -/
def dq (t c : ℕ) : ℝ := ∑ k : Fin 1024, A.dy t k * A.w c k

/-- The gradient of the left half. -/
def du (t c : ℕ) : ℝ := A.dq t c * A.vo t c

/-- The gradient of the spatial mixer's output. -/
def dvo (t c : ℕ) : ℝ := A.dq t c * A.U t c

/-- The gradient of the layer norm's output: the chunk mixed with the transposed weights. -/
def dvl (t c : ℕ) : ℝ := ∑ k : Fin 128, A.wm (c / 128) k (t % 128) * A.dvo (t / 128 * 128 + k) c

/-- The gradient of the normalized row. -/
def dnorm (t c : ℕ) : ℝ := A.dvl t c * A.g c

/-- The gradient of the right half through the layer norm. -/
def dv (t c : ℕ) : ℝ :=
  A.rstd t * (A.dnorm t c - (∑ k : Fin 1024, A.dnorm t k) / 1024
    - A.norm t c * ((∑ k : Fin 1024, A.dnorm t k * A.norm t k) / 1024))

/-- Result 0, the gradient of the hidden layer. -/
def dzp (t c : ℕ) : ℝ := if c < 1024 then A.du t c * dgelu (A.z t c) else A.dv t (c - 1024) * dgelu (A.z t c)

/-- Result 1 over `n` rows, the gradient of the gain. -/
def dlg (n c : ℕ) : ℝ := ∑ t ∈ Finset.range n, A.dvl t c * A.norm t c

/-- Result 2 over `n` rows, the gradient of the layer norm's bias. -/
def dlb (n c : ℕ) : ℝ := ∑ t ∈ Finset.range n, A.dvl t c

/-- The gradient of the masked weights over `n` chunks of 128 rows. -/
def dwm (n h i j : ℕ) : ℝ :=
  ∑ q ∈ Finset.range n, ∑ k : Fin 128, A.dvo (128 * q + i) (128 * h + k) * A.vb (128 * q + j) (128 * h + k)

/-- Result 4 over `n` chunks, the gradient of the mixer's bias. -/
def dbs (n h i : ℕ) : ℝ := ∑ q ∈ Finset.range n, ∑ k : Fin 128, A.dvo (128 * q + i) (128 * h + k)

/-! A block's rows are the array's: every row-local quantity of `block t` at row `r` is the whole array's at `512 t + r`. -/

variable (t r c : ℕ)

theorem block_U : (A.block t).U r c = A.U (512 * t + r) c := rfl
theorem block_norm : (A.block t).norm r c = A.norm (512 * t + r) c := rfl
theorem block_vb : (A.block t).vb r c = A.vb (512 * t + r) c := rfl
theorem block_dq : (A.block t).dq r c = A.dq (512 * t + r) c := rfl
theorem block_dvo : (A.block t).dvo r c = A.dvo (512 * t + r) c := rfl

/-- A row's chunk starts at the same place counted from the block's first row. -/
theorem chunk_row (k : ℕ) : 512 * t + (r / 128 * 128 + k) = (512 * t + r) / 128 * 128 + k := by omega

theorem block_vo : (A.block t).vo r c = A.vo (512 * t + r) c := by
  unfold vo
  simp only [block_vb, chunk_row, show (512 * t + r) % 128 = r % 128 by omega]
  rfl

theorem block_dvl : (A.block t).dvl r c = A.dvl (512 * t + r) c := by
  unfold dvl
  simp only [block_dvo, chunk_row, show (512 * t + r) % 128 = r % 128 by omega]
  rfl

theorem block_dzp : (A.block t).dzp r c = A.dzp (512 * t + r) c := by
  unfold dzp du dv dnorm
  simp only [block_vo, block_dvl, block_dq, block_norm]
  rfl

/-- A sum over the first `n + 1` blocks' rows is the sum over `n` blocks and one block more. -/
theorem sum_block (f : ℕ → ℝ) (n p : ℕ) :
    ∑ t ∈ Finset.range (p * (n + 1)), f t = ∑ t ∈ Finset.range (p * n), f t + ∑ r ∈ Finset.range p, f (p * n + r) := by
  rw [Nat.mul_succ, Finset.sum_range_add]

theorem dlg_succ (n : ℕ) : A.dlg (512 * (n + 1)) c = A.dlg (512 * n) c + (A.block n).dlg 512 c := by
  unfold dlg
  simp only [sum_block, block_dvl, block_norm]

theorem dlb_succ (n : ℕ) : A.dlb (512 * (n + 1)) c = A.dlb (512 * n) c + (A.block n).dlb 512 c := by
  unfold dlb
  simp only [sum_block, block_dvl]

theorem dwm_succ (n h i j : ℕ) : A.dwm (4 * (n + 1)) h i j = A.dwm (4 * n) h i j + (A.block n).dwm 4 h i j := by
  unfold dwm
  simp only [sum_block, block_dvo, block_vb, show ∀ q x : ℕ, 128 * (4 * n + q) + x = 512 * n + (128 * q + x) by intros; omega]

theorem dbs_succ (n h i : ℕ) : A.dbs (4 * (n + 1)) h i = A.dbs (4 * n) h i + (A.block n).dbs 4 h i := by
  unfold dbs
  simp only [sum_block, block_dvo, show ∀ q x : ℕ, 128 * (4 * n + q) + x = 512 * n + (128 * q + x) by intros; omega]

end Args

end Cert.Sgu

end
-- ==== Proof.Words.lean ====
/-
  The literals of both programs and the operations on finite extended reals, as the reals of Proof/Spec.lean.
-/
module

public import proofs.«01_k».proof.Proof.Spec

@[expose] public section

noncomputable section

open Idealize.ShloMosaic

namespace Cert.Sgu

/-- `1.0`. -/
theorem ofBits_one : Ideal.ofBits .f32 0x3F800000#32 = ((1 : ℝ) : EReal) := by
  simp [Ideal.ofBits, Ideal.ieee, -EReal.coe_mul]; norm_num

/-- `0.5`. -/
theorem ofBits_half : Ideal.ofBits .f32 0x3F000000#32 = ((1 / 2 : ℝ) : EReal) := by
  simp [Ideal.ofBits, Ideal.ieee, -EReal.coe_mul]; norm_num

/-- `-0.5`. -/
theorem ofBits_neg_half : Ideal.ofBits .f32 0xBF000000#32 = ((-(1 / 2) : ℝ) : EReal) := by
  simp [Ideal.ofBits, Ideal.ieee, -EReal.coe_mul]; norm_num

/-- `1024.0`. -/
theorem ofBits_1024 : Ideal.ofBits .f32 0x44800000#32 = ((1024 : ℝ) : EReal) := by
  simp [Ideal.ofBits, Ideal.ieee, -EReal.coe_mul]; norm_num

/-- `1 / 1024`. -/
theorem ofBits_inv_1024 : Ideal.ofBits .f32 0x3A800000#32 = ((1 / 1024 : ℝ) : EReal) := by
  simp [Ideal.ofBits, Ideal.ieee, -EReal.coe_mul]; norm_num

/-- `1 / 2048`. -/
theorem ofBits_inv_2048 : Ideal.ofBits .f32 0x3A000000#32 = ((1 / 2048 : ℝ) : EReal) := by
  simp [Ideal.ofBits, Ideal.ieee, -EReal.coe_mul]; norm_num

/-- The literal `1e-6`. -/
theorem ofBits_eps : Ideal.ofBits .f32 0x358637BD#32 = ((eps : ℝ) : EReal) := by
  unfold eps
  simp [Ideal.ofBits, Ideal.ieee, -EReal.coe_mul]; norm_num

/-- The error function of a finite value. -/
theorem erf_coe (x : ℝ) : Ideal.erf (x : EReal) = ((erf x : ℝ) : EReal) := rfl

/-- A finite value over 1024. -/
theorem div_1024 (x : ℝ) : Ideal.div (x : EReal) ((1024 : ℝ) : EReal) = ((x / 1024 : ℝ) : EReal) := by
  rw [Ideal.div_coe (by norm_num), ← EReal.coe_mul]
  congr 1; ring

/-- One over a finite positive value. -/
theorem one_div_coe {x : ℝ} (h : 0 < x) : Ideal.div ((1 : ℝ) : EReal) (x : EReal) = ((1 / x : ℝ) : EReal) := by
  rw [Ideal.div_coe h.ne', ← EReal.coe_mul, one_mul]

/-- The reciprocal square root of a positive finite value. -/
theorem rsqrt_pos (x : ℝ) (h : 0 < x) : Ideal.rsqrt (x : EReal) = (((Real.sqrt x)⁻¹ : ℝ) : EReal) := by
  rw [Ideal.rsqrt_coe, if_neg (not_lt.mpr h.le), if_neg h.ne']

/-- A variance is not negative, so a variance plus `eps` is positive. -/
theorem Args.var_eps_pos (A : Args) (t : ℕ) : 0 < A.var t + eps :=
  add_pos_of_nonneg_of_pos (div_nonneg (Finset.sum_nonneg fun _ _ => mul_self_nonneg _) (by norm_num)) eps_pos

/-- A small natural is its word's integer. -/
theorem toInt_small {n : ℕ} (h : n < 128) : (BitVec.ofNat 32 n).toInt = n := by
  have hn : (BitVec.ofNat 32 n).toNat = n := by rw [BitVec.toNat_ofNat]; omega
  rw [BitVec.toInt_eq_toNat_of_lt (by rw [hn]; omega), hn]

/-- The comparison `column ≤ row`, widened and read as a float, is the mask. -/
theorem mask_word {i j : ℕ} (hi : i < 128) (hj : j < 128) :
    FloatOps.sitofp (F := Ideal) .f32 (BitVec.setWidth 32 (IntOp.cmpi .sle (BitVec.ofNat 32 j) (BitVec.ofNat 32 i)))
      = ((Args.mask i j : ℝ) : EReal) := by
  have hle : (BitVec.ofNat 32 j).sle (BitVec.ofNat 32 i) = decide (j ≤ i) := by
    rw [BitVec.sle_eq_decide, toInt_small hi, toInt_small hj]
    simp
  show (((BitVec.setWidth 32 (IntOp.cmpi .sle (BitVec.ofNat 32 j) (BitVec.ofNat 32 i))).toInt : ℝ) : EReal) = _
  by_cases h : j ≤ i
  · simp [IntOp.cmpi, Args.mask, hle, h]
  · simp [IntOp.cmpi, Args.mask, hle, h]

end Cert.Sgu

end
-- ==== Proof.Leaf.lean ====
/-
  What one grid point of the kernel computes from its blocks, at an index, up to the spatial mixer's tiles: every generated
  payload of the row-wise part is the real quantity of Proof/Spec.lean at the block's own rows.
-/
module

public import proofs.«01_k».proof.Proof.Words
public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem Cert.Sgu

namespace Cert.KernelIdeal.Block

open Cert.KernelIdeal Cert.KernelIdeal.Gen

/-- The seven input blocks hold the reals of `A`. -/
structure Holds (A : Args) (x0 : Vec Ideal S512x2048 .bf16) (x1 : Vec Ideal S512x1024 .f32) (x2 : Vec Ideal S1024x1024 .bf16)
    (x3 x4 : Vec Ideal S1x1024 .f32) (x5 : Vec Ideal S8x128x128 .f32) (x6 : Vec Ideal S8x128x1 .f32) : Prop where
  z : ∀ i, x0 i = ((A.z (i 0) (i 1) : ℝ) : EReal)
  dy : ∀ i, x1 i = ((A.dy (i 0) (i 1) : ℝ) : EReal)
  w : ∀ i, x2 i = ((A.w (i 0) (i 1) : ℝ) : EReal)
  g : ∀ i, x3 i = ((A.g (i 1) : ℝ) : EReal)
  b : ∀ i, x4 i = ((A.b (i 1) : ℝ) : EReal)
  s : ∀ i, x5 i = ((A.s (i 0) (i 1) (i 2) : ℝ) : EReal)
  d : ∀ i, x6 i = ((A.d (i 0) (i 1) : ℝ) : EReal)

variable {A : Args} {x0 : Vec Ideal S512x2048 .bf16} {x1 : Vec Ideal S512x1024 .f32} {x2 : Vec Ideal S1024x1024 .bf16}
  {x3 x4 : Vec Ideal S1x1024 .f32} {x5 : Vec Ideal S8x128x128 .f32} {x6 : Vec Ideal S8x128x1 .f32}

/-- The kernel's named constants read as the reals they stand for. -/
theorem named_sqrt_half : Named.named (F := Ideal) (φ := .f32) κ "sqrt_half" 0x3F3504F3#32 = (((Real.sqrt 2)⁻¹ : ℝ) : EReal) := rfl

theorem named_erf_slope :
    Named.named (F := Ideal) (φ := .f32) κ "erf_slope_over_sqrt_8" 0x3ECC422A#32 = ((9465531 / 8388608 * (Real.sqrt 8)⁻¹ : ℝ) : EReal) := rfl

/-- `dq`: the incoming gradient times the transposed projection. -/
theorem pay18_apply (H : Holds A x0 x1 x2 x3 x4 x5 x6) (i : S512x1024.Idx) :
    k0_pay18 x1 x2 i = ((A.dq (i 0) (i 1) : ℝ) : EReal) := by
  pointwise [k0_pay18, k0_pay17]
  simp only [H.dy, H.w, ← EReal.coe_mul, coe_sum]
  rfl

/-- The hidden layer itself. -/
theorem pay19_apply (H : Holds A x0 x1 x2 x3 x4 x5 x6) (i : S512x2048.Idx) :
    k0_pay19 x0 i = ((A.z (i 0) (i 1) : ℝ) : EReal) := by
  pointwise [k0_pay19]
  exact H.z i

/-- The normal distribution function of the hidden layer. -/
theorem pay20_apply (H : Holds A x0 x1 x2 x3 x4 x5 x6) (i : S512x2048.Idx) :
    k0_pay20 x0 i = ((cdf (A.z (i 0) (i 1)) : ℝ) : EReal) := by
  pointwise [k0_pay20, k0_pay19]
  rw [H.z, named_sqrt_half, ofBits_half, ← EReal.coe_mul, Ideal.erf_def, erf_coe, ← EReal.coe_one, ← EReal.coe_add, ← EReal.coe_mul]
  rfl

/-- The GELU of the hidden layer. -/
theorem pay21_apply (H : Holds A x0 x1 x2 x3 x4 x5 x6) (i : S512x2048.Idx) :
    k0_pay21 x0 i = ((gelu (A.z (i 0) (i 1)) : ℝ) : EReal) := by
  pointwise [k0_pay21]
  rw [pay19_apply H, pay20_apply H, ← EReal.coe_mul]
  rfl

/-- The gate's left half. -/
theorem pay22_apply (H : Holds A x0 x1 x2 x3 x4 x5 x6) (i : S512x1024.Idx) :
    k0_pay22 x0 i = ((A.U (i 0) (i 1) : ℝ) : EReal) := by
  pointwise [k0_pay22]
  rw [pay21_apply H]
  rfl

/-- The right half less its row's mean. -/
theorem pay23_apply (H : Holds A x0 x1 x2 x3 x4 x5 x6) (i : S512x1024.Idx) :
    k0_pay23 x0 i = ((A.cen (i 0) (i 1) : ℝ) : EReal) := by
  pointwise [k0_pay23]
  simp only [pay21_apply H, coe_sum, ofBits_1024, div_1024, ← EReal.coe_sub]
  rfl

/-- The reciprocal standard deviation of a row. -/
theorem pay24_apply (H : Holds A x0 x1 x2 x3 x4 x5 x6) (i : S512x1.Idx) :
    k0_pay24 x0 i = ((A.rstd (i 0) : ℝ) : EReal) := by
  pointwise [k0_pay24]
  simp only [pay23_apply H, ← EReal.coe_mul, coe_sum, ofBits_1024, ofBits_eps, div_1024, ← EReal.coe_add]
  exact rsqrt_pos _ (A.var_eps_pos _)

/-- The normalized row. -/
theorem pay25_apply (H : Holds A x0 x1 x2 x3 x4 x5 x6) (i : S512x1024.Idx) :
    k0_pay25 x0 i = ((A.norm (i 0) (i 1) : ℝ) : EReal) := by
  pointwise [k0_pay25]
  rw [pay23_apply H, pay24_apply H, ← EReal.coe_mul]
  rfl

/-- The layer norm's output. -/
theorem pay26_apply (H : Holds A x0 x1 x2 x3 x4 x5 x6) (i : S512x1024.Idx) :
    k0_pay26 (k0_pay25 x0) x3 x4 i = ((A.vb (i 0) (i 1) : ℝ) : EReal) := by
  pointwise [k0_pay26]
  rw [pay25_apply H, H.g, H.b, ← EReal.coe_mul, ← EReal.coe_add]
  rfl

/-- The causal mask. -/
theorem pay27_apply (i : S128x128.Idx) :
    k0_pay27 (F := Ideal) i = ((Args.mask (i 0) (i 1) : ℝ) : EReal) := by
  pointwise [k0_pay27]
  exact mask_word (i 0).isLt (i 1).isLt

end Cert.KernelIdeal.Block

end
-- ==== Proof.Tiles.lean ====
/-
  The chains of operations that the kernel's stores repeat for each head and chunk, read at an index once for any literal
  offsets: the spatial mixer's tiles, the gradients of its weights and bias, and the two halves of the result.
-/
module

public import proofs.«01_k».proof.Proof.Leaf

@[expose] public section

set_option maxRecDepth 16384

noncomputable section

open Idealize.ShloMosaic Idealize.ShloMosaic.TcCoe Idealize.SL.Sem Cert.Sgu

namespace Cert.KernelIdeal.Block

open Cert.KernelIdeal Cert.KernelIdeal.Gen

variable {A : Args} {x0 : Vec Ideal S512x2048 .bf16} {x1 : Vec Ideal S512x1024 .f32} {x2 : Vec Ideal S1024x1024 .bf16}
  {x3 x4 : Vec Ideal S1x1024 .f32} {x5 : Vec Ideal S8x128x128 .f32} {x6 : Vec Ideal S8x128x1 .f32}

/-- A tile of the spatial mixer's output: head `hd`'s masked weights times the chunk at row `p`, plus the bias. -/
theorem vo_tile (H : Holds A x0 x1 x2 x3 x4 x5 x6) (M : FVec Ideal S128x128 .f32) (VB : FVec Ideal S512x1024 .bf16)
    (hM : ∀ i, M i = ((Args.mask (i 0) (i 1) : ℝ) : EReal)) (hVB : ∀ i, VB i = ((A.vb (i 0) (i 1) : ℝ) : EReal))
    (p q hd y0 y1 : ℕ) (x : S128x128.Idx) (hp : p % 128 = 0) (hq : q = 128 * hd) (e0 : y0 = p + x 0) (e1 : y1 = q + x 1)
    (i5 : ∀ a, (![hd, 0, 0] : Fin 3 → ℕ) a + (![1, 128, 128] : Fin 3 → ℕ) a ≤ S8x128x128.size a)
    (i6 : ∀ a, (![hd, 0, 0] : Fin 3 → ℕ) a + (![1, 128, 1] : Fin 3 → ℕ) a ≤ S8x128x1.size a)
    (hsl : S512x1024.Slices ![p, q] S128x128) :
    shapeCast S128x128 (addf (matmul dot_S128x128_S128x128_S128x128_1_0_0_1_n_n none
        (truncf .bf16 (mulf (shapeCast S128x128 (View.ld x5 (Rect.unit ![hd, 0, 0] ![1, 128, 128] i5)) shapeCasts_S1x128x128_S128x128) M)
          bitsLt_bf16_f32)
        (extractStridedSlice S128x128 ![p, q] VB hsl) (constant S128x128 .f32 0x00000000#32))
      (broadcastTo S128x128 (shapeCast S128x1 (View.ld x6 (Rect.unit ![hd, 0, 0] ![1, 128, 1] i6)) shapeCasts_S1x128x1_S128x1)
        broadcasts_S128x1_S128x128))
      shapeCasts_S128x128_S128x128 x = ((A.vo y0 y1 : ℝ) : EReal) := by
  have hx0 : (x 0 : ℕ) < 128 := (x 0).isLt
  have hx1 : (x 1 : ℕ) < 128 := (x 1).isLt
  have r0 : y0 % 128 = x 0 := by omega
  have r1 : y0 / 128 * 128 = p := by omega
  have r2 : y1 / 128 = hd := by omega
  pointwise []
  simp only [H.s, H.d, hM, hVB, ← EReal.coe_mul, coe_sum, ← EReal.coe_add]
  rw [Args.vo, r0, r1, r2, e1]
  rfl

/-- A tile of the gradient of the layer norm's output: head `hd`'s transposed masked weights times the chunk at row `p`. -/
theorem dvl_tile (H : Holds A x0 x1 x2 x3 x4 x5 x6) (M : FVec Ideal S128x128 .f32) (DV : FVec Ideal S512x1024 .bf16)
    (hM : ∀ i, M i = ((Args.mask (i 0) (i 1) : ℝ) : EReal)) (hDV : ∀ i, DV i = ((A.dvo (i 0) (i 1) : ℝ) : EReal))
    (p q hd y0 y1 : ℕ) (x : S128x128.Idx) (hp : p % 128 = 0) (hq : q = 128 * hd) (e0 : y0 = p + x 0) (e1 : y1 = q + x 1)
    (i5 : ∀ a, (![hd, 0, 0] : Fin 3 → ℕ) a + (![1, 128, 128] : Fin 3 → ℕ) a ≤ S8x128x128.size a)
    (hsl : S512x1024.Slices ![p, q] S128x128) :
    shapeCast S128x128 (matmul dot_S128x128_S128x128_S128x128_1_0_0_1_n_n none
        (truncf .bf16 (transpose S128x128 [1, 0]
            (mulf (shapeCast S128x128 (View.ld x5 (Rect.unit ![hd, 0, 0] ![1, 128, 128] i5)) shapeCasts_S1x128x128_S128x128) M)
            transposes_S128x128_p1_0_S128x128) bitsLt_bf16_f32)
        (extractStridedSlice S128x128 ![p, q] DV hsl) (constant S128x128 .f32 0x00000000#32))
      shapeCasts_S128x128_S128x128 x = ((A.dvl y0 y1 : ℝ) : EReal) := by
  have hx0 : (x 0 : ℕ) < 128 := (x 0).isLt
  have hx1 : (x 1 : ℕ) < 128 := (x 1).isLt
  have r0 : y0 % 128 = x 0 := by omega
  have r1 : y0 / 128 * 128 = p := by omega
  have r2 : y1 / 128 = hd := by omega
  pointwise []
  simp only [H.s, hM, hDV, ← EReal.coe_mul, coe_sum]
  rw [Args.dvl, r0, r1, r2, e1]
  rfl

/-- One chunk's addend to the gradient of a head's masked weights. -/
theorem dws_step (P : Vec Ideal S1x128x128 .f32) (R : ℕ → ℕ → ℝ) (VB DV : FVec Ideal S512x1024 .bf16)
    (hDV : ∀ i, DV i = ((A.dvo (i 0) (i 1) : ℝ) : EReal)) (hVB : ∀ i, VB i = ((A.vb (i 0) (i 1) : ℝ) : EReal))
    (hP : ∀ i, P i = ((R (i 1) (i 2) : ℝ) : EReal)) (p q : ℕ)
    (hsl : S512x1024.Slices ![p, q] S128x128) (x : S1x128x128.Idx) :
    shapeCast S1x128x128 (addf (shapeCast S128x128 P shapeCasts_S1x128x128_S128x128)
        (matmul dot_S128x128_S128x128_S128x128_1_1_0_0_n_n none (extractStridedSlice S128x128 ![p, q] DV hsl)
          (extractStridedSlice S128x128 ![p, q] VB hsl) (constant S128x128 .f32 0x00000000#32)))
      shapeCasts_S128x128_S1x128x128 x
    = ((R (x 1) (x 2) + ∑ k : Fin 128, A.dvo (p + x 1) (q + k) * A.vb (p + x 2) (q + k) : ℝ) : EReal) := by
  pointwise []
  simp only [hP, hVB, hDV, ← EReal.coe_mul, coe_sum, ← EReal.coe_add]
  rfl

/-- The four chunks' addends of one grid point to the gradient of head `y0`'s masked weights. -/
theorem dws_tile (P : Vec Ideal S1x128x128 .f32) (R : ℕ → ℕ → ℕ → ℝ) (VB DV : FVec Ideal S512x1024 .bf16)
    (hDV : ∀ i, DV i = ((A.dvo (i 0) (i 1) : ℝ) : EReal)) (hVB : ∀ i, VB i = ((A.vb (i 0) (i 1) : ℝ) : EReal))
    (q y0 y1 y2 : ℕ) (x : S1x128x128.Idx) (hq : q = 128 * y0) (e1 : y1 = x 1) (e2 : y2 = x 2)
    (hP : ∀ i, P i = ((R y0 (i 1) (i 2) : ℝ) : EReal))
    (s0 : S512x1024.Slices ![0, q] S128x128) (s1 : S512x1024.Slices ![128, q] S128x128)
    (s2 : S512x1024.Slices ![256, q] S128x128) (s3 : S512x1024.Slices ![384, q] S128x128) :
    shapeCast S1x128x128 (addf (shapeCast S128x128
      (shapeCast S1x128x128 (addf (shapeCast S128x128
        (shapeCast S1x128x128 (addf (shapeCast S128x128
          (shapeCast S1x128x128 (addf (shapeCast S128x128 P shapeCasts_S1x128x128_S128x128)
            (matmul dot_S128x128_S128x128_S128x128_1_1_0_0_n_n none (extractStridedSlice S128x128 ![0, q] DV s0)
              (extractStridedSlice S128x128 ![0, q] VB s0) (constant S128x128 .f32 0x00000000#32)))
          shapeCasts_S128x128_S1x128x128) shapeCasts_S1x128x128_S128x128)
          (matmul dot_S128x128_S128x128_S128x128_1_1_0_0_n_n none (extractStridedSlice S128x128 ![128, q] DV s1)
            (extractStridedSlice S128x128 ![128, q] VB s1) (constant S128x128 .f32 0x00000000#32)))
        shapeCasts_S128x128_S1x128x128) shapeCasts_S1x128x128_S128x128)
        (matmul dot_S128x128_S128x128_S128x128_1_1_0_0_n_n none (extractStridedSlice S128x128 ![256, q] DV s2)
          (extractStridedSlice S128x128 ![256, q] VB s2) (constant S128x128 .f32 0x00000000#32)))
      shapeCasts_S128x128_S1x128x128) shapeCasts_S1x128x128_S128x128)
      (matmul dot_S128x128_S128x128_S128x128_1_1_0_0_n_n none (extractStridedSlice S128x128 ![384, q] DV s3)
        (extractStridedSlice S128x128 ![384, q] VB s3) (constant S128x128 .f32 0x00000000#32)))
      shapeCasts_S128x128_S1x128x128 x
    = ((R y0 y1 y2 + A.dwm 4 y0 y1 y2 : ℝ) : EReal) := by
  refine (dws_step _ (fun i j => R y0 i j + ∑ k : Fin 128, A.dvo (0 + i) (q + k) * A.vb (0 + j) (q + k)
    + ∑ k : Fin 128, A.dvo (128 + i) (q + k) * A.vb (128 + j) (q + k)
    + ∑ k : Fin 128, A.dvo (256 + i) (q + k) * A.vb (256 + j) (q + k)) VB DV hDV hVB
    (dws_step _ (fun i j => R y0 i j + ∑ k : Fin 128, A.dvo (0 + i) (q + k) * A.vb (0 + j) (q + k)
      + ∑ k : Fin 128, A.dvo (128 + i) (q + k) * A.vb (128 + j) (q + k)) VB DV hDV hVB
      (dws_step _ (fun i j => R y0 i j + ∑ k : Fin 128, A.dvo (0 + i) (q + k) * A.vb (0 + j) (q + k)) VB DV hDV hVB
        (dws_step P (fun i j => R y0 i j) VB DV hDV hVB hP 0 q s0) 128 q s1) 256 q s2) 384 q s3 x).trans ?_
  rw [Args.dwm]
  simp only [Finset.sum_range_succ, Finset.sum_range_zero, e1, e2, hq]
  congr 1
  ring

/-- One chunk's addend to the gradient of a head's bias. -/
theorem dbs_step (P : Vec Ideal S1x128x1 .f32) (R : ℕ → ℝ) (DV : FVec Ideal S512x1024 .f32)
    (hDV : ∀ i, DV i = ((A.dvo (i 0) (i 1) : ℝ) : EReal)) (hP : ∀ i, P i = ((R (i 1) : ℝ) : EReal)) (p q : ℕ)
    (hsl : S512x1024.Slices ![p, q] S128x128) (x : S1x128x1.Idx) :
    shapeCast S1x128x1 (addf (shapeCast S128x1 P shapeCasts_S1x128x1_S128x1)
        (shapeCast S128x1 (multiReduction .add [1] S128 (extractStridedSlice S128x128 ![p, q] DV hsl) 0x00000000#32
          reduces_S128x128_S128 (.inl rfl) rfl) shapeCasts_S128_S128x1))
      shapeCasts_S128x1_S1x128x1 x
    = ((R (x 1) + ∑ k : Fin 128, A.dvo (p + x 1) (q + k) : ℝ) : EReal) := by
  pointwise []
  simp only [hP, hDV, coe_sum, ← EReal.coe_add]
  rfl

/-- The four chunks' addends of one grid point to the gradient of head `y0`'s bias. -/
theorem dbs_tile (P : Vec Ideal S1x128x1 .f32) (R : ℕ → ℕ → ℝ) (DV : FVec Ideal S512x1024 .f32)
    (hDV : ∀ i, DV i = ((A.dvo (i 0) (i 1) : ℝ) : EReal))
    (q y0 y1 : ℕ) (x : S1x128x1.Idx) (hq : q = 128 * y0) (e1 : y1 = x 1) (hP : ∀ i, P i = ((R y0 (i 1) : ℝ) : EReal))
    (s0 : S512x1024.Slices ![0, q] S128x128) (s1 : S512x1024.Slices ![128, q] S128x128)
    (s2 : S512x1024.Slices ![256, q] S128x128) (s3 : S512x1024.Slices ![384, q] S128x128) :
    shapeCast S1x128x1 (addf (shapeCast S128x1
      (shapeCast S1x128x1 (addf (shapeCast S128x1
        (shapeCast S1x128x1 (addf (shapeCast S128x1
          (shapeCast S1x128x1 (addf (shapeCast S128x1 P shapeCasts_S1x128x1_S128x1)
            (shapeCast S128x1 (multiReduction .add [1] S128 (extractStridedSlice S128x128 ![0, q] DV s0) 0x00000000#32
              reduces_S128x128_S128 (.inl rfl) rfl) shapeCasts_S128_S128x1))
          shapeCasts_S128x1_S1x128x1) shapeCasts_S1x128x1_S128x1)
          (shapeCast S128x1 (multiReduction .add [1] S128 (extractStridedSlice S128x128 ![128, q] DV s1) 0x00000000#32
            reduces_S128x128_S128 (.inl rfl) rfl) shapeCasts_S128_S128x1))
        shapeCasts_S128x1_S1x128x1) shapeCasts_S1x128x1_S128x1)
        (shapeCast S128x1 (multiReduction .add [1] S128 (extractStridedSlice S128x128 ![256, q] DV s2) 0x00000000#32
          reduces_S128x128_S128 (.inl rfl) rfl) shapeCasts_S128_S128x1))
      shapeCasts_S128x1_S1x128x1) shapeCasts_S1x128x1_S128x1)
      (shapeCast S128x1 (multiReduction .add [1] S128 (extractStridedSlice S128x128 ![384, q] DV s3) 0x00000000#32
        reduces_S128x128_S128 (.inl rfl) rfl) shapeCasts_S128_S128x1))
      shapeCasts_S128x1_S1x128x1 x
    = ((R y0 y1 + A.dbs 4 y0 y1 : ℝ) : EReal) := by
  refine (dbs_step _ (fun i => R y0 i + ∑ k : Fin 128, A.dvo (0 + i) (q + k) + ∑ k : Fin 128, A.dvo (128 + i) (q + k)
    + ∑ k : Fin 128, A.dvo (256 + i) (q + k)) DV hDV
    (dbs_step _ (fun i => R y0 i + ∑ k : Fin 128, A.dvo (0 + i) (q + k) + ∑ k : Fin 128, A.dvo (128 + i) (q + k)) DV hDV
      (dbs_step _ (fun i => R y0 i + ∑ k : Fin 128, A.dvo (0 + i) (q + k)) DV hDV
        (dbs_step P (fun i => R y0 i) DV hDV hP 0 q s0) 128 q s1) 256 q s2) 384 q s3 x).trans ?_
  rw [Args.dbs]
  simp only [Finset.sum_range_succ, Finset.sum_range_zero, e1, hq]
  congr 1
  ring

/-- The gradient of the spatial mixer's output. -/
theorem dvo_apply (H : Holds A x0 x1 x2 x3 x4 x5 x6) (i : S512x1024.Idx) :
    mulf (k0_pay18 x1 x2) (k0_pay22 x0) i = ((A.dvo (i 0) (i 1) : ℝ) : EReal) := by
  pointwise []
  rw [pay18_apply H, pay22_apply H, ← EReal.coe_mul]
  rfl

/-- The same, rounded to bf16. -/
theorem dvob_apply (H : Holds A x0 x1 x2 x3 x4 x5 x6) (i : S512x1024.Idx) :
    truncf .bf16 (mulf (k0_pay18 x1 x2) (k0_pay22 x0)) bitsLt_bf16_f32 i = ((A.dvo (i 0) (i 1) : ℝ) : EReal) :=
  dvo_apply H i

/-- The derivative of the GELU of the hidden layer. -/
theorem pay1_apply (H : Holds A x0 x1 x2 x3 x4 x5 x6) (i : S512x2048.Idx) :
    k0_pay1 (k0_pay19 x0) (k0_pay20 x0) (k0_pay242 (k0_pay19 x0)) i = ((dgelu (A.z (i 0) (i 1)) : ℝ) : EReal) := by
  pointwise [k0_pay1, k0_pay242]
  rw [pay19_apply H, pay20_apply H, named_erf_slope, ofBits_neg_half, ← EReal.coe_mul, ← EReal.coe_mul, Ideal.exp_coe,
    ← EReal.coe_mul, ← EReal.coe_mul, ← EReal.coe_add]
  rfl

/-- The left half of the result: the gated product's gradient times the mixer's output times the GELU's derivative. -/
theorem left_tile (H : Holds A x0 x1 x2 x3 x4 x5 x6) (VO : Vec Ideal S512x1024 .f32)
    (hVO : ∀ i, VO i = ((A.vo (i 0) (i 1) : ℝ) : EReal)) (y0 y1 : ℕ) (x : S512x1024.Idx) (e0 : y0 = x 0) (e1 : y1 = x 1) :
    k0_pay2 (k0_pay19 x0) (k0_pay20 x0) (mulf (k0_pay18 x1 x2) VO) (k0_pay242 (k0_pay19 x0)) x = ((A.dzp y0 y1 : ℝ) : EReal) := by
  have hx1 : (x 1 : ℕ) < 1024 := (x 1).isLt
  pointwise [k0_pay2]
  rw [pay18_apply H, hVO, pay1_apply H, ← EReal.coe_mul, ← EReal.coe_mul, Args.dzp, if_pos (by omega), e0, e1]
  rfl

/-- The right half before the GELU's derivative: the layer norm's gradient. -/
theorem dv_apply (H : Holds A x0 x1 x2 x3 x4 x5 x6) (DVL : Vec Ideal S512x1024 .f32)
    (hDVL : ∀ i, DVL i = ((A.dvl (i 0) (i 1) : ℝ) : EReal)) (x : S512x1024.Idx) :
    k0_pay241 (k0_pay24 x0) (k0_pay25 x0) DVL (k0_pay240 x3) x = ((A.dv (x 0) (x 1) : ℝ) : EReal) := by
  pointwise [k0_pay241, k0_pay240]
  simp only [hDVL, H.g, pay24_apply H, pay25_apply H, ← EReal.coe_mul, coe_sum, ofBits_1024, div_1024, ← EReal.coe_sub]
  rfl

/-- The right half of the result. -/
theorem right_tile (H : Holds A x0 x1 x2 x3 x4 x5 x6) (DVL : Vec Ideal S512x1024 .f32)
    (hDVL : ∀ i, DVL i = ((A.dvl (i 0) (i 1) : ℝ) : EReal)) (y0 y1 : ℕ) (x : S512x1024.Idx) (e0 : y0 = x 0) (e1 : y1 = 1024 + x 1) :
    k0_pay3 (k0_pay19 x0) (k0_pay20 x0) (k0_pay241 (k0_pay24 x0) (k0_pay25 x0) DVL (k0_pay240 x3)) (k0_pay242 (k0_pay19 x0)) x
      = ((A.dzp y0 y1 : ℝ) : EReal) := by
  pointwise [k0_pay3]
  rw [dv_apply H DVL hDVL, pay1_apply H, ← EReal.coe_mul, Args.dzp, if_neg (by omega), e0, e1, Nat.add_sub_cancel_left]
  rfl

/-- One grid point's addend to the gradient of the layer norm's gain. -/
theorem dlg_tile (H : Holds A x0 x1 x2 x3 x4 x5 x6) (DVL : Vec Ideal S512x1024 .f32)
    (hDVL : ∀ i, DVL i = ((A.dvl (i 0) (i 1) : ℝ) : EReal)) (P : Vec Ideal S1x1024 .f32) (R : ℕ → ℝ)
    (hP : ∀ i, P i = ((R (i 1) : ℝ) : EReal)) (x : S1x1024.Idx) :
    k0_pay238 (k0_pay25 x0) DVL P x = ((R (x 1) + A.dlg 512 (x 1) : ℝ) : EReal) := by
  pointwise [k0_pay238]
  simp only [hP, hDVL, pay25_apply H, ← EReal.coe_mul, coe_sum, ← EReal.coe_add]
  rw [Args.dlg, ← Fin.sum_univ_eq_sum_range (fun t => A.dvl t (x 1) * A.norm t (x 1)) 512]
  rfl

/-- One grid point's addend to the gradient of the layer norm's bias. -/
theorem dlb_tile (DVL : Vec Ideal S512x1024 .f32)
    (hDVL : ∀ i, DVL i = ((A.dvl (i 0) (i 1) : ℝ) : EReal)) (P : Vec Ideal S1x1024 .f32) (R : ℕ → ℝ)
    (hP : ∀ i, P i = ((R (i 1) : ℝ) : EReal)) (x : S1x1024.Idx) :
    k0_pay239 DVL P x = ((R (x 1) + A.dlb 512 (x 1) : ℝ) : EReal) := by
  pointwise [k0_pay239]
  simp only [hP, hDVL, coe_sum, ← EReal.coe_add]
  rw [Args.dlb, ← Fin.sum_univ_eq_sum_range (fun t => A.dvl t (x 1)) 512]
  rfl

/-- The masked accumulator of one head, as the last grid point stores it. -/
theorem mask_tile (M : FVec Ideal S128x128 .f32) (hM : ∀ i, M i = ((Args.mask (i 0) (i 1) : ℝ) : EReal))
    (P : Vec Ideal S1x128x128 .f32) (R : ℕ → ℕ → ℕ → ℝ) (y0 y1 y2 : ℕ) (x : S1x128x128.Idx) (e1 : y1 = x 1) (e2 : y2 = x 2)
    (hP : ∀ i, P i = ((R y0 (i 1) (i 2) : ℝ) : EReal)) :
    shapeCast S1x128x128 (mulf (shapeCast S128x128 P shapeCasts_S1x128x128_S128x128) M) shapeCasts_S128x128_S1x128x128 x
      = ((R y0 y1 y2 * Args.mask y1 y2 : ℝ) : EReal) := by
  pointwise []
  rw [hP, hM, ← EReal.coe_mul, e1, e2]
  rfl

/-- A load of a whole scratch is what its stores left. -/
theorem load_all (v : View sig .tc .vmem S512x1024 .f32) (L : List (View.Piece (Elt Ideal) S512x1024 .f32)) (f : ℕ → ℕ → ℝ)
    (inb : ∀ a, (![0, 0] : Fin 2 → ℕ) a + (![512, 1024] : Fin 2 → ℕ) a ≤ S512x1024.size a)
    (h : ∀ y, View.canon L y = ((f (y 0) (y 1) : ℝ) : EReal))
    (j : (Rect.unit (s := S512x1024) ![0, 0] ![512, 1024] inb).toLoadRect.shape.Idx) :
    v.readCov L (Rect.unit (s := S512x1024) ![0, 0] ![512, 1024] inb).toLoadRect j = ((f (j 0) (j 1) : ℝ) : EReal) := by
  rw [View.readCov_eq_canon']
  show View.canon L _ = _
  rw [h]
  have e0 : ((Rect.unit (s := S512x1024) ![0, 0] ![512, 1024] inb).toLoadRect.idx j 0 : ℕ) = j 0 := by
    show 0 + 1 * (j 0 : ℕ) = j 0; omega
  have e1 : ((Rect.unit (s := S512x1024) ![0, 0] ![512, 1024] inb).toLoadRect.idx j 1 : ℕ) = j 1 := by
    show 0 + 1 * (j 1 : ℕ) = j 1; omega
  rw [e0, e1]

/-- A load of one head of an accumulator with a value per head and row. -/
theorem ld_head1 {acc : Vec Ideal S8x128x1 .f32} {R : ℕ → ℕ → ℝ} (hR : ∀ i, acc i = ((R (i 0) (i 1) : ℝ) : EReal)) (hd : ℕ)
    (inb : ∀ a, (![hd, 0, 0] : Fin 3 → ℕ) a + (![1, 128, 1] : Fin 3 → ℕ) a ≤ S8x128x1.size a) (y : S8x128x1.Idx) (x : S1x128x1.Idx)
    (e : (y 0 : ℕ) = hd + x 0) (j : S1x128x1.Idx) :
    View.ld acc (Rect.unit (s := S8x128x1) ![hd, 0, 0] ![1, 128, 1] inb) j = ((R (y 0) (j 1) : ℝ) : EReal) := by
  show acc _ = _
  rw [hR]
  have x0 : (x 0 : ℕ) < 1 := (x 0).isLt
  have j0 : (j 0 : ℕ) < 1 := (j 0).isLt
  have e0 : (((Rect.unit (s := S8x128x1) ![hd, 0, 0] ![1, 128, 1] inb).idx j 0 : Fin _) : ℕ) = y 0 := by
    show hd + 1 * (j 0 : ℕ) = y 0; omega
  have e1 : (((Rect.unit (s := S8x128x1) ![hd, 0, 0] ![1, 128, 1] inb).idx j 1 : Fin _) : ℕ) = j 1 := by
    show 0 + 1 * (j 1 : ℕ) = j 1; omega
  rw [e0, e1]

/-- A load of one head of an accumulator with a matrix per head. -/
theorem ld_head2 {acc : Vec Ideal S8x128x128 .f32} {R : ℕ → ℕ → ℕ → ℝ} (hR : ∀ i, acc i = ((R (i 0) (i 1) (i 2) : ℝ) : EReal)) (hd : ℕ)
    (inb : ∀ a, (![hd, 0, 0] : Fin 3 → ℕ) a + (![1, 128, 128] : Fin 3 → ℕ) a ≤ S8x128x128.size a) (y : S8x128x128.Idx) (x : S1x128x128.Idx)
    (e : (y 0 : ℕ) = hd + x 0) (j : S1x128x128.Idx) :
    View.ld acc (Rect.unit (s := S8x128x128) ![hd, 0, 0] ![1, 128, 128] inb) j = ((R (y 0) (j 1) (j 2) : ℝ) : EReal) := by
  show acc _ = _
  rw [hR]
  have x0 : (x 0 : ℕ) < 1 := (x 0).isLt
  have j0 : (j 0 : ℕ) < 1 := (j 0).isLt
  have e0 : (((Rect.unit (s := S8x128x128) ![hd, 0, 0] ![1, 128, 128] inb).idx j 0 : Fin _) : ℕ) = y 0 := by
    show hd + 1 * (j 0 : ℕ) = y 0; omega
  have e1 : (((Rect.unit (s := S8x128x128) ![hd, 0, 0] ![1, 128, 128] inb).idx j 1 : Fin _) : ℕ) = j 1 := by
    show 0 + 1 * (j 1 : ℕ) = j 1; omega
  have e2 : (((Rect.unit (s := S8x128x128) ![hd, 0, 0] ![1, 128, 128] inb).idx j 2 : Fin _) : ℕ) = j 2 := by
    show 0 + 1 * (j 2 : ℕ) = j 2; omega
  rw [e0, e1, e2]

/-- A store through a rectangle hides the store before it through the same one. -/
theorem overlay_same {s : Shape} {e : EltTy} (r : Rect s) (f : s.Idx → Elt Ideal e) (w w' : r.shape.Idx → Elt Ideal e) :
    r.overlay (r.overlay f w') w = r.overlay f w := by
  funext y
  by_cases h : y ∈ r.set
  · rw [← Rect.map_emb_univ] at h
    obtain ⟨x, -, rfl⟩ := Finset.mem_map.1 h
    rw [r.overlay_emb, r.overlay_emb]
  · rw [r.overlay_of_not_mem _ _ h, r.overlay_of_not_mem _ _ h, r.overlay_of_not_mem _ _ h]

/-- Where one of the later stores lands, the earlier ones have no say. -/
theorem canon_drop {s : Shape} {e : EltTy} (L L' : List (View.Piece (Elt Ideal) s e)) (y : s.Idx) (h : ∃ p ∈ L, y ∈ p.1.set) :
    View.canon (L ++ L') y = View.canon L y := by
  induction L with
  | nil => obtain ⟨p, hp, -⟩ := h; cases hp
  | cons q L ih =>
    obtain ⟨r, w⟩ := q
    show r.overlay (View.canon (L ++ L')) w y = r.overlay (View.canon L) w y
    by_cases hy : y ∈ r.set
    · rw [← Rect.map_emb_univ] at hy
      obtain ⟨x, -, rfl⟩ := Finset.mem_map.1 hy
      rw [r.overlay_emb, r.overlay_emb]
    · rw [r.overlay_of_not_mem _ _ hy, r.overlay_of_not_mem _ _ hy]
      refine ih ?_
      obtain ⟨p, hp, hm⟩ := h
      rcases List.mem_cons.1 hp with rfl | hp
      · exact absurd hm hy
      · exact ⟨p, hp, hm⟩

/-- What a list of stores leaves, by its last store. -/
theorem canon_open {s : Shape} {e : EltTy} (r : Rect s) (w : r.shape.Idx → Elt Ideal e) (L : List (View.Piece (Elt Ideal) s e)) :
    View.canon (⟨r, w⟩ :: L) = r.overlay (View.canon L) w := rfl

/-- A store over what a list of stores left is one more store of the list. -/
theorem canon_fold {s : Shape} {e : EltTy} (r : Rect s) (w : r.shape.Idx → Elt Ideal e) (L : List (View.Piece (Elt Ideal) s e)) :
    r.overlay (View.canon L) w = View.canon (⟨r, w⟩ :: L) := rfl

/-- The input blocks of grid point `t` hold the reals of `A`. -/
abbrev HoldsAt (m : (ℓ : Loc nD τ sig) → Buf (Elt Ideal) ℓ) (A : Args) (c : Dev nD) (t : Fin cfg0.N) : Prop :=
  Holds A (iblk m c 0 t) (iblk m c 1 t) (iblk m c 2 t) (iblk m c 3 t) (iblk m c 4 t) (iblk m c 5 t) (iblk m c 6 t)

end Cert.KernelIdeal.Block

end
-- ==== Proof.PointA.lean ====
module

public import proofs.«01_k».proof.Proof.Tiles
public import Idealize.ShloMosaic.Lib.Pipeline.ReadBack

/-! What the first grid point leaves, over the reals: the gradient of its rows, and its addend to every accumulator. -/

@[expose] public section
set_option maxRecDepth 16384
noncomputable section
open Idealize.ShloMosaic Idealize.ShloMosaic.TcCoe Idealize.SL.Sem Cert.Sgu
namespace Cert.KernelIdeal.Block
open Cert.KernelIdeal Cert.KernelIdeal.Gen

/-- The accumulators start from zero. -/
theorem zero13 (i : S1x1024.Idx) : k0_pay13 (F := Ideal) i = (((fun _ => 0 : ℕ → ℝ) (i 1) : ℝ) : EReal) := by pointwise [k0_pay13]; rfl

theorem zero14 (i : S1x1024.Idx) : k0_pay14 (F := Ideal) i = (((fun _ => 0 : ℕ → ℝ) (i 1) : ℝ) : EReal) := by pointwise [k0_pay14]; rfl

theorem zero15 (i : S8x128x1.Idx) : k0_pay15 (F := Ideal) i = (((fun _ _ => 0 : ℕ → ℕ → ℝ) (i 0) (i 1) : ℝ) : EReal) := by pointwise [k0_pay15]; rfl

theorem zero16 (i : S8x128x128.Idx) : k0_pay16 (F := Ideal) i = (((fun _ _ _ => 0 : ℕ → ℕ → ℕ → ℝ) (i 0) (i 1) (i 2) : ℝ) : EReal) := by
  pointwise [k0_pay16]; rfl

variable (m : (ℓ : Loc nD τ sig) → Buf (Elt Ideal) ℓ)
variable {A : Args} {c : Dev nD} {t : Fin cfg0.N}

set_option maxHeartbeats 1000000 in
/-- The gradient of the projected rows. -/
theorem dzp_A (H : HoldsAt m A c t) (h0 : t.val % 16 = 0) (i : S512x2048.Idx) :
    (outsAt0 m c t.val t.isLt).1 i = ((A.dzp (i 0) (i 1) : ℝ) : EReal) := by
  rw [outsAt0_A m c t h0 (by omega)]
  dsimp only
  frame_open
  simp (disch := decide) only [↓ View.readCov_skip, ↓ View.readCov_cons_toLoadRect, ↓ View.readCov_fill]
  frame_out
  canon_tiles x h
  · refine right_tile H _ (load_all _ _ A.dvl _ fun y => ?_) _ _ x h0 h1
    canon_tiles z e
    all_goals exact dvl_tile H _ _ pay27_apply (dvob_apply H) _ _ _ _ _ z (by decide) (by decide) (by omega) (by omega) _ _
  · refine left_tile H _ (load_all _ _ A.vo _ fun y => ?_) _ _ x h0 h1
    canon_tiles z e
    all_goals exact vo_tile H _ _ pay27_apply (pay26_apply H) _ _ _ _ _ z (by decide) (by decide) (by omega) (by omega) _ _ _

set_option maxHeartbeats 1000000 in
/-- The sum that becomes the gradient of the layer norm's gain. -/
theorem dlg_A (H : HoldsAt m A c t) (h0 : t.val % 16 = 0) (i : S1x1024.Idx) :
    (outsAt0 m c t.val t.isLt).2.2.1 i = ((A.dlg 512 (i 1) : ℝ) : EReal) := by
  rw [← zero_add (A.dlg 512 (i 1))]
  rw [outsAt0_A m c t h0 (by omega)]
  dsimp only
  frame_open
  simp (disch := decide) only [↓ View.readCov_skip, ↓ View.readCov_cons_toLoadRect, ↓ View.readCov_fill]
  frame_out
  refine dlg_tile H _ (load_all _ _ A.dvl _ fun y => ?_) _ (fun _ => 0) zero13 i
  canon_tiles z e
  all_goals exact dvl_tile H _ _ pay27_apply (dvob_apply H) _ _ _ _ _ z (by decide) (by decide) (by omega) (by omega) _ _

set_option maxHeartbeats 1000000 in
/-- The sum that becomes the gradient of the layer norm's bias. -/
theorem dlb_A (H : HoldsAt m A c t) (h0 : t.val % 16 = 0) (i : S1x1024.Idx) :
    (outsAt0 m c t.val t.isLt).2.2.2.1 i = ((A.dlb 512 (i 1) : ℝ) : EReal) := by
  rw [← zero_add (A.dlb 512 (i 1))]
  rw [outsAt0_A m c t h0 (by omega)]
  dsimp only
  frame_open
  simp (disch := decide) only [↓ View.readCov_skip, ↓ View.readCov_cons_toLoadRect, ↓ View.readCov_fill]
  frame_out
  refine dlb_tile _ (load_all _ _ A.dvl _ fun y => ?_) _ (fun _ => 0) zero14 i
  canon_tiles z e
  all_goals exact dvl_tile H _ _ pay27_apply (dvob_apply H) _ _ _ _ _ z (by decide) (by decide) (by omega) (by omega) _ _

set_option maxHeartbeats 1000000 in
/-- The sum that becomes the gradient of the spatial bias. -/
theorem dbs_A (H : HoldsAt m A c t) (h0 : t.val % 16 = 0) (i : S8x128x1.Idx) :
    (outsAt0 m c t.val t.isLt).2.2.2.2.2.1 i = ((A.dbs 4 (i 0) (i 1) : ℝ) : EReal) := by
  rw [← zero_add (A.dbs 4 (i 0) (i 1))]
  rw [outsAt0_A m c t h0 (by omega)]
  dsimp only
  frame_open
  simp (disch := decide) only [↓ View.readCov_skip, ↓ View.readCov_cons_toLoadRect, ↓ View.readCov_fill]
  frame_out
  simp only [canon_open]
  repeat rw [overlay_same]
  repeat rw [canon_fold]
  refine (canon_drop [_, _, _, _, _, _, _, _] [_] i (View.cover_of_tiled_head _ _ _ (by rfl) i)).trans ?_
  canon_tiles x h
  all_goals
    refine dbs_tile _ (fun _ _ => 0) _ (dvo_apply H) _ _ _ x ?_ ?_ ?_ _ _ _ _
    · omega
    · omega
    · exact fun j => ld_head1 (R := fun _ _ => 0) zero15 _ _ i x (by omega) j

set_option maxHeartbeats 1000000 in
/-- The sum that becomes the gradient of the masked spatial weights. -/
theorem dwm_A (H : HoldsAt m A c t) (h0 : t.val % 16 = 0) (i : S8x128x128.Idx) :
    (outsAt0 m c t.val t.isLt).2.2.2.2.2.2 i = ((A.dwm 4 (i 0) (i 1) (i 2) : ℝ) : EReal) := by
  rw [← zero_add (A.dwm 4 (i 0) (i 1) (i 2))]
  rw [outsAt0_A m c t h0 (by omega)]
  dsimp only
  frame_open
  simp (disch := decide) only [↓ View.readCov_skip, ↓ View.readCov_cons_toLoadRect, ↓ View.readCov_fill]
  frame_out
  simp only [canon_open]
  repeat rw [overlay_same]
  repeat rw [canon_fold]
  refine (canon_drop [_, _, _, _, _, _, _, _] [_] i (View.cover_of_tiled_head _ _ _ (by rfl) i)).trans ?_
  canon_tiles x h
  all_goals
    try simp only [read_unread_whole]
    refine dws_tile _ (fun _ _ _ => 0) _ _ (dvob_apply H) (pay26_apply H) _ _ _ _ x ?_ ?_ ?_ ?_ _ _ _ _
    · omega
    · omega
    · omega
    · exact fun j => ld_head2 (R := fun _ _ _ => 0) zero16 _ _ i x (by omega) j

end Cert.KernelIdeal.Block

end
-- ==== Proof.PointB.lean ====
module

public import proofs.«01_k».proof.Proof.Tiles
public import Idealize.ShloMosaic.Lib.Pipeline.ReadBack

/-! What a middle grid point leaves, over the reals: the gradient of its rows, and its addend to every accumulator. -/

@[expose] public section
set_option maxRecDepth 16384
noncomputable section
open Idealize.ShloMosaic Idealize.ShloMosaic.TcCoe Idealize.SL.Sem Cert.Sgu
namespace Cert.KernelIdeal.Block
open Cert.KernelIdeal Cert.KernelIdeal.Gen

variable (m : (ℓ : Loc nD τ sig) → Buf (Elt Ideal) ℓ)
variable {A : Args} {c : Dev nD} {t : Fin cfg0.N}

set_option maxHeartbeats 1000000 in
/-- The gradient of the projected rows. -/
theorem dzp_B (H : HoldsAt m A c t) (h0 : ¬t.val % 16 = 0) (h1 : ¬t.val % 16 = 15) (i : S512x2048.Idx) :
    (outsAt0 m c t.val t.isLt).1 i = ((A.dzp (i 0) (i 1) : ℝ) : EReal) := by
  rw [outsAt0_B m c t h0 h1]
  generalize (outsAt0 m c (t.val - 1) (Nat.lt_of_le_of_lt (Nat.sub_le _ _) t.isLt)) = acc
  dsimp only
  frame_open
  simp (disch := decide) only [↓ View.readCov_skip, ↓ View.readCov_cons_toLoadRect, ↓ View.readCov_fill]
  frame_out
  canon_tiles x h
  · refine right_tile H _ (load_all _ _ A.dvl _ fun y => ?_) _ _ x h0 h1
    canon_tiles z e
    all_goals exact dvl_tile H _ _ pay27_apply (dvob_apply H) _ _ _ _ _ z (by decide) (by decide) (by omega) (by omega) _ _
  · refine left_tile H _ (load_all _ _ A.vo _ fun y => ?_) _ _ x h0 h1
    canon_tiles z e
    all_goals exact vo_tile H _ _ pay27_apply (pay26_apply H) _ _ _ _ _ z (by decide) (by decide) (by omega) (by omega) _ _ _

set_option maxHeartbeats 1000000 in
/-- The sum that becomes the gradient of the layer norm's gain. -/
theorem dlg_B (H : HoldsAt m A c t) (h0 : ¬t.val % 16 = 0) (h1 : ¬t.val % 16 = 15) (R : ℕ → ℝ)
    (hR : ∀ i, (outsAt0 m c (t.val - 1) (Nat.lt_of_le_of_lt (Nat.sub_le _ _) t.isLt)).2.2.1 i = ((R (i 1) : ℝ) : EReal)) (i : S1x1024.Idx) :
    (outsAt0 m c t.val t.isLt).2.2.1 i = ((R (i 1) + A.dlg 512 (i 1) : ℝ) : EReal) := by
  rw [outsAt0_B m c t h0 h1]
  revert hR
  generalize (outsAt0 m c (t.val - 1) (Nat.lt_of_le_of_lt (Nat.sub_le _ _) t.isLt)) = acc
  intro hR
  dsimp only
  frame_open
  simp (disch := decide) only [↓ View.readCov_skip, ↓ View.readCov_cons_toLoadRect, ↓ View.readCov_fill]
  frame_out
  refine dlg_tile H _ (load_all _ _ A.dvl _ fun y => ?_) _ R hR i
  canon_tiles z e
  all_goals exact dvl_tile H _ _ pay27_apply (dvob_apply H) _ _ _ _ _ z (by decide) (by decide) (by omega) (by omega) _ _

set_option maxHeartbeats 1000000 in
/-- The sum that becomes the gradient of the layer norm's bias. -/
theorem dlb_B (H : HoldsAt m A c t) (h0 : ¬t.val % 16 = 0) (h1 : ¬t.val % 16 = 15) (R : ℕ → ℝ)
    (hR : ∀ i, (outsAt0 m c (t.val - 1) (Nat.lt_of_le_of_lt (Nat.sub_le _ _) t.isLt)).2.2.2.1 i = ((R (i 1) : ℝ) : EReal)) (i : S1x1024.Idx) :
    (outsAt0 m c t.val t.isLt).2.2.2.1 i = ((R (i 1) + A.dlb 512 (i 1) : ℝ) : EReal) := by
  rw [outsAt0_B m c t h0 h1]
  revert hR
  generalize (outsAt0 m c (t.val - 1) (Nat.lt_of_le_of_lt (Nat.sub_le _ _) t.isLt)) = acc
  intro hR
  dsimp only
  frame_open
  simp (disch := decide) only [↓ View.readCov_skip, ↓ View.readCov_cons_toLoadRect, ↓ View.readCov_fill]
  frame_out
  refine dlb_tile _ (load_all _ _ A.dvl _ fun y => ?_) _ R hR i
  canon_tiles z e
  all_goals exact dvl_tile H _ _ pay27_apply (dvob_apply H) _ _ _ _ _ z (by decide) (by decide) (by omega) (by omega) _ _

set_option maxHeartbeats 1000000 in
/-- The sum that becomes the gradient of the spatial bias. -/
theorem dbs_B (H : HoldsAt m A c t) (h0 : ¬t.val % 16 = 0) (h1 : ¬t.val % 16 = 15) (R : ℕ → ℕ → ℝ)
    (hR : ∀ i, (outsAt0 m c (t.val - 1) (Nat.lt_of_le_of_lt (Nat.sub_le _ _) t.isLt)).2.2.2.2.2.1 i = ((R (i 0) (i 1) : ℝ) : EReal)) (i : S8x128x1.Idx) :
    (outsAt0 m c t.val t.isLt).2.2.2.2.2.1 i = ((R (i 0) (i 1) + A.dbs 4 (i 0) (i 1) : ℝ) : EReal) := by
  rw [outsAt0_B m c t h0 h1]
  revert hR
  generalize (outsAt0 m c (t.val - 1) (Nat.lt_of_le_of_lt (Nat.sub_le _ _) t.isLt)) = acc
  intro hR
  dsimp only
  frame_open
  simp (disch := decide) only [↓ View.readCov_skip, ↓ View.readCov_cons_toLoadRect, ↓ View.readCov_fill]
  frame_out
  simp only [canon_open]
  repeat rw [overlay_same]
  repeat rw [canon_fold]
  canon_tiles x h
  all_goals
    refine dbs_tile _ R _ (dvo_apply H) _ _ _ x ?_ ?_ ?_ _ _ _ _
    · omega
    · omega
    · exact fun j => ld_head1 hR _ _ i x (by omega) j

set_option maxHeartbeats 1000000 in
/-- The sum that becomes the gradient of the masked spatial weights. -/
theorem dwm_B (H : HoldsAt m A c t) (h0 : ¬t.val % 16 = 0) (h1 : ¬t.val % 16 = 15) (R : ℕ → ℕ → ℕ → ℝ)
    (hR : ∀ i, (outsAt0 m c (t.val - 1) (Nat.lt_of_le_of_lt (Nat.sub_le _ _) t.isLt)).2.2.2.2.2.2 i = ((R (i 0) (i 1) (i 2) : ℝ) : EReal)) (i : S8x128x128.Idx) :
    (outsAt0 m c t.val t.isLt).2.2.2.2.2.2 i = ((R (i 0) (i 1) (i 2) + A.dwm 4 (i 0) (i 1) (i 2) : ℝ) : EReal) := by
  rw [outsAt0_B m c t h0 h1]
  revert hR
  generalize (outsAt0 m c (t.val - 1) (Nat.lt_of_le_of_lt (Nat.sub_le _ _) t.isLt)) = acc
  intro hR
  dsimp only
  frame_open
  simp (disch := decide) only [↓ View.readCov_skip, ↓ View.readCov_cons_toLoadRect, ↓ View.readCov_fill]
  frame_out
  simp only [canon_open]
  repeat rw [overlay_same]
  repeat rw [canon_fold]
  canon_tiles x h
  all_goals
    try simp only [read_unread_whole]
    refine dws_tile _ R _ _ (dvob_apply H) (pay26_apply H) _ _ _ _ x ?_ ?_ ?_ ?_ _ _ _ _
    · omega
    · omega
    · omega
    · exact fun j => ld_head2 hR _ _ i x (by omega) j

end Cert.KernelIdeal.Block

end
-- ==== Proof.PointC.lean ====
module

public import proofs.«01_k».proof.Proof.Tiles
public import Idealize.ShloMosaic.Lib.Pipeline.ReadBack

/-! What the last grid point leaves, over the reals: the gradient of its rows, and its addend to every accumulator. -/

@[expose] public section
set_option maxRecDepth 16384
noncomputable section
open Idealize.ShloMosaic Idealize.ShloMosaic.TcCoe Idealize.SL.Sem Cert.Sgu
namespace Cert.KernelIdeal.Block
open Cert.KernelIdeal Cert.KernelIdeal.Gen

variable (m : (ℓ : Loc nD τ sig) → Buf (Elt Ideal) ℓ)
variable {A : Args} {c : Dev nD} {t : Fin cfg0.N}

set_option maxHeartbeats 1000000 in
/-- The gradient of the projected rows. -/
theorem dzp_C (H : HoldsAt m A c t) (h0 : ¬t.val % 16 = 0) (h1 : t.val % 16 = 15) (i : S512x2048.Idx) :
    (outsAt0 m c t.val t.isLt).1 i = ((A.dzp (i 0) (i 1) : ℝ) : EReal) := by
  rw [outsAt0_C m c t h0 h1]
  generalize (outsAt0 m c (t.val - 1) (Nat.lt_of_le_of_lt (Nat.sub_le _ _) t.isLt)) = acc
  dsimp only
  frame_open
  simp (disch := decide) only [↓ View.readCov_skip, ↓ View.readCov_cons_toLoadRect, ↓ View.readCov_fill]
  frame_out
  canon_tiles x h
  · refine right_tile H _ (load_all _ _ A.dvl _ fun y => ?_) _ _ x h0 h1
    canon_tiles z e
    all_goals exact dvl_tile H _ _ pay27_apply (dvob_apply H) _ _ _ _ _ z (by decide) (by decide) (by omega) (by omega) _ _
  · refine left_tile H _ (load_all _ _ A.vo _ fun y => ?_) _ _ x h0 h1
    canon_tiles z e
    all_goals exact vo_tile H _ _ pay27_apply (pay26_apply H) _ _ _ _ _ z (by decide) (by decide) (by omega) (by omega) _ _ _

set_option maxHeartbeats 1000000 in
/-- The sum that becomes the gradient of the layer norm's gain. -/
theorem dlg_C (H : HoldsAt m A c t) (h0 : ¬t.val % 16 = 0) (h1 : t.val % 16 = 15) (R : ℕ → ℝ)
    (hR : ∀ i, (outsAt0 m c (t.val - 1) (Nat.lt_of_le_of_lt (Nat.sub_le _ _) t.isLt)).2.2.1 i = ((R (i 1) : ℝ) : EReal)) (i : S1x1024.Idx) :
    (outsAt0 m c t.val t.isLt).2.2.1 i = ((R (i 1) + A.dlg 512 (i 1) : ℝ) : EReal) := by
  rw [outsAt0_C m c t h0 h1]
  revert hR
  generalize (outsAt0 m c (t.val - 1) (Nat.lt_of_le_of_lt (Nat.sub_le _ _) t.isLt)) = acc
  intro hR
  dsimp only
  frame_open
  simp (disch := decide) only [↓ View.readCov_skip, ↓ View.readCov_cons_toLoadRect, ↓ View.readCov_fill]
  frame_out
  refine dlg_tile H _ (load_all _ _ A.dvl _ fun y => ?_) _ R hR i
  canon_tiles z e
  all_goals exact dvl_tile H _ _ pay27_apply (dvob_apply H) _ _ _ _ _ z (by decide) (by decide) (by omega) (by omega) _ _

set_option maxHeartbeats 1000000 in
/-- The sum that becomes the gradient of the layer norm's bias. -/
theorem dlb_C (H : HoldsAt m A c t) (h0 : ¬t.val % 16 = 0) (h1 : t.val % 16 = 15) (R : ℕ → ℝ)
    (hR : ∀ i, (outsAt0 m c (t.val - 1) (Nat.lt_of_le_of_lt (Nat.sub_le _ _) t.isLt)).2.2.2.1 i = ((R (i 1) : ℝ) : EReal)) (i : S1x1024.Idx) :
    (outsAt0 m c t.val t.isLt).2.2.2.1 i = ((R (i 1) + A.dlb 512 (i 1) : ℝ) : EReal) := by
  rw [outsAt0_C m c t h0 h1]
  revert hR
  generalize (outsAt0 m c (t.val - 1) (Nat.lt_of_le_of_lt (Nat.sub_le _ _) t.isLt)) = acc
  intro hR
  dsimp only
  frame_open
  simp (disch := decide) only [↓ View.readCov_skip, ↓ View.readCov_cons_toLoadRect, ↓ View.readCov_fill]
  frame_out
  refine dlb_tile _ (load_all _ _ A.dvl _ fun y => ?_) _ R hR i
  canon_tiles z e
  all_goals exact dvl_tile H _ _ pay27_apply (dvob_apply H) _ _ _ _ _ z (by decide) (by decide) (by omega) (by omega) _ _

set_option maxHeartbeats 1000000 in
/-- The sum that becomes the gradient of the spatial bias. -/
theorem dbs_C (H : HoldsAt m A c t) (h0 : ¬t.val % 16 = 0) (h1 : t.val % 16 = 15) (R : ℕ → ℕ → ℝ)
    (hR : ∀ i, (outsAt0 m c (t.val - 1) (Nat.lt_of_le_of_lt (Nat.sub_le _ _) t.isLt)).2.2.2.2.2.1 i = ((R (i 0) (i 1) : ℝ) : EReal)) (i : S8x128x1.Idx) :
    (outsAt0 m c t.val t.isLt).2.2.2.2.2.1 i = ((R (i 0) (i 1) + A.dbs 4 (i 0) (i 1) : ℝ) : EReal) := by
  rw [outsAt0_C m c t h0 h1]
  revert hR
  generalize (outsAt0 m c (t.val - 1) (Nat.lt_of_le_of_lt (Nat.sub_le _ _) t.isLt)) = acc
  intro hR
  dsimp only
  frame_open
  simp (disch := decide) only [↓ View.readCov_skip, ↓ View.readCov_cons_toLoadRect, ↓ View.readCov_fill]
  frame_out
  simp only [canon_open]
  repeat rw [overlay_same]
  repeat rw [canon_fold]
  canon_tiles x h
  all_goals
    refine dbs_tile _ R _ (dvo_apply H) _ _ _ x ?_ ?_ ?_ _ _ _ _
    · omega
    · omega
    · exact fun j => ld_head1 hR _ _ i x (by omega) j

set_option maxHeartbeats 1000000 in
/-- The sum that becomes the gradient of the masked spatial weights. -/
theorem dwm_C (H : HoldsAt m A c t) (h0 : ¬t.val % 16 = 0) (h1 : t.val % 16 = 15) (R : ℕ → ℕ → ℕ → ℝ)
    (hR : ∀ i, (outsAt0 m c (t.val - 1) (Nat.lt_of_le_of_lt (Nat.sub_le _ _) t.isLt)).2.2.2.2.2.2 i = ((R (i 0) (i 1) (i 2) : ℝ) : EReal)) (i : S8x128x128.Idx) :
    (outsAt0 m c t.val t.isLt).2.2.2.2.2.2 i = ((R (i 0) (i 1) (i 2) + A.dwm 4 (i 0) (i 1) (i 2) : ℝ) : EReal) := by
  rw [outsAt0_C m c t h0 h1]
  revert hR
  generalize (outsAt0 m c (t.val - 1) (Nat.lt_of_le_of_lt (Nat.sub_le _ _) t.isLt)) = acc
  intro hR
  dsimp only
  frame_open
  simp (disch := decide) only [↓ View.readCov_skip, ↓ View.readCov_cons_toLoadRect, ↓ View.readCov_fill]
  frame_out
  simp only [canon_open]
  repeat rw [overlay_same]
  repeat rw [canon_fold]
  canon_tiles x h
  all_goals
    try simp only [read_unread_whole]
    refine dws_tile _ R _ _ (dvob_apply H) (pay26_apply H) _ _ _ _ x ?_ ?_ ?_ ?_ _ _ _ _
    · omega
    · omega
    · omega
    · exact fun j => ld_head2 hR _ _ i x (by omega) j

set_option maxHeartbeats 1000000 in
/-- The gradient of the spatial weights: the finished sum, masked. -/
theorem dws_C (H : HoldsAt m A c t) (h0 : ¬t.val % 16 = 0) (h1 : t.val % 16 = 15) (R : ℕ → ℕ → ℕ → ℝ)
    (hR : ∀ i, (outsAt0 m c (t.val - 1) (Nat.lt_of_le_of_lt (Nat.sub_le _ _) t.isLt)).2.2.2.2.2.2 i = ((R (i 0) (i 1) (i 2) : ℝ) : EReal)) (i : S8x128x128.Idx) :
    (outsAt0 m c t.val t.isLt).2.2.2.2.1 i = (((R (i 0) (i 1) (i 2) + A.dwm 4 (i 0) (i 1) (i 2)) * Args.mask (i 1) (i 2) : ℝ) : EReal) := by
  rw [outsAt0_C m c t h0 h1]
  revert hR
  generalize (outsAt0 m c (t.val - 1) (Nat.lt_of_le_of_lt (Nat.sub_le _ _) t.isLt)) = acc
  intro hR
  dsimp only
  frame_open
  simp (disch := decide) only [↓ View.readCov_skip, ↓ View.readCov_cons_toLoadRect, ↓ View.readCov_fill]
  frame_out
  canon_tiles x h
  all_goals
    try simp only [read_unread_whole]
    refine mask_tile _ pay27_apply _ (fun h i j => R h i j + A.dwm 4 h i j) _ _ _ x ?_ ?_ fun j => ?_
    · omega
    · omega
    · refine dws_tile _ R _ _ (dvob_apply H) (pay26_apply H) _ _ _ _ j ?_ rfl rfl ?_ _ _ _ _
      · omega
      · exact fun j => ld_head2 hR _ _ i x (by omega) j

end Cert.KernelIdeal.Block

end
-- ==== Proof.Arrays.lean ====
/-
  From the grid points to the arrays: the input blocks are 512 rows of the arguments each, the four sums grow by one block of
  rows per point, and after the last point the result arrays hold SPEC over all 8192 rows.
-/
module

public import proofs.«01_k».proof.Proof.PointA
public import proofs.«01_k».proof.Proof.PointB
public import proofs.«01_k».proof.Proof.PointC
public import proofs.«01_k».proof.Proof.Gen.KernelIdeal.Value

@[expose] public section

set_option maxRecDepth 16384

noncomputable section

open Idealize.ShloMosaic Idealize.ShloMosaic.TcCoe Idealize.SL.Sem Cert.Sgu

namespace Cert.KernelIdeal.Block

open Cert.KernelIdeal Cert.KernelIdeal.Gen Cert.KernelIdeal.Value

variable {m : (ℓ : Loc nD τ sig) → Buf (Elt Ideal) ℓ} {A : Args} {c : Dev nD}

/-- The argument arrays hold the reals of `A`. -/
structure Input (m : (ℓ : Loc nD τ sig) → Buf (Elt Ideal) ℓ) (A : Args) (c : Dev nD) : Prop where
  z : ∀ i : S8192x2048.Idx, m ((c : Thread nD τ).loc main_arg0) i = ((A.z (i 0) (i 1) : ℝ) : EReal)
  dy : ∀ i : S8192x1024.Idx, m ((c : Thread nD τ).loc main_arg1) i = ((A.dy (i 0) (i 1) : ℝ) : EReal)
  w : ∀ i : S1024x1024.Idx, m ((c : Thread nD τ).loc main_arg2) i = ((A.w (i 0) (i 1) : ℝ) : EReal)
  g : ∀ i : S1x1024.Idx, m ((c : Thread nD τ).loc main_arg3) i = ((A.g (i 1) : ℝ) : EReal)
  b : ∀ i : S1x1024.Idx, m ((c : Thread nD τ).loc main_arg4) i = ((A.b (i 1) : ℝ) : EReal)
  s : ∀ i : S8x128x128.Idx, m ((c : Thread nD τ).loc main_arg5) i = ((A.s (i 0) (i 1) (i 2) : ℝ) : EReal)
  d : ∀ i : S8x128x1.Idx, m ((c : Thread nD τ).loc main_arg6) i = ((A.d (i 0) (i 1) : ℝ) : EReal)

/-- Which block of its array each input window shows at point `t`: the `t`-th 512 rows, or all of it. -/
theorem index_in : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 3) = 0 ∧ win0_6.index t (1 : Fin 3) = 0 ∧ win0_6.index t (2 : Fin 3) = 0 :=
  (by decide +kernel : ∀ t : Fin grid0.N, _)

/-- The input blocks of point `t` hold the `t`-th rows of `A`. -/
theorem holdsAt (H : Input m A c) (t : Fin cfg0.N) : HoldsAt m (A.block t.val) c t := by
  obtain ⟨a0, a1, b0, b1, c0, c1, d0, d1, e0, e1, f0, f1, f2, g0, g1, g2⟩ := index_in t
  have hz (r k : ℕ) : (A.block t.val).z r k = A.z (t.val * 512 + r) k := by rw [Nat.mul_comm]; rfl
  have hdy (r k : ℕ) : (A.block t.val).dy r k = A.dy (t.val * 512 + r) k := by rw [Nat.mul_comm]; rfl
  constructor <;> intro y <;> blk_simp [iblk, V]
  · refine (H.z _).trans ?_; blk_simp [a0, a1, hz]
  · refine (H.dy _).trans ?_; blk_simp [b0, b1, hdy]
  · refine (H.w _).trans ?_; blk_simp [c0, c1]; rfl
  · refine (H.g _).trans ?_; blk_simp [d0, d1]; rfl
  · refine (H.b _).trans ?_; blk_simp [e0, e1]; rfl
  · refine (H.s _).trans ?_; blk_simp [f0, f1, f2]; rfl
  · refine (H.d _).trans ?_; blk_simp [g0, g1, g2]; rfl

/-- What the first result's block holds after any point: the gradient of that point's rows. -/
theorem dzp_at (H : Input m A c) (t : Fin cfg0.N) (i : S512x2048.Idx) :
    (outsAt0 m c t.val t.isLt).1 i = ((A.dzp (512 * t.val + i 0) (i 1) : ℝ) : EReal) := by
  rw [← Args.block_dzp]
  by_cases h0 : t.val % 16 = 0
  · exact dzp_A m (holdsAt H t) h0 i
  · by_cases h1 : t.val % 16 = 15
    · exact dzp_C m (holdsAt H t) h0 h1 i
    · exact dzp_B m (holdsAt H t) h0 h1 i

/-- The four sums after point `t`: over the first `512 (t + 1)` rows. -/
theorem sums (H : Input m A c) (n : ℕ) : ∀ (t : Fin cfg0.N) (_ : t.val = n),
    (∀ i, (outsAt0 m c t.val t.isLt).2.2.1 i = ((A.dlg (512 * (n + 1)) (i 1) : ℝ) : EReal))
    ∧ (∀ i, (outsAt0 m c t.val t.isLt).2.2.2.1 i = ((A.dlb (512 * (n + 1)) (i 1) : ℝ) : EReal))
    ∧ (∀ i, (outsAt0 m c t.val t.isLt).2.2.2.2.2.1 i = ((A.dbs (4 * (n + 1)) (i 0) (i 1) : ℝ) : EReal))
    ∧ (∀ i, (outsAt0 m c t.val t.isLt).2.2.2.2.2.2 i = ((A.dwm (4 * (n + 1)) (i 0) (i 1) (i 2) : ℝ) : EReal)) := by
  induction n with
  | zero =>
    intro t ht
    have z1 (k) : A.dlg (512 * 0) k = 0 := by simp [Args.dlg]
    have z2 (k) : A.dlb (512 * 0) k = 0 := by simp [Args.dlb]
    have z3 (h k) : A.dbs (4 * 0) h k = 0 := by simp [Args.dbs]
    have z4 (h j k) : A.dwm (4 * 0) h j k = 0 := by simp [Args.dwm]
    simp only [Args.dlg_succ, Args.dlb_succ, Args.dbs_succ, Args.dwm_succ, z1, z2, z3, z4, zero_add]
    have Ht := holdsAt H t
    have h0 : t.val % 16 = 0 := by omega
    rw [ht] at Ht
    exact ⟨dlg_A m Ht h0, dlb_A m Ht h0, dbs_A m Ht h0, dwm_A m Ht h0⟩
  | succ n ih =>
    intro t ht
    have hN : t.val < 16 := lt_of_lt_of_eq t.isLt N_0
    obtain ⟨i1, i2, i3, i4⟩ := ih ⟨t.val - 1, by omega⟩ (by show t.val - 1 = n; omega)
    dsimp only at i1 i2 i3 i4
    simp only [Args.dlg_succ (n := n + 1), Args.dlb_succ (n := n + 1), Args.dbs_succ (n := n + 1), Args.dwm_succ (n := n + 1)]
    have Ht := holdsAt H t
    have h0 : ¬t.val % 16 = 0 := by omega
    rw [ht] at Ht
    by_cases h1 : t.val % 16 = 15
    · exact ⟨dlg_C m Ht h0 h1 (A.dlg (512 * (n + 1))) i1, dlb_C m Ht h0 h1 (A.dlb (512 * (n + 1))) i2,
        dbs_C m Ht h0 h1 (A.dbs (4 * (n + 1))) i3, dwm_C m Ht h0 h1 (A.dwm (4 * (n + 1))) i4⟩
    · exact ⟨dlg_B m Ht h0 h1 (A.dlg (512 * (n + 1))) i1, dlb_B m Ht h0 h1 (A.dlb (512 * (n + 1))) i2,
        dbs_B m Ht h0 h1 (A.dbs (4 * (n + 1))) i3, dwm_B m Ht h0 h1 (A.dwm (4 * (n + 1))) i4⟩

/-- The last point. -/
theorem last_lt : 15 < cfg0.N := lt_of_lt_of_eq (by decide) N_0.symm

/-- The gradient of the projected rows. -/
theorem dzp_array (H : Input m A c) (i : S8192x2048.Idx) : G7 m c i = ((A.dzp (i 0) (i 1) : ℝ) : EReal) := by
  have h0 : (i 0 : ℕ) < 8192 := (i 0).isLt
  have h1 : (i 1 : ℕ) < 2048 := (i 1).isLt
  have hp : pt7Of i = (i 0 : ℕ) / 512 := by show 1 * ((i 0).val / 512 - 0) + 1 * ((i 1).val / 2048 - 0) = _; omega
  have hl : pt7Of i < cfg0.N := lt_of_lt_of_eq (by rw [hp]; omega) N_0.symm
  unfold G7
  rw [dif_pos hl, ← outsAt0_sweep m c _ hl, dzp_at H ⟨pt7Of i, hl⟩]
  show ((A.dzp (512 * pt7Of i + (i 0 : ℕ) % 512) ((i 1 : ℕ) % 2048) : ℝ) : EReal) = _
  rw [hp, show 512 * ((i 0 : ℕ) / 512) + (i 0 : ℕ) % 512 = i 0 by omega, Nat.mod_eq_of_lt h1]

/-- The gradient of the layer norm's gain. -/
theorem dlg_array (H : Input m A c) (i : S1x1024.Idx) : G9 m c i = ((A.dlg 8192 (i 1) : ℝ) : EReal) := by
  rw [G9_last, ← outsAt0_sweep m c _ last_lt]
  exact (sums H 15 ⟨15, last_lt⟩ rfl).1 i

/-- The gradient of the layer norm's bias. -/
theorem dlb_array (H : Input m A c) (i : S1x1024.Idx) : G10 m c i = ((A.dlb 8192 (i 1) : ℝ) : EReal) := by
  rw [G10_last, ← outsAt0_sweep m c _ last_lt]
  exact (sums H 15 ⟨15, last_lt⟩ rfl).2.1 i

/-- The gradient of the spatial weights. -/
theorem dws_array (H : Input m A c) (i : S8x128x128.Idx) :
    G11 m c i = ((A.dwm 64 (i 0) (i 1) (i 2) * Args.mask (i 1) (i 2) : ℝ) : EReal) := by
  rw [G11_last, ← outsAt0_sweep m c _ last_lt]
  refine (dws_C m (holdsAt H ⟨15, last_lt⟩) (by show ¬15 % 16 = 0; omega) (by show 15 % 16 = 15; omega) _
    (sums H 14 ⟨14, Nat.lt_of_succ_lt last_lt⟩ rfl).2.2.2 i).trans ?_
  rw [← Args.dwm_succ]

/-- The gradient of the spatial bias. -/
theorem dbs_array (H : Input m A c) (i : S8x128x1.Idx) : G12 m c i = ((A.dbs 64 (i 0) (i 1) : ℝ) : EReal) := by
  rw [G12_last, ← outsAt0_sweep m c _ last_lt]
  exact (sums H 15 ⟨15, last_lt⟩ rfl).2.2.1 i

end Cert.KernelIdeal.Block

end
-- ==== Proof.DyCast.lean ====
/-
  The kernel's second result: `dy` cast to the operand format, which over the reals is `dy`.
-/
module

public import proofs.«01_k».proof.Proof.Arrays

@[expose] public section
set_option maxRecDepth 16384
noncomputable section
open Idealize.ShloMosaic Idealize.ShloMosaic.TcCoe Idealize.SL.Sem Cert.Sgu
namespace Cert.KernelIdeal.Block
open Cert.KernelIdeal Cert.KernelIdeal.Gen Cert.KernelIdeal.Value

variable {m : (ℓ : Loc nD τ sig) → Buf (Elt Ideal) ℓ} {A : Args} {c : Dev nD}

set_option maxHeartbeats 1000000 in
/-- What the second result's block holds after any point: that point's rows of `dy`. -/
theorem dyb_at (H : Input m A c) (t : Fin cfg0.N) (i : S512x1024.Idx) :
    (outsAt0 m c t.val t.isLt).2.1 i = ((A.dy (512 * t.val + i 0) (i 1) : ℝ) : EReal) := by
  refine Eq.trans ?_ ((holdsAt H t).dy i)
  by_cases h0 : t.val % 16 = 0
  · rw [outsAt0_A m c t h0 (by omega)]
    dsimp only
    frame_open
    frame_out
    rfl
  by_cases h1 : t.val % 16 = 15
  · rw [outsAt0_C m c t h0 h1]
    dsimp only
    frame_open
    frame_out
    rfl
  · rw [outsAt0_B m c t h0 h1]
    dsimp only
    frame_open
    frame_out
    rfl

/-- The second result: `dy` itself. -/
theorem dyb_array (H : Input m A c) (i : S8192x1024.Idx) : G8 m c i = ((A.dy (i 0) (i 1) : ℝ) : EReal) := by
  have h0 : (i 0 : ℕ) < 8192 := (i 0).isLt
  have h1 : (i 1 : ℕ) < 1024 := (i 1).isLt
  have hp : pt8Of i = (i 0 : ℕ) / 512 := by show 1 * ((i 0).val / 512 - 0) + 1 * ((i 1).val / 1024 - 0) = _; omega
  have hl : pt8Of i < cfg0.N := lt_of_lt_of_eq (by rw [hp]; omega) N_0.symm
  unfold G8
  rw [dif_pos hl, ← outsAt0_sweep m c _ hl, dyb_at H ⟨pt8Of i, hl⟩]
  show ((A.dy (512 * pt8Of i + (i 0 : ℕ) % 512) ((i 1 : ℕ) % 1024) : ℝ) : EReal) = _
  rw [hp, show 512 * ((i 0 : ℕ) / 512) + (i 0 : ℕ) % 512 = i 0 by omega, Nat.mod_eq_of_lt h1]

end Cert.KernelIdeal.Block
end
-- ==== Proof.Chunks.lean ====
/-
  What only the reference's side of the argument asks for: its literals, the coordinates of its chunk-by-head layout, and the real
  identities between its derivative, spelled rule by rule, and the closed form of Proof/Spec.lean.
-/
module

public import proofs.«01_k».proof.Proof.Words

@[expose] public section

noncomputable section

open Idealize.ShloMosaic

namespace Cert.Sgu

/-- `2.0`. -/
theorem ofBits_two : Ideal.ofBits .f32 0x40000000#32 = ((2 : ℝ) : EReal) := by
  simp [Ideal.ofBits, Ideal.ieee, -EReal.coe_mul]; norm_num

/-- `0.0`. -/
theorem ofBits_zero : Ideal.ofBits .f32 0x00000000#32 = 0 := by
  simp [Ideal.ofBits, Ideal.ieee, -EReal.coe_mul]

/-- The reference's literal for `-2 / √π`. -/
theorem ofBits_erf_slope : Ideal.ofBits .f32 0xBF906EBB#32 = ((-(9465531 / 8388608) : ℝ) : EReal) := by
  simp [Ideal.ofBits, Ideal.ieee, -EReal.coe_mul]; norm_num

/-- The comparison `column ≤ row` choosing between one and zero is the mask. -/
theorem mask_select {i j : ℕ} (hi : i < 128) (hj : j < 128) :
    Scalar.select (IntOp.cmpi .sge (IntOp.addi (BitVec.ofNat 32 i) 0#32) (BitVec.ofNat 32 j)) ((1 : ℝ) : EReal) (0 : EReal)
      = ((Args.mask i j : ℝ) : EReal) := by
  have hle : (BitVec.ofNat 32 j).sle (BitVec.ofNat 32 i) = decide (j ≤ i) := by
    rw [BitVec.sle_eq_decide, toInt_small hi, toInt_small hj]
    simp
  by_cases h : j ≤ i
  · simp [IntOp.cmpi, IntOp.addi, Scalar.select, Args.mask, hle, h]
  · simp [IntOp.cmpi, IntOp.addi, Scalar.select, Args.mask, hle, h]

/-- The flat position of (chunk, row, head, lane), as a row and a column. -/
theorem chunk_index (q p : ℕ) {h l : ℕ} (hh : h < 8) (hl : l < 128) :
    (((q * 128 + p) * 8 + h) * 128 + l) / 1024 = 128 * q + p ∧ (((q * 128 + p) * 8 + h) * 128 + l) % 1024 = 128 * h + l := by
  omega

/-- The flat position of (row, column), as a chunk, a row of it, a head and a lane. -/
theorem flat_index (t : ℕ) {c : ℕ} (hc : c < 1024) :
    (t * 1024 + c) / 131072 = t / 128 ∧ (t * 1024 + c) / 1024 % 128 = t % 128 ∧ (t * 1024 + c) / 128 % 8 = c / 128
      ∧ (t * 1024 + c) % 128 = c % 128 := by
  omega

namespace Args

variable (A : Args)

/-- The spatial mixer in its chunk-by-head layout. -/
theorem mixed_eq {t c q p h l : ℕ} (h0 : q = t / 128) (h1 : p = t % 128) (h2 : h = c / 128) (h3 : l = c % 128) :
    ((∑ k : Fin 128, A.vb (128 * q + k) (128 * h + l) * A.wm h p k + A.d h p : ℝ) : EReal) = ((A.vo t c : ℝ) : EReal) := by
  subst h0 h1 h2 h3
  unfold vo
  simp only [Nat.div_add_mod, mul_comm 128 (t / 128), mul_comm (A.vb _ _)]

/-- The transposed mixer in its chunk-by-head layout. -/
theorem unmixed_eq {t c q p h l : ℕ} (h0 : q = t / 128) (h1 : p = t % 128) (h2 : h = c / 128) (h3 : l = c % 128) :
    ((∑ k : Fin 128, A.dvo (128 * q + k) (128 * h + l) * A.wm h k p : ℝ) : EReal) = ((A.dvl t c : ℝ) : EReal) := by
  subst h0 h1 h2 h3
  unfold dvl
  simp only [Nat.div_add_mod, mul_comm 128 (t / 128), mul_comm (A.dvo _ _)]

/-- The reciprocal standard deviation squared. -/
theorem rstd_sq (t : ℕ) : A.rstd t * A.rstd t = 1 / (A.var t + eps) := by
  unfold rstd
  rw [← mul_inv, Real.mul_self_sqrt (A.var_eps_pos t).le, one_div]

/-- A centred row sums to zero. -/
theorem sum_cen (t : ℕ) : ∑ k : Fin 1024, A.cen t k = 0 := by
  simp only [cen, Finset.sum_sub_distrib, Finset.sum_const, Finset.card_univ, Fintype.card_fin, nsmul_eq_mul]
  unfold mu
  push_cast
  ring

/-- What the reference's rules give for the layer norm's input: `m` is the gradient of the variance over 1024, `p` the path
    through the variance. -/
theorem dv_eq (t c : ℕ) (m : ℝ)
    (hm : m = (∑ k : Fin 1024, A.cen t k * A.dnorm t k) * (-(1 / 2) * (A.rstd t * A.rstd t * A.rstd t)) / 1024) :
    A.dnorm t c * A.rstd t + m * (2 * A.cen t c)
        + ((∑ k : Fin 1024, -(A.dnorm t k * A.rstd t)) + ∑ k : Fin 1024, -(m * (2 * A.cen t k))) / 1024
      = A.dv t c := by
  have h2 : ∑ k : Fin 1024, -(m * (2 * A.cen t k)) = 0 := by
    rw [Finset.sum_neg_distrib, ← Finset.mul_sum, ← Finset.mul_sum, A.sum_cen]
    ring
  have h1 : ∑ k : Fin 1024, -(A.dnorm t k * A.rstd t) = -(A.rstd t * ∑ k : Fin 1024, A.dnorm t k) := by
    rw [Finset.sum_neg_distrib, ← Finset.sum_mul, mul_comm]
  have h3 : ∑ k : Fin 1024, A.dnorm t k * A.norm t k = A.rstd t * ∑ k : Fin 1024, A.cen t k * A.dnorm t k := by
    rw [Finset.mul_sum]
    exact Finset.sum_congr rfl fun k _ => by unfold norm; ring
  rw [h1, h2, hm]
  unfold dv
  rw [h3]
  unfold norm
  ring

end Args

/-- What the reference's rules give for the GELU's input: the path through `erf` and the path through the factor `x`. -/
theorem dgelu_eq (x d : ℝ) :
    -(-(9465531 / 8388608) * (1 / 2 * x * d) * Real.exp (-(1 / 2) * x * x) * (Real.sqrt 2)⁻¹) + 1 / 2 * (d * (2 * cdf x))
      = d * dgelu x := by
  have h : (Real.sqrt 8)⁻¹ = 1 / 2 * (Real.sqrt 2)⁻¹ := by
    rw [show (8 : ℝ) = 2 ^ 2 * 2 by norm_num, Real.sqrt_mul (by norm_num), Real.sqrt_sq (by norm_num), mul_inv, one_div]
  unfold dgelu
  rw [h]
  ring

end Cert.Sgu

end
-- ==== Proof.FfnSpec.lean ====
/-
  The second half-step feed-forward layer's gradient over the reals. `Args` holds the five arguments as functions of natural
  indices, each definition below is one line of the backward pass. Proof/FfnArrays.lean shows that the kernel computes the
  results and Proof/FfnVjp.lean that the reference does.
-/
module

public import proofs.«01_k».proof.Proof.Chunks
public import Mathlib.Analysis.SpecialFunctions.Trigonometric.DerivHyp

@[expose] public section

noncomputable section

open Idealize.ShloMosaic Cert.Sgu

namespace Cert.Ffn

/-- The logistic function. -/
def logistic (x : ℝ) : ℝ := 1 / (1 + Real.exp (-x))

/-- The kernel's form of it. -/
theorem logistic_tanh (x : ℝ) : 1 / 2 * Real.tanh (1 / 2 * x) + 1 / 2 = logistic x := by
  have p := Real.exp_pos (1 / 2 * x)
  have e : Real.exp (-x) = Real.exp (-(1 / 2 * x)) * Real.exp (-(1 / 2 * x)) := by rw [← Real.exp_add]; congr 1; ring
  rw [logistic, e, Real.tanh_eq_sinh_div_cosh, Real.sinh_eq, Real.cosh_eq, Real.exp_neg]
  field_simp
  ring

/-- The activation `x · logistic x`. -/
def silu (x : ℝ) : ℝ := x * logistic x

/-- The arguments at natural indices: the incoming gradient `dy` and the layer's input `x` (row, column), the norm's gain `g`,
    the projections `w` into the hidden layer (1024 by 5632, the gate's columns first) and `o` out of it (2816 by 1024). -/
structure Args where
  dy : ℕ → ℕ → ℝ
  x : ℕ → ℕ → ℝ
  g : ℕ → ℝ
  w : ℕ → ℕ → ℝ
  o : ℕ → ℕ → ℝ

namespace Args

variable (A : Args)

/-- The arguments as grid point `t` sees them: rows counted from `256 t`. -/
def block (t : ℕ) : Args := { A with dy := fun r c => A.dy (256 * t + r) c, x := fun r c => A.x (256 * t + r) c }

/-- A row's mean square. -/
def ms (t : ℕ) : ℝ := (∑ k : Fin 1024, A.x t k * A.x t k) / 1024

/-- The reciprocal root mean square of a row. -/
def rms (t : ℕ) : ℝ := (Real.sqrt (A.ms t + eps))⁻¹

/-- The normalized row. -/
def y (t k : ℕ) : ℝ := A.x t k * A.rms t

/-- The norm's output. -/
def xn (t k : ℕ) : ℝ := A.y t k * A.g k

/-- The hidden layer: gate and up. -/
def gu (t j : ℕ) : ℝ := ∑ k : Fin 1024, A.xn t k * A.w k j

/-- Half the incoming gradient. -/
def half (t c : ℕ) : ℝ := 1 / 2 * A.dy t c

/-- The gated hidden layer. -/
def h (t j : ℕ) : ℝ := silu (A.gu t j) * A.gu t (2816 + j)

/-- The gradient of the gated hidden layer. -/
def dh (t j : ℕ) : ℝ := ∑ c : Fin 1024, A.half t c * A.o j c

/-- The gradient of the gate. -/
def dgate (t j : ℕ) : ℝ :=
  A.dh t j * A.gu t (2816 + j) * (logistic (A.gu t j) * (1 + A.gu t j * (1 - logistic (A.gu t j))))

/-- The gradient of the up projection's output. -/
def dup (t j : ℕ) : ℝ := A.dh t j * silu (A.gu t j)

/-- Both, side by side. -/
def dgu (t j : ℕ) : ℝ := if j < 2816 then A.dgate t j else A.dup t (j - 2816)

/-- The gradient of the norm's output. -/
def dxn (t k : ℕ) : ℝ := ∑ j : Fin 5632, A.dgu t j * A.w k j

/-- The gradient of the gain over the first `n` rows. -/
def dgam (n k : ℕ) : ℝ := ∑ t ∈ Finset.range n, A.dxn t k * A.y t k

/-- The gradient of the normalized row. -/
def dyn (t k : ℕ) : ℝ := A.dxn t k * A.g k

/-- A row's product with its gradient. -/
def dot (t : ℕ) : ℝ := ∑ k : Fin 1024, A.dyn t k * A.y t k

/-- The gradient of the layer's input. -/
def dx (t k : ℕ) : ℝ := A.dy t k + A.rms t * (A.dyn t k - A.y t k * (A.dot t / 1024))

theorem ms_eps_pos (t : ℕ) : 0 < A.ms t + eps :=
  add_pos_of_nonneg_of_pos (div_nonneg (Finset.sum_nonneg fun _ _ => mul_self_nonneg _) (by norm_num)) eps_pos

theorem rms_sq (t : ℕ) : A.rms t * A.rms t = 1 / (A.ms t + eps) := by
  unfold rms
  rw [← mul_inv, Real.mul_self_sqrt (A.ms_eps_pos t).le, one_div]

/-! A block's rows are the whole's. -/

theorem block_gu (n r j : ℕ) : (A.block n).gu r j = A.gu (256 * n + r) j := rfl

theorem block_h (n r j : ℕ) : (A.block n).h r j = A.h (256 * n + r) j := rfl

theorem block_half (n r j : ℕ) : (A.block n).half r j = A.half (256 * n + r) j := rfl

theorem block_dgu (n r j : ℕ) : (A.block n).dgu r j = A.dgu (256 * n + r) j := rfl

theorem block_dx (n r j : ℕ) : (A.block n).dx r j = A.dx (256 * n + r) j := rfl

/-- One more block of rows. -/
theorem dgam_succ (n k : ℕ) : A.dgam (256 * (n + 1)) k = A.dgam (256 * n) k + (A.block n).dgam 256 k := by
  unfold dgam
  rw [Nat.mul_succ, Finset.sum_range_add]
  rfl

/-- The gradient that the norm hands back, from the gradient `D` of its normalized row. -/
def back (D : ℕ → ℝ) (t k : ℕ) : ℝ := A.rms t * (D k - A.y t k * ((∑ j : Fin 1024, D j * A.y t j) / 1024))

/-- The derivative of the norm as automatic differentiation forms it. -/
theorem back_vjp (D : ℕ → ℝ) (t k : ℕ) : D k * A.rms t
      + A.x t k * ((∑ j : Fin 1024, A.x t j * D j) * (-(1 / 2) * (A.rms t * A.rms t * A.rms t)) / 1024)
      + (∑ j : Fin 1024, A.x t j * D j) * (-(1 / 2) * (A.rms t * A.rms t * A.rms t)) / 1024 * A.x t k
    = A.back D t k := by
  have e : ∑ j : Fin 1024, D j * A.y t j = (∑ j : Fin 1024, A.x t j * D j) * A.rms t := by
    rw [Finset.sum_mul]
    exact Finset.sum_congr rfl fun j _ => by unfold y; ring
  rw [back, e]
  unfold y
  ring

/-- The same inside the layer's gradient. -/
theorem dx_vjp (t k : ℕ) : A.dy t k + A.dyn t k * A.rms t
      + A.x t k * ((∑ j : Fin 1024, A.x t j * A.dyn t j) * (-(1 / 2) * (A.rms t * A.rms t * A.rms t)) / 1024)
      + (∑ j : Fin 1024, A.x t j * A.dyn t j) * (-(1 / 2) * (A.rms t * A.rms t * A.rms t)) / 1024 * A.x t k
    = A.dx t k := by
  rw [add_assoc, add_assoc, ← add_assoc (A.dyn t k * A.rms t), A.back_vjp (A.dyn t)]
  rfl

end Args

end Cert.Ffn

end
-- ==== Proof.FfnLeaf.lean ====
/-
  What one grid point of the feed-forward kernel computes from its blocks, at an index: its payloads are the real quantities of
  Proof/FfnSpec.lean at the block's own rows. The hidden layer is worked in two halves of 1408 columns; the lemmas of a half
  take the half's first column `q`, and serve both.
-/
module

public import proofs.«01_k».proof.Proof.FfnSpec
public import proofs.«01_k».proof.Proof.Gen.Kernel2Ideal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem Cert.Sgu Cert.Ffn

namespace Cert.Kernel2Ideal.Block

open Cert.Kernel2Ideal Cert.Kernel2Ideal.Gen

/-- The four input blocks and the two weight arrays hold the reals of `A`; the third block is the hidden layer. -/
structure Holds (A : Ffn.Args) (x0 x1 : Vec Ideal S256x1024 .f32) (x2 : Vec Ideal S1x1024 .f32) (x3 : Vec Ideal S256x5632 .bf16)
    (w : Vec Ideal S5632x1024 .bf16) (o : Vec Ideal S2816x1024 .bf16) : Prop where
  dy : ∀ i, x0 i = ((A.dy (i 0) (i 1) : ℝ) : EReal)
  x : ∀ i, x1 i = ((A.x (i 0) (i 1) : ℝ) : EReal)
  g : ∀ i, x2 i = ((A.g (i 1) : ℝ) : EReal)
  gu : ∀ i, x3 i = ((A.gu (i 0) (i 1) : ℝ) : EReal)
  w : ∀ i, w i = ((A.w (i 1) (i 0) : ℝ) : EReal)
  o : ∀ i, o i = ((A.o (i 0) (i 1) : ℝ) : EReal)

/-- A half of the hidden layer's columns from `q`: its rows of the projection out, its gate and its other factor. -/
structure Half (A : Ffn.Args) (q : ℕ) (o : Vec Ideal S1408x1024 .bf16) (a b : Vec Ideal S256x1408 .bf16) : Prop where
  o : ∀ i, o i = ((A.o (q + i 0) (i 1) : ℝ) : EReal)
  a : ∀ i, a i = ((A.gu (i 0) (q + i 1) : ℝ) : EReal)
  b : ∀ i, b i = ((A.gu (i 0) (2816 + (q + i 1)) : ℝ) : EReal)

variable {A : Ffn.Args} {x0 x1 : Vec Ideal S256x1024 .f32} {x2 : Vec Ideal S1x1024 .f32} {q : ℕ}
  {o : Vec Ideal S1408x1024 .bf16} {a b : Vec Ideal S256x1408 .bf16}

/-- Half the incoming gradient. -/
theorem half_apply (hdy : ∀ i, x0 i = ((A.dy (i 0) (i 1) : ℝ) : EReal)) (i : S256x1024.Idx) :
    k0_pay3 x0 i = ((A.half (i 0) (i 1) : ℝ) : EReal) := by
  pointwise [k0_pay3]
  rw [hdy, ofBits_half, ← EReal.coe_mul]
  rfl

/-- The gradient of the gated hidden layer, of one half. -/
theorem dh_apply (hdy : ∀ i, x0 i = ((A.dy (i 0) (i 1) : ℝ) : EReal)) (H : Half A q o a b) (i : S256x1408.Idx) :
    k0_pay4 x0 o i = ((A.dh (i 0) (q + i 1) : ℝ) : EReal) := by
  pointwise [k0_pay4]
  simp only [half_apply hdy, H.o, ← EReal.coe_mul, coe_sum]
  rfl

/-- The gate's logistic. -/
theorem logistic_apply (H : Half A q o a b) (i : S256x1408.Idx) :
    k0_pay7 a i = ((logistic (A.gu (i 0) (q + i 1)) : ℝ) : EReal) := by
  pointwise [k0_pay7, k0_pay5]
  rw [H.a, ofBits_half, ← EReal.coe_mul, Ideal.tanh_coe, ← EReal.coe_mul, ← EReal.coe_add, logistic_tanh]

/-- The activated gate. -/
theorem silu_apply (H : Half A q o a b) (i : S256x1408.Idx) :
    k0_pay8 a i = ((silu (A.gu (i 0) (q + i 1)) : ℝ) : EReal) := by
  pointwise [k0_pay8, k0_pay5]
  rw [logistic_apply H, H.a, ← EReal.coe_mul]
  rfl

/-- The gated hidden layer. -/
theorem h_apply (H : Half A q o a b) (i : S256x1408.Idx) :
    k0_pay9 a b i = ((A.h (i 0) (q + i 1) : ℝ) : EReal) := by
  pointwise [k0_pay9, k0_pay6]
  rw [silu_apply H, H.b, ← EReal.coe_mul]
  rfl

/-- The gradient of the gate. -/
theorem dgate_apply (hdy : ∀ i, x0 i = ((A.dy (i 0) (i 1) : ℝ) : EReal)) (H : Half A q o a b) (i : S256x1408.Idx) :
    k0_pay12 (k0_pay5 a) (k0_pay7 a) (k0_pay10 x0 o b) (k0_pay11 a) i = ((A.dgate (i 0) (q + i 1) : ℝ) : EReal) := by
  pointwise [k0_pay12, k0_pay10, k0_pay11, k0_pay5, k0_pay6]
  rw [dh_apply hdy H, logistic_apply H, H.a, H.b, ← EReal.coe_one]
  simp only [← EReal.coe_mul, ← EReal.coe_sub, ← EReal.coe_add]
  rfl

/-- The gradient of the up projection's output. -/
theorem dup_apply (hdy : ∀ i, x0 i = ((A.dy (i 0) (i 1) : ℝ) : EReal)) (H : Half A q o a b) (i : S256x1408.Idx) :
    k0_pay13 (k0_pay4 x0 o) (k0_pay8 a) i = ((A.dup (i 0) (q + i 1) : ℝ) : EReal) := by
  pointwise [k0_pay13]
  rw [dh_apply hdy H, silu_apply H, ← EReal.coe_mul]
  rfl

variable {d : Vec Ideal S256x5632 .bf16} {w : Vec Ideal S5632x1024 .bf16}

/-- The gradient of the norm's output, from the hidden layer's. -/
theorem dxn_apply (hd : ∀ i, d i = ((A.dgu (i 0) (i 1) : ℝ) : EReal)) (hw : ∀ i, w i = ((A.w (i 1) (i 0) : ℝ) : EReal))
    (i : S256x1024.Idx) : k0_pay22 d w i = ((A.dxn (i 0) (i 1) : ℝ) : EReal) := by
  pointwise [k0_pay22]
  simp only [hd, hw, ← EReal.coe_mul, coe_sum]
  rfl

/-- The reciprocal root mean square of a row. -/
theorem rms_apply (hx : ∀ i, x1 i = ((A.x (i 0) (i 1) : ℝ) : EReal)) (i : S256x1.Idx) :
    k0_pay23 x1 i = ((A.rms (i 0) : ℝ) : EReal) := by
  pointwise [k0_pay23]
  simp only [hx, ← EReal.coe_mul, coe_sum, ofBits_1024, ofBits_eps, div_1024, ← EReal.coe_add]
  exact rsqrt_pos _ (A.ms_eps_pos _)

/-- The normalized row. -/
theorem y_apply (hx : ∀ i, x1 i = ((A.x (i 0) (i 1) : ℝ) : EReal)) (i : S256x1024.Idx) :
    k0_pay24 x1 i = ((A.y (i 0) (i 1) : ℝ) : EReal) := by
  pointwise [k0_pay24]
  rw [rms_apply hx, hx, ← EReal.coe_mul]
  rfl

/-- The gradient of the gain: the sum so far plus this block's rows. -/
theorem dgam_apply (hd : ∀ i, d i = ((A.dgu (i 0) (i 1) : ℝ) : EReal)) (hw : ∀ i, w i = ((A.w (i 1) (i 0) : ℝ) : EReal))
    (hx : ∀ i, x1 i = ((A.x (i 0) (i 1) : ℝ) : EReal)) {acc : Vec Ideal S1x1024 .f32} {R : ℕ → ℝ}
    (hR : ∀ i, acc i = ((R (i 1) : ℝ) : EReal)) (i : S1x1024.Idx) :
    k0_pay25 d w x1 acc i = ((R (i 1) + A.dgam 256 (i 1) : ℝ) : EReal) := by
  pointwise [k0_pay25]
  simp only [dxn_apply hd hw, y_apply hx, hR, ← EReal.coe_mul, coe_sum, ← EReal.coe_add]
  rw [Args.dgam, Finset.sum_range]
  rfl

/-- The gradient of the normalized row. -/
theorem dyn_apply (hd : ∀ i, d i = ((A.dgu (i 0) (i 1) : ℝ) : EReal)) (hw : ∀ i, w i = ((A.w (i 1) (i 0) : ℝ) : EReal))
    (hg : ∀ i, x2 i = ((A.g (i 1) : ℝ) : EReal)) (i : S256x1024.Idx) :
    k0_pay26 d w x2 i = ((A.dyn (i 0) (i 1) : ℝ) : EReal) := by
  pointwise [k0_pay26]
  rw [dxn_apply hd hw, hg, ← EReal.coe_mul]
  rfl

/-- The gradient of the layer's input. -/
theorem dx_apply (hd : ∀ i, d i = ((A.dgu (i 0) (i 1) : ℝ) : EReal)) (hw : ∀ i, w i = ((A.w (i 1) (i 0) : ℝ) : EReal))
    (hg : ∀ i, x2 i = ((A.g (i 1) : ℝ) : EReal)) (hx : ∀ i, x1 i = ((A.x (i 0) (i 1) : ℝ) : EReal))
    (hdy : ∀ i, x0 i = ((A.dy (i 0) (i 1) : ℝ) : EReal)) (i : S256x1024.Idx) :
    k0_pay1 (k0_pay23 x1) (k0_pay24 x1) (k0_pay26 d w x2) x0 (k0_pay27 d w x1 x2) i = ((A.dx (i 0) (i 1) : ℝ) : EReal) := by
  pointwise [k0_pay1, k0_pay27]
  simp only [dyn_apply hd hw hg, y_apply hx, rms_apply hx, hdy, ← EReal.coe_mul, coe_sum, ofBits_1024, div_1024,
    ← EReal.coe_sub, ← EReal.coe_add]
  rfl

end Cert.Kernel2Ideal.Block

end
-- ==== Proof.Stores.lean ====
/-
  Reading back what a grid point stored, for every kernel here: a whole buffer written at once, a part of one, and a matrix
  written in pieces.
-/
module

public import Idealize.ShloMosaic.Lib.Pipeline.ValueKit
public import Idealize.ShloMosaic.Lib.Pipeline.ReadBack
public import Idealize.ShloMosaic.Lib.Pointwise

@[expose] public section

noncomputable section

open Idealize.ShloMosaic Idealize.SL.Sem

namespace Cert.Stores

variable {sig : RefSig} {κ : Kind} {sp : Space}

/-- What one store of a whole buffer leaves. -/
theorem canon_whole {s : Shape} {e : EltTy} (w : s.Idx → Elt Ideal e) :
    View.canon [(⟨Rect.whole s, w⟩ : View.Piece (Elt Ideal) s e)] = w := by
  funext i
  have h := View.canon_cons_emb (Val := Elt Ideal) (Rect.whole s) w [] i
  rwa [Rect.emb_whole_apply] at h

/-- A load of a part of it. -/
theorem readCov_whole {s : Shape} {e : EltTy} (v : View sig κ sp s e) (w : s.Idx → Elt Ideal e) (r : Rect s) :
    v.readCov [⟨Rect.whole s, w⟩] r.toLoadRect = View.ld w r := by
  rw [View.readCov_eq_canon']
  rw [canon_whole]

/-- A load of all of a matrix, however it was stored. -/
theorem readCov_all {n0 n1 : ℕ} {e : EltTy} (v : View sig κ sp ⟨2, ![n0, n1]⟩ e)
    (L : List (View.Piece (Elt Ideal) ⟨2, ![n0, n1]⟩ e))
    (inb : ∀ a, (![0, 0] : Fin 2 → ℕ) a + (![n0, n1] : Fin 2 → ℕ) a ≤ (⟨2, ![n0, n1]⟩ : Shape).size a) :
    v.readCov L (Rect.unit (s := ⟨2, ![n0, n1]⟩) ![0, 0] ![n0, n1] inb).toLoadRect = View.canon L := by
  rw [View.readCov_eq_canon']
  refine funext fun j => congrArg (View.canon L) (funext fun a => Fin.ext ?_)
  match a with
  | 0 => show 0 + 1 * (j 0 : ℕ) = j 0; omega
  | 1 => show 0 + 1 * (j 1 : ℕ) = j 1; omega

/-- A load of a part of a block: row `p` and column `q` onwards. -/
theorem ld_apply {n0 n1 k0 k1 p q : ℕ} {e : EltTy} (x : (⟨2, ![n0, n1]⟩ : Shape).Idx → Elt Ideal e)
    (inb : ∀ a, (![p, q] : Fin 2 → ℕ) a + (![k0, k1] : Fin 2 → ℕ) a ≤ (⟨2, ![n0, n1]⟩ : Shape).size a) {X : ℕ → ℕ → Elt Ideal e}
    (h : ∀ i, x i = X (i 0) (i 1)) (i : (⟨2, ![k0, k1]⟩ : Shape).Idx) :
    View.ld x (Rect.unit (s := ⟨2, ![n0, n1]⟩) ![p, q] ![k0, k1] inb) i = X (p + i 0) (q + i 1) := by
  refine (h _).trans ?_
  show X (p + 1 * (i 0 : ℕ)) (q + 1 * (i 1 : ℕ)) = _
  rw [one_mul, one_mul]

/-- Row `y` of the block of `b` rows that a window shows at point `t` is row `b * t + y` of the array. -/
theorem shown (X : ℕ → ℕ → ℝ) (b n : ℕ) {q k t : ℕ} (e : q = t ∧ k = 0) (y z : ℕ) :
    ((X (b * t + y) z : ℝ) : EReal) = ((X (q * b + 1 * y) (k * n + 1 * z) : ℝ) : EReal) := by
  rw [e.1, e.2, zero_mul, zero_add, one_mul, one_mul, Nat.mul_comm]

/-- An index of an array is in the block of its row's point. -/
theorem inside {b n q k r j : ℕ} (hb : 0 < b) (e : q = r / b ∧ k = 0) (hj : j < n) :
    (q * b ≤ r ∧ r < q * b + b) ∧ (k * n ≤ j ∧ j < k * n + n) := by
  obtain ⟨rfl, rfl⟩ := e
  exact ⟨⟨Nat.div_mul_le_self r b, Nat.lt_div_mul_add hb⟩, by omega, by omega⟩

/-- Every index of a one-row array is in the block that a window shows of all of it. -/
theorem inside_row {n q k r j : ℕ} (e : q = 0 ∧ k = 0) (hr : r < 1) (hj : j < n) :
    (q * 1 ≤ r ∧ r < q * 1 + 1) ∧ (k * n ≤ j ∧ j < k * n + n) := by
  obtain ⟨rfl, rfl⟩ := e
  omega

end Cert.Stores

end
-- ==== Proof.FfnPoint.lean ====
/-
  What a grid point of the feed-forward kernel leaves: its blocks of the results, and the gradient of the gain summed so far.
  The first point copies the weights into the kernel's own memory and starts the sum at zero; the later ones find both there.
  Either way the point computes the same from the weights `w` and `o` it finds, so each result is proved once from those.
-/
module

public import proofs.«01_k».proof.Proof.FfnLeaf
public import proofs.«01_k».proof.Proof.Stores

@[expose] public section

set_option maxRecDepth 16384

noncomputable section

open Idealize.ShloMosaic Idealize.ShloMosaic.TcCoe Idealize.SL.Sem Cert.Sgu Cert.Ffn Cert.Stores

namespace Cert.Kernel2Ideal.Block

open Cert.Kernel2Ideal Cert.Kernel2Ideal.Gen

variable {A : Ffn.Args} {x0 x1 : Vec Ideal S256x1024 .f32} {x2 : Vec Ideal S1x1024 .f32} {x3 : Vec Ideal S256x5632 .bf16}
  {w : Vec Ideal S5632x1024 .bf16} {o : Vec Ideal S2816x1024 .bf16}

/-- The blocks of a half, as the kernel loads them. -/
theorem half_of (H : Holds A x0 x1 x2 x3 w o) (p q : ℕ) (e : p = 2816 + q)
    (i0 : ∀ a, (![q, 0] : Fin 2 → ℕ) a + (![1408, 1024] : Fin 2 → ℕ) a ≤ S2816x1024.size a)
    (i1 : ∀ a, (![0, q] : Fin 2 → ℕ) a + (![256, 1408] : Fin 2 → ℕ) a ≤ S256x5632.size a)
    (i2 : ∀ a, (![0, p] : Fin 2 → ℕ) a + (![256, 1408] : Fin 2 → ℕ) a ≤ S256x5632.size a) :
    Half A q (View.ld o (Rect.unit ![q, 0] ![1408, 1024] i0)) (View.ld x3 (Rect.unit ![0, q] ![256, 1408] i1))
      (View.ld x3 (Rect.unit ![0, p] ![256, 1408] i2)) where
  o i := by
    refine (H.o _).trans ?_
    show ((A.o (q + 1 * (i 0 : ℕ)) (0 + 1 * (i 1 : ℕ)) : ℝ) : EReal) = _
    rw [one_mul, one_mul, zero_add]
  a i := by
    refine (H.gu _).trans ?_
    show ((A.gu (0 + 1 * (i 0 : ℕ)) (q + 1 * (i 1 : ℕ)) : ℝ) : EReal) = _
    rw [one_mul, one_mul, zero_add]
  b i := by
    refine (H.gu _).trans ?_
    show ((A.gu (0 + 1 * (i 0 : ℕ)) (p + 1 * (i 1 : ℕ)) : ℝ) : EReal) = _
    rw [one_mul, one_mul, zero_add, e, Nat.add_assoc]

/-- The four stores of the hidden layer's gradient. -/
abbrev dguStores (x0 : Vec Ideal S256x1024 .f32) (x3 : Vec Ideal S256x5632 .bf16) (o : Vec Ideal S2816x1024 .bf16) :
    List (View.Piece (Elt Ideal) S256x5632 .bf16) :=
  [⟨Rect.unit ![0, 4224] ![256, 1408] inb_S256x5632_S256x1408_0_4224,
      k0_pay21 (k0_pay14 (k0_pay3 x0) (View.ld o (Rect.unit ![1408, 0] ![1408, 1024] inb_S2816x1024_S1408x1024_1408_0)))
        (k0_pay18 (View.ld x3 (Rect.unit ![0, 1408] ![256, 1408] inb_S256x5632_S256x1408_0_1408)))⟩,
    ⟨Rect.unit ![0, 1408] ![256, 1408] inb_S256x5632_S256x1408_0_1408,
      k0_pay20 (k0_pay3 x0) (View.ld o (Rect.unit ![1408, 0] ![1408, 1024] inb_S2816x1024_S1408x1024_1408_0))
        (View.ld x3 (Rect.unit ![0, 1408] ![256, 1408] inb_S256x5632_S256x1408_0_1408))
        (View.ld x3 (Rect.unit ![0, 4224] ![256, 1408] inb_S256x5632_S256x1408_0_4224))⟩,
    ⟨Rect.unit ![0, 2816] ![256, 1408] inb_S256x5632_S256x1408_0_2816,
      k0_pay13 (k0_pay4 x0 (View.ld o (Rect.unit ![0, 0] ![1408, 1024] inb_S2816x1024_S1408x1024_0_0)))
        (k0_pay8 (View.ld x3 (Rect.unit ![0, 0] ![256, 1408] inb_S256x5632_S256x1408_0_0)))⟩,
    ⟨Rect.unit ![0, 0] ![256, 1408] inb_S256x5632_S256x1408_0_0,
      k0_pay12 (k0_pay5 (View.ld x3 (Rect.unit ![0, 0] ![256, 1408] inb_S256x5632_S256x1408_0_0)))
        (k0_pay7 (View.ld x3 (Rect.unit ![0, 0] ![256, 1408] inb_S256x5632_S256x1408_0_0)))
        (k0_pay10 x0 (View.ld o (Rect.unit ![0, 0] ![1408, 1024] inb_S2816x1024_S1408x1024_0_0))
          (View.ld x3 (Rect.unit ![0, 2816] ![256, 1408] inb_S256x5632_S256x1408_0_2816)))
        (k0_pay11 (View.ld x3 (Rect.unit ![0, 0] ![256, 1408] inb_S256x5632_S256x1408_0_0)))⟩]

/-- They leave the hidden layer's gradient. -/
theorem dgu_stores (H : Holds A x0 x1 x2 x3 w o) (i : S256x5632.Idx) :
    View.canon (dguStores x0 x3 o) i = ((A.dgu (i 0) (i 1) : ℝ) : EReal) := by
  have L := half_of H 2816 0 rfl inb_S2816x1024_S1408x1024_0_0 inb_S256x5632_S256x1408_0_0 inb_S256x5632_S256x1408_0_2816
  have R := half_of H 4224 1408 rfl inb_S2816x1024_S1408x1024_1408_0 inb_S256x5632_S256x1408_0_1408 inb_S256x5632_S256x1408_0_4224
  rw [Args.dgu]
  canon_tiles x h
  · refine (dup_apply H.dy R x).trans ?_
    rw [h0, h1, if_neg (by omega), show 4224 + (x 1 : ℕ) - 2816 = 1408 + x 1 by omega]
  · refine (dgate_apply H.dy R x).trans ?_
    rw [h0, h1, if_pos (by omega)]
  · refine (dup_apply H.dy L x).trans ?_
    rw [h0, h1, if_neg (by omega), show 2816 + (x 1 : ℕ) - 2816 = 0 + x 1 by omega]
  · refine (dgate_apply H.dy L x).trans ?_
    rw [h0, h1, if_pos (by omega), zero_add]

/-- The two stores of the gated hidden layer. -/
theorem h_stores (H : Holds A x0 x1 x2 x3 w o) (i : S256x2816.Idx) :
    View.canon [(⟨Rect.unit ![0, 1408] ![256, 1408] inb_S256x2816_S256x1408_0_1408,
        k0_pay19 (View.ld x3 (Rect.unit ![0, 1408] ![256, 1408] inb_S256x5632_S256x1408_0_1408))
          (View.ld x3 (Rect.unit ![0, 4224] ![256, 1408] inb_S256x5632_S256x1408_0_4224))⟩ : View.Piece (Elt Ideal) S256x2816 .bf16),
      ⟨Rect.unit ![0, 0] ![256, 1408] inb_S256x2816_S256x1408_0_0,
        k0_pay9 (View.ld x3 (Rect.unit ![0, 0] ![256, 1408] inb_S256x5632_S256x1408_0_0))
          (View.ld x3 (Rect.unit ![0, 2816] ![256, 1408] inb_S256x5632_S256x1408_0_2816))⟩] i
      = ((A.h (i 0) (i 1) : ℝ) : EReal) := by
  have L := half_of H 2816 0 rfl inb_S2816x1024_S1408x1024_0_0 inb_S256x5632_S256x1408_0_0 inb_S256x5632_S256x1408_0_2816
  have R := half_of H 4224 1408 rfl inb_S2816x1024_S1408x1024_1408_0 inb_S256x5632_S256x1408_0_1408 inb_S256x5632_S256x1408_0_4224
  canon_tiles x h
  · refine (h_apply R x).trans ?_
    rw [h0, h1]
  · refine (h_apply L x).trans ?_
    rw [h0, h1, zero_add]

/-- The sum that the first point starts from. -/
theorem no_sum (i : S1x1024.Idx) : k0_pay2 (F := Ideal) i = ((0 : ℝ) : EReal) := by
  pointwise [k0_pay2]
  rfl

variable (m : (ℓ : Loc nD τ sig) → Buf (Elt Ideal) ℓ)
variable {c : Dev nD} {t : Fin cfg0.N}

/-- The input blocks of point `t` and the weights it finds hold the reals of `A`. -/
abbrev HoldsAt (A : Ffn.Args) (c : Dev nD) (t : Fin cfg0.N) (w : Vec Ideal S5632x1024 .bf16) (o : Vec Ideal S2816x1024 .bf16) : Prop :=
  Holds A (iblk m c 0 t) (iblk m c 1 t) (iblk m c 2 t) (iblk m c 3 t) w o

/-- What a point leaves: the blocks of its rows, the gain's gradient `R` plus theirs, and the weights as found. -/
structure Leaves (A : Ffn.Args) (R : ℕ → ℝ) (w : Vec Ideal S5632x1024 .bf16) (o : Vec Ideal S2816x1024 .bf16)
    (u : Vec Ideal S256x1024 .f32 × Vec Ideal S1x1024 .f32 × Vec Ideal S256x1024 .bf16 × Vec Ideal S256x2816 .bf16
      × Vec Ideal S256x5632 .bf16 × Vec Ideal S5632x1024 .bf16 × Vec Ideal S2816x1024 .bf16) : Prop where
  dx : ∀ i, u.1 i = ((A.dx (i 0) (i 1) : ℝ) : EReal)
  dgam : ∀ i, u.2.1 i = ((R (i 1) + A.dgam 256 (i 1) : ℝ) : EReal)
  half : ∀ i, u.2.2.1 i = ((A.half (i 0) (i 1) : ℝ) : EReal)
  h : ∀ i, u.2.2.2.1 i = ((A.h (i 0) (i 1) : ℝ) : EReal)
  dgu : ∀ i, u.2.2.2.2.1 i = ((A.dgu (i 0) (i 1) : ℝ) : EReal)
  w : u.2.2.2.2.2.1 = w
  o : u.2.2.2.2.2.2 = o

set_option maxHeartbeats 1000000 in
/-- The first point. -/
theorem leaves_A (H : HoldsAt m A c t (V m c main_v1) (V m c main_v16)) (h0 : t.val % 32 = 0) :
    Leaves A (fun _ => 0) (V m c main_v1) (V m c main_v16) (outsAt0 m c t.val t.isLt) := by
  rw [outsAt0_A m c t h0 h0]
  revert H
  generalize V m c main_v1 = w
  generalize V m c main_v16 = o
  intro H
  constructor
  case w | o => exact funext fun i => by dsimp only; frame_open; frame_out; exact congrFun (canon_whole _) i
  all_goals
    intro i
    dsimp only
    frame_open
    simp (disch := decide) only [↓ View.readCov_skip, ↓ View.readCov_cons_toLoadRect, ↓ View.readCov_fill]
    frame_out
    try simp only [readCov_all, readCov_whole, canon_whole]
  · exact dx_apply (dgu_stores H) H.w H.g H.x H.dy i
  · exact dgam_apply (dgu_stores H) H.w H.x (R := fun _ => 0) no_sum i
  · exact half_apply H.dy i
  · exact h_stores H i
  · exact dgu_stores H i

set_option maxHeartbeats 1000000 in
/-- A later point, from what the point before it left. -/
theorem leaves_B {w : Vec Ideal S5632x1024 .bf16} {o : Vec Ideal S2816x1024 .bf16} (H : HoldsAt m A c t w o) (h0 : ¬t.val % 32 = 0) {R : ℕ → ℝ}
    (hR : ∀ i, (outsAt0 m c (t.val - 1) (Nat.lt_of_le_of_lt (Nat.sub_le _ _) t.isLt)).2.1 i = ((R (i 1) : ℝ) : EReal))
    (hw : (outsAt0 m c (t.val - 1) (Nat.lt_of_le_of_lt (Nat.sub_le _ _) t.isLt)).2.2.2.2.2.1 = w)
    (ho : (outsAt0 m c (t.val - 1) (Nat.lt_of_le_of_lt (Nat.sub_le _ _) t.isLt)).2.2.2.2.2.2 = o) :
    Leaves A R w o (outsAt0 m c t.val t.isLt) := by
  rw [outsAt0_B m c t h0 h0]
  revert hR hw ho
  generalize (outsAt0 m c (t.val - 1) (Nat.lt_of_le_of_lt (Nat.sub_le _ _) t.isLt)) = acc
  intro hR hw ho
  subst hw ho
  constructor
  case w | o => rfl
  all_goals
    intro i
    dsimp only
    frame_open
    simp (disch := decide) only [↓ View.readCov_skip, ↓ View.readCov_cons_toLoadRect, ↓ View.readCov_fill]
    frame_out
    try simp only [readCov_all, read_unread_whole]
  · exact dx_apply (dgu_stores H) H.w H.g H.x H.dy i
  · exact dgam_apply (dgu_stores H) H.w H.x hR i
  · exact half_apply H.dy i
  · exact h_stores H i
  · exact dgu_stores H i

end Cert.Kernel2Ideal.Block

end
-- ==== Proof.FfnVjp.lean ====
/-
  The feed-forward reference at an index: each printed operation of the forward and backward pass is the real quantity of
  Proof/FfnSpec.lean, at whole-array rows.
-/
module

public import proofs.«01_k».proof.Proof.FfnSpec
public import proofs.«01_k».proof.Proof.Gen.Reference2Ideal.Read
public import Idealize.ShloMosaic.Lib.Pointwise

@[expose] public section

set_option maxRecDepth 16384

noncomputable section

open Idealize.ShloMosaic Idealize.ShloMosaic.TcCoe Idealize.SL.Sem Cert.Sgu Cert.Ffn

namespace Cert.Reference2Ideal.Vjp

open Cert.Reference2Ideal Cert.Reference2Ideal.Gen Cert.Reference2Ideal.Read

/-- The five arguments hold the reals of `A`. -/
structure Holds (A : Ffn.Args) (x0 x1 : Vec Ideal S8192x1024 .f32) (x2 : Vec Ideal S1x1024 .f32)
    (x3 : Vec Ideal S1024x5632 .f32) (x4 : Vec Ideal S2816x1024 .f32) : Prop where
  dy : ∀ i, x0 i = ((A.dy (i 0) (i 1) : ℝ) : EReal)
  x : ∀ i, x1 i = ((A.x (i 0) (i 1) : ℝ) : EReal)
  g : ∀ i, x2 i = ((A.g (i 1) : ℝ) : EReal)
  w : ∀ i, x3 i = ((A.w (i 0) (i 1) : ℝ) : EReal)
  o : ∀ i, x4 i = ((A.o (i 0) (i 1) : ℝ) : EReal)

variable {A : Ffn.Args} {x0 x1 : Vec Ideal S8192x1024 .f32} {x2 : Vec Ideal S1x1024 .f32}
  {x3 : Vec Ideal S1024x5632 .f32} {x4 : Vec Ideal S2816x1024 .f32}

/-- A row's mean square plus `eps`. -/
theorem v7_apply (H : Holds A x0 x1 x2 x3 x4) (i : S8192x1.Idx) :
    val_main_v7 (F := Ideal) x1 i = ((A.ms (i 0) + eps : ℝ) : EReal) := by
  simp only [val_main_v7_apply, val_main_v5_apply, val_main_v3_apply, val_main_v2_apply, val_main_v1_apply, val_main_cst_0_apply,
    val_main_v4_apply, val_main_cst_1_apply, val_main_v6_apply, val_main_cst_2_apply, H.x, Ideal.mulf_def, Ideal.addf_def,
    Ideal.hostDivf_def, Ideal.ofBits_def, ofBits_zero, zero_add, ← EReal.coe_mul, coe_sum, ofBits_1024, div_1024, ofBits_eps,
    ← EReal.coe_add]
  rfl

/-- The reciprocal root mean square of a row. -/
theorem v8_apply (H : Holds A x0 x1 x2 x3 x4) (i : S8192x1.Idx) :
    val_main_v8 (F := Ideal) x1 i = ((A.rms (i 0) : ℝ) : EReal) := by
  rw [val_main_v8_apply, v7_apply H]
  exact rsqrt_pos _ (A.ms_eps_pos _)

/-- The derivative of the reciprocal root. -/
theorem v11_apply (H : Holds A x0 x1 x2 x3 x4) (i : S8192x1.Idx) :
    val_main_v11 (F := Ideal) x1 i = ((-(1 / 2) * (A.rms (i 0) * A.rms (i 0) * A.rms (i 0)) : ℝ) : EReal) := by
  have h := A.ms_eps_pos (i 0)
  simp only [val_main_v11_apply, val_main_v10_apply, val_main_cst_3_apply, val_main_v9_apply, v7_apply H, v8_apply H,
    Ideal.hostDivf_def, Ideal.mulf_def, Ideal.ofBits_def, ofBits_neg_half, Ideal.div_coe h.ne', ← EReal.coe_mul]
  congr 2
  rw [mul_assoc, A.rms_sq]

/-- The normalized row. -/
theorem v13_apply (H : Holds A x0 x1 x2 x3 x4) (i : S8192x1024.Idx) :
    val_main_v13 (F := Ideal) x1 i = ((A.y (i 0) (i 1) : ℝ) : EReal) := by
  simp only [val_main_v13_apply, val_main_v12_apply, v8_apply H, H.x, Ideal.mulf_def, ← EReal.coe_mul]
  rfl

/-- The hidden layer, before the zero that its gradient is taken at. -/
theorem v16_apply (H : Holds A x0 x1 x2 x3 x4) (i : S8192x5632.Idx) :
    val_main_v16 (F := Ideal) x1 x2 x3 i = ((A.gu (i 0) (i 1) : ℝ) : EReal) := by
  simp only [val_main_v16_apply, val_main_v15_apply, val_main_v14_apply, v13_apply H, H.g, H.w, Ideal.mulf_def, ← EReal.coe_mul,
    coe_sum]
  rfl

/-- The hidden layer. -/
theorem v17_apply (H : Holds A x0 x1 x2 x3 x4) (i : S8192x5632.Idx) :
    val_main_v17 (F := Ideal) x1 x2 x3 i = ((A.gu (i 0) (i 1) : ℝ) : EReal) := by
  simp only [val_main_v17_apply, v16_apply H, val_main_v0_apply, val_main_cst_apply, Ideal.addf_def, Ideal.ofBits_def, ofBits_zero,
    add_zero]

/-- The gate. -/
theorem v18_apply (H : Holds A x0 x1 x2 x3 x4) (i : S8192x2816.Idx) :
    val_main_v18 (F := Ideal) x1 x2 x3 i = ((A.gu (i 0) (i 1) : ℝ) : EReal) := by
  rw [val_main_v18_apply, v17_apply H]

/-- The other half. -/
theorem v19_apply (H : Holds A x0 x1 x2 x3 x4) (i : S8192x2816.Idx) :
    val_main_v19 (F := Ideal) x1 x2 x3 i = ((A.gu (i 0) (2816 + i 1) : ℝ) : EReal) := by
  rw [val_main_v19_apply, v17_apply H]

/-- The gate's logistic. -/
theorem v20_2_apply (H : Holds A x0 x1 x2 x3 x4) (i : S8192x2816.Idx) :
    val_main_v20_2 (F := Ideal) x1 x2 x3 i = ((logistic (A.gu (i 0) (i 1)) : ℝ) : EReal) := by
  simp only [val_main_v20_2_apply, val_main_call0_v4_apply, val_main_call0_cst_0_apply, val_main_call0_v3_apply,
    val_main_call0_v2_apply, val_main_call0_cst_apply, val_main_call0_v1_apply, val_main_call0_v0_apply, v18_apply H,
    Ideal.hostNegf_def, Ideal.negf_def, ← EReal.coe_neg, Ideal.hostUnary_exp_def, Ideal.exp_coe, Ideal.addf_def, Ideal.ofBits_def,
    ofBits_one, ← EReal.coe_add, Ideal.hostDivf_def]
  exact one_div_coe (by have := Real.exp_pos (-A.gu (i 0) (i 1)); linarith)

/-- The logistic's derivative. -/
theorem v20_1_apply (H : Holds A x0 x1 x2 x3 x4) (i : S8192x2816.Idx) :
    val_main_v20_1 (F := Ideal) x1 x2 x3 i
      = ((logistic (A.gu (i 0) (i 1)) * (1 - logistic (A.gu (i 0) (i 1))) : ℝ) : EReal) := by
  simp only [val_main_v20_1_apply, val_main_call0_v7_apply, val_main_call0_v6_apply, val_main_call0_cst_1_apply, v20_2_apply H,
    Ideal.subf_def, Ideal.mulf_def, Ideal.ofBits_def, ofBits_one, ← EReal.coe_sub, ← EReal.coe_mul]

/-- The activated gate. -/
theorem v20_0_apply (H : Holds A x0 x1 x2 x3 x4) (i : S8192x2816.Idx) :
    val_main_v20_0 (F := Ideal) x1 x2 x3 i = ((silu (A.gu (i 0) (i 1)) : ℝ) : EReal) := by
  rw [val_main_v20_0_apply, v18_apply H, v20_2_apply H, Ideal.mulf_def, ← EReal.coe_mul]
  rfl

/-- Result 3, the gated hidden layer. -/
theorem v58_apply (H : Holds A x0 x1 x2 x3 x4) (i : S8192x2816.Idx) :
    val_main_v58 (F := Ideal) x1 x2 x3 i = ((A.h (i 0) (i 1) : ℝ) : EReal) := by
  rw [val_main_v58_apply, val_main_v21_apply, v20_0_apply H, v19_apply H, Ideal.truncf_def, Ideal.mulf_def, ← EReal.coe_mul]
  rfl

/-- Result 2, half the incoming gradient. -/
theorem v57_apply (H : Holds A x0 x1 x2 x3 x4) (i : S8192x1024.Idx) :
    val_main_v57 (F := Ideal) x0 i = ((A.half (i 0) (i 1) : ℝ) : EReal) := by
  simp only [val_main_v57_apply, val_main_v56_apply, val_main_v55_apply, val_main_cst_10_apply, H.dy, Ideal.truncf_def,
    Ideal.mulf_def, Ideal.ofBits_def, ofBits_half, ← EReal.coe_mul]
  rfl

/-- The gradient of the gated hidden layer. -/
theorem v29_apply (H : Holds A x0 x1 x2 x3 x4) (i : S8192x2816.Idx) :
    val_main_v29 (F := Ideal) x0 x4 i = ((A.dh (i 0) (i 1) : ℝ) : EReal) := by
  have e (k : Fin 1024) : (((i 0 : ℕ) * 1024 + (k : ℕ)) / 1024 = i 0) ∧ (((i 0 : ℕ) * 1024 + (k : ℕ)) % 1024 = k) := by
    have := k.isLt
    omega
  simp only [val_main_v29_apply, val_main_v28_apply, val_main_v27_apply, val_main_cst_5_apply, val_main_v26_apply, H.dy, H.o,
    Ideal.mulf_def, Ideal.ofBits_def, ofBits_half, ← EReal.coe_mul, coe_sum]
  refine congrArg _ (Finset.sum_congr rfl fun k _ => ?_)
  show 1 / 2 * A.dy (((i 0 : ℕ) * 1024 + (k : ℕ)) / 1024) (((i 0 : ℕ) * 1024 + (k : ℕ)) % 1024) * A.o (i 1) k = _
  rw [(e k).1, (e k).2]
  rfl

/-- The gradient of the gate. -/
theorem v32_apply (H : Holds A x0 x1 x2 x3 x4) (i : S8192x2816.Idx) :
    val_main_v32 (F := Ideal) x0 x1 x2 x3 x4 i = ((A.dgate (i 0) (i 1) : ℝ) : EReal) := by
  simp only [val_main_v32_apply, val_main_call1_v2_apply, val_main_call1_v1_apply, val_main_call1_v0_apply, val_main_v31_apply,
    v20_1_apply H, v20_2_apply H, v29_apply H, v18_apply H, v19_apply H, Ideal.mulf_def, Ideal.addf_def, ← EReal.coe_mul,
    ← EReal.coe_add]
  congr 1
  unfold Args.dgate
  ring

/-- The gradient of the up projection's output. -/
theorem v30_apply (H : Holds A x0 x1 x2 x3 x4) (i : S8192x2816.Idx) :
    val_main_v30 (F := Ideal) x0 x1 x2 x3 x4 i = ((A.dup (i 0) (i 1) : ℝ) : EReal) := by
  rw [val_main_v30_apply, v20_0_apply H, v29_apply H, Ideal.mulf_def, ← EReal.coe_mul, mul_comm]
  rfl

/-- Both, side by side. -/
theorem v33_apply (H : Holds A x0 x1 x2 x3 x4) (i : S8192x5632.Idx) :
    val_main_v33 (F := Ideal) x0 x1 x2 x3 x4 i = ((A.dgu (i 0) (i 1) : ℝ) : EReal) := by
  have h1 : (i 1).val < 5632 := (i 1).isLt
  rw [Args.dgu]
  pointwise [val_main_v33]
  split
  · rw [v32_apply H]
    rfl
  · rw [v30_apply H]
    rfl

/-- Result 4, the gradient of the hidden layer. -/
theorem v59_apply (H : Holds A x0 x1 x2 x3 x4) (i : S8192x5632.Idx) :
    val_main_v59 (F := Ideal) x0 x1 x2 x3 x4 i = ((A.dgu (i 0) (i 1) : ℝ) : EReal) := by
  rw [val_main_v59_apply, v33_apply H]
  rfl

/-- The gradient of the norm's output. -/
theorem v34_apply (H : Holds A x0 x1 x2 x3 x4) (i : S8192x1024.Idx) :
    val_main_v34 (F := Ideal) x0 x1 x2 x3 x4 i = ((A.dxn (i 0) (i 1) : ℝ) : EReal) := by
  simp only [val_main_v34_apply, v33_apply H, H.w, ← EReal.coe_mul, coe_sum]
  rfl

/-- Result 1, the gradient of the gain. -/
theorem v37_apply (H : Holds A x0 x1 x2 x3 x4) (i : S1x1024.Idx) :
    val_main_v37 (F := Ideal) x0 x1 x2 x3 x4 i = ((A.dgam 8192 (i 1) : ℝ) : EReal) := by
  have h0 : (i 0 : ℕ) < 1 := (i 0).isLt
  simp only [val_main_v37_apply, val_main_v36_apply, val_main_cst_6_apply, val_main_v35_apply, v13_apply H, v34_apply H,
    Ideal.mulf_def, Ideal.ofBits_def, ofBits_zero, zero_add, ← EReal.coe_mul, coe_sum]
  rw [Args.dgam, Finset.sum_range]
  refine congrArg _ (Finset.sum_congr rfl fun k _ => ?_)
  show A.y k ((i 0 : ℕ) * 1024 + (i 1 : ℕ)) * A.dxn k ((i 0 : ℕ) * 1024 + (i 1 : ℕ)) = _
  rw [show (i 0 : ℕ) * 1024 + (i 1 : ℕ) = i 1 by omega, mul_comm]

/-- The gradient of the normalized row. -/
theorem v39_apply (H : Holds A x0 x1 x2 x3 x4) (i : S8192x1024.Idx) :
    val_main_v39 (F := Ideal) x0 x1 x2 x3 x4 i = ((A.dyn (i 0) (i 1) : ℝ) : EReal) := by
  simp only [val_main_v39_apply, val_main_v38_apply, v34_apply H, H.g, Ideal.mulf_def, ← EReal.coe_mul]
  rfl

/-- The gradient of a row's mean square, over the 1024 columns. -/
theorem v48_apply (H : Holds A x0 x1 x2 x3 x4) (i : S8192x1.Idx) :
    val_main_v48 (F := Ideal) x0 x1 x2 x3 x4 i
      = (((∑ j : Fin 1024, A.x (i 0) j * A.dyn (i 0) j) * (-(1 / 2) * (A.rms (i 0) * A.rms (i 0) * A.rms (i 0))) / 1024 : ℝ) : EReal) := by
  have h1 : (i 1 : ℕ) < 1 := (i 1).isLt
  simp only [val_main_v48_apply, val_main_v47_apply, val_main_cst_8_apply, val_main_v46_apply, val_main_v42_apply,
    val_main_v41_apply, val_main_cst_7_apply, val_main_v40_apply, v39_apply H, v11_apply H, H.x, Ideal.mulf_def,
    Ideal.hostDivf_def, Ideal.ofBits_def, ofBits_zero, zero_add, ← EReal.coe_mul, coe_sum, ofBits_1024, div_1024]
  refine congrArg _ (congrArg (· * _ / 1024) (Finset.sum_congr rfl fun k _ => ?_))
  show A.x ((i 0 : ℕ) * 1 + (i 1 : ℕ)) k * A.dyn ((i 0 : ℕ) * 1 + (i 1 : ℕ)) k = _
  rw [show (i 0 : ℕ) * 1 + (i 1 : ℕ) = i 0 by omega]

/-- Result 0, the gradient of the layer's input. -/
theorem v54_apply (H : Holds A x0 x1 x2 x3 x4) (i : S8192x1024.Idx) :
    val_main_v54 (F := Ideal) x0 x1 x2 x3 x4 i = ((A.dx (i 0) (i 1) : ℝ) : EReal) := by
  simp only [val_main_v54_apply, val_main_v53_apply, val_main_v52_apply, val_main_v51_apply, val_main_v50_apply,
    val_main_v49_apply, val_main_cst_9_apply, val_main_v45_apply, val_main_v44_apply, val_main_v43_apply, v39_apply H, v8_apply H,
    v48_apply H, H.x, H.dy, Fin.sum_univ_one, Ideal.mulf_def, Ideal.addf_def, Ideal.ofBits_def, ofBits_zero, zero_add,
    ← EReal.coe_mul, ← EReal.coe_add]
  exact congrArg _ (A.dx_vjp (i 0) (i 1))

end Cert.Reference2Ideal.Vjp

end
-- ==== Proof.FfnArrays.lean ====
/-
  From the grid points to the arrays: the host's lines before the kernel leave the weights transposed and rounded and the hidden
  layer; each point's blocks are 256 rows of the arguments; the gain's gradient grows by one block of rows per point; and
  after the last point the result arrays hold the quantities of Proof/FfnSpec.lean over all 8192 rows.
-/
module

public import proofs.«01_k».proof.Proof.FfnPoint
public import proofs.«01_k».proof.Proof.FfnVjp
public import proofs.«01_k».proof.Proof.Gen.Kernel2Ideal.Value
public import Idealize.ShloMosaic.Lib.StableHlo.Run

@[expose] public section

set_option maxRecDepth 16384

noncomputable section

open Idealize.ShloMosaic Idealize.ShloMosaic.TcCoe Idealize.SL.Sem Cert.Sgu Cert.Ffn Cert.Stores

namespace Cert.Kernel2Ideal.Block

open Cert.Kernel2Ideal Cert.Kernel2Ideal.Gen Cert.Kernel2Ideal.Value

variable {m : (ℓ : Loc nD τ sig) → Buf (Elt Ideal) ℓ} {A : Ffn.Args} {c : Dev nD}

/-- The argument arrays hold the reals of `A`. -/
abbrev Input (m : (ℓ : Loc nD τ sig) → Buf (Elt Ideal) ℓ) (A : Ffn.Args) (c : Dev nD) : Prop :=
  Cert.Reference2Ideal.Vjp.Holds A (m ((c : Thread nD τ).loc main_arg0)) (m ((c : Thread nD τ).loc main_arg1))
    (m ((c : Thread nD τ).loc main_arg2)) (m ((c : Thread nD τ).loc main_arg3)) (m ((c : Thread nD τ).loc main_arg4))

/-- The projection in, as the kernel is given it. -/
theorem V_main_v1 : (V m c main_v1 : FVec Ideal S5632x1024 .bf16)
    = truncf (F := Ideal) .bf16 (transpose S5632x1024 [1, 0] (m ((c : Thread nD τ).loc main_arg3)) transposes_S1024x5632_S5632x1024_1_0)
        bitsLt_bf16_f32 := by
  show StableHlo.after hostOps0 _ (Proc.devRef .tc main_v1) = _
  after_results

/-- The projection out, as the kernel is given it. -/
theorem V_main_v16 : (V m c main_v16 : FVec Ideal S2816x1024 .bf16)
    = truncf (F := Ideal) .bf16 (m ((c : Thread nD τ).loc main_arg4)) bitsLt_bf16_f32 := by
  show StableHlo.after hostOps0 _ (Proc.devRef .tc main_v16) = _
  after_results

/-- The hidden layer, as the kernel is given it: the reference's own lines. -/
theorem V_main_v15 : (V m c main_v15 : FVec Ideal S8192x5632 .bf16)
    = truncf (F := Ideal) .bf16 (Cert.Reference2Ideal.Read.val_main_v16 (F := Ideal) (m ((c : Thread nD τ).loc main_arg1))
        (m ((c : Thread nD τ).loc main_arg2)) (m ((c : Thread nD τ).loc main_arg3))) bitsLt_bf16_f32 := by
  show StableHlo.after hostOps0 _ (Proc.devRef .tc main_v15) = _
  after_results
  rfl

/-- The kernel's weights and hidden layer hold the reals of `A`. -/
theorem w_apply (H : Input m A c) (i : S5632x1024.Idx) : V m c main_v1 i = ((A.w (i 1) (i 0) : ℝ) : EReal) := by
  rw [V_main_v1]
  pointwise []
  exact H.w _

theorem o_apply (H : Input m A c) (i : S2816x1024.Idx) : V m c main_v16 i = ((A.o (i 0) (i 1) : ℝ) : EReal) := by
  rw [V_main_v16]
  exact H.o i

theorem gu_apply (H : Input m A c) (i : S8192x5632.Idx) : V m c main_v15 i = ((A.gu (i 0) (i 1) : ℝ) : EReal) := by
  rw [V_main_v15]
  exact Cert.Reference2Ideal.Vjp.v16_apply H i

/-- Which block of its array each window shows at point `t`: the `t`-th 256 rows, or all of it. -/
theorem index_at : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- The input blocks of point `t` hold the `t`-th rows of `A`. -/
theorem holdsAt (H : Input m A c) (t : Fin cfg0.N) : HoldsAt m (A.block t.val) c t (V m c main_v1) (V m c main_v16) := by
  obtain ⟨⟨a0, a1⟩, ⟨b0, b1⟩, ⟨c0, c1⟩, ⟨d0, d1⟩, -⟩ := index_at t
  refine ⟨fun y => ?_, fun y => ?_, fun y => ?_, fun y => ?_, fun i => w_apply H i, fun i => o_apply H i⟩
  · show V m c main_arg0 (((cfg0.win 0).blk t).view.emb y) = _
    rw [V_main_arg0]
    refine (H.dy _).trans ?_
    show ((A.dy (win0_0.index t (0 : Fin 2) * 256 + 1 * (y 0 : ℕ)) (win0_0.index t (1 : Fin 2) * 1024 + 1 * (y 1 : ℕ)) : ℝ) : EReal)
      = ((A.dy (256 * t.val + y 0) (y 1) : ℝ) : EReal)
    rw [a0, a1, zero_mul, zero_add, one_mul, one_mul, Nat.mul_comm]
  · show V m c main_arg1 (((cfg0.win 1).blk t).view.emb y) = _
    rw [V_main_arg1]
    refine (H.x _).trans ?_
    show ((A.x (win0_1.index t (0 : Fin 2) * 256 + 1 * (y 0 : ℕ)) (win0_1.index t (1 : Fin 2) * 1024 + 1 * (y 1 : ℕ)) : ℝ) : EReal)
      = ((A.x (256 * t.val + y 0) (y 1) : ℝ) : EReal)
    rw [b0, b1, zero_mul, zero_add, one_mul, one_mul, Nat.mul_comm]
  · show V m c main_arg2 (((cfg0.win 2).blk t).view.emb y) = _
    rw [V_main_arg2]
    refine (H.g _).trans ?_
    show ((A.g (win0_2.index t (1 : Fin 2) * 1024 + 1 * (y 1 : ℕ)) : ℝ) : EReal) = ((A.g (y 1) : ℝ) : EReal)
    rw [c1, zero_mul, zero_add, one_mul]
  · show V m c main_v15 (((cfg0.win 3).blk t).view.emb y) = _
    refine (gu_apply H _).trans ?_
    show ((A.gu (win0_3.index t (0 : Fin 2) * 256 + 1 * (y 0 : ℕ)) (win0_3.index t (1 : Fin 2) * 5632 + 1 * (y 1 : ℕ)) : ℝ) : EReal)
      = ((A.gu (256 * t.val + y 0) (y 1) : ℝ) : EReal)
    rw [d0, d1, zero_mul, zero_add, one_mul, one_mul, Nat.mul_comm]

/-- Every point leaves its rows' blocks, and the gain's gradient over all the rows so far. -/
theorem leaves (H : Input m A c) (n : ℕ) : ∀ h : n < cfg0.N,
    Leaves (A.block n) (A.dgam (256 * n)) (V m c main_v1) (V m c main_v16) (outsAt0 m c n h) := by
  induction n with
  | zero =>
    intro h
    have z : A.dgam (256 * 0) = fun _ => 0 := funext fun _ => by simp [Args.dgam]
    rw [z]
    have l := leaves_A m (holdsAt H ⟨0, h⟩) (Nat.zero_mod 32)
    generalize V m c main_v1 = w, V m c main_v16 = o at l ⊢
    exact l
  | succ n ih =>
    intro h
    have hN : n + 1 < 32 := lt_of_lt_of_eq h N_0
    have i1 := ih (Nat.lt_of_succ_lt h)
    have hh := holdsAt H ⟨n + 1, h⟩
    generalize V m c main_v1 = w, V m c main_v16 = o at i1 hh ⊢
    have l := leaves_B m (R := A.dgam (256 * (n + 1))) hh (by show ¬(n + 1) % 32 = 0; omega)
      (fun i => (i1.dgam i).trans (by rw [Args.dgam_succ])) i1.w i1.o
    exact l

/-- The point whose block holds row `r`. -/
def pointOf (r : Fin 8192) : Fin cfg0.N := ⟨r.val / 256, lt_of_lt_of_eq (by omega) N_0.symm⟩

/-- The result array of window 4, the gradient of the layer's input. -/
theorem dx_array (H : Input m A c) :
    (dats m 0 c).arrAt 4 cfg0.N = fun i : S8192x1024.Idx => ((A.dx (i 0) (i 1) : ℝ) : EReal) := by
  refine (dats m 0 c).arrAt_eq_of_cover 4 _ (fun t _ => ?_) fun i => ⟨pointOf (i 0), flush0_4 _, ?_⟩
  · rw [flushed4]
    exact funext fun y => ((leaves H t.val t.isLt).dx ((cfg0.win 4).xinj (grid0.coords t) y)).trans
      (shown A.dx 256 1024 (index_at t).2.2.2.2.1 (y 0) (y 1))
  · show i ∈ ((View.whole main_v17_0).slice (win0_4.rect (pointOf (i 0)))).set
    rw [View.set_slice_whole, Rect.mem_set_unit]
    exact Fin.forall_fin_two.mpr (inside (b := 256) (n := 1024) (by decide) (index_at (pointOf (i 0))).2.2.2.2.1 (i 1).isLt)

/-- The result array of window 6, half the gradient handed in, rounded. -/
theorem half_array (H : Input m A c) :
    (dats m 0 c).arrAt 6 cfg0.N = fun i : S8192x1024.Idx => ((A.half (i 0) (i 1) : ℝ) : EReal) := by
  refine (dats m 0 c).arrAt_eq_of_cover 6 _ (fun t _ => ?_) fun i => ⟨pointOf (i 0), flush0_6 _, ?_⟩
  · rw [flushed6]
    exact funext fun y => ((leaves H t.val t.isLt).half ((cfg0.win 6).xinj (grid0.coords t) y)).trans
      (shown A.half 256 1024 (index_at t).2.2.2.2.2.2.1 (y 0) (y 1))
  · show i ∈ ((View.whole main_v17_2).slice (win0_6.rect (pointOf (i 0)))).set
    rw [View.set_slice_whole, Rect.mem_set_unit]
    exact Fin.forall_fin_two.mpr (inside (b := 256) (n := 1024) (by decide) (index_at (pointOf (i 0))).2.2.2.2.2.2.1 (i 1).isLt)

/-- The result array of window 7, the gated hidden layer, rounded. -/
theorem h_array (H : Input m A c) :
    (dats m 0 c).arrAt 7 cfg0.N = fun i : S8192x2816.Idx => ((A.h (i 0) (i 1) : ℝ) : EReal) := by
  refine (dats m 0 c).arrAt_eq_of_cover 7 _ (fun t _ => ?_) fun i => ⟨pointOf (i 0), flush0_7 _, ?_⟩
  · rw [flushed7]
    exact funext fun y => ((leaves H t.val t.isLt).h ((cfg0.win 7).xinj (grid0.coords t) y)).trans
      (shown A.h 256 2816 (index_at t).2.2.2.2.2.2.2.1 (y 0) (y 1))
  · show i ∈ ((View.whole main_v17_3).slice (win0_7.rect (pointOf (i 0)))).set
    rw [View.set_slice_whole, Rect.mem_set_unit]
    exact Fin.forall_fin_two.mpr (inside (b := 256) (n := 2816) (by decide) (index_at (pointOf (i 0))).2.2.2.2.2.2.2.1 (i 1).isLt)

/-- The result array of window 8, the hidden layer's gradient, rounded. -/
theorem dgu_array (H : Input m A c) :
    (dats m 0 c).arrAt 8 cfg0.N = fun i : S8192x5632.Idx => ((A.dgu (i 0) (i 1) : ℝ) : EReal) := by
  refine (dats m 0 c).arrAt_eq_of_cover 8 _ (fun t _ => ?_) fun i => ⟨pointOf (i 0), flush0_8 _, ?_⟩
  · rw [flushed8]
    exact funext fun y => ((leaves H t.val t.isLt).dgu ((cfg0.win 8).xinj (grid0.coords t) y)).trans
      (shown A.dgu 256 5632 (index_at t).2.2.2.2.2.2.2.2 (y 0) (y 1))
  · show i ∈ ((View.whole main_v17_4).slice (win0_8.rect (pointOf (i 0)))).set
    rw [View.set_slice_whole, Rect.mem_set_unit]
    exact Fin.forall_fin_two.mpr (inside (b := 256) (n := 5632) (by decide) (index_at (pointOf (i 0))).2.2.2.2.2.2.2.2 (i 1).isLt)

/-- The result array of window 5, the gain's gradient: the last point writes it. -/
theorem dgam_array (H : Input m A c) :
    (dats m 0 c).arrAt 5 cfg0.N = fun i : S1x1024.Idx => ((A.dgam 8192 (i 1) : ℝ) : EReal) := by
  refine (dats m 0 c).arrAt_eq_of_cover 5 _ (fun t hf => ?_) fun i => ?_
  · obtain ⟨e0, e1⟩ := (index_at t).2.2.2.2.2.1
    have hN : t.val < 32 := lt_of_lt_of_eq t.isLt N_0
    have ht : t.val = 31 := by have := (flush0_5 t).mp hf; omega
    rw [flushed5]
    funext y
    refine ((leaves H t.val t.isLt).dgam ((cfg0.win 5).xinj (grid0.coords t) y)).trans ?_
    show ((A.dgam (256 * t.val) (y 1 : ℕ) + (A.block t.val).dgam 256 (y 1 : ℕ) : ℝ) : EReal)
      = ((A.dgam 8192 (win0_5.index t (1 : Fin 2) * 1024 + 1 * (y 1 : ℕ)) : ℝ) : EReal)
    rw [e1, zero_mul, zero_add, one_mul, ← Args.dgam_succ, ht]
  · have ht : (pointOf 8191).val = 31 := rfl
    refine ⟨pointOf 8191, (flush0_5 _).mpr (by rw [ht]), ?_⟩
    show i ∈ ((View.whole main_v17_1).slice (win0_5.rect (pointOf 8191))).set
    rw [View.set_slice_whole, Rect.mem_set_unit]
    exact Fin.forall_fin_two.mpr (inside_row (n := 1024) (index_at (pointOf 8191)).2.2.2.2.2.1 (i 0).isLt (i 1).isLt)

end Cert.Kernel2Ideal.Block

end
-- ==== Proof.VjpForward.lean ====
/-
  The reference's forward pass at an index: each printed operation up to the spatial mixer's output is the real quantity of
  Proof/Spec.lean, at whole-array rows.
-/
module

public import proofs.«01_k».proof.Proof.Chunks
public import proofs.«01_k».proof.Proof.Gen.ReferenceIdeal.Read

@[expose] public section

set_option maxRecDepth 16384

noncomputable section

open Idealize.ShloMosaic Idealize.ShloMosaic.TcCoe Idealize.SL.Sem Cert.Sgu

namespace Cert.ReferenceIdeal.Vjp

open Cert.ReferenceIdeal Cert.ReferenceIdeal.Gen Cert.ReferenceIdeal.Read

/-- The seven arguments hold the reals of `A`. -/
structure Holds (A : Args) (x0 : Vec Ideal S8192x2048 .bf16) (x1 : Vec Ideal S8192x1024 .f32) (x2 : Vec Ideal S1024x1024 .bf16)
    (x3 x4 : Vec Ideal S1x1024 .f32) (x5 : Vec Ideal S8x128x128 .f32) (x6 : Vec Ideal S8x128x1 .f32) : Prop where
  z : ∀ i, x0 i = ((A.z (i 0) (i 1) : ℝ) : EReal)
  dy : ∀ i, x1 i = ((A.dy (i 0) (i 1) : ℝ) : EReal)
  w : ∀ i, x2 i = ((A.w (i 0) (i 1) : ℝ) : EReal)
  g : ∀ i, x3 i = ((A.g (i 1) : ℝ) : EReal)
  b : ∀ i, x4 i = ((A.b (i 1) : ℝ) : EReal)
  s : ∀ i, x5 i = ((A.s (i 0) (i 1) (i 2) : ℝ) : EReal)
  d : ∀ i, x6 i = ((A.d (i 0) (i 1) : ℝ) : EReal)

variable {A : Args} {x0 : Vec Ideal S8192x2048 .bf16} {x1 : Vec Ideal S8192x1024 .f32} {x2 : Vec Ideal S1024x1024 .bf16}
  {x3 x4 : Vec Ideal S1x1024 .f32} {x5 : Vec Ideal S8x128x128 .f32} {x6 : Vec Ideal S8x128x1 .f32}

/-- The root the reference takes at run time. -/
theorem root_two (i : S_.Idx) : val_main_v6 (F := Ideal) i = ((Real.sqrt 2 : ℝ) : EReal) := by
  simp only [val_main_v6_apply, val_main_cst_0_apply, Ideal.ofBits_def, ofBits_two, Ideal.hostUnary_sqrt_def, Ideal.sqrt_coe]
  rw [if_neg (by norm_num)]

/-- A finite value over that root. -/
theorem div_root_two (x : ℝ) : Ideal.div (x : EReal) ((Real.sqrt 2 : ℝ) : EReal) = ((x * (Real.sqrt 2)⁻¹ : ℝ) : EReal) := by
  rw [Ideal.div_coe (Real.sqrt_pos.mpr (by norm_num)).ne', one_div, ← EReal.coe_mul]

/-- The hidden layer over `√2`, negated. -/
theorem v8_apply (H : Holds A x0 x1 x2 x3 x4 x5 x6) (i : S8192x2048.Idx) :
    val_main_v8 (F := Ideal) x0 i = ((-(A.z (i 0) (i 1) * (Real.sqrt 2)⁻¹) : ℝ) : EReal) := by
  simp only [val_main_v8_apply, val_main_v5_apply, val_main_v0_apply, val_main_v7_apply, root_two, Ideal.extf_def,
    Ideal.hostNegf_def, Ideal.negf_def, Ideal.hostDivf_def, H.z, ← EReal.coe_neg, div_root_two, neg_mul]

/-- Twice the normal distribution function of the hidden layer. -/
theorem v9_apply (H : Holds A x0 x1 x2 x3 x4 x5 x6) (i : S8192x2048.Idx) :
    val_main_v9 (F := Ideal) x0 i = ((2 * cdf (A.z (i 0) (i 1)) : ℝ) : EReal) := by
  rw [val_main_v9_apply, v8_apply H, Ideal.hostUnary_erfc_def, EReal.coe_neg, Ideal.erfc_neg, erf_coe, ← EReal.coe_one,
    ← EReal.coe_add]
  congr 1
  unfold cdf
  ring

/-- The exponential the derivative of `erf` takes. -/
theorem v12_apply (H : Holds A x0 x1 x2 x3 x4 x5 x6) (i : S8192x2048.Idx) :
    val_main_v12 (F := Ideal) x0 i = ((Real.exp (-(1 / 2) * A.z (i 0) (i 1) * A.z (i 0) (i 1)) : ℝ) : EReal) := by
  simp only [val_main_v12_apply, val_main_v11_apply, val_main_v10_apply, v8_apply H, Ideal.mulf_def, ← EReal.coe_mul,
    Ideal.hostNegf_def, Ideal.negf_def, ← EReal.coe_neg, Ideal.hostUnary_exp_def, Ideal.exp_coe]
  have h : (Real.sqrt 2)⁻¹ * (Real.sqrt 2)⁻¹ = 1 / 2 := by
    rw [← mul_inv, Real.mul_self_sqrt (by norm_num), one_div]
  congr 2
  linear_combination (-(A.z (i 0) (i 1)) * A.z (i 0) (i 1)) * h

/-- Half the hidden layer. -/
theorem v4_apply (H : Holds A x0 x1 x2 x3 x4 x5 x6) (i : S8192x2048.Idx) :
    val_main_v4 (F := Ideal) x0 i = ((1 / 2 * A.z (i 0) (i 1) : ℝ) : EReal) := by
  simp only [val_main_v4_apply, val_main_v3_apply, val_main_cst_apply, val_main_v0_apply, Ideal.ofBits_def, ofBits_half,
    Ideal.extf_def, Ideal.mulf_def, H.z, ← EReal.coe_mul]

/-- The GELU of the hidden layer. -/
theorem v13_apply (H : Holds A x0 x1 x2 x3 x4 x5 x6) (i : S8192x2048.Idx) :
    val_main_v13 (F := Ideal) x0 i = ((gelu (A.z (i 0) (i 1)) : ℝ) : EReal) := by
  rw [val_main_v13_apply, v4_apply H, v9_apply H, Ideal.mulf_def, ← EReal.coe_mul]
  congr 1
  unfold gelu
  ring

/-- The gate's left half. -/
theorem v14_apply (H : Holds A x0 x1 x2 x3 x4 x5 x6) (i : S8192x1024.Idx) :
    val_main_v14 (F := Ideal) x0 i = ((A.U (i 0) (i 1) : ℝ) : EReal) := by
  rw [val_main_v14_apply, v13_apply H]
  rfl

/-- The gate's right half. -/
theorem v15_apply (H : Holds A x0 x1 x2 x3 x4 x5 x6) (i : S8192x1024.Idx) :
    val_main_v15 (F := Ideal) x0 i = ((A.V (i 0) (i 1) : ℝ) : EReal) := by
  rw [val_main_v15_apply, v13_apply H]
  rfl

/-- A row's mean. -/
theorem v19_apply (H : Holds A x0 x1 x2 x3 x4 x5 x6) (i : S8192x1.Idx) :
    val_main_v19 (F := Ideal) x0 i = ((A.mu (i 0) : ℝ) : EReal) := by
  simp only [val_main_v19_apply, val_main_v17_apply, val_main_v16_apply, val_main_cst_1_apply, val_main_v18_apply,
    val_main_cst_2_apply, Ideal.ofBits_def, ofBits_zero, zero_add, v15_apply H, coe_sum, ofBits_1024, Ideal.hostDivf_def, div_1024]
  rfl

/-- A row less its mean, as the variance takes it. -/
theorem v21_apply (H : Holds A x0 x1 x2 x3 x4 x5 x6) (i : S8192x1024.Idx) :
    val_main_v21 (F := Ideal) x0 i = ((A.cen (i 0) (i 1) : ℝ) : EReal) := by
  simp only [val_main_v21_apply, val_main_v20_apply, v15_apply H, v19_apply H, Ideal.subf_def, ← EReal.coe_sub]
  rfl

/-- A row less its mean, as the normalization takes it. -/
theorem v30_apply (H : Holds A x0 x1 x2 x3 x4 x5 x6) (i : S8192x1024.Idx) :
    val_main_v30 (F := Ideal) x0 i = ((A.cen (i 0) (i 1) : ℝ) : EReal) := by
  simp only [val_main_v30_apply, val_main_v29_apply, v15_apply H, v19_apply H, Ideal.subf_def, ← EReal.coe_sub]
  rfl

/-- A row's variance plus `eps`. -/
theorem v32_apply (H : Holds A x0 x1 x2 x3 x4 x5 x6) (i : S8192x1.Idx) :
    val_main_v32 (F := Ideal) x0 i = ((A.var (i 0) + eps : ℝ) : EReal) := by
  simp only [val_main_v32_apply, val_main_v28_apply, val_main_v26_apply, val_main_v25_apply, val_main_v22_apply,
    val_main_cst_4_apply, val_main_v27_apply, val_main_cst_5_apply, val_main_v31_apply, val_main_cst_6_apply, v21_apply H,
    Ideal.mulf_def, Ideal.addf_def, Ideal.hostDivf_def, Ideal.ofBits_def, ofBits_zero, zero_add, ← EReal.coe_mul, coe_sum,
    ofBits_1024, div_1024, ofBits_eps, ← EReal.coe_add]
  rfl

/-- The reciprocal standard deviation of a row. -/
theorem v33_apply (H : Holds A x0 x1 x2 x3 x4 x5 x6) (i : S8192x1.Idx) :
    val_main_v33 (F := Ideal) x0 i = ((A.rstd (i 0) : ℝ) : EReal) := by
  rw [val_main_v33_apply, v32_apply H]
  exact rsqrt_pos _ (A.var_eps_pos _)

/-- The derivative of the reciprocal root: `-½ (var + eps)^(-3/2)`. -/
theorem v36_apply (H : Holds A x0 x1 x2 x3 x4 x5 x6) (i : S8192x1.Idx) :
    val_main_v36 (F := Ideal) x0 i = ((-(1 / 2) * (A.rstd (i 0) * A.rstd (i 0) * A.rstd (i 0)) : ℝ) : EReal) := by
  have h := A.var_eps_pos (i 0)
  simp only [val_main_v36_apply, val_main_v35_apply, val_main_cst_7_apply, val_main_v34_apply, v33_apply H, v32_apply H,
    Ideal.hostDivf_def, Ideal.mulf_def, Ideal.ofBits_def, ofBits_neg_half, Ideal.div_coe h.ne', ← EReal.coe_mul]
  congr 2
  rw [mul_assoc, A.rstd_sq]

/-- The normalized row. -/
theorem v38_apply (H : Holds A x0 x1 x2 x3 x4 x5 x6) (i : S8192x1024.Idx) :
    val_main_v38 (F := Ideal) x0 i = ((A.norm (i 0) (i 1) : ℝ) : EReal) := by
  simp only [val_main_v38_apply, val_main_v37_apply, v30_apply H, v33_apply H, Ideal.mulf_def, ← EReal.coe_mul]
  rfl

/-- The layer norm's output. -/
theorem v42_apply (H : Holds A x0 x1 x2 x3 x4 x5 x6) (i : S8192x1024.Idx) :
    val_main_v42 (F := Ideal) x0 x3 x4 i = ((A.vb (i 0) (i 1) : ℝ) : EReal) := by
  simp only [val_main_v42_apply, val_main_v41_apply, val_main_v40_apply, val_main_v39_apply, v38_apply H, H.g, H.b,
    Ideal.mulf_def, Ideal.addf_def, ← EReal.coe_mul, ← EReal.coe_add]
  rfl

/-- The causal mask. -/
theorem v45_apply (i : S128x128.Idx) : val_main_v45 (F := Ideal) i = ((Args.mask (i 0) (i 1) : ℝ) : EReal) := by
  simp only [val_main_v45_apply, val_main_call0_v4_apply, val_main_call0_v2_apply, val_main_call0_v0_apply,
    val_main_call0_v1_apply, val_main_call0_c_apply, val_main_call0_v3_apply, val_main_call0_v5_apply, val_main_call0_cst_apply,
    val_main_v44_apply, val_main_cst_8_apply, Ideal.ofBits_def, ofBits_one, ofBits_zero]
  exact mask_select (i 0).isLt (i 1).isLt

/-- The mask, spread over the heads. -/
theorem v47_apply (i : S8x128x128.Idx) : val_main_v47 (F := Ideal) i = ((Args.mask (i 1) (i 2) : ℝ) : EReal) := by
  rw [val_main_v47_apply, val_main_v46_apply, v45_apply]

/-- The mask again, as the gradient takes it. -/
theorem v72_apply (i : S8x128x128.Idx) : val_main_v72 (F := Ideal) i = ((Args.mask (i 1) (i 2) : ℝ) : EReal) := by
  rw [val_main_v72_apply, val_main_v46_apply, v45_apply]

/-- The masked weights. -/
theorem v48_apply (H : Holds A x0 x1 x2 x3 x4 x5 x6) (i : S8x128x128.Idx) :
    val_main_v48 (F := Ideal) x5 i = ((A.wm (i 0) (i 1) (i 2) : ℝ) : EReal) := by
  rw [val_main_v48_apply, v47_apply, H.s, Ideal.mulf_def, ← EReal.coe_mul]
  rfl

/-- The layer norm's output by chunk, row, head and lane. -/
theorem v43_apply (H : Holds A x0 x1 x2 x3 x4 x5 x6) (i : S64x128x8x128.Idx) :
    val_main_v43 (F := Ideal) x0 x3 x4 i = ((A.vb (128 * (i 0 : ℕ) + (i 1 : ℕ)) (128 * (i 2 : ℕ) + (i 3 : ℕ)) : ℝ) : EReal) := by
  rw [val_main_v43_apply, v42_apply H]
  obtain ⟨h0, h1⟩ := chunk_index (i 0).val (i 1).val (i 2).isLt (i 3).isLt
  exact congrArg₂ (fun r c => ((A.vb r c : ℝ) : EReal)) h0 h1

/-- The spatial mixer's bias, spread over chunks and lanes. -/
theorem v53_apply (H : Holds A x0 x1 x2 x3 x4 x5 x6) (i : S64x128x8x128.Idx) :
    val_main_v53 (F := Ideal) x6 i = ((A.d (i 2) (i 1) : ℝ) : EReal) := by
  rw [val_main_v53_apply, val_main_v52_apply, val_main_v51_apply, val_main_v1_apply, H.d]
  refine congrArg₂ (fun r c => ((A.d r c : ℝ) : EReal)) ?_ ?_
  · have h : (i 1).val < 128 := (i 1).isLt
    show ((i 2).val * 128 + (i 1).val) / 128 = (i 2).val
    omega
  · have h : (i 1).val < 128 := (i 1).isLt
    show ((i 2).val * 128 + (i 1).val) / 1 % 128 = (i 1).val
    omega

/-- The spatial mixer's output by chunk, row, head and lane. -/
theorem v54_apply (H : Holds A x0 x1 x2 x3 x4 x5 x6) (i : S64x128x8x128.Idx) :
    val_main_v54 (F := Ideal) x0 x3 x4 x5 x6 i
      = ((∑ k : Fin 128, A.vb (128 * (i 0 : ℕ) + k) (128 * (i 2 : ℕ) + (i 3 : ℕ)) * A.wm (i 2) (i 1) k + A.d (i 2) (i 1) : ℝ) : EReal) := by
  simp only [val_main_v54_apply, val_main_v50_apply, val_main_v49_apply, v43_apply H, v48_apply H, v53_apply H, Ideal.addf_def,
    ← EReal.coe_mul, coe_sum, ← EReal.coe_add]

/-- The spatial mixer's output. -/
theorem v55_apply (H : Holds A x0 x1 x2 x3 x4 x5 x6) (i : S8192x1024.Idx) :
    val_main_v55 (F := Ideal) x0 x3 x4 x5 x6 i = ((A.vo (i 0) (i 1) : ℝ) : EReal) := by
  rw [val_main_v55_apply, v54_apply H]
  obtain ⟨h0, h1, h2, h3⟩ := flat_index (i 0).val (i 1).isLt
  exact A.mixed_eq h0 h1 h2 h3

end Cert.ReferenceIdeal.Vjp

end
-- ==== Proof.Finite.lean ====
/-
  The precondition: arrays whose elements are all finite are arrays of reals, read at natural indices.
-/
module

public import proofs.«01_k».proof.Proof.VjpForward
public import proofs.«01_k».proof.Pre_finite
public import Idealize.ShloMosaic.Lib.ValueIdx
public import Idealize.ShloMosaic.Lib.Pointwise

@[expose] public section

noncomputable section

open Idealize.ShloMosaic

namespace Cert.Sgu

/-- The facts the precondition's printed function states. -/
instance pre_facts : Cert.Pre_finite.Facts where
  bcast_S_S8192x2048 := ⟨fun a => a.elim0, fun a => a.elim0⟩
  bcast_S_S8192x1024 := ⟨fun a => a.elim0, fun a => a.elim0⟩
  bcast_S_S1024x1024 := ⟨fun a => a.elim0, fun a => a.elim0⟩
  bcast_S_S1x1024 := ⟨fun a => a.elim0, fun a => a.elim0⟩
  bcast_S_S8x128x128 := ⟨fun a => a.elim0, fun a => a.elim0⟩
  bcast_S_S8x128x1 := ⟨fun a => a.elim0, fun a => a.elim0⟩

/-- Infinity's single-precision word. -/
theorem ofBits_inf : Ideal.ofBits .f32 0x7F800000#32 = ⊤ := by
  simp [Ideal.ofBits, Ideal.ieee]

/-- Infinity's bfloat16 word. -/
theorem ofBits_inf_bf16 : Ideal.ofBits .bf16 0x7F80#16 = ⊤ := by
  simp [Ideal.ofBits, Ideal.ieee]

/-- The test `|x| < ∞` holds of finite values only. -/
theorem finite_of_test {x : EReal} (h : Ideal.cmp .olt (max x (-x)) ⊤ = 1#1) :
    ∃ r : ℝ, x = (r : EReal) := by
  have hlt : max x (-x) < ⊤ := by
    by_contra hn
    simp [Ideal.cmp, hn] at h
  obtain ⟨h1, h2⟩ := max_lt_iff.mp hlt
  induction x with
  | bot => simp at h2
  | coe r => exact ⟨r, rfl⟩
  | top => simp at h1

/-- An array that passes the test holds reals; `w` is infinity's word in its format. -/
theorem finite_of_pre {s : Shape} {φ : FTy} {x : FVec Ideal s φ} {w : BitVec φ.bits} (hw : Ideal.ofBits φ w = ⊤)
    {h : Cert.Pre_finite.S_.BroadcastsInDim s ![]}
    (hx : cmpf .olt (Host.absf x) (broadcastInDim s ![] h (constant Cert.Pre_finite.S_ φ w)) = fun _ => 1#1) (i : s.Idx) :
    ∃ r : ℝ, x i = (r : EReal) := by
  have e : Ideal.cmp .olt (max (x i) (-(x i))) (Ideal.ofBits φ w) = 1#1 := congrFun hx i
  rw [hw] at e
  exact finite_of_test e

/-- A two-axis array at natural indices, zero outside. -/
def nat2 {n0 n1 : ℕ} (x : (⟨2, ![n0, n1]⟩ : Shape).Idx → EReal) (r c : ℕ) : ℝ :=
  if h : r < n0 ∧ c < n1 then (x (ix2 ⟨r, h.1⟩ ⟨c, h.2⟩)).toReal else 0

/-- It holds the array's finite elements. -/
theorem nat2_apply {n0 n1 : ℕ} (x : (⟨2, ![n0, n1]⟩ : Shape).Idx → EReal) (i : (⟨2, ![n0, n1]⟩ : Shape).Idx)
    (h : ∃ r : ℝ, x i = (r : EReal)) : x i = ((nat2 x (i 0) (i 1) : ℝ) : EReal) := by
  obtain ⟨r, hr⟩ := h
  have h0 : (i 0 : ℕ) < n0 := (i 0).isLt
  have h1 : (i 1 : ℕ) < n1 := (i 1).isLt
  have e : (ix2 ⟨(i 0 : ℕ), h0⟩ ⟨(i 1 : ℕ), h1⟩ : (⟨2, ![n0, n1]⟩ : Shape).Idx) = i := (ValueIdx.eq_ix2 i).symm
  rw [nat2, dif_pos ⟨h0, h1⟩, e, hr, EReal.toReal_coe]

/-- A three-axis array at natural indices, zero outside. -/
def nat3 {n0 n1 n2 : ℕ} (x : (⟨3, ![n0, n1, n2]⟩ : Shape).Idx → EReal) (a r c : ℕ) : ℝ :=
  if h : a < n0 ∧ r < n1 ∧ c < n2 then (x (ix3 ⟨a, h.1⟩ ⟨r, h.2.1⟩ ⟨c, h.2.2⟩)).toReal else 0

/-- It holds the array's finite elements. -/
theorem nat3_apply {n0 n1 n2 : ℕ} (x : (⟨3, ![n0, n1, n2]⟩ : Shape).Idx → EReal) (i : (⟨3, ![n0, n1, n2]⟩ : Shape).Idx)
    (h : ∃ r : ℝ, x i = (r : EReal)) : x i = ((nat3 x (i 0) (i 1) (i 2) : ℝ) : EReal) := by
  obtain ⟨r, hr⟩ := h
  have h0 : (i 0 : ℕ) < n0 := (i 0).isLt
  have h1 : (i 1 : ℕ) < n1 := (i 1).isLt
  have h2 : (i 2 : ℕ) < n2 := (i 2).isLt
  have e : (ix3 ⟨(i 0 : ℕ), h0⟩ ⟨(i 1 : ℕ), h1⟩ ⟨(i 2 : ℕ), h2⟩ : (⟨3, ![n0, n1, n2]⟩ : Shape).Idx) = i := (ValueIdx.eq_ix3 i).symm
  rw [nat3, dif_pos ⟨h0, h1, h2⟩, e, hr, EReal.toReal_coe]

open Cert.ReferenceIdeal Cert.ReferenceIdeal.Vjp

/-- The seven arrays as reals. -/
def Args.ofArrays (x0 : FVec Ideal S8192x2048 .bf16) (x1 : FVec Ideal S8192x1024 .f32) (x2 : FVec Ideal S1024x1024 .bf16)
    (x3 x4 : FVec Ideal S1x1024 .f32) (x5 : FVec Ideal S8x128x128 .f32) (x6 : FVec Ideal S8x128x1 .f32) : Args where
  z := nat2 x0
  dy := nat2 x1
  w := nat2 x2
  g := nat2 x3 0
  b := nat2 x4 0
  s := nat3 x5
  d := fun h i => nat3 x6 h i 0

/-- Arrays that pass the precondition hold the reals of `Args.ofArrays`. -/
theorem holds_of_pre {x0 : FVec Ideal S8192x2048 .bf16} {x1 : FVec Ideal S8192x1024 .f32} {x2 : FVec Ideal S1024x1024 .bf16}
    {x3 x4 : FVec Ideal S1x1024 .f32} {x5 : FVec Ideal S8x128x128 .f32} {x6 : FVec Ideal S8x128x1 .f32}
    (h0 : (Cert.Pre_finite.fn (F := Ideal) x0 x1 x2 x3 x4 x5 x6).1 = fun _ => 1#1)
    (h1 : (Cert.Pre_finite.fn (F := Ideal) x0 x1 x2 x3 x4 x5 x6).2.1 = fun _ => 1#1)
    (h2 : (Cert.Pre_finite.fn (F := Ideal) x0 x1 x2 x3 x4 x5 x6).2.2.1 = fun _ => 1#1)
    (h3 : (Cert.Pre_finite.fn (F := Ideal) x0 x1 x2 x3 x4 x5 x6).2.2.2.1 = fun _ => 1#1)
    (h4 : (Cert.Pre_finite.fn (F := Ideal) x0 x1 x2 x3 x4 x5 x6).2.2.2.2.1 = fun _ => 1#1)
    (h5 : (Cert.Pre_finite.fn (F := Ideal) x0 x1 x2 x3 x4 x5 x6).2.2.2.2.2.1 = fun _ => 1#1)
    (h6 : (Cert.Pre_finite.fn (F := Ideal) x0 x1 x2 x3 x4 x5 x6).2.2.2.2.2.2 = fun _ => 1#1) :
    Holds (Args.ofArrays x0 x1 x2 x3 x4 x5 x6) x0 x1 x2 x3 x4 x5 x6 where
  z i := nat2_apply x0 i (finite_of_pre ofBits_inf_bf16 h0 i)
  dy i := nat2_apply x1 i (finite_of_pre ofBits_inf h1 i)
  w i := nat2_apply x2 i (finite_of_pre ofBits_inf_bf16 h2 i)
  g i := by
    refine (nat2_apply x3 i (finite_of_pre ofBits_inf h3 i)).trans ?_
    rw [show (i 0 : ℕ) = 0 by have : (i 0 : ℕ) < 1 := (i 0).isLt; omega]; rfl
  b i := by
    refine (nat2_apply x4 i (finite_of_pre ofBits_inf h4 i)).trans ?_
    rw [show (i 0 : ℕ) = 0 by have : (i 0 : ℕ) < 1 := (i 0).isLt; omega]; rfl
  s i := nat3_apply x5 i (finite_of_pre ofBits_inf h5 i)
  d i := by
    refine (nat3_apply x6 i (finite_of_pre ofBits_inf h6 i)).trans ?_
    rw [show (i 2 : ℕ) = 0 by have : (i 2 : ℕ) < 1 := (i 2).isLt; omega]; rfl

end Cert.Sgu

end
-- ==== Proof.FfnFinite.lean ====
/-
  The precondition of the second call: arrays whose elements are all finite hold the reals of a `Ffn.Args`.
-/
module

public import proofs.«01_k».proof.Proof.Finite
public import proofs.«01_k».proof.Proof.FfnVjp
public import proofs.«01_k».proof.Pre_finite2

@[expose] public section

noncomputable section

open Idealize.ShloMosaic Cert.Sgu

namespace Cert.Ffn

/-- The facts the precondition's printed function states. -/
instance pre_facts : Cert.Pre_finite2.Facts where
  bcast_S_S8192x1024 := ⟨fun a => a.elim0, fun a => a.elim0⟩
  bcast_S_S1x1024 := ⟨fun a => a.elim0, fun a => a.elim0⟩
  bcast_S_S1024x5632 := ⟨fun a => a.elim0, fun a => a.elim0⟩
  bcast_S_S2816x1024 := ⟨fun a => a.elim0, fun a => a.elim0⟩

open Cert.Reference2Ideal Cert.Reference2Ideal.Vjp

/-- The five arrays as reals. -/
def Args.ofArrays (x0 x1 : FVec Ideal S8192x1024 .f32) (x2 : FVec Ideal S1x1024 .f32) (x3 : FVec Ideal S1024x5632 .f32)
    (x4 : FVec Ideal S2816x1024 .f32) : Args where
  dy := nat2 x0
  x := nat2 x1
  g := nat2 x2 0
  w := nat2 x3
  o := nat2 x4

/-- Arrays that pass the precondition hold the reals of `Args.ofArrays`. -/
theorem holds_of_pre {x0 x1 : FVec Ideal S8192x1024 .f32} {x2 : FVec Ideal S1x1024 .f32} {x3 : FVec Ideal S1024x5632 .f32}
    {x4 : FVec Ideal S2816x1024 .f32}
    (h0 : (Cert.Pre_finite2.fn (F := Ideal) x0 x1 x2 x3 x4).1 = fun _ => 1#1)
    (h1 : (Cert.Pre_finite2.fn (F := Ideal) x0 x1 x2 x3 x4).2.1 = fun _ => 1#1)
    (h2 : (Cert.Pre_finite2.fn (F := Ideal) x0 x1 x2 x3 x4).2.2.1 = fun _ => 1#1)
    (h3 : (Cert.Pre_finite2.fn (F := Ideal) x0 x1 x2 x3 x4).2.2.2.1 = fun _ => 1#1)
    (h4 : (Cert.Pre_finite2.fn (F := Ideal) x0 x1 x2 x3 x4).2.2.2.2 = fun _ => 1#1) :
    Holds (Args.ofArrays x0 x1 x2 x3 x4) x0 x1 x2 x3 x4 where
  dy i := nat2_apply x0 i (finite_of_pre ofBits_inf h0 i)
  x i := nat2_apply x1 i (finite_of_pre ofBits_inf h1 i)
  g i := by
    refine (nat2_apply x2 i (finite_of_pre ofBits_inf h2 i)).trans ?_
    rw [show (i 0 : ℕ) = 0 by have : (i 0 : ℕ) < 1 := (i 0).isLt; omega]; rfl
  w i := nat2_apply x3 i (finite_of_pre ofBits_inf h3 i)
  o i := nat2_apply x4 i (finite_of_pre ofBits_inf h4 i)

end Cert.Ffn

end
-- ==== Proof.HeadSpec.lean ====
/-
  The second half-step feed-forward layer after the attention, with the loss head, over the reals. `Head` holds the eight
  arguments as functions of natural indices, each definition below is one line of the forward pass, the loss or its gradient.
  Proof/HeadArrays.lean shows that the kernel computes the results and Proof/HeadVjp.lean that the reference does.
-/
module

public import proofs.«01_k».proof.Proof.FfnSpec

@[expose] public section

noncomputable section

open Idealize.ShloMosaic Cert.Sgu

namespace Cert.Ffn

/-- The arguments at natural indices: the rows `x` before the attention, its heads `q` and its projection out `p`, the
    layer's gain `g` and projections `w` and `o`, the last norm's gain `f` and the target. -/
structure Head where
  x : ℕ → ℕ → ℝ
  q : ℕ → ℕ → ℝ
  p : ℕ → ℕ → ℝ
  g : ℕ → ℝ
  w : ℕ → ℕ → ℝ
  o : ℕ → ℕ → ℝ
  f : ℕ → ℝ
  target : ℕ → ℕ → ℝ

namespace Head

variable (A : Head)

/-- The arguments as grid point `t` sees them: rows counted from `256 t`. -/
def block (t : ℕ) : Head :=
  { A with
    x := fun r c => A.x (256 * t + r) c, q := fun r c => A.q (256 * t + r) c, target := fun r c => A.target (256 * t + r) c }

/-- The layer's input: the attention's output added. -/
def xin (t c : ℕ) : ℝ := A.x t c + ∑ k : Fin 1024, A.q t k * A.p k c

/-- The layer itself, of which the forward pass uses no incoming gradient. -/
def layer : Args := { dy := fun _ _ => 0, x := A.xin, g := A.g, w := A.w, o := A.o }

/-- The layer's output. -/
def out (t c : ℕ) : ℝ := A.xin t c + 1 / 2 * ∑ j : Fin 2816, A.layer.h t j * A.o j c

/-- The last norm, of the layer's output. -/
def last : Args := { dy := fun _ _ => 0, x := A.out, g := A.f, w := fun _ _ => 0, o := fun _ _ => 0 }

/-- The prediction's error. -/
def err (t c : ℕ) : ℝ := A.last.xn t c - A.target t c

/-- The loss of the first `n` rows. -/
def loss (n : ℕ) : ℝ := ∑ t ∈ Finset.range n, 1 / 2048 * ∑ c : Fin 1024, A.err t c * A.err t c

/-- The gradient of the prediction. -/
def dpred (t c : ℕ) : ℝ := A.err t c * (1 / 1024)

/-- The gradient of the last gain over the first `n` rows. -/
def dgain (n k : ℕ) : ℝ := ∑ t ∈ Finset.range n, A.dpred t k * A.last.y t k

/-- The gradient of the last normalized row. -/
def dyn (t k : ℕ) : ℝ := A.dpred t k * A.f k

/-- The gradient of the layer's output. -/
def dout (t k : ℕ) : ℝ := A.last.back (A.dyn t) t k

/-- One more block of rows. -/
theorem dgain_succ (n k : ℕ) : A.dgain (256 * (n + 1)) k = A.dgain (256 * n) k + (A.block n).dgain 256 k := by
  unfold dgain
  rw [Nat.mul_succ, Finset.sum_range_add]
  rfl

/-- One more block of rows. -/
theorem loss_succ (n : ℕ) : A.loss (256 * (n + 1)) = A.loss (256 * n) + (A.block n).loss 256 := by
  unfold loss
  rw [Nat.mul_succ, Finset.sum_range_add]
  rfl

end Head

end Cert.Ffn

end
-- ==== Proof.HeadLeaf.lean ====
/-
  What one grid point of the forward kernel computes from its blocks, at an index: its payloads are the real quantities of
  Proof/HeadSpec.lean at the block's own rows. The hidden layer is worked in two halves of 1408 columns; the kernel's text
  names the second half's payloads apart from the first's, and the lemmas of a half serve both, for they unfold to the same.
-/
module

public import proofs.«01_k».proof.Proof.HeadSpec
public import proofs.«01_k».proof.Proof.Gen.Kernel3Ideal.Frame
public import Idealize.ShloMosaic.Lib.Pointwise

@[expose] public section

set_option maxRecDepth 16384

noncomputable section

open Idealize.ShloMosaic Idealize.ShloMosaic.TcCoe Idealize.SL.Sem Cert.Sgu Cert.Ffn

namespace Cert.Kernel3Ideal.Block

open Cert.Kernel3Ideal Cert.Kernel3Ideal.Gen

/-- The six input blocks and the two weight arrays hold the reals of `A`. -/
structure Holds (A : Head) (x0 : Vec Ideal S256x1024 .f32) (x1 : Vec Ideal S1x1024 .f32) (x2 : Vec Ideal S256x1024 .bf16)
    (x3 : Vec Ideal S1024x1024 .bf16) (x4 : Vec Ideal S1x1024 .f32) (x5 : Vec Ideal S256x1024 .f32)
    (w : Vec Ideal S5632x1024 .bf16) (o : Vec Ideal S2816x1024 .bf16) : Prop where
  x : ∀ i, x0 i = ((A.x (i 0) (i 1) : ℝ) : EReal)
  g : ∀ i, x1 i = ((A.g (i 1) : ℝ) : EReal)
  q : ∀ i, x2 i = ((A.q (i 0) (i 1) : ℝ) : EReal)
  p : ∀ i, x3 i = ((A.p (i 0) (i 1) : ℝ) : EReal)
  f : ∀ i, x4 i = ((A.f (i 1) : ℝ) : EReal)
  target : ∀ i, x5 i = ((A.target (i 0) (i 1) : ℝ) : EReal)
  w : ∀ i, w i = ((A.w (i 1) (i 0) : ℝ) : EReal)
  o : ∀ i, o i = ((A.o (i 0) (i 1) : ℝ) : EReal)

variable {A : Head} {x0 : Vec Ideal S256x1024 .f32} {x1 : Vec Ideal S1x1024 .f32} {x2 : Vec Ideal S256x1024 .bf16}
  {x3 : Vec Ideal S1024x1024 .bf16} {x4 : Vec Ideal S1x1024 .f32} {x5 : Vec Ideal S256x1024 .f32}
  {w : Vec Ideal S5632x1024 .bf16} {o : Vec Ideal S2816x1024 .bf16}

/-- The layer's input. -/
theorem xin_apply (H : Holds A x0 x1 x2 x3 x4 x5 w o) (i : S256x1024.Idx) :
    k0_pay4 x0 x2 x3 i = ((A.xin (i 0) (i 1) : ℝ) : EReal) := by
  pointwise [k0_pay4]
  simp only [H.x, H.q, H.p, ← EReal.coe_mul, coe_sum, ← EReal.coe_add]
  rfl

/-- The layer's normalized input. -/
theorem xn_apply (H : Holds A x0 x1 x2 x3 x4 x5 w o) (i : S256x1024.Idx) :
    k0_pay5 x0 x2 x3 x1 i = ((A.layer.xn (i 0) (i 1) : ℝ) : EReal) := by
  have r (t : ℕ) := rsqrt_pos _ (A.layer.ms_eps_pos t)
  pointwise [k0_pay5]
  simp only [xin_apply H, H.g, ← EReal.coe_mul, coe_sum, ofBits_1024, ofBits_eps, div_1024, ← EReal.coe_add]
  erw [r (i 0)]
  simp only [← EReal.coe_mul]
  rfl

/-- The hidden layer's columns that the rows `v` of the projection give. -/
theorem gu_apply (H : Holds A x0 x1 x2 x3 x4 x5 w o) {v : Vec Ideal S1408x1024 .bf16} {q : ℕ}
    (hv : ∀ i, v i = ((A.w (i 1) (q + i 0) : ℝ) : EReal)) (i : S256x1408.Idx) :
    k0_pay6 x0 x2 x3 x1 v i = ((A.layer.gu (i 0) (q + i 1) : ℝ) : EReal) := by
  pointwise [k0_pay6]
  simp only [xn_apply H, hv, ← EReal.coe_mul, coe_sum]
  rfl

/-- The gated hidden layer's columns, from the gate's rows and the other factor's. -/
theorem h_apply (H : Holds A x0 x1 x2 x3 x4 x5 w o) {v u : Vec Ideal S1408x1024 .bf16} {q p : ℕ}
    (hv : ∀ i, v i = ((A.w (i 1) (q + i 0) : ℝ) : EReal)) (hu : ∀ i, u i = ((A.w (i 1) (p + i 0) : ℝ) : EReal))
    (e : p = 2816 + q) (i : S256x1408.Idx) :
    k0_pay10 (k0_pay6 x0 x2 x3 x1 v) (k0_pay7 x0 x2 x3 x1 u) i = ((A.layer.h (i 0) (q + i 1) : ℝ) : EReal) := by
  have hu' : k0_pay7 x0 x2 x3 x1 u i = ((A.layer.gu (i 0) (2816 + (q + i 1)) : ℝ) : EReal) :=
    (gu_apply H hu i).trans (by rw [e, Nat.add_assoc])
  pointwise [k0_pay10]
  rw [gu_apply H hv, hu', ofBits_half, ← EReal.coe_mul, Ideal.tanh_coe, ← EReal.coe_mul, ← EReal.coe_add, logistic_tanh,
    ← EReal.coe_mul, ← EReal.coe_mul]
  rfl

variable {h : Vec Ideal S256x2816 .bf16}

/-- The layer's output, from the gated hidden layer. -/
theorem out_apply (H : Holds A x0 x1 x2 x3 x4 x5 w o) (hh : ∀ i, h i = ((A.layer.h (i 0) (i 1) : ℝ) : EReal))
    (i : S256x1024.Idx) : k0_pay17 (k0_pay4 x0 x2 x3) h o i = ((A.out (i 0) (i 1) : ℝ) : EReal) := by
  pointwise [k0_pay17]
  simp only [xin_apply H, hh, H.o, ofBits_half, ← EReal.coe_mul, coe_sum, ← EReal.coe_add]
  rfl

/-- The reciprocal root mean square of the output's row. -/
theorem rms_apply (H : Holds A x0 x1 x2 x3 x4 x5 w o) (hh : ∀ i, h i = ((A.layer.h (i 0) (i 1) : ℝ) : EReal))
    (i : S256x1.Idx) : k0_pay20 (k0_pay4 x0 x2 x3) h o i = ((A.last.rms (i 0) : ℝ) : EReal) := by
  pointwise [k0_pay20]
  simp only [out_apply H hh, ← EReal.coe_mul, coe_sum, ofBits_1024, ofBits_eps, div_1024, ← EReal.coe_add]
  exact rsqrt_pos _ (A.last.ms_eps_pos _)

/-- The output's normalized row. -/
theorem y_apply (H : Holds A x0 x1 x2 x3 x4 x5 w o) (hh : ∀ i, h i = ((A.layer.h (i 0) (i 1) : ℝ) : EReal))
    (i : S256x1024.Idx) : k0_pay21 (k0_pay4 x0 x2 x3) h o i = ((A.last.y (i 0) (i 1) : ℝ) : EReal) := by
  pointwise [k0_pay21]
  rw [rms_apply H hh, out_apply H hh, ← EReal.coe_mul]
  rfl

/-- The prediction's error. -/
theorem err_apply (H : Holds A x0 x1 x2 x3 x4 x5 w o) (hh : ∀ i, h i = ((A.layer.h (i 0) (i 1) : ℝ) : EReal))
    (i : S256x1024.Idx) : k0_pay22 (k0_pay4 x0 x2 x3) h o x4 x5 i = ((A.err (i 0) (i 1) : ℝ) : EReal) := by
  pointwise [k0_pay22]
  rw [y_apply H hh, H.f, H.target, ← EReal.coe_mul, ← EReal.coe_sub]
  rfl

/-- The loss: the sum so far plus this block's rows. -/
theorem loss_apply (H : Holds A x0 x1 x2 x3 x4 x5 w o) (hh : ∀ i, h i = ((A.layer.h (i 0) (i 1) : ℝ) : EReal))
    {acc : Vec Ideal S1x1 .f32} {R : ℝ} (hR : ∀ i, acc i = ((R : ℝ) : EReal)) (i : S1x1.Idx) :
    k0_pay23 (k0_pay4 x0 x2 x3) h o x4 x5 acc i = ((R + A.loss 256 : ℝ) : EReal) := by
  pointwise [k0_pay23]
  simp only [err_apply H hh, hR, ofBits_inv_2048, ← EReal.coe_mul, coe_sum, ← EReal.coe_add]
  rw [Head.loss, Finset.sum_range, Finset.mul_sum]
  rfl

/-- The gradient of the prediction. -/
theorem dpred_apply (H : Holds A x0 x1 x2 x3 x4 x5 w o) (hh : ∀ i, h i = ((A.layer.h (i 0) (i 1) : ℝ) : EReal))
    (i : S256x1024.Idx) : k0_pay1 (k0_pay22 (k0_pay4 x0 x2 x3) h o x4 x5) i = ((A.dpred (i 0) (i 1) : ℝ) : EReal) := by
  pointwise [k0_pay1]
  rw [err_apply H hh, ofBits_inv_1024, ← EReal.coe_mul]
  rfl

/-- The gradient of the last gain: the sum so far plus this block's rows. -/
theorem dgain_apply (H : Holds A x0 x1 x2 x3 x4 x5 w o) (hh : ∀ i, h i = ((A.layer.h (i 0) (i 1) : ℝ) : EReal))
    {acc : Vec Ideal S1x1024 .f32} {R : ℕ → ℝ} (hR : ∀ i, acc i = ((R (i 1) : ℝ) : EReal)) (i : S1x1024.Idx) :
    k0_pay2 (k0_pay21 (k0_pay4 x0 x2 x3) h o) (k0_pay22 (k0_pay4 x0 x2 x3) h o x4 x5) acc i
      = ((R (i 1) + A.dgain 256 (i 1) : ℝ) : EReal) := by
  pointwise [k0_pay2]
  simp only [dpred_apply H hh, y_apply H hh, hR, ← EReal.coe_mul, coe_sum, ← EReal.coe_add]
  rw [Head.dgain, Finset.sum_range]
  rfl

/-- The gradient of the layer's output. -/
theorem dout_apply (H : Holds A x0 x1 x2 x3 x4 x5 w o) (hh : ∀ i, h i = ((A.layer.h (i 0) (i 1) : ℝ) : EReal))
    (i : S256x1024.Idx) :
    k0_pay3 (k0_pay20 (k0_pay4 x0 x2 x3) h o) (k0_pay21 (k0_pay4 x0 x2 x3) h o) (k0_pay22 (k0_pay4 x0 x2 x3) h o x4 x5) x4 i
      = ((A.dout (i 0) (i 1) : ℝ) : EReal) := by
  pointwise [k0_pay3]
  simp only [dpred_apply H hh, y_apply H hh, rms_apply H hh, H.f, ← EReal.coe_mul, coe_sum, ofBits_1024, div_1024, ← EReal.coe_sub]
  rfl

end Cert.Kernel3Ideal.Block

end
-- ==== Proof.HeadPoint.lean ====
/-
  What a grid point of the forward kernel leaves: its blocks of the results, and the loss and the last gain's gradient summed so
  far. The first point copies the weights into the kernel's own memory and starts the sums at zero; the later ones find
  them there. Either way the point computes the same from the weights `w` and `o` it finds, so each result is proved once.
-/
module

public import proofs.«01_k».proof.Proof.HeadLeaf
public import proofs.«01_k».proof.Proof.Stores

@[expose] public section

set_option maxRecDepth 16384

noncomputable section

open Idealize.ShloMosaic Idealize.ShloMosaic.TcCoe Idealize.SL.Sem Cert.Sgu Cert.Ffn Cert.Stores

namespace Cert.Kernel3Ideal.Block

open Cert.Kernel3Ideal Cert.Kernel3Ideal.Gen

variable {A : Head} {x0 : Vec Ideal S256x1024 .f32} {x1 : Vec Ideal S1x1024 .f32} {x2 : Vec Ideal S256x1024 .bf16}
  {x3 : Vec Ideal S1024x1024 .bf16} {x4 : Vec Ideal S1x1024 .f32} {x5 : Vec Ideal S256x1024 .f32}
  {w : Vec Ideal S5632x1024 .bf16} {o : Vec Ideal S2816x1024 .bf16}

/-- The rows of the projection from `q` on, as the kernel loads them. -/
theorem rows_of (H : Holds A x0 x1 x2 x3 x4 x5 w o) (q : ℕ)
    (b : ∀ a, (![q, 0] : Fin 2 → ℕ) a + (![1408, 1024] : Fin 2 → ℕ) a ≤ S5632x1024.size a) (i : S1408x1024.Idx) :
    View.ld w (Rect.unit (s := S5632x1024) ![q, 0] ![1408, 1024] b) i = ((A.w (i 1) (q + i 0) : ℝ) : EReal) :=
  (ld_apply w b (X := fun r k => ((A.w k r : ℝ) : EReal)) H.w i).trans (by rw [zero_add])

/-- The four stores of the hidden layer leave it. -/
theorem gu_stores (H : Holds A x0 x1 x2 x3 x4 x5 w o) (i : S256x5632.Idx) :
    View.canon [(⟨Rect.unit ![0, 4224] ![256, 1408] inb_S256x5632_S256x1408_0_4224,
        k0_pay14 (k0_pay5 x0 x2 x3 x1) (View.ld w (Rect.unit ![4224, 0] ![1408, 1024] inb_S5632x1024_S1408x1024_4224_0))⟩
          : View.Piece (Elt Ideal) S256x5632 .bf16),
      ⟨Rect.unit ![0, 1408] ![256, 1408] inb_S256x5632_S256x1408_0_1408,
        k0_pay13 (k0_pay5 x0 x2 x3 x1) (View.ld w (Rect.unit ![1408, 0] ![1408, 1024] inb_S5632x1024_S1408x1024_1408_0))⟩,
      ⟨Rect.unit ![0, 2816] ![256, 1408] inb_S256x5632_S256x1408_0_2816,
        k0_pay9 (k0_pay7 x0 x2 x3 x1 (View.ld w (Rect.unit ![2816, 0] ![1408, 1024] inb_S5632x1024_S1408x1024_2816_0)))⟩,
      ⟨Rect.unit ![0, 0] ![256, 1408] inb_S256x5632_S256x1408_0_0,
        k0_pay8 x0 x2 x3 x1 (View.ld w (Rect.unit ![0, 0] ![1408, 1024] inb_S5632x1024_S1408x1024_0_0))⟩] i
      = ((A.layer.gu (i 0) (i 1) : ℝ) : EReal) := by
  canon_tiles x h
  · exact (gu_apply H (rows_of H 4224 _) x).trans (by rw [h0, h1])
  · exact (gu_apply H (rows_of H 1408 _) x).trans (by rw [h0, h1])
  · exact (gu_apply H (rows_of H 2816 _) x).trans (by rw [h0, h1])
  · exact (gu_apply H (rows_of H 0 _) x).trans (by rw [h0, h1, zero_add])

/-- The two stores of the gated hidden layer. -/
abbrev hStores (x0 : Vec Ideal S256x1024 .f32) (x1 : Vec Ideal S1x1024 .f32) (x2 : Vec Ideal S256x1024 .bf16)
    (x3 : Vec Ideal S1024x1024 .bf16) (w : Vec Ideal S5632x1024 .bf16) : List (View.Piece (Elt Ideal) S256x2816 .bf16) :=
  [⟨Rect.unit ![0, 1408] ![256, 1408] inb_S256x2816_S256x1408_0_1408,
      k0_pay16 (k0_pay15 (k0_pay5 x0 x2 x3 x1) (View.ld w (Rect.unit ![1408, 0] ![1408, 1024] inb_S5632x1024_S1408x1024_1408_0))
        (View.ld w (Rect.unit ![4224, 0] ![1408, 1024] inb_S5632x1024_S1408x1024_4224_0)))⟩,
    ⟨Rect.unit ![0, 0] ![256, 1408] inb_S256x2816_S256x1408_0_0,
      k0_pay10 (k0_pay6 x0 x2 x3 x1 (View.ld w (Rect.unit ![0, 0] ![1408, 1024] inb_S5632x1024_S1408x1024_0_0)))
        (k0_pay7 x0 x2 x3 x1 (View.ld w (Rect.unit ![2816, 0] ![1408, 1024] inb_S5632x1024_S1408x1024_2816_0)))⟩]

/-- They leave the gated hidden layer. -/
theorem h_stores (H : Holds A x0 x1 x2 x3 x4 x5 w o) (i : S256x2816.Idx) :
    View.canon (hStores x0 x1 x2 x3 w) i = ((A.layer.h (i 0) (i 1) : ℝ) : EReal) := by
  canon_tiles x h
  · exact (h_apply H (rows_of H 1408 _) (rows_of H 4224 _) rfl x).trans (by rw [h0, h1])
  · exact (h_apply H (rows_of H 0 _) (rows_of H 2816 _) rfl x).trans (by rw [h0, h1, zero_add])

/-- The sums that the first point starts from. -/
theorem no_loss (i : S1x1.Idx) : k0_pay18 (F := Ideal) i = ((0 : ℝ) : EReal) := by
  pointwise [k0_pay18]
  rfl

theorem no_gain (i : S1x1024.Idx) : k0_pay19 (F := Ideal) i = ((0 : ℝ) : EReal) := by
  pointwise [k0_pay19]
  rfl

variable (m : (ℓ : Loc nD τ sig) → Buf (Elt Ideal) ℓ)
variable {c : Dev nD} {t : Fin cfg0.N}

/-- The input blocks of point `t` and the weights it finds hold the reals of `A`. -/
abbrev HoldsAt (A : Head) (c : Dev nD) (t : Fin cfg0.N) (w : Vec Ideal S5632x1024 .bf16) (o : Vec Ideal S2816x1024 .bf16) : Prop :=
  Holds A (iblk m c 0 t) (iblk m c 1 t) (iblk m c 2 t) (iblk m c 3 t) (iblk m c 4 t) (iblk m c 5 t) w o

/-- What a point leaves: the blocks of its rows, the loss `L` and the gain's gradient `R` plus theirs, and the weights as
    found. -/
structure Leaves (A : Head) (L : ℝ) (R : ℕ → ℝ) (w : Vec Ideal S5632x1024 .bf16) (o : Vec Ideal S2816x1024 .bf16)
    (u : Vec Ideal S256x1024 .f32 × Vec Ideal S1x1 .f32 × Vec Ideal S256x1024 .f32 × Vec Ideal S1x1024 .f32
      × Vec Ideal S256x1024 .bf16 × Vec Ideal S256x5632 .bf16 × Vec Ideal S5632x1024 .bf16 × Vec Ideal S2816x1024 .bf16) : Prop where
  xin : ∀ i, u.1 i = ((A.xin (i 0) (i 1) : ℝ) : EReal)
  loss : ∀ i, u.2.1 i = ((L + A.loss 256 : ℝ) : EReal)
  dout : ∀ i, u.2.2.1 i = ((A.dout (i 0) (i 1) : ℝ) : EReal)
  dgain : ∀ i, u.2.2.2.1 i = ((R (i 1) + A.dgain 256 (i 1) : ℝ) : EReal)
  xn : ∀ i, u.2.2.2.2.1 i = ((A.layer.xn (i 0) (i 1) : ℝ) : EReal)
  gu : ∀ i, u.2.2.2.2.2.1 i = ((A.layer.gu (i 0) (i 1) : ℝ) : EReal)
  w : u.2.2.2.2.2.2.1 = w
  o : u.2.2.2.2.2.2.2 = o

set_option maxHeartbeats 1000000 in
/-- The first point. -/
theorem leaves_A (H : HoldsAt m A c t (V m c main_v1) (V m c main_v2)) (h0 : t.val % 32 = 0) :
    Leaves A 0 (fun _ => 0) (V m c main_v1) (V m c main_v2) (outsAt0 m c t.val t.isLt) := by
  rw [outsAt0_A m c t h0 h0]
  revert H
  generalize V m c main_v1 = w
  generalize V m c main_v2 = o
  intro H
  constructor
  case w | o => exact funext fun i => by dsimp only; frame_open; frame_out; exact congrFun (canon_whole _) i
  all_goals
    intro i
    dsimp only
    frame_open
    simp (disch := decide) only [↓ View.readCov_skip, ↓ View.readCov_cons_toLoadRect, ↓ View.readCov_fill]
    frame_out
    try simp only [readCov_all, readCov_whole, canon_whole]
  · exact xin_apply H i
  · exact loss_apply H (h_stores H) no_loss i
  · exact dout_apply H (h_stores H) i
  · exact dgain_apply H (h_stores H) (R := fun _ => 0) no_gain i
  · exact xn_apply H i
  · exact gu_stores H i

set_option maxHeartbeats 1000000 in
/-- A later point, from what the point before it left. -/
theorem leaves_B {w : Vec Ideal S5632x1024 .bf16} {o : Vec Ideal S2816x1024 .bf16} (H : HoldsAt m A c t w o) (h0 : ¬t.val % 32 = 0)
    {L : ℝ} {R : ℕ → ℝ}
    (hL : ∀ i, (outsAt0 m c (t.val - 1) (Nat.lt_of_le_of_lt (Nat.sub_le _ _) t.isLt)).2.1 i = ((L : ℝ) : EReal))
    (hR : ∀ i, (outsAt0 m c (t.val - 1) (Nat.lt_of_le_of_lt (Nat.sub_le _ _) t.isLt)).2.2.2.1 i = ((R (i 1) : ℝ) : EReal))
    (hw : (outsAt0 m c (t.val - 1) (Nat.lt_of_le_of_lt (Nat.sub_le _ _) t.isLt)).2.2.2.2.2.2.1 = w)
    (ho : (outsAt0 m c (t.val - 1) (Nat.lt_of_le_of_lt (Nat.sub_le _ _) t.isLt)).2.2.2.2.2.2.2 = o) :
    Leaves A L R w o (outsAt0 m c t.val t.isLt) := by
  rw [outsAt0_B m c t h0 h0]
  revert hL hR hw ho
  generalize (outsAt0 m c (t.val - 1) (Nat.lt_of_le_of_lt (Nat.sub_le _ _) t.isLt)) = acc
  intro hL hR hw ho
  subst hw ho
  constructor
  case w | o => rfl
  all_goals
    intro i
    dsimp only
    frame_open
    simp (disch := decide) only [↓ View.readCov_skip, ↓ View.readCov_cons_toLoadRect, ↓ View.readCov_fill]
    frame_out
    try simp only [readCov_all, read_unread_whole]
  · exact xin_apply H i
  · exact loss_apply H (h_stores H) hL i
  · exact dout_apply H (h_stores H) i
  · exact dgain_apply H (h_stores H) hR i
  · exact xn_apply H i
  · exact gu_stores H i

end Cert.Kernel3Ideal.Block

end
-- ==== Proof.HeadVjp.lean ====
/-
  The forward reference with its loss head at an index: each printed operation is the real quantity of Proof/HeadSpec.lean, at
  whole-array rows.
-/
module

public import proofs.«01_k».proof.Proof.HeadSpec
public import proofs.«01_k».proof.Proof.Gen.Reference3Ideal.Read
public import Idealize.ShloMosaic.Lib.Pointwise

@[expose] public section

set_option maxRecDepth 16384

noncomputable section

open Idealize.ShloMosaic Idealize.ShloMosaic.TcCoe Idealize.SL.Sem Cert.Sgu Cert.Ffn

namespace Cert.Reference3Ideal.Vjp

open Cert.Reference3Ideal Cert.Reference3Ideal.Gen Cert.Reference3Ideal.Read

/-- The eight arguments hold the reals of `A`. -/
structure Holds (A : Head) (x0 : Vec Ideal S8192x1024 .f32) (x1 : Vec Ideal S8192x1024 .bf16) (x2 : Vec Ideal S1024x1024 .f32)
    (x3 : Vec Ideal S1x1024 .f32) (x4 : Vec Ideal S1024x5632 .f32) (x5 : Vec Ideal S2816x1024 .f32)
    (x6 : Vec Ideal S1x1024 .f32) (x7 : Vec Ideal S8192x1024 .f32) : Prop where
  x : ∀ i, x0 i = ((A.x (i 0) (i 1) : ℝ) : EReal)
  q : ∀ i, x1 i = ((A.q (i 0) (i 1) : ℝ) : EReal)
  p : ∀ i, x2 i = ((A.p (i 0) (i 1) : ℝ) : EReal)
  g : ∀ i, x3 i = ((A.g (i 1) : ℝ) : EReal)
  w : ∀ i, x4 i = ((A.w (i 0) (i 1) : ℝ) : EReal)
  o : ∀ i, x5 i = ((A.o (i 0) (i 1) : ℝ) : EReal)
  f : ∀ i, x6 i = ((A.f (i 1) : ℝ) : EReal)
  target : ∀ i, x7 i = ((A.target (i 0) (i 1) : ℝ) : EReal)

variable {A : Head} {x0 : Vec Ideal S8192x1024 .f32} {x1 : Vec Ideal S8192x1024 .bf16} {x2 : Vec Ideal S1024x1024 .f32}
  {x3 : Vec Ideal S1x1024 .f32} {x4 : Vec Ideal S1024x5632 .f32} {x5 : Vec Ideal S2816x1024 .f32}
  {x6 : Vec Ideal S1x1024 .f32} {x7 : Vec Ideal S8192x1024 .f32}

/-- Result 0, the layer's input. -/
theorem v2_apply (H : Holds A x0 x1 x2 x3 x4 x5 x6 x7) (i : S8192x1024.Idx) :
    val_main_v2 (F := Ideal) x0 x1 x2 i = ((A.xin (i 0) (i 1) : ℝ) : EReal) := by
  simp only [val_main_v2_apply, val_main_v1_apply, val_main_v0_apply, H.x, H.q, H.p, Ideal.extf_def, Ideal.addf_def,
    ← EReal.coe_mul, coe_sum, ← EReal.coe_add]
  rfl

/-- The reciprocal root mean square of the input's row. -/
theorem v10_apply (H : Holds A x0 x1 x2 x3 x4 x5 x6 x7) (i : S8192x1.Idx) :
    val_main_v10 (F := Ideal) x0 x1 x2 i = ((A.layer.rms (i 0) : ℝ) : EReal) := by
  simp only [val_main_v10_apply, val_main_v9_apply, val_main_v7_apply, val_main_v5_apply, val_main_v4_apply, val_main_v3_apply,
    val_main_cst_apply, val_main_v6_apply, val_main_cst_0_apply, val_main_v8_apply, val_main_cst_1_apply, v2_apply H,
    Ideal.mulf_def, Ideal.addf_def, Ideal.hostDivf_def, Ideal.ofBits_def, ofBits_zero, zero_add, ← EReal.coe_mul, coe_sum,
    ofBits_1024, div_1024, ofBits_eps, ← EReal.coe_add]
  exact rsqrt_pos _ (A.layer.ms_eps_pos _)

/-- The normalized input. -/
theorem v14_apply (H : Holds A x0 x1 x2 x3 x4 x5 x6 x7) (i : S8192x1024.Idx) :
    val_main_v14 (F := Ideal) x0 x1 x2 x3 i = ((A.layer.xn (i 0) (i 1) : ℝ) : EReal) := by
  simp only [val_main_v14_apply, val_main_v13_apply, val_main_v12_apply, val_main_v11_apply, v10_apply H, v2_apply H, H.g,
    Ideal.mulf_def, ← EReal.coe_mul]
  rfl

/-- Result 4, the normalized input, rounded. -/
theorem v74_apply (H : Holds A x0 x1 x2 x3 x4 x5 x6 x7) (i : S8192x1024.Idx) :
    val_main_v74 (F := Ideal) x0 x1 x2 x3 i = ((A.layer.xn (i 0) (i 1) : ℝ) : EReal) := by
  rw [val_main_v74_apply, v14_apply H]
  rfl

/-- The hidden layer. -/
theorem v15_apply (H : Holds A x0 x1 x2 x3 x4 x5 x6 x7) (i : S8192x5632.Idx) :
    val_main_v15 (F := Ideal) x0 x1 x2 x3 x4 i = ((A.layer.gu (i 0) (i 1) : ℝ) : EReal) := by
  simp only [val_main_v15_apply, v14_apply H, H.w, ← EReal.coe_mul, coe_sum]
  rfl

/-- Result 5, the hidden layer, rounded. -/
theorem v75_apply (H : Holds A x0 x1 x2 x3 x4 x5 x6 x7) (i : S8192x5632.Idx) :
    val_main_v75 (F := Ideal) x0 x1 x2 x3 x4 i = ((A.layer.gu (i 0) (i 1) : ℝ) : EReal) := by
  rw [val_main_v75_apply, v15_apply H]
  rfl

/-- The activated gate. -/
theorem v18_apply (H : Holds A x0 x1 x2 x3 x4 x5 x6 x7) (i : S8192x2816.Idx) :
    val_main_v18 (F := Ideal) x0 x1 x2 x3 x4 i = ((silu (A.layer.gu (i 0) (i 1)) : ℝ) : EReal) := by
  simp only [val_main_v18_apply, val_main_call0_v5_apply, val_main_call0_v4_apply, val_main_call0_cst_0_apply,
    val_main_call0_v3_apply, val_main_call0_v2_apply, val_main_call0_cst_apply, val_main_call0_v1_apply, val_main_call0_v0_apply,
    val_main_v16_apply, v15_apply H, Ideal.hostNegf_def, Ideal.negf_def, ← EReal.coe_neg, Ideal.hostUnary_exp_def, Ideal.exp_coe,
    Ideal.addf_def, Ideal.mulf_def, Ideal.ofBits_def, ofBits_one, ← EReal.coe_add, Ideal.hostDivf_def]
  rw [one_div_coe (by have := Real.exp_pos (-A.layer.gu (i 0) (i 1)); linarith), ← EReal.coe_mul]
  rfl

/-- The layer's output. -/
theorem v23_apply (H : Holds A x0 x1 x2 x3 x4 x5 x6 x7) (i : S8192x1024.Idx) :
    val_main_v23 (F := Ideal) x0 x1 x2 x3 x4 x5 i = ((A.out (i 0) (i 1) : ℝ) : EReal) := by
  simp only [val_main_v23_apply, val_main_v22_apply, val_main_v21_apply, val_main_cst_2_apply, val_main_v20_apply,
    val_main_v19_apply, val_main_v17_apply, v18_apply H, v15_apply H, v2_apply H, H.o, Ideal.mulf_def, Ideal.addf_def,
    Ideal.ofBits_def, ofBits_half, ← EReal.coe_mul, coe_sum, ← EReal.coe_add]
  rfl

/-- The output's mean square plus `eps`. -/
theorem v30_apply (H : Holds A x0 x1 x2 x3 x4 x5 x6 x7) (i : S8192x1.Idx) :
    val_main_v30 (F := Ideal) x0 x1 x2 x3 x4 x5 i = ((A.last.ms (i 0) + eps : ℝ) : EReal) := by
  simp only [val_main_v30_apply, val_main_v28_apply, val_main_v26_apply, val_main_v25_apply, val_main_v24_apply,
    val_main_cst_3_apply, val_main_v27_apply, val_main_cst_4_apply, val_main_v29_apply, val_main_cst_5_apply, v23_apply H,
    Ideal.mulf_def, Ideal.addf_def, Ideal.hostDivf_def, Ideal.ofBits_def, ofBits_zero, zero_add, ← EReal.coe_mul, coe_sum,
    ofBits_1024, div_1024, ofBits_eps, ← EReal.coe_add]
  rfl

/-- The reciprocal root mean square of the output's row. -/
theorem v31_apply (H : Holds A x0 x1 x2 x3 x4 x5 x6 x7) (i : S8192x1.Idx) :
    val_main_v31 (F := Ideal) x0 x1 x2 x3 x4 x5 i = ((A.last.rms (i 0) : ℝ) : EReal) := by
  rw [val_main_v31_apply, v30_apply H]
  exact rsqrt_pos _ (A.last.ms_eps_pos _)

/-- The derivative of the reciprocal root. -/
theorem v34_apply (H : Holds A x0 x1 x2 x3 x4 x5 x6 x7) (i : S8192x1.Idx) :
    val_main_v34 (F := Ideal) x0 x1 x2 x3 x4 x5 i
      = ((-(1 / 2) * (A.last.rms (i 0) * A.last.rms (i 0) * A.last.rms (i 0)) : ℝ) : EReal) := by
  have h := A.last.ms_eps_pos (i 0)
  simp only [val_main_v34_apply, val_main_v33_apply, val_main_cst_6_apply, val_main_v32_apply, v30_apply H, v31_apply H,
    Ideal.hostDivf_def, Ideal.mulf_def, Ideal.ofBits_def, ofBits_neg_half, Ideal.div_coe h.ne', ← EReal.coe_mul]
  congr 2
  rw [mul_assoc, A.last.rms_sq]

/-- The output's normalized row. -/
theorem v36_apply (H : Holds A x0 x1 x2 x3 x4 x5 x6 x7) (i : S8192x1024.Idx) :
    val_main_v36 (F := Ideal) x0 x1 x2 x3 x4 x5 i = ((A.last.y (i 0) (i 1) : ℝ) : EReal) := by
  simp only [val_main_v36_apply, val_main_v35_apply, v31_apply H, v23_apply H, Ideal.mulf_def, ← EReal.coe_mul]
  rfl

/-- The prediction's error. -/
theorem v39_apply (H : Holds A x0 x1 x2 x3 x4 x5 x6 x7) (i : S8192x1024.Idx) :
    val_main_v39 (F := Ideal) x0 x1 x2 x3 x4 x5 x6 x7 i = ((A.err (i 0) (i 1) : ℝ) : EReal) := by
  simp only [val_main_v39_apply, val_main_v38_apply, val_main_v37_apply, v36_apply H, H.f, H.target, Ideal.mulf_def,
    Ideal.subf_def, ← EReal.coe_mul, ← EReal.coe_sub]
  rfl

/-- A sum over an array of one axis. -/
theorem sum_rows (u : S8192.Idx → ℝ) (v : ℕ → ℝ) (e : ∀ j, u j = v (j 0)) : ∑ j, u j = ∑ t ∈ Finset.range 8192, v t := by
  rw [Finset.sum_range]
  exact Fintype.sum_equiv ⟨fun j => j 0, fun k _ => ⟨k.val, by rename_i a; exact match a with | ⟨0, _⟩ => k.isLt⟩,
    fun j => funext fun a => Fin.ext (match a with | ⟨0, _⟩ => rfl), fun _ => rfl⟩ _ _ e

/-- Result 1, the loss. -/
theorem v73_apply (H : Holds A x0 x1 x2 x3 x4 x5 x6 x7) (i : S1x1.Idx) :
    val_main_v73 (F := Ideal) x0 x1 x2 x3 x4 x5 x6 x7 i = ((A.loss 8192 : ℝ) : EReal) := by
  have e (j : S_.Idx) : val_main_v47 (F := Ideal) x0 x1 x2 x3 x4 x5 x6 x7 j = ((A.loss 8192 : ℝ) : EReal) := by
    simp only [val_main_v47_apply, val_main_cst_11_apply, val_main_v46_apply, val_main_cst_10_apply, val_main_v45_apply,
      val_main_v44_apply, val_main_cst_9_apply, val_main_v43_apply, val_main_cst_8_apply, val_main_v40_apply, v39_apply H,
      Ideal.mulf_def, Ideal.hostDivf_def, Ideal.ofBits_def, ofBits_zero, zero_add, ← EReal.coe_mul, coe_sum, ofBits_1024,
      div_1024, ofBits_half]
    rw [sum_rows _ (fun t => (∑ c : Fin 1024, A.err t c * A.err t c) / 1024) (fun _ => rfl), Head.loss, Finset.mul_sum]
    exact congrArg _ (Finset.sum_congr rfl fun t _ => by ring)
  exact e _

/-- The gradient of the prediction. -/
theorem v53_apply (H : Holds A x0 x1 x2 x3 x4 x5 x6 x7) (i : S8192x1024.Idx) :
    val_main_v53 (F := Ideal) x0 x1 x2 x3 x4 x5 x6 x7 i = ((A.dpred (i 0) (i 1) : ℝ) : EReal) := by
  simp only [val_main_v53_apply, val_main_v52_apply, val_main_v51_apply, val_main_v49_apply, val_main_v48_apply,
    val_main_cst_12_apply, val_main_cst_13_apply, val_main_v50_apply, val_main_cst_14_apply, val_main_v42_apply,
    val_main_v41_apply, val_main_cst_7_apply, v39_apply H, Ideal.mulf_def, Ideal.hostDivf_def, Ideal.ofBits_def, ofBits_half,
    ofBits_one, ofBits_two, ofBits_1024, ← EReal.coe_mul, div_1024]
  congr 1
  unfold Head.dpred
  ring

/-- Result 3, the gradient of the last gain. -/
theorem v56_apply (H : Holds A x0 x1 x2 x3 x4 x5 x6 x7) (i : S1x1024.Idx) :
    val_main_v56 (F := Ideal) x0 x1 x2 x3 x4 x5 x6 x7 i = ((A.dgain 8192 (i 1) : ℝ) : EReal) := by
  have h0 : (i 0 : ℕ) < 1 := (i 0).isLt
  simp only [val_main_v56_apply, val_main_v55_apply, val_main_cst_15_apply, val_main_v54_apply, v36_apply H, v53_apply H,
    Ideal.mulf_def, Ideal.ofBits_def, ofBits_zero, zero_add, ← EReal.coe_mul, coe_sum]
  rw [Head.dgain, Finset.sum_range]
  refine congrArg _ (Finset.sum_congr rfl fun k _ => ?_)
  show A.last.y k ((i 0 : ℕ) * 1024 + (i 1 : ℕ)) * A.dpred k ((i 0 : ℕ) * 1024 + (i 1 : ℕ)) = _
  rw [show (i 0 : ℕ) * 1024 + (i 1 : ℕ) = i 1 by omega, mul_comm]

/-- The gradient of the last normalized row. -/
theorem v58_apply (H : Holds A x0 x1 x2 x3 x4 x5 x6 x7) (i : S8192x1024.Idx) :
    val_main_v58 (F := Ideal) x0 x1 x2 x3 x4 x5 x6 x7 i = ((A.dyn (i 0) (i 1) : ℝ) : EReal) := by
  simp only [val_main_v58_apply, val_main_v57_apply, v53_apply H, H.f, Ideal.mulf_def, ← EReal.coe_mul]
  rfl

/-- The gradient of a row's mean square, over the 1024 columns. -/
theorem v66_apply (H : Holds A x0 x1 x2 x3 x4 x5 x6 x7) (i : S8192x1.Idx) :
    val_main_v66 (F := Ideal) x0 x1 x2 x3 x4 x5 x6 x7 i
      = (((∑ j : Fin 1024, A.last.x (i 0) j * A.dyn (i 0) j)
          * (-(1 / 2) * (A.last.rms (i 0) * A.last.rms (i 0) * A.last.rms (i 0))) / 1024 : ℝ) : EReal) := by
  have h1 : (i 1 : ℕ) < 1 := (i 1).isLt
  simp only [val_main_v66_apply, val_main_v65_apply, val_main_cst_17_apply, val_main_v64_apply, val_main_v61_apply,
    val_main_v60_apply, val_main_cst_16_apply, val_main_v59_apply, v58_apply H, v34_apply H, v23_apply H, Ideal.mulf_def,
    Ideal.hostDivf_def, Ideal.ofBits_def, ofBits_zero, zero_add, ← EReal.coe_mul, coe_sum, ofBits_1024, div_1024]
  refine congrArg _ (congrArg (· * _ / 1024) (Finset.sum_congr rfl fun k _ => ?_))
  show A.out ((i 0 : ℕ) * 1 + (i 1 : ℕ)) k * A.dyn ((i 0 : ℕ) * 1 + (i 1 : ℕ)) k = _
  rw [show (i 0 : ℕ) * 1 + (i 1 : ℕ) = i 0 by omega]
  rfl

/-- Result 2, the gradient of the layer's output. -/
theorem v72_apply (H : Holds A x0 x1 x2 x3 x4 x5 x6 x7) (i : S8192x1024.Idx) :
    val_main_v72 (F := Ideal) x0 x1 x2 x3 x4 x5 x6 x7 i = ((A.dout (i 0) (i 1) : ℝ) : EReal) := by
  simp only [val_main_v72_apply, val_main_v71_apply, val_main_v70_apply, val_main_v69_apply, val_main_v68_apply,
    val_main_v67_apply, val_main_cst_18_apply, val_main_v63_apply, val_main_v62_apply, v58_apply H, v31_apply H, v66_apply H,
    v23_apply H, Fin.sum_univ_one, Ideal.mulf_def, Ideal.addf_def, Ideal.ofBits_def, ofBits_zero, zero_add, ← EReal.coe_mul,
    ← EReal.coe_add]
  exact congrArg _ (A.last.back_vjp (A.dyn (i 0)) (i 0) (i 1))

end Cert.Reference3Ideal.Vjp

end
-- ==== Proof.HeadArrays.lean ====
/-
  From the grid points to the arrays: the host's lines before the kernel leave the weights rounded; each point's blocks are 256
  rows of the arguments; the loss and the last gain's gradient grow by one block of rows per point; and after the last point
  the result arrays hold the quantities of Proof/HeadSpec.lean over all 8192 rows.
-/
module

public import proofs.«01_k».proof.Proof.HeadPoint
public import proofs.«01_k».proof.Proof.HeadVjp
public import proofs.«01_k».proof.Proof.Gen.Kernel3Ideal.Value
public import Idealize.ShloMosaic.Lib.StableHlo.Run

@[expose] public section

set_option maxRecDepth 16384

noncomputable section

open Idealize.ShloMosaic Idealize.ShloMosaic.TcCoe Idealize.SL.Sem Cert.Sgu Cert.Ffn Cert.Stores

namespace Cert.Kernel3Ideal.Block

open Cert.Kernel3Ideal Cert.Kernel3Ideal.Gen Cert.Kernel3Ideal.Value

variable {m : (ℓ : Loc nD τ sig) → Buf (Elt Ideal) ℓ} {A : Head} {c : Dev nD}

/-- The argument arrays hold the reals of `A`. -/
abbrev Input (m : (ℓ : Loc nD τ sig) → Buf (Elt Ideal) ℓ) (A : Head) (c : Dev nD) : Prop :=
  Cert.Reference3Ideal.Vjp.Holds A (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The projection in, as the kernel is given it. -/
theorem V_main_v1 : (V m c main_v1 : FVec Ideal S5632x1024 .bf16)
    = truncf (F := Ideal) .bf16 (transpose S5632x1024 [1, 0] (m ((c : Thread nD τ).loc main_arg4)) transposes_S1024x5632_S5632x1024_1_0)
        bitsLt_bf16_f32 := by
  show StableHlo.after hostOps0 _ (Proc.devRef .tc main_v1) = _
  after_results

/-- The projection out, as the kernel is given it. -/
theorem V_main_v2 : (V m c main_v2 : FVec Ideal S2816x1024 .bf16)
    = truncf (F := Ideal) .bf16 (m ((c : Thread nD τ).loc main_arg5)) bitsLt_bf16_f32 := by
  show StableHlo.after hostOps0 _ (Proc.devRef .tc main_v2) = _
  after_results

/-- The attention's projection out, as the kernel is given it. -/
theorem V_main_v3 : (V m c main_v3 : FVec Ideal S1024x1024 .bf16)
    = truncf (F := Ideal) .bf16 (m ((c : Thread nD τ).loc main_arg2)) bitsLt_bf16_f32 := by
  show StableHlo.after hostOps0 _ (Proc.devRef .tc main_v3) = _
  after_results

/-- The kernel's weights hold the reals of `A`. -/
theorem w_apply (H : Input m A c) (i : S5632x1024.Idx) : V m c main_v1 i = ((A.w (i 1) (i 0) : ℝ) : EReal) := by
  rw [V_main_v1]
  pointwise []
  exact H.w _

theorem o_apply (H : Input m A c) (i : S2816x1024.Idx) : V m c main_v2 i = ((A.o (i 0) (i 1) : ℝ) : EReal) := by
  rw [V_main_v2]
  exact H.o i

theorem p_apply (H : Input m A c) (i : S1024x1024.Idx) : V m c main_v3 i = ((A.p (i 0) (i 1) : ℝ) : EReal) := by
  rw [V_main_v3]
  exact H.p i

/-- Which block of its array each window shows at point `t`: the `t`-th 256 rows, or all of it. -/
theorem index_at : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- The input blocks of point `t` hold the `t`-th rows of `A`. -/
theorem holdsAt (H : Input m A c) (t : Fin cfg0.N) : HoldsAt m (A.block t.val) c t (V m c main_v1) (V m c main_v2) := by
  obtain ⟨ix, ⟨-, ig⟩, iq, ⟨ip, ip'⟩, ⟨-, jf⟩, it, -⟩ := index_at t
  refine ⟨fun y => ?_, fun y => ?_, fun y => ?_, fun y => ?_, fun y => ?_, fun y => ?_, fun i => w_apply H i, fun i => o_apply H i⟩
  · show V m c main_arg0 (((cfg0.win 0).blk t).view.emb y) = _
    rw [V_main_arg0]
    exact (H.x _).trans (shown A.x 256 1024 ix (y 0) (y 1)).symm
  · show V m c main_arg3 (((cfg0.win 1).blk t).view.emb y) = _
    rw [V_main_arg3]
    refine (H.g _).trans ?_
    show ((A.g (win0_1.index t (1 : Fin 2) * 1024 + 1 * (y 1 : ℕ)) : ℝ) : EReal) = ((A.g (y 1) : ℝ) : EReal)
    rw [ig, zero_mul, zero_add, one_mul]
  · show V m c main_arg1 (((cfg0.win 2).blk t).view.emb y) = _
    rw [V_main_arg1]
    exact (H.q _).trans (shown A.q 256 1024 iq (y 0) (y 1)).symm
  · show V m c main_v3 (((cfg0.win 3).blk t).view.emb y) = _
    refine (p_apply H _).trans ?_
    show ((A.p (win0_3.index t (0 : Fin 2) * 1024 + 1 * (y 0 : ℕ)) (win0_3.index t (1 : Fin 2) * 1024 + 1 * (y 1 : ℕ)) : ℝ) : EReal)
      = ((A.p (y 0) (y 1) : ℝ) : EReal)
    rw [ip, ip', zero_mul, zero_add, zero_add, one_mul, one_mul]
  · show V m c main_arg6 (((cfg0.win 4).blk t).view.emb y) = _
    rw [V_main_arg6]
    refine (H.f _).trans ?_
    show ((A.f (win0_4.index t (1 : Fin 2) * 1024 + 1 * (y 1 : ℕ)) : ℝ) : EReal) = ((A.f (y 1) : ℝ) : EReal)
    rw [jf, zero_mul, zero_add, one_mul]
  · show V m c main_arg7 (((cfg0.win 5).blk t).view.emb y) = _
    rw [V_main_arg7]
    exact (H.target _).trans (shown A.target 256 1024 it (y 0) (y 1)).symm

/-- Every point leaves its rows' blocks, and the loss and the gain's gradient over all the rows so far. -/
theorem leaves (H : Input m A c) (n : ℕ) : ∀ h : n < cfg0.N,
    Leaves (A.block n) (A.loss (256 * n)) (A.dgain (256 * n)) (V m c main_v1) (V m c main_v2) (outsAt0 m c n h) := by
  induction n with
  | zero =>
    intro h
    have z : A.dgain (256 * 0) = fun _ => 0 := funext fun _ => by simp [Head.dgain]
    have z' : A.loss (256 * 0) = 0 := by simp [Head.loss]
    rw [z, z']
    have l := leaves_A m (holdsAt H ⟨0, h⟩) (Nat.zero_mod 32)
    generalize V m c main_v1 = w, V m c main_v2 = o at l ⊢
    exact l
  | succ n ih =>
    intro h
    have hN : n + 1 < 32 := lt_of_lt_of_eq h N_0
    have i1 := ih (Nat.lt_of_succ_lt h)
    have hh := holdsAt H ⟨n + 1, h⟩
    generalize V m c main_v1 = w, V m c main_v2 = o at i1 hh ⊢
    have l := leaves_B m (L := A.loss (256 * (n + 1))) (R := A.dgain (256 * (n + 1))) hh (by show ¬(n + 1) % 32 = 0; omega)
      (fun i => (i1.loss i).trans (by rw [Head.loss_succ])) (fun i => (i1.dgain i).trans (by rw [Head.dgain_succ])) i1.w i1.o
    exact l

/-- The point whose block holds row `r`. -/
def pointOf (r : Fin 8192) : Fin cfg0.N := ⟨r.val / 256, lt_of_lt_of_eq (by omega) N_0.symm⟩

/-- The result array of window 6, the layer's input. -/
theorem xin_array (H : Input m A c) :
    (dats m 0 c).arrAt 6 cfg0.N = fun i : S8192x1024.Idx => ((A.xin (i 0) (i 1) : ℝ) : EReal) := by
  refine (dats m 0 c).arrAt_eq_of_cover 6 _ (fun t _ => ?_) fun i => ⟨pointOf (i 0), flush0_6 _, ?_⟩
  · rw [flushed6]
    exact funext fun y => ((leaves H t.val t.isLt).xin ((cfg0.win 6).xinj (grid0.coords t) y)).trans
      (shown A.xin 256 1024 (index_at t).2.2.2.2.2.2.1 (y 0) (y 1))
  · show i ∈ ((View.whole main_v4_0).slice (win0_6.rect (pointOf (i 0)))).set
    rw [View.set_slice_whole, Rect.mem_set_unit]
    exact Fin.forall_fin_two.mpr
      (inside (b := 256) (n := 1024) (by decide) (index_at (pointOf (i 0))).2.2.2.2.2.2.1 (i 1).isLt)

/-- The result array of window 8, the gradient of the layer's output. -/
theorem dout_array (H : Input m A c) :
    (dats m 0 c).arrAt 8 cfg0.N = fun i : S8192x1024.Idx => ((A.dout (i 0) (i 1) : ℝ) : EReal) := by
  refine (dats m 0 c).arrAt_eq_of_cover 8 _ (fun t _ => ?_) fun i => ⟨pointOf (i 0), flush0_8 _, ?_⟩
  · rw [flushed8]
    exact funext fun y => ((leaves H t.val t.isLt).dout ((cfg0.win 8).xinj (grid0.coords t) y)).trans
      (shown A.dout 256 1024 (index_at t).2.2.2.2.2.2.2.2.1 (y 0) (y 1))
  · show i ∈ ((View.whole main_v4_2).slice (win0_8.rect (pointOf (i 0)))).set
    rw [View.set_slice_whole, Rect.mem_set_unit]
    exact Fin.forall_fin_two.mpr
      (inside (b := 256) (n := 1024) (by decide) (index_at (pointOf (i 0))).2.2.2.2.2.2.2.2.1 (i 1).isLt)

/-- The result array of window 10, the normalized input, rounded. -/
theorem xn_array (H : Input m A c) :
    (dats m 0 c).arrAt 10 cfg0.N = fun i : S8192x1024.Idx => ((A.layer.xn (i 0) (i 1) : ℝ) : EReal) := by
  refine (dats m 0 c).arrAt_eq_of_cover 10 _ (fun t _ => ?_) fun i => ⟨pointOf (i 0), flush0_10 _, ?_⟩
  · rw [flushed10]
    exact funext fun y => ((leaves H t.val t.isLt).xn ((cfg0.win 10).xinj (grid0.coords t) y)).trans
      (shown A.layer.xn 256 1024 (index_at t).2.2.2.2.2.2.2.2.2.2.1 (y 0) (y 1))
  · show i ∈ ((View.whole main_v4_4).slice (win0_10.rect (pointOf (i 0)))).set
    rw [View.set_slice_whole, Rect.mem_set_unit]
    exact Fin.forall_fin_two.mpr
      (inside (b := 256) (n := 1024) (by decide) (index_at (pointOf (i 0))).2.2.2.2.2.2.2.2.2.2.1 (i 1).isLt)

/-- The result array of window 11, the hidden layer, rounded. -/
theorem gu_array (H : Input m A c) :
    (dats m 0 c).arrAt 11 cfg0.N = fun i : S8192x5632.Idx => ((A.layer.gu (i 0) (i 1) : ℝ) : EReal) := by
  refine (dats m 0 c).arrAt_eq_of_cover 11 _ (fun t _ => ?_) fun i => ⟨pointOf (i 0), flush0_11 _, ?_⟩
  · rw [flushed11]
    exact funext fun y => ((leaves H t.val t.isLt).gu ((cfg0.win 11).xinj (grid0.coords t) y)).trans
      (shown A.layer.gu 256 5632 (index_at t).2.2.2.2.2.2.2.2.2.2.2 (y 0) (y 1))
  · show i ∈ ((View.whole main_v4_5).slice (win0_11.rect (pointOf (i 0)))).set
    rw [View.set_slice_whole, Rect.mem_set_unit]
    exact Fin.forall_fin_two.mpr
      (inside (b := 256) (n := 5632) (by decide) (index_at (pointOf (i 0))).2.2.2.2.2.2.2.2.2.2.2 (i 1).isLt)

/-- The result array of window 7, the loss: the last point writes it. -/
theorem loss_array (H : Input m A c) :
    (dats m 0 c).arrAt 7 cfg0.N = fun _ : S1x1.Idx => ((A.loss 8192 : ℝ) : EReal) := by
  refine (dats m 0 c).arrAt_eq_of_cover 7 _ (fun t hf => ?_) fun i => ⟨pointOf 8191, (flush0_7 _).mpr rfl, ?_⟩
  · have hN : t.val < 32 := lt_of_lt_of_eq t.isLt N_0
    have ht : t.val = 31 := by have := (flush0_7 t).mp hf; omega
    rw [flushed7]
    funext y
    refine ((leaves H t.val t.isLt).loss ((cfg0.win 7).xinj (grid0.coords t) y)).trans ?_
    rw [← Head.loss_succ, ht]
    rfl
  · show i ∈ ((View.whole main_v4_1).slice (win0_7.rect (pointOf 8191))).set
    rw [View.set_slice_whole, Rect.mem_set_unit]
    exact Fin.forall_fin_two.mpr (inside_row (n := 1) (index_at (pointOf 8191)).2.2.2.2.2.2.2.1 (i 0).isLt (i 1).isLt)

/-- The result array of window 9, the last gain's gradient: the last point writes it. -/
theorem dgain_array (H : Input m A c) :
    (dats m 0 c).arrAt 9 cfg0.N = fun i : S1x1024.Idx => ((A.dgain 8192 (i 1) : ℝ) : EReal) := by
  refine (dats m 0 c).arrAt_eq_of_cover 9 _ (fun t hf => ?_) fun i => ⟨pointOf 8191, (flush0_9 _).mpr rfl, ?_⟩
  · have hN : t.val < 32 := lt_of_lt_of_eq t.isLt N_0
    have ht : t.val = 31 := by have := (flush0_9 t).mp hf; omega
    rw [flushed9]
    funext y
    refine ((leaves H t.val t.isLt).dgain ((cfg0.win 9).xinj (grid0.coords t) y)).trans ?_
    show ((A.dgain (256 * t.val) (y 1 : ℕ) + (A.block t.val).dgain 256 (y 1 : ℕ) : ℝ) : EReal)
      = ((A.dgain 8192 (win0_9.index t (1 : Fin 2) * 1024 + 1 * (y 1 : ℕ)) : ℝ) : EReal)
    rw [(index_at t).2.2.2.2.2.2.2.2.2.1.2, zero_mul, zero_add, one_mul, ← Head.dgain_succ, ht]
  · show i ∈ ((View.whole main_v4_3).slice (win0_9.rect (pointOf 8191))).set
    rw [View.set_slice_whole, Rect.mem_set_unit]
    exact Fin.forall_fin_two.mpr
      (inside_row (n := 1024) (index_at (pointOf 8191)).2.2.2.2.2.2.2.2.2.1 (i 0).isLt (i 1).isLt)

end Cert.Kernel3Ideal.Block

end
-- ==== Proof.ProjSpec.lean ====
/-
  A projection after a norm, backwards, over the reals: `Proj` holds the five arguments as functions of natural indices, each
  definition below is one line of the backward pass. Proof/ProjArrays.lean shows that the kernel computes the results and
  Proof/ProjVjp.lean that the reference does.
-/
module

public import proofs.«01_k».proof.Proof.FfnSpec

@[expose] public section

noncomputable section

open Idealize.ShloMosaic Cert.Sgu

namespace Cert.Ffn

/-- The arguments at natural indices: the gradient `dz` of the projection's output and `dres` of the residual branch, the
    rows `x`, the norm's gain `g` and the projection `w` (1024 by 2048). -/
structure Proj where
  dz : ℕ → ℕ → ℝ
  dres : ℕ → ℕ → ℝ
  x : ℕ → ℕ → ℝ
  g : ℕ → ℝ
  w : ℕ → ℕ → ℝ

namespace Proj

variable (A : Proj)

/-- The arguments as grid point `t` sees them: rows counted from `512 t`. -/
def block (t : ℕ) : Proj :=
  { A with
    dz := fun r c => A.dz (512 * t + r) c, dres := fun r c => A.dres (512 * t + r) c, x := fun r c => A.x (512 * t + r) c }

/-- The norm. -/
def norm : Args := { dy := A.dres, x := A.x, g := A.g, w := fun _ _ => 0, o := fun _ _ => 0 }

/-- The gradient of the norm's output. -/
def dxn (t k : ℕ) : ℝ := ∑ j : Fin 2048, A.dz t j * A.w k j

/-- The gradient of the gain over the first `n` rows. -/
def dgam (n k : ℕ) : ℝ := ∑ t ∈ Finset.range n, A.dxn t k * A.norm.y t k

/-- The gradient of the normalized row. -/
def dyn (t k : ℕ) : ℝ := A.dxn t k * A.g k

/-- The gradient of the rows. -/
def dx (t k : ℕ) : ℝ := A.dres t k + A.norm.back (A.dyn t) t k

/-- One more block of rows. -/
theorem dgam_succ (n k : ℕ) : A.dgam (512 * (n + 1)) k = A.dgam (512 * n) k + (A.block n).dgam 512 k := by
  unfold dgam
  rw [Nat.mul_succ, Finset.sum_range_add]
  rfl

end Proj

end Cert.Ffn

end
-- ==== Proof.ProjVjp.lean ====
/-
  The projection's reference at an index: each printed operation of the backward pass is the real quantity of
  Proof/ProjSpec.lean, at whole-array rows.
-/
module

public import proofs.«01_k».proof.Proof.ProjSpec
public import proofs.«01_k».proof.Proof.Gen.Reference4Ideal.Read
public import Idealize.ShloMosaic.Lib.Pointwise

@[expose] public section

set_option maxRecDepth 16384

noncomputable section

open Idealize.ShloMosaic Idealize.ShloMosaic.TcCoe Idealize.SL.Sem Cert.Sgu Cert.Ffn

namespace Cert.Reference4Ideal.Vjp

open Cert.Reference4Ideal Cert.Reference4Ideal.Gen Cert.Reference4Ideal.Read

/-- The five arguments hold the reals of `A`. -/
structure Holds (A : Proj) (x0 : Vec Ideal S8192x2048 .bf16) (x1 x2 : Vec Ideal S8192x1024 .f32) (x3 : Vec Ideal S1x1024 .f32)
    (x4 : Vec Ideal S1024x2048 .f32) : Prop where
  dz : ∀ i, x0 i = ((A.dz (i 0) (i 1) : ℝ) : EReal)
  dres : ∀ i, x1 i = ((A.dres (i 0) (i 1) : ℝ) : EReal)
  x : ∀ i, x2 i = ((A.x (i 0) (i 1) : ℝ) : EReal)
  g : ∀ i, x3 i = ((A.g (i 1) : ℝ) : EReal)
  w : ∀ i, x4 i = ((A.w (i 0) (i 1) : ℝ) : EReal)

variable {A : Proj} {x0 : Vec Ideal S8192x2048 .bf16} {x1 x2 : Vec Ideal S8192x1024 .f32} {x3 : Vec Ideal S1x1024 .f32}
  {x4 : Vec Ideal S1024x2048 .f32}

/-- A row's mean square plus `eps`. -/
theorem v6_apply (H : Holds A x0 x1 x2 x3 x4) (i : S8192x1.Idx) :
    val_main_v6 (F := Ideal) x2 i = ((A.norm.ms (i 0) + eps : ℝ) : EReal) := by
  simp only [val_main_v6_apply, val_main_v4_apply, val_main_v2_apply, val_main_v1_apply, val_main_v0_apply, val_main_cst_apply,
    val_main_v3_apply, val_main_cst_0_apply, val_main_v5_apply, val_main_cst_1_apply, H.x, Ideal.mulf_def, Ideal.addf_def,
    Ideal.hostDivf_def, Ideal.ofBits_def, ofBits_zero, zero_add, ← EReal.coe_mul, coe_sum, ofBits_1024, div_1024, ofBits_eps,
    ← EReal.coe_add]
  rfl

/-- The reciprocal root mean square of a row. -/
theorem v7_apply (H : Holds A x0 x1 x2 x3 x4) (i : S8192x1.Idx) :
    val_main_v7 (F := Ideal) x2 i = ((A.norm.rms (i 0) : ℝ) : EReal) := by
  rw [val_main_v7_apply, v6_apply H]
  exact rsqrt_pos _ (A.norm.ms_eps_pos _)

/-- The derivative of the reciprocal root. -/
theorem v10_apply (H : Holds A x0 x1 x2 x3 x4) (i : S8192x1.Idx) :
    val_main_v10 (F := Ideal) x2 i
      = ((-(1 / 2) * (A.norm.rms (i 0) * A.norm.rms (i 0) * A.norm.rms (i 0)) : ℝ) : EReal) := by
  have h := A.norm.ms_eps_pos (i 0)
  simp only [val_main_v10_apply, val_main_v9_apply, val_main_cst_2_apply, val_main_v8_apply, v6_apply H, v7_apply H,
    Ideal.hostDivf_def, Ideal.mulf_def, Ideal.ofBits_def, ofBits_neg_half, Ideal.div_coe h.ne', ← EReal.coe_mul]
  congr 2
  rw [mul_assoc, A.norm.rms_sq]

/-- The normalized row. -/
theorem v12_apply (H : Holds A x0 x1 x2 x3 x4) (i : S8192x1024.Idx) :
    val_main_v12 (F := Ideal) x2 i = ((A.norm.y (i 0) (i 1) : ℝ) : EReal) := by
  simp only [val_main_v12_apply, val_main_v11_apply, v7_apply H, H.x, Ideal.mulf_def, ← EReal.coe_mul]
  rfl

/-- The gradient of the norm's output. -/
theorem v17_apply (H : Holds A x0 x1 x2 x3 x4) (i : S8192x1024.Idx) :
    val_main_v17 (F := Ideal) x0 x4 i = ((A.dxn (i 0) (i 1) : ℝ) : EReal) := by
  simp only [val_main_v17_apply, val_main_v16_apply, H.dz, H.w, Ideal.extf_def, ← EReal.coe_mul, coe_sum]
  rfl

/-- Result 1, the gradient of the gain. -/
theorem v20_apply (H : Holds A x0 x1 x2 x3 x4) (i : S1x1024.Idx) :
    val_main_v20 (F := Ideal) x0 x2 x4 i = ((A.dgam 8192 (i 1) : ℝ) : EReal) := by
  have h0 : (i 0 : ℕ) < 1 := (i 0).isLt
  simp only [val_main_v20_apply, val_main_v19_apply, val_main_cst_3_apply, val_main_v18_apply, v12_apply H, v17_apply H,
    Ideal.mulf_def, Ideal.ofBits_def, ofBits_zero, zero_add, ← EReal.coe_mul, coe_sum]
  rw [Proj.dgam, Finset.sum_range]
  refine congrArg _ (Finset.sum_congr rfl fun k _ => ?_)
  show A.norm.y k ((i 0 : ℕ) * 1024 + (i 1 : ℕ)) * A.dxn k ((i 0 : ℕ) * 1024 + (i 1 : ℕ)) = _
  rw [show (i 0 : ℕ) * 1024 + (i 1 : ℕ) = i 1 by omega, mul_comm]

/-- The gradient of the normalized row. -/
theorem v22_apply (H : Holds A x0 x1 x2 x3 x4) (i : S8192x1024.Idx) :
    val_main_v22 (F := Ideal) x0 x3 x4 i = ((A.dyn (i 0) (i 1) : ℝ) : EReal) := by
  simp only [val_main_v22_apply, val_main_v21_apply, v17_apply H, H.g, Ideal.mulf_def, ← EReal.coe_mul]
  rfl

/-- The gradient of a row's mean square, over the 1024 columns. -/
theorem v31_apply (H : Holds A x0 x1 x2 x3 x4) (i : S8192x1.Idx) :
    val_main_v31 (F := Ideal) x0 x2 x3 x4 i
      = (((∑ j : Fin 1024, A.x (i 0) j * A.dyn (i 0) j)
          * (-(1 / 2) * (A.norm.rms (i 0) * A.norm.rms (i 0) * A.norm.rms (i 0))) / 1024 : ℝ) : EReal) := by
  have h1 : (i 1 : ℕ) < 1 := (i 1).isLt
  simp only [val_main_v31_apply, val_main_v30_apply, val_main_cst_5_apply, val_main_v29_apply, val_main_v25_apply,
    val_main_v24_apply, val_main_cst_4_apply, val_main_v23_apply, v22_apply H, v10_apply H, H.x, Ideal.mulf_def,
    Ideal.hostDivf_def, Ideal.ofBits_def, ofBits_zero, zero_add, ← EReal.coe_mul, coe_sum, ofBits_1024, div_1024]
  refine congrArg _ (congrArg (· * _ / 1024) (Finset.sum_congr rfl fun k _ => ?_))
  show A.x ((i 0 : ℕ) * 1 + (i 1 : ℕ)) k * A.dyn ((i 0 : ℕ) * 1 + (i 1 : ℕ)) k = _
  rw [show (i 0 : ℕ) * 1 + (i 1 : ℕ) = i 0 by omega]

/-- Result 0, the gradient of the rows. -/
theorem v37_apply (H : Holds A x0 x1 x2 x3 x4) (i : S8192x1024.Idx) :
    val_main_v37 (F := Ideal) x0 x1 x2 x3 x4 i = ((A.dx (i 0) (i 1) : ℝ) : EReal) := by
  simp only [val_main_v37_apply, val_main_v36_apply, val_main_v35_apply, val_main_v34_apply, val_main_v33_apply,
    val_main_v32_apply, val_main_cst_6_apply, val_main_v28_apply, val_main_v27_apply, val_main_v26_apply, v22_apply H, v7_apply H,
    v31_apply H, H.x, H.dres, Fin.sum_univ_one, Ideal.mulf_def, Ideal.addf_def, Ideal.ofBits_def, ofBits_zero, zero_add,
    ← EReal.coe_mul, ← EReal.coe_add]
  refine congrArg _ ?_
  rw [Proj.dx, ← A.norm.back_vjp (A.dyn (i 0)) (i 0) (i 1), ← add_assoc, ← add_assoc]
  rfl

end Cert.Reference4Ideal.Vjp

end
-- ==== Proof.HeadFinite.lean ====
/-
  The preconditions of the third and fourth calls: arrays whose elements are all finite hold the reals of a `Head`, or of a
  `Proj`.
-/
module

public import proofs.«01_k».proof.Proof.Finite
public import proofs.«01_k».proof.Proof.HeadVjp
public import proofs.«01_k».proof.Proof.ProjVjp
public import proofs.«01_k».proof.Pre_finite3
public import proofs.«01_k».proof.Pre_finite4

@[expose] public section

noncomputable section

open Idealize.ShloMosaic Cert.Sgu

namespace Cert.Ffn

/-- An array of one row, at any index of it. -/
theorem row_apply {n : ℕ} {x : FVec Ideal ⟨2, ![1, n]⟩ .f32} (h : ∀ i, ∃ r : ℝ, x i = (r : EReal)) (i : (⟨2, ![1, n]⟩ : Shape).Idx) :
    x i = ((nat2 x 0 (i 1) : ℝ) : EReal) := by
  refine (nat2_apply x i (h i)).trans ?_
  rw [show (i 0 : ℕ) = 0 by have : (i 0 : ℕ) < 1 := (i 0).isLt; omega]

namespace Head

/-- The facts the precondition's printed function states. -/
instance pre_facts : Cert.Pre_finite3.Facts where
  bcast_S_S8192x1024 := ⟨fun a => a.elim0, fun a => a.elim0⟩
  bcast_S_S1024x1024 := ⟨fun a => a.elim0, fun a => a.elim0⟩
  bcast_S_S1x1024 := ⟨fun a => a.elim0, fun a => a.elim0⟩
  bcast_S_S1024x5632 := ⟨fun a => a.elim0, fun a => a.elim0⟩
  bcast_S_S2816x1024 := ⟨fun a => a.elim0, fun a => a.elim0⟩

open Cert.Reference3Ideal Cert.Reference3Ideal.Vjp

/-- Arrays that pass the precondition hold the reals of some `Head`. -/
theorem holds_of_pre {x0 : FVec Ideal S8192x1024 .f32} {x1 : FVec Ideal S8192x1024 .bf16} {x2 : FVec Ideal S1024x1024 .f32}
    {x3 : FVec Ideal S1x1024 .f32} {x4 : FVec Ideal S1024x5632 .f32} {x5 : FVec Ideal S2816x1024 .f32}
    {x6 : FVec Ideal S1x1024 .f32} {x7 : FVec Ideal S8192x1024 .f32}
    (h0 : (Cert.Pre_finite3.fn (F := Ideal) x0 x1 x2 x3 x4 x5 x6 x7).1 = fun _ => 1#1)
    (h1 : (Cert.Pre_finite3.fn (F := Ideal) x0 x1 x2 x3 x4 x5 x6 x7).2.1 = fun _ => 1#1)
    (h2 : (Cert.Pre_finite3.fn (F := Ideal) x0 x1 x2 x3 x4 x5 x6 x7).2.2.1 = fun _ => 1#1)
    (h3 : (Cert.Pre_finite3.fn (F := Ideal) x0 x1 x2 x3 x4 x5 x6 x7).2.2.2.1 = fun _ => 1#1)
    (h4 : (Cert.Pre_finite3.fn (F := Ideal) x0 x1 x2 x3 x4 x5 x6 x7).2.2.2.2.1 = fun _ => 1#1)
    (h5 : (Cert.Pre_finite3.fn (F := Ideal) x0 x1 x2 x3 x4 x5 x6 x7).2.2.2.2.2.1 = fun _ => 1#1)
    (h6 : (Cert.Pre_finite3.fn (F := Ideal) x0 x1 x2 x3 x4 x5 x6 x7).2.2.2.2.2.2.1 = fun _ => 1#1)
    (h7 : (Cert.Pre_finite3.fn (F := Ideal) x0 x1 x2 x3 x4 x5 x6 x7).2.2.2.2.2.2.2 = fun _ => 1#1) :
    ∃ A : Head, Holds A x0 x1 x2 x3 x4 x5 x6 x7 :=
  ⟨{ x := nat2 x0, q := nat2 x1, p := nat2 x2, g := nat2 x3 0, w := nat2 x4, o := nat2 x5, f := nat2 x6 0, target := nat2 x7 },
    { x := fun i => nat2_apply x0 i (finite_of_pre ofBits_inf h0 i)
      q := fun i => nat2_apply x1 i (finite_of_pre ofBits_inf_bf16 h1 i)
      p := fun i => nat2_apply x2 i (finite_of_pre ofBits_inf h2 i)
      g := row_apply (finite_of_pre ofBits_inf h3)
      w := fun i => nat2_apply x4 i (finite_of_pre ofBits_inf h4 i)
      o := fun i => nat2_apply x5 i (finite_of_pre ofBits_inf h5 i)
      f := row_apply (finite_of_pre ofBits_inf h6)
      target := fun i => nat2_apply x7 i (finite_of_pre ofBits_inf h7 i) }⟩

end Head

namespace Proj

/-- The facts the precondition's printed function states. -/
instance pre_facts : Cert.Pre_finite4.Facts where
  bcast_S_S8192x2048 := ⟨fun a => a.elim0, fun a => a.elim0⟩
  bcast_S_S8192x1024 := ⟨fun a => a.elim0, fun a => a.elim0⟩
  bcast_S_S1x1024 := ⟨fun a => a.elim0, fun a => a.elim0⟩
  bcast_S_S1024x2048 := ⟨fun a => a.elim0, fun a => a.elim0⟩

open Cert.Reference4Ideal Cert.Reference4Ideal.Vjp

/-- Arrays that pass the precondition hold the reals of some `Proj`. -/
theorem holds_of_pre {x0 : FVec Ideal S8192x2048 .bf16} {x1 x2 : FVec Ideal S8192x1024 .f32} {x3 : FVec Ideal S1x1024 .f32}
    {x4 : FVec Ideal S1024x2048 .f32}
    (h0 : (Cert.Pre_finite4.fn (F := Ideal) x0 x1 x2 x3 x4).1 = fun _ => 1#1)
    (h1 : (Cert.Pre_finite4.fn (F := Ideal) x0 x1 x2 x3 x4).2.1 = fun _ => 1#1)
    (h2 : (Cert.Pre_finite4.fn (F := Ideal) x0 x1 x2 x3 x4).2.2.1 = fun _ => 1#1)
    (h3 : (Cert.Pre_finite4.fn (F := Ideal) x0 x1 x2 x3 x4).2.2.2.1 = fun _ => 1#1)
    (h4 : (Cert.Pre_finite4.fn (F := Ideal) x0 x1 x2 x3 x4).2.2.2.2 = fun _ => 1#1) :
    ∃ A : Proj, Holds A x0 x1 x2 x3 x4 :=
  ⟨{ dz := nat2 x0, dres := nat2 x1, x := nat2 x2, g := nat2 x3 0, w := nat2 x4 },
    { dz := fun i => nat2_apply x0 i (finite_of_pre ofBits_inf_bf16 h0 i)
      dres := fun i => nat2_apply x1 i (finite_of_pre ofBits_inf h1 i)
      x := fun i => nat2_apply x2 i (finite_of_pre ofBits_inf h2 i)
      g := row_apply (finite_of_pre ofBits_inf h3)
      w := fun i => nat2_apply x4 i (finite_of_pre ofBits_inf h4 i) }⟩

end Proj

end Cert.Ffn

end
-- ==== Proof.ProjPoint.lean ====
/-
  What one grid point of the projection's backward kernel computes from its blocks, at an index, and what it leaves: its
  payloads are the real quantities of Proof/ProjSpec.lean at the block's own rows, and the gain's gradient is summed from
  point to point, from zero at the first.
-/
module

public import proofs.«01_k».proof.Proof.ProjSpec
public import proofs.«01_k».proof.Proof.Stores
public import proofs.«01_k».proof.Proof.Gen.Kernel4Ideal.Frame

@[expose] public section

set_option maxRecDepth 16384

noncomputable section

open Idealize.ShloMosaic Idealize.ShloMosaic.TcCoe Idealize.SL.Sem Cert.Sgu Cert.Ffn Cert.Stores

namespace Cert.Kernel4Ideal.Block

open Cert.Kernel4Ideal Cert.Kernel4Ideal.Gen

/-- The five input blocks hold the reals of `A`. -/
structure Holds (A : Proj) (x0 : Vec Ideal S512x2048 .bf16) (x1 : Vec Ideal S1024x2048 .bf16) (x2 x3 : Vec Ideal S512x1024 .f32)
    (x4 : Vec Ideal S1x1024 .f32) : Prop where
  dz : ∀ i, x0 i = ((A.dz (i 0) (i 1) : ℝ) : EReal)
  w : ∀ i, x1 i = ((A.w (i 0) (i 1) : ℝ) : EReal)
  dres : ∀ i, x2 i = ((A.dres (i 0) (i 1) : ℝ) : EReal)
  x : ∀ i, x3 i = ((A.x (i 0) (i 1) : ℝ) : EReal)
  g : ∀ i, x4 i = ((A.g (i 1) : ℝ) : EReal)

variable {A : Proj} {x0 : Vec Ideal S512x2048 .bf16} {x1 : Vec Ideal S1024x2048 .bf16} {x2 x3 : Vec Ideal S512x1024 .f32}
  {x4 : Vec Ideal S1x1024 .f32}

/-- The gradient of the norm's output. -/
theorem dxn_apply (H : Holds A x0 x1 x2 x3 x4) (i : S512x1024.Idx) :
    k0_pay3 x0 x1 i = ((A.dxn (i 0) (i 1) : ℝ) : EReal) := by
  pointwise [k0_pay3]
  simp only [H.dz, H.w, ← EReal.coe_mul, coe_sum]
  rfl

/-- The reciprocal root mean square of a row. -/
theorem rms_apply (H : Holds A x0 x1 x2 x3 x4) (i : S512x1.Idx) :
    k0_pay4 x3 i = ((A.norm.rms (i 0) : ℝ) : EReal) := by
  pointwise [k0_pay4]
  simp only [H.x, ← EReal.coe_mul, coe_sum, ofBits_1024, ofBits_eps, div_1024, ← EReal.coe_add]
  exact rsqrt_pos _ (A.norm.ms_eps_pos _)

/-- The normalized row. -/
theorem y_apply (H : Holds A x0 x1 x2 x3 x4) (i : S512x1024.Idx) :
    k0_pay5 x3 i = ((A.norm.y (i 0) (i 1) : ℝ) : EReal) := by
  pointwise [k0_pay5]
  rw [rms_apply H, H.x, ← EReal.coe_mul]
  rfl

/-- The gradient of the gain: the sum so far plus this block's rows. -/
theorem dgam_apply (H : Holds A x0 x1 x2 x3 x4) {acc : Vec Ideal S1x1024 .f32} {R : ℕ → ℝ}
    (hR : ∀ i, acc i = ((R (i 1) : ℝ) : EReal)) (i : S1x1024.Idx) :
    k0_pay6 x0 x1 x3 acc i = ((R (i 1) + A.dgam 512 (i 1) : ℝ) : EReal) := by
  pointwise [k0_pay6]
  simp only [dxn_apply H, y_apply H, hR, ← EReal.coe_mul, coe_sum, ← EReal.coe_add]
  rw [Proj.dgam, Finset.sum_range]
  rfl

/-- The gradient of the normalized row. -/
theorem dyn_apply (H : Holds A x0 x1 x2 x3 x4) (i : S512x1024.Idx) :
    k0_pay7 x0 x1 x4 i = ((A.dyn (i 0) (i 1) : ℝ) : EReal) := by
  pointwise [k0_pay7]
  rw [dxn_apply H, H.g, ← EReal.coe_mul]
  rfl

/-- The gradient of the rows. -/
theorem dx_apply (H : Holds A x0 x1 x2 x3 x4) (i : S512x1024.Idx) :
    k0_pay1 (k0_pay4 x3) (k0_pay5 x3) (k0_pay7 x0 x1 x4) x2 (k0_pay8 x0 x1 x3 x4) i = ((A.dx (i 0) (i 1) : ℝ) : EReal) := by
  pointwise [k0_pay1, k0_pay8]
  simp only [dyn_apply H, y_apply H, rms_apply H, H.dres, ← EReal.coe_mul, coe_sum, ofBits_1024, div_1024, ← EReal.coe_sub,
    ← EReal.coe_add]
  rfl

/-- The sum that the first point starts from. -/
theorem no_sum (i : S1x1024.Idx) : k0_pay2 (F := Ideal) i = ((0 : ℝ) : EReal) := by
  pointwise [k0_pay2]
  rfl

variable (m : (ℓ : Loc nD τ sig) → Buf (Elt Ideal) ℓ)
variable {c : Dev nD} {t : Fin cfg0.N}

/-- The input blocks of point `t` hold the reals of `A`. -/
abbrev HoldsAt (A : Proj) (c : Dev nD) (t : Fin cfg0.N) : Prop :=
  Holds A (iblk m c 0 t) (iblk m c 1 t) (iblk m c 2 t) (iblk m c 3 t) (iblk m c 4 t)

/-- What a point leaves: the block of its rows, and the gain's gradient `R` plus theirs. -/
structure Leaves (A : Proj) (R : ℕ → ℝ) (u : Vec Ideal S512x1024 .f32 × Vec Ideal S1x1024 .f32) : Prop where
  dx : ∀ i, u.1 i = ((A.dx (i 0) (i 1) : ℝ) : EReal)
  dgam : ∀ i, u.2 i = ((R (i 1) + A.dgam 512 (i 1) : ℝ) : EReal)

/-- The first point. -/
theorem leaves_A (H : HoldsAt m A c t) (h0 : t.val % 16 = 0) : Leaves A (fun _ => 0) (outsAt0 m c t.val t.isLt) := by
  rw [outsAt0_A m c t h0]
  constructor
  all_goals
    intro i
    dsimp only
    frame_open
    simp (disch := decide) only [↓ View.readCov_skip, ↓ View.readCov_cons_toLoadRect, ↓ View.readCov_fill]
    frame_out
    try simp only [readCov_all, readCov_whole, canon_whole]
  · exact dx_apply H i
  · exact dgam_apply H (R := fun _ => 0) no_sum i

/-- A later point, from what the point before it left. -/
theorem leaves_B (H : HoldsAt m A c t) (h0 : ¬t.val % 16 = 0) {R : ℕ → ℝ}
    (hR : ∀ i, (outsAt0 m c (t.val - 1) (Nat.lt_of_le_of_lt (Nat.sub_le _ _) t.isLt)).2 i = ((R (i 1) : ℝ) : EReal)) :
    Leaves A R (outsAt0 m c t.val t.isLt) := by
  rw [outsAt0_B m c t h0]
  revert hR
  generalize (outsAt0 m c (t.val - 1) (Nat.lt_of_le_of_lt (Nat.sub_le _ _) t.isLt)) = acc
  intro hR
  constructor
  all_goals
    intro i
    dsimp only
    frame_open
    simp (disch := decide) only [↓ View.readCov_skip, ↓ View.readCov_cons_toLoadRect, ↓ View.readCov_fill]
    frame_out
    try simp only [readCov_all, read_unread_whole]
  · exact dx_apply H i
  · exact dgam_apply H hR i

end Cert.Kernel4Ideal.Block

end
-- ==== Proof.ProjArrays.lean ====
/-
  From the grid points to the arrays, for the projection after a norm, backwards: the host's line before the kernel leaves the
  weights rounded; each point's blocks are 512 rows of the arguments; the gain's gradient grows by one block of rows per point;
  and after the last point the result arrays hold the quantities of Proof/ProjSpec.lean over all 8192 rows.
-/
module

public import proofs.«01_k».proof.Proof.ProjPoint
public import proofs.«01_k».proof.Proof.ProjVjp
public import proofs.«01_k».proof.Proof.Gen.Kernel4Ideal.Value
public import Idealize.ShloMosaic.Lib.StableHlo.Run

@[expose] public section

set_option maxRecDepth 16384

noncomputable section

open Idealize.ShloMosaic Idealize.ShloMosaic.TcCoe Idealize.SL.Sem Cert.Sgu Cert.Ffn Cert.Stores

namespace Cert.Kernel4Ideal.Block

open Cert.Kernel4Ideal Cert.Kernel4Ideal.Gen Cert.Kernel4Ideal.Value

variable {m : (ℓ : Loc nD τ sig) → Buf (Elt Ideal) ℓ} {A : Proj} {c : Dev nD}

/-- The argument arrays hold the reals of `A`. -/
abbrev Input (m : (ℓ : Loc nD τ sig) → Buf (Elt Ideal) ℓ) (A : Proj) (c : Dev nD) : Prop :=
  Cert.Reference4Ideal.Vjp.Holds A (m ((c : Thread nD τ).loc main_arg0)) (m ((c : Thread nD τ).loc main_arg1))
    (m ((c : Thread nD τ).loc main_arg2)) (m ((c : Thread nD τ).loc main_arg3)) (m ((c : Thread nD τ).loc main_arg4))

/-- The projection, as the kernel is given it. -/
theorem V_main_v0 : (V m c main_v0 : FVec Ideal S1024x2048 .bf16)
    = truncf (F := Ideal) .bf16 (m ((c : Thread nD τ).loc main_arg4)) bitsLt_bf16_f32 := by
  show StableHlo.after hostOps0 _ (Proc.devRef .tc main_v0) = _
  after_results

/-- The kernel's weights hold the reals of `A`. -/
theorem w_apply (H : Input m A c) (i : S1024x2048.Idx) : V m c main_v0 i = ((A.w (i 0) (i 1) : ℝ) : EReal) := by
  rw [V_main_v0]
  exact H.w i

/-- Which block of its array each window shows at point `t`: the `t`-th 512 rows, or all of it. -/
theorem index_at : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0) :=
  (by decide +kernel : ∀ t : Fin grid0.N, _)

/-- The input blocks of point `t` hold the `t`-th rows of `A`. -/
theorem holdsAt (H : Input m A c) (t : Fin cfg0.N) : HoldsAt m (A.block t.val) c t := by
  obtain ⟨iz, ⟨iw, iw'⟩, ir, ix, ⟨-, ig⟩, -⟩ := index_at t
  refine ⟨fun y => ?_, fun y => ?_, fun y => ?_, fun y => ?_, fun y => ?_⟩
  · show V m c main_arg0 (((cfg0.win 0).blk t).view.emb y) = _
    rw [V_main_arg0]
    exact (H.dz _).trans (shown A.dz 512 2048 iz (y 0) (y 1)).symm
  · show V m c main_v0 (((cfg0.win 1).blk t).view.emb y) = _
    refine (w_apply H _).trans ?_
    show ((A.w (win0_1.index t (0 : Fin 2) * 1024 + 1 * (y 0 : ℕ)) (win0_1.index t (1 : Fin 2) * 2048 + 1 * (y 1 : ℕ)) : ℝ) : EReal)
      = ((A.w (y 0) (y 1) : ℝ) : EReal)
    rw [iw, iw', zero_mul, zero_add, zero_mul, zero_add, one_mul, one_mul]
  · show V m c main_arg1 (((cfg0.win 2).blk t).view.emb y) = _
    rw [V_main_arg1]
    exact (H.dres _).trans (shown A.dres 512 1024 ir (y 0) (y 1)).symm
  · show V m c main_arg2 (((cfg0.win 3).blk t).view.emb y) = _
    rw [V_main_arg2]
    exact (H.x _).trans (shown A.x 512 1024 ix (y 0) (y 1)).symm
  · show V m c main_arg3 (((cfg0.win 4).blk t).view.emb y) = _
    rw [V_main_arg3]
    refine (H.g _).trans ?_
    show ((A.g (win0_4.index t (1 : Fin 2) * 1024 + 1 * (y 1 : ℕ)) : ℝ) : EReal) = ((A.g (y 1) : ℝ) : EReal)
    rw [ig, zero_mul, zero_add, one_mul]

/-- Every point leaves its rows' block, and the gain's gradient over all the rows so far. -/
theorem leaves (H : Input m A c) (n : ℕ) : ∀ h : n < cfg0.N,
    Leaves (A.block n) (A.dgam (512 * n)) (outsAt0 m c n h) := by
  induction n with
  | zero =>
    intro h
    have z : A.dgam (512 * 0) = fun _ => 0 := funext fun _ => by simp [Proj.dgam]
    rw [z]
    have l := leaves_A m (holdsAt H ⟨0, h⟩) (Nat.zero_mod 16)
    exact l
  | succ n ih =>
    intro h
    have hN : n + 1 < 16 := lt_of_lt_of_eq h N_0
    have l := leaves_B m (R := A.dgam (512 * (n + 1))) (holdsAt H ⟨n + 1, h⟩) (by show ¬(n + 1) % 16 = 0; omega)
      fun i => ((ih (Nat.lt_of_succ_lt h)).dgam i).trans (by rw [Proj.dgam_succ])
    exact l

/-- The point whose block holds row `r`. -/
def pointOf (r : Fin 8192) : Fin cfg0.N := ⟨r.val / 512, lt_of_lt_of_eq (by omega) N_0.symm⟩

/-- The result array of window 5, the gradient of the rows. -/
theorem dx_array (H : Input m A c) :
    (dats m 0 c).arrAt 5 cfg0.N = fun i : S8192x1024.Idx => ((A.dx (i 0) (i 1) : ℝ) : EReal) := by
  refine (dats m 0 c).arrAt_eq_of_cover 5 _ (fun t _ => ?_) fun i => ⟨pointOf (i 0), flush0_5 _, ?_⟩
  · rw [flushed5]
    exact funext fun y => ((leaves H t.val t.isLt).dx ((cfg0.win 5).xinj (grid0.coords t) y)).trans
      (shown A.dx 512 1024 (index_at t).2.2.2.2.2.1 (y 0) (y 1))
  · show i ∈ ((View.whole main_v1_0).slice (win0_5.rect (pointOf (i 0)))).set
    rw [View.set_slice_whole, Rect.mem_set_unit]
    exact Fin.forall_fin_two.mpr
      (inside (b := 512) (n := 1024) (by decide) (index_at (pointOf (i 0))).2.2.2.2.2.1 (i 1).isLt)

/-- The result array of window 6, the gain's gradient: the last point writes it. -/
theorem dgam_array (H : Input m A c) :
    (dats m 0 c).arrAt 6 cfg0.N = fun i : S1x1024.Idx => ((A.dgam 8192 (i 1) : ℝ) : EReal) := by
  refine (dats m 0 c).arrAt_eq_of_cover 6 _ (fun t hf => ?_) fun i => ⟨pointOf 8191, (flush0_6 _).mpr rfl, ?_⟩
  · have hN : t.val < 16 := lt_of_lt_of_eq t.isLt N_0
    have ht : t.val = 15 := by have := (flush0_6 t).mp hf; omega
    rw [flushed6]
    funext y
    refine ((leaves H t.val t.isLt).dgam ((cfg0.win 6).xinj (grid0.coords t) y)).trans ?_
    show ((A.dgam (512 * t.val) (y 1 : ℕ) + (A.block t.val).dgam 512 (y 1 : ℕ) : ℝ) : EReal)
      = ((A.dgam 8192 (win0_6.index t (1 : Fin 2) * 1024 + 1 * (y 1 : ℕ)) : ℝ) : EReal)
    rw [(index_at t).2.2.2.2.2.2.2, zero_mul, zero_add, one_mul, ← Proj.dgam_succ, ht]
  · show i ∈ ((View.whole main_v1_1).slice (win0_6.rect (pointOf 8191))).set
    rw [View.set_slice_whole, Rect.mem_set_unit]
    exact Fin.forall_fin_two.mpr
      (inside_row (n := 1024) (index_at (pointOf 8191)).2.2.2.2.2.2 (i 0).isLt (i 1).isLt)

end Cert.Kernel4Ideal.Block

end
-- ==== Proof.GradSpec.lean ====
/-
  The gradient of the second feed-forward layer's projection out: `Grad` holds the two arguments as functions of natural indices,
  and the gradient is a sum of products over the rows. Sums of extended reals may be taken in any order and products commute, so
  nothing here asks for finite entries. Proof/GradArrays.lean shows that the kernel and the reference compute it.
-/
module

public import proofs.«01_k».proof.Proof.Words
public import Idealize.ShloMosaic.Lib.ValueIdx

@[expose] public section

noncomputable section

open Idealize.ShloMosaic

namespace Cert.Ffn

/-- The arguments at natural indices: the hidden rows `h` and the gradient `d` of the layer's output. -/
structure Grad where
  h : ℕ → ℕ → EReal
  d : ℕ → ℕ → EReal

namespace Grad

variable (A : Grad)

/-- A two-axis array at natural indices, zero outside. -/
def nat {n0 n1 : ℕ} (x : (⟨2, ![n0, n1]⟩ : Shape).Idx → EReal) (r c : ℕ) : EReal :=
  if h : r < n0 ∧ c < n1 then x (ValueIdx.ix2 ⟨r, h.1⟩ ⟨c, h.2⟩) else 0

/-- It holds the array's elements. -/
theorem nat_apply {n0 n1 : ℕ} (x : (⟨2, ![n0, n1]⟩ : Shape).Idx → EReal) (i : (⟨2, ![n0, n1]⟩ : Shape).Idx) : x i = nat x (i 0) (i 1) := by
  have h0 : (i 0 : ℕ) < n0 := (i 0).isLt
  have h1 : (i 1 : ℕ) < n1 := (i 1).isLt
  rw [nat, dif_pos ⟨h0, h1⟩]
  exact congrArg x (ValueIdx.eq_ix2 i)

/-- The gradient over the first `n` rows. -/
def dw (n r c : ℕ) : EReal := ∑ t ∈ Finset.range n, A.h t r * A.d t c

/-- The arguments as grid point `t` sees them: rows counted from `2048 (t mod 4)`, columns of `h` from `1408 (t / 4)`. -/
def block (t : ℕ) : Grad where
  h := fun r c => A.h (t % 4 * 2048 + 1 * r) (t / 4 * 1408 + 1 * c)
  d := fun r c => A.d (t % 4 * 2048 + 1 * r) (0 * 1024 + 1 * c)

/-- One more block of rows. -/
theorem dw_succ (t r c : ℕ) : A.dw (2048 * (t % 4) + 2048) (1408 * (t / 4) + r) c
    = A.dw (2048 * (t % 4)) (1408 * (t / 4) + r) c + (A.block t).dw 2048 r c := by
  unfold dw
  rw [Finset.sum_range_add]
  simp only [block, one_mul, zero_mul, zero_add, mul_comm (t % 4), mul_comm (t / 4)]

end Grad

end Cert.Ffn

end
-- ==== Proof.GradArrays.lean ====
/-
  The gradient of the projection out, computed by the kernel and by the reference: a grid point adds its 2048 rows to the sum it
  carries, which starts from zero at every fourth point, and the fourth point writes half of the columns' gradient; the reference
  contracts all 8192 rows at once, with the factors the other way round.
-/
module

public import proofs.«01_k».proof.Proof.GradSpec
public import proofs.«01_k».proof.Proof.Stores
public import proofs.«01_k».proof.Proof.Gen.Kernel5Ideal.Value
public import proofs.«01_k».proof.Proof.Gen.Reference5Ideal.Read
public import Idealize.ShloMosaic.Lib.Pointwise

@[expose] public section

set_option maxRecDepth 16384

noncomputable section

open Idealize.ShloMosaic Idealize.ShloMosaic.TcCoe Idealize.SL.Sem Cert.Sgu Cert.Ffn Cert.Stores

namespace Cert.Reference5Ideal.Grad

open Cert.Reference5Ideal Cert.Reference5Ideal.Gen Cert.Reference5Ideal.Read

/-- The result: half of the columns' gradient at each first index. -/
theorem v7_apply {A : Ffn.Grad} {x0 : Vec Ideal S8192x2816 .bf16} {x1 : Vec Ideal S8192x1024 .bf16}
    (h0 : ∀ i, x0 i = A.h (i 0) (i 1)) (h1 : ∀ i, x1 i = A.d (i 0) (i 1)) (i : S2x1408x1024.Idx) :
    val_main_v7 (F := Ideal) x0 x1 i = A.dw 8192 (1408 * (i 0 : ℕ) + (i 1 : ℕ)) (i 2) := by
  have k2 : (i 2 : ℕ) < 1024 := (i 2).isLt
  simp only [val_main_v7_apply, val_main_v6_apply, val_main_v5_apply, val_main_v4_apply, val_main_v3_apply, val_main_v1_apply,
    h0, h1, Ideal.extf_def, Ideal.truncf_def]
  rw [Ffn.Grad.dw, Finset.sum_range]
  refine Finset.sum_congr rfl fun k _ => ?_
  show A.d k ((((i 0 : ℕ) * 1408 + (i 1 : ℕ)) * 1024 + (i 2 : ℕ)) % 1024)
      * A.h k ((((i 0 : ℕ) * 1408 + (i 1 : ℕ)) * 1024 + (i 2 : ℕ)) / 1024) = _
  rw [show (((i 0 : ℕ) * 1408 + (i 1 : ℕ)) * 1024 + (i 2 : ℕ)) % 1024 = i 2 by omega,
    show (((i 0 : ℕ) * 1408 + (i 1 : ℕ)) * 1024 + (i 2 : ℕ)) / 1024 = 1408 * (i 0 : ℕ) + (i 1 : ℕ) by omega, mul_comm]

end Cert.Reference5Ideal.Grad

namespace Cert.Kernel5Ideal.Block

open Cert.Kernel5Ideal Cert.Kernel5Ideal.Gen Cert.Kernel5Ideal.Value

/-- The two input blocks hold the entries of `A`. -/
structure Holds (A : Ffn.Grad) (x0 : Vec Ideal S2048x1408 .bf16) (x1 : Vec Ideal S2048x1024 .bf16) : Prop where
  h : ∀ i, x0 i = A.h (i 0) (i 1)
  d : ∀ i, x1 i = A.d (i 0) (i 1)

variable {A : Ffn.Grad} {x0 : Vec Ideal S2048x1408 .bf16} {x1 : Vec Ideal S2048x1024 .bf16}

/-- The sum so far plus the products of this block's rows. -/
theorem sum_apply (H : Holds A x0 x1) {acc : Vec Ideal S1408x1024 .f32} {R : ℕ → ℕ → EReal}
    (hR : ∀ i, acc i = R (i 0) (i 1)) (i : S1408x1024.Idx) :
    k0_pay2 acc x0 x1 i = R (i 0) (i 1) + A.dw 2048 (i 0) (i 1) := by
  pointwise [k0_pay2]
  simp only [H.h, H.d, hR]
  rw [Ffn.Grad.dw, Finset.sum_range]
  rfl

/-- The sum that the first point of a half starts from. -/
theorem no_sum (i : S1408x1024.Idx) : k0_pay1 (F := Ideal) i = 0 := by
  pointwise [k0_pay1]

/-- What the last point of a half writes. -/
theorem out_apply {acc : Vec Ideal S1408x1024 .f32} {R : ℕ → ℕ → EReal} (hR : ∀ i, acc i = R (i 0) (i 1))
    (i : S1x1408x1024.Idx) : k0_pay3 (F := Ideal) acc i = R (i 1) (i 2) := by
  have k0 : (i 0 : ℕ) < 1 := (i 0).isLt
  pointwise [k0_pay3]
  exact hR _

variable (m : (ℓ : Loc nD τ sig) → Buf (Elt Ideal) ℓ)
variable {c : Dev nD} {t : Fin cfg0.N}

/-- The sum after a point that is the first of its half. -/
theorem first (H : Holds A (iblk m c 0 t) (iblk m c 1 t)) (h0 : t.val % 4 = 0) (i : S1408x1024.Idx) :
    (outsAt0 m c t.val t.isLt).2 i = 0 + A.dw 2048 (i 0) (i 1) := by
  rw [outsAt0_A m c t h0 (by omega)]
  dsimp only
  frame_open
  simp (disch := decide) only [↓ View.readCov_skip, ↓ View.readCov_cons_toLoadRect, ↓ View.readCov_fill]
  frame_out
  try simp only [readCov_all, readCov_whole, canon_whole]
  exact sum_apply H (R := fun _ _ => 0) no_sum i

/-- The sum after a later point, from what the point before it left. -/
theorem later (H : Holds A (iblk m c 0 t) (iblk m c 1 t)) (h0 : ¬t.val % 4 = 0) {R : ℕ → ℕ → EReal}
    (hR : ∀ i, (outsAt0 m c (t.val - 1) (Nat.lt_of_le_of_lt (Nat.sub_le _ _) t.isLt)).2 i = R (i 0) (i 1)) (i : S1408x1024.Idx) :
    (outsAt0 m c t.val t.isLt).2 i = R (i 0) (i 1) + A.dw 2048 (i 0) (i 1) := by
  by_cases h1 : t.val % 4 = 3
  · rw [outsAt0_C m c t h0 h1]
    revert hR
    generalize (outsAt0 m c (t.val - 1) (Nat.lt_of_le_of_lt (Nat.sub_le _ _) t.isLt)) = acc
    intro hR
    dsimp only
    frame_open
    simp (disch := decide) only [↓ View.readCov_skip, ↓ View.readCov_cons_toLoadRect, ↓ View.readCov_fill]
    frame_out
    try simp only [readCov_all, read_unread_whole]
    exact sum_apply H hR i
  · rw [outsAt0_B m c t h0 h1]
    revert hR
    generalize (outsAt0 m c (t.val - 1) (Nat.lt_of_le_of_lt (Nat.sub_le _ _) t.isLt)) = acc
    intro hR
    dsimp only
    frame_open
    simp (disch := decide) only [↓ View.readCov_skip, ↓ View.readCov_cons_toLoadRect, ↓ View.readCov_fill]
    frame_out
    try simp only [readCov_all, read_unread_whole]
    exact sum_apply H hR i

/-- The last point of a half writes the sum it leaves. -/
theorem last (h1 : t.val % 4 = 3) (i : S1x1408x1024.Idx) : (outsAt0 m c t.val t.isLt).1 i
    = (k0_pay3 (F := Ideal) (outsAt0 m c t.val t.isLt).2) i := by
  rw [outsAt0_C m c t (by omega) h1]
  generalize (outsAt0 m c (t.val - 1) (Nat.lt_of_le_of_lt (Nat.sub_le _ _) t.isLt)) = acc
  dsimp only
  frame_open
  simp (disch := decide) only [↓ View.readCov_skip, ↓ View.readCov_cons_toLoadRect, ↓ View.readCov_fill]
  frame_out
  try simp only [readCov_all, read_unread_whole]

variable {m}

/-- The argument arrays hold the entries of `A`. -/
structure Input (m : (ℓ : Loc nD τ sig) → Buf (Elt Ideal) ℓ) (A : Ffn.Grad) (c : Dev nD) : Prop where
  h : ∀ i, (m ((c : Thread nD τ).loc main_arg0) : Vec Ideal S8192x2816 .bf16) i = A.h (i 0) (i 1)
  d : ∀ i, (m ((c : Thread nD τ).loc main_arg1) : Vec Ideal S8192x1024 .bf16) i = A.d (i 0) (i 1)

/-- Which block of its array each window shows at point `t`: rows by `t mod 4`, columns by `t / 4`. -/
theorem index_at : ∀ t : Fin cfg0.N, (win0_0.index t (0 : Fin 2) = t.val % 4 ∧ win0_0.index t (1 : Fin 2) = t.val / 4)
    ∧ (win0_1.index t (0 : Fin 2) = t.val % 4 ∧ win0_1.index t (1 : Fin 2) = 0)
    ∧ (win0_2.index t (0 : Fin 3) = t.val / 4 ∧ win0_2.index t (1 : Fin 3) = 0 ∧ win0_2.index t (2 : Fin 3) = 0) :=
  (by decide +kernel : ∀ t : Fin grid0.N, _)

/-- The input blocks of point `t` hold its rows and columns of `A`. -/
theorem holdsAt (H : Input m A c) (t : Fin cfg0.N) : Holds (A.block t.val) (iblk m c 0 t) (iblk m c 1 t) := by
  obtain ⟨⟨ih, ih'⟩, ⟨id, id'⟩, -⟩ := index_at t
  refine ⟨fun y => ?_, fun y => ?_⟩
  · show V m c main_arg0 (((cfg0.win 0).blk t).view.emb y) = _
    rw [V_main_arg0]
    refine (H.h _).trans ?_
    show A.h (win0_0.index t (0 : Fin 2) * 2048 + 1 * (y 0 : ℕ)) (win0_0.index t (1 : Fin 2) * 1408 + 1 * (y 1 : ℕ)) = _
    rw [ih, ih']
    rfl
  · show V m c main_arg1 (((cfg0.win 1).blk t).view.emb y) = _
    rw [V_main_arg1]
    refine (H.d _).trans ?_
    show A.d (win0_1.index t (0 : Fin 2) * 2048 + 1 * (y 0 : ℕ)) (win0_1.index t (1 : Fin 2) * 1024 + 1 * (y 1 : ℕ)) = _
    rw [id, id']
    rfl

/-- The sum after a point is over the rows of its half so far. -/
theorem sum_at (H : Input m A c) (n : ℕ) : ∀ (h : n < cfg0.N) (i : S1408x1024.Idx),
    (outsAt0 m c n h).2 i = A.dw (2048 * (n % 4) + 2048) (1408 * (n / 4) + (i 0 : ℕ)) (i 1) := by
  induction n with
  | zero =>
    intro h i
    have l := first m (holdsAt H ⟨0, h⟩) (Nat.zero_mod 4) i
    rw [Ffn.Grad.dw_succ]
    exact l
  | succ n ih =>
    intro h i
    rw [Ffn.Grad.dw_succ]
    by_cases h0 : (n + 1) % 4 = 0
    · have l := first m (holdsAt H ⟨n + 1, h⟩) h0 i
      rw [h0]
      refine l.trans (congrArg (· + _) ?_)
      simp [Ffn.Grad.dw]
    · have l := later m (R := fun r k => A.dw (2048 * ((n + 1) % 4)) (1408 * ((n + 1) / 4) + r) k) (holdsAt H ⟨n + 1, h⟩) h0
        (fun i => (ih (Nat.lt_of_succ_lt h) i).trans (by
          rw [show 2048 * (n % 4) + 2048 = 2048 * ((n + 1) % 4) by omega, show n / 4 = (n + 1) / 4 by omega])) i
      exact l

/-- The result array. -/
theorem dw_array (H : Input m A c) : (dats m 0 c).arrAt 2 cfg0.N
    = fun i : S2x1408x1024.Idx => A.dw 8192 (1408 * (i 0 : ℕ) + (i 1 : ℕ)) (i 2) := by
  refine (dats m 0 c).arrAt_eq_of_cover 2 _ (fun t hf => ?_) fun i => ?_
  · have h3 := (flush0_2 t).mp hf
    rw [flushed2]
    funext y
    have y0 : (y 0 : ℕ) < 1 := (y 0).isLt
    refine (last m h3 ((cfg0.win 2).xinj (grid0.coords t) y)).trans ((out_apply (R := fun r k =>
      A.dw (2048 * (t.val % 4) + 2048) (1408 * (t.val / 4) + r) k) (sum_at H t.val t.isLt) _).trans ?_)
    obtain ⟨-, -, i0, i1, i2⟩ := index_at t
    show A.dw (2048 * (t.val % 4) + 2048) (1408 * (t.val / 4) + (y 1 : ℕ)) (y 2 : ℕ)
      = A.dw 8192 (1408 * (win0_2.index t (0 : Fin 3) * 1 + 1 * (y 0 : ℕ)) + (win0_2.index t (1 : Fin 3) * 1408 + 1 * (y 1 : ℕ)))
        (win0_2.index t (2 : Fin 3) * 1024 + 1 * (y 2 : ℕ))
    rw [i0, i1, i2, h3, show (y 0 : ℕ) = 0 by omega]
    simp only [zero_mul, zero_add, one_mul, mul_one, mul_zero, add_zero]
  · exact (covered_iff2 i).mpr ⟨Nat.zero_le _, (i 0).isLt, Nat.zero_le _, (i 1).isLt, Nat.zero_le _, (i 2).isLt⟩

end Cert.Kernel5Ideal.Block

end
-- ==== Proof.HidSpec.lean ====
/-
  The gradient of a feed-forward layer's hidden half over the reals: from the hidden layer that the forward pass saved and the gradient
  of the layer's output. `Hid` holds the three arguments as functions of natural indices. Proof/HidArrays.lean shows that the
  kernel computes these and Proof/HidVjp.lean that the reference does.
-/
module

public import proofs.«01_k».proof.Proof.FfnSpec

@[expose] public section

noncomputable section

namespace Cert.Ffn

/-- The arguments at natural indices: the incoming gradient `dy`, the hidden layer `gu` (the gate's columns first), both by row and
    column, and the projection out `o` (2816 by 1024). -/
structure Hid where
  dy : ℕ → ℕ → ℝ
  gu : ℕ → ℕ → ℝ
  o : ℕ → ℕ → ℝ

namespace Hid

variable (A : Hid)

/-- The arguments as grid point `t` sees them: rows counted from `256 t`. -/
def block (t : ℕ) : Hid := { A with dy := fun r c => A.dy (256 * t + r) c, gu := fun r c => A.gu (256 * t + r) c }

/-- Half the incoming gradient. -/
def half (t c : ℕ) : ℝ := 1 / 2 * A.dy t c

/-- The gated hidden layer. -/
def h (t j : ℕ) : ℝ := silu (A.gu t j) * A.gu t (2816 + j)

/-- The gradient of the gated hidden layer. -/
def dh (t j : ℕ) : ℝ := ∑ c : Fin 1024, A.half t c * A.o j c

/-- The gradient of the gate. -/
def dgate (t j : ℕ) : ℝ :=
  A.dh t j * A.gu t (2816 + j) * (logistic (A.gu t j) * (1 + A.gu t j * (1 - logistic (A.gu t j))))

/-- The gradient of the up projection's output. -/
def dup (t j : ℕ) : ℝ := A.dh t j * silu (A.gu t j)

/-- Both, side by side. -/
def dgu (t j : ℕ) : ℝ := if j < 2816 then A.dgate t j else A.dup t (j - 2816)

end Hid

end Cert.Ffn

end
-- ==== Proof.HidPoint.lean ====
/-
  What a grid point of the hidden half's kernel computes from its blocks, and what it leaves. The first point copies the weight into
  the kernel's own memory; the later ones find it there. Either way the point computes the same from the weight `o` it finds. The
  hidden layer is worked in two halves of 1408 columns; the lemmas of a half take the half's first column `q`, and serve both.
-/
module

public import proofs.«01_k».proof.Proof.HidSpec
public import proofs.«01_k».proof.Proof.Stores
public import proofs.«01_k».proof.Proof.Gen.Kernel6Ideal.Frame

@[expose] public section

set_option maxRecDepth 16384

noncomputable section

open Idealize.ShloMosaic Idealize.ShloMosaic.TcCoe Idealize.SL.Sem Cert.Sgu Cert.Ffn Cert.Stores

namespace Cert.Kernel6Ideal.Block

open Cert.Kernel6Ideal Cert.Kernel6Ideal.Gen

/-- The two input blocks and the weight hold the reals of `A`. -/
structure Holds (A : Ffn.Hid) (x0 : Vec Ideal S256x1024 .f32) (x3 : Vec Ideal S256x5632 .bf16) (o : Vec Ideal S2816x1024 .bf16) : Prop where
  dy : ∀ i, x0 i = ((A.dy (i 0) (i 1) : ℝ) : EReal)
  gu : ∀ i, x3 i = ((A.gu (i 0) (i 1) : ℝ) : EReal)
  o : ∀ i, o i = ((A.o (i 0) (i 1) : ℝ) : EReal)

/-- A half of the hidden layer's columns from `q`: its rows of the projection out, its gate and its other factor. -/
structure Half (A : Ffn.Hid) (q : ℕ) (o : Vec Ideal S1408x1024 .bf16) (a b : Vec Ideal S256x1408 .bf16) : Prop where
  o : ∀ i, o i = ((A.o (q + i 0) (i 1) : ℝ) : EReal)
  a : ∀ i, a i = ((A.gu (i 0) (q + i 1) : ℝ) : EReal)
  b : ∀ i, b i = ((A.gu (i 0) (2816 + (q + i 1)) : ℝ) : EReal)

variable {A : Ffn.Hid} {x0 : Vec Ideal S256x1024 .f32} {q : ℕ}
  {o : Vec Ideal S1408x1024 .bf16} {a b : Vec Ideal S256x1408 .bf16}

/-- Half the incoming gradient. -/
theorem half_apply (hdy : ∀ i, x0 i = ((A.dy (i 0) (i 1) : ℝ) : EReal)) (i : S256x1024.Idx) :
    k0_pay1 x0 i = ((A.half (i 0) (i 1) : ℝ) : EReal) := by
  pointwise [k0_pay1]
  rw [hdy, ofBits_half, ← EReal.coe_mul]
  rfl

/-- The gradient of the gated hidden layer, of one half. -/
theorem dh_apply (hdy : ∀ i, x0 i = ((A.dy (i 0) (i 1) : ℝ) : EReal)) (H : Half A q o a b) (i : S256x1408.Idx) :
    k0_pay2 x0 o i = ((A.dh (i 0) (q + i 1) : ℝ) : EReal) := by
  pointwise [k0_pay2]
  simp only [half_apply hdy, H.o, ← EReal.coe_mul, coe_sum]
  rfl

/-- The gate's logistic. -/
theorem logistic_apply (H : Half A q o a b) (i : S256x1408.Idx) :
    k0_pay5 a i = ((logistic (A.gu (i 0) (q + i 1)) : ℝ) : EReal) := by
  pointwise [k0_pay5, k0_pay3]
  rw [H.a, ofBits_half, ← EReal.coe_mul, Ideal.tanh_coe, ← EReal.coe_mul, ← EReal.coe_add, logistic_tanh]

/-- The activated gate. -/
theorem silu_apply (H : Half A q o a b) (i : S256x1408.Idx) :
    k0_pay6 a i = ((silu (A.gu (i 0) (q + i 1)) : ℝ) : EReal) := by
  pointwise [k0_pay6, k0_pay3]
  rw [logistic_apply H, H.a, ← EReal.coe_mul]
  rfl

/-- The gated hidden layer. -/
theorem h_apply (H : Half A q o a b) (i : S256x1408.Idx) :
    k0_pay7 a b i = ((A.h (i 0) (q + i 1) : ℝ) : EReal) := by
  pointwise [k0_pay7, k0_pay4]
  rw [silu_apply H, H.b, ← EReal.coe_mul]
  rfl

/-- The gradient of the gate. -/
theorem dgate_apply (hdy : ∀ i, x0 i = ((A.dy (i 0) (i 1) : ℝ) : EReal)) (H : Half A q o a b) (i : S256x1408.Idx) :
    k0_pay8 x0 o a b i = ((A.dgate (i 0) (q + i 1) : ℝ) : EReal) := by
  pointwise [k0_pay8, k0_pay3, k0_pay4]
  rw [dh_apply hdy H, logistic_apply H, H.a, H.b, ← EReal.coe_one]
  simp only [← EReal.coe_mul, ← EReal.coe_sub, ← EReal.coe_add]
  rfl

/-- The gradient of the up projection's output. -/
theorem dup_apply (hdy : ∀ i, x0 i = ((A.dy (i 0) (i 1) : ℝ) : EReal)) (H : Half A q o a b) (i : S256x1408.Idx) :
    k0_pay9 (k0_pay2 x0 o) (k0_pay6 a) i = ((A.dup (i 0) (q + i 1) : ℝ) : EReal) := by
  pointwise [k0_pay9]
  rw [dh_apply hdy H, silu_apply H, ← EReal.coe_mul]
  rfl

variable {x3 : Vec Ideal S256x5632 .bf16} {o : Vec Ideal S2816x1024 .bf16}

/-- The blocks of a half, as the kernel loads them. -/
theorem half_of (H : Holds A x0 x3 o) (p q : ℕ) (e : p = 2816 + q)
    (i0 : ∀ a, (![q, 0] : Fin 2 → ℕ) a + (![1408, 1024] : Fin 2 → ℕ) a ≤ S2816x1024.size a)
    (i1 : ∀ a, (![0, q] : Fin 2 → ℕ) a + (![256, 1408] : Fin 2 → ℕ) a ≤ S256x5632.size a)
    (i2 : ∀ a, (![0, p] : Fin 2 → ℕ) a + (![256, 1408] : Fin 2 → ℕ) a ≤ S256x5632.size a) :
    Half A q (View.ld o (Rect.unit ![q, 0] ![1408, 1024] i0)) (View.ld x3 (Rect.unit ![0, q] ![256, 1408] i1))
      (View.ld x3 (Rect.unit ![0, p] ![256, 1408] i2)) where
  o i := by
    refine (H.o _).trans ?_
    show ((A.o (q + 1 * (i 0 : ℕ)) (0 + 1 * (i 1 : ℕ)) : ℝ) : EReal) = _
    rw [one_mul, one_mul, zero_add]
  a i := by
    refine (H.gu _).trans ?_
    show ((A.gu (0 + 1 * (i 0 : ℕ)) (q + 1 * (i 1 : ℕ)) : ℝ) : EReal) = _
    rw [one_mul, one_mul, zero_add]
  b i := by
    refine (H.gu _).trans ?_
    show ((A.gu (0 + 1 * (i 0 : ℕ)) (p + 1 * (i 1 : ℕ)) : ℝ) : EReal) = _
    rw [one_mul, one_mul, zero_add, e, Nat.add_assoc]

/-- The four stores of the hidden layer's gradient. -/
abbrev dguStores (x0 : Vec Ideal S256x1024 .f32) (x3 : Vec Ideal S256x5632 .bf16) (o : Vec Ideal S2816x1024 .bf16) :
    List (View.Piece (Elt Ideal) S256x5632 .bf16) :=
  [⟨Rect.unit ![0, 4224] ![256, 1408] inb_S256x5632_S256x1408_0_4224,
      k0_pay17 (k0_pay1 x0) (View.ld o (Rect.unit ![1408, 0] ![1408, 1024] inb_S2816x1024_S1408x1024_1408_0))
        (View.ld x3 (Rect.unit ![0, 1408] ![256, 1408] inb_S256x5632_S256x1408_0_1408))⟩,
    ⟨Rect.unit ![0, 1408] ![256, 1408] inb_S256x5632_S256x1408_0_1408,
      k0_pay16 (k0_pay1 x0) (View.ld o (Rect.unit ![1408, 0] ![1408, 1024] inb_S2816x1024_S1408x1024_1408_0))
        (View.ld x3 (Rect.unit ![0, 1408] ![256, 1408] inb_S256x5632_S256x1408_0_1408))
        (View.ld x3 (Rect.unit ![0, 4224] ![256, 1408] inb_S256x5632_S256x1408_0_4224))⟩,
    ⟨Rect.unit ![0, 2816] ![256, 1408] inb_S256x5632_S256x1408_0_2816,
      k0_pay9 (k0_pay2 x0 (View.ld o (Rect.unit ![0, 0] ![1408, 1024] inb_S2816x1024_S1408x1024_0_0)))
        (k0_pay6 (View.ld x3 (Rect.unit ![0, 0] ![256, 1408] inb_S256x5632_S256x1408_0_0)))⟩,
    ⟨Rect.unit ![0, 0] ![256, 1408] inb_S256x5632_S256x1408_0_0,
      k0_pay8 x0 (View.ld o (Rect.unit ![0, 0] ![1408, 1024] inb_S2816x1024_S1408x1024_0_0))
        (View.ld x3 (Rect.unit ![0, 0] ![256, 1408] inb_S256x5632_S256x1408_0_0))
        (View.ld x3 (Rect.unit ![0, 2816] ![256, 1408] inb_S256x5632_S256x1408_0_2816))⟩]

/-- They leave the hidden layer's gradient. -/
theorem dgu_stores (H : Holds A x0 x3 o) (i : S256x5632.Idx) :
    View.canon (dguStores x0 x3 o) i = ((A.dgu (i 0) (i 1) : ℝ) : EReal) := by
  have L := half_of H 2816 0 rfl inb_S2816x1024_S1408x1024_0_0 inb_S256x5632_S256x1408_0_0 inb_S256x5632_S256x1408_0_2816
  have R := half_of H 4224 1408 rfl inb_S2816x1024_S1408x1024_1408_0 inb_S256x5632_S256x1408_0_1408 inb_S256x5632_S256x1408_0_4224
  rw [Hid.dgu]
  canon_tiles x h
  · refine (dup_apply H.dy R x).trans ?_
    rw [h0, h1, if_neg (by omega), show 4224 + (x 1 : ℕ) - 2816 = 1408 + x 1 by omega]
  · refine (dgate_apply H.dy R x).trans ?_
    rw [h0, h1, if_pos (by omega)]
  · refine (dup_apply H.dy L x).trans ?_
    rw [h0, h1, if_neg (by omega), show 2816 + (x 1 : ℕ) - 2816 = 0 + x 1 by omega]
  · refine (dgate_apply H.dy L x).trans ?_
    rw [h0, h1, if_pos (by omega), zero_add]

/-- The two stores of the gated hidden layer. -/
theorem h_stores (H : Holds A x0 x3 o) (i : S256x2816.Idx) :
    View.canon [(⟨Rect.unit ![0, 1408] ![256, 1408] inb_S256x2816_S256x1408_0_1408,
        k0_pay15 (View.ld x3 (Rect.unit ![0, 1408] ![256, 1408] inb_S256x5632_S256x1408_0_1408))
          (View.ld x3 (Rect.unit ![0, 4224] ![256, 1408] inb_S256x5632_S256x1408_0_4224))⟩ : View.Piece (Elt Ideal) S256x2816 .bf16),
      ⟨Rect.unit ![0, 0] ![256, 1408] inb_S256x2816_S256x1408_0_0,
        k0_pay7 (View.ld x3 (Rect.unit ![0, 0] ![256, 1408] inb_S256x5632_S256x1408_0_0))
          (View.ld x3 (Rect.unit ![0, 2816] ![256, 1408] inb_S256x5632_S256x1408_0_2816))⟩] i
      = ((A.h (i 0) (i 1) : ℝ) : EReal) := by
  have L := half_of H 2816 0 rfl inb_S2816x1024_S1408x1024_0_0 inb_S256x5632_S256x1408_0_0 inb_S256x5632_S256x1408_0_2816
  have R := half_of H 4224 1408 rfl inb_S2816x1024_S1408x1024_1408_0 inb_S256x5632_S256x1408_0_1408 inb_S256x5632_S256x1408_0_4224
  canon_tiles x h
  · refine (h_apply R x).trans ?_
    rw [h0, h1]
  · refine (h_apply L x).trans ?_
    rw [h0, h1, zero_add]

variable (m : (ℓ : Loc nD τ sig) → Buf (Elt Ideal) ℓ)
variable {c : Dev nD} {t : Fin cfg0.N}

/-- The input blocks of point `t` and the weight it finds hold the reals of `A`. -/
abbrev HoldsAt (A : Ffn.Hid) (c : Dev nD) (t : Fin cfg0.N) (o : Vec Ideal S2816x1024 .bf16) : Prop :=
  Holds A (iblk m c 0 t) (iblk m c 1 t) o

/-- What a point leaves: the blocks of its rows, and the weight as found. -/
structure Leaves (A : Ffn.Hid) (o : Vec Ideal S2816x1024 .bf16)
    (u : Vec Ideal S256x1024 .bf16 × Vec Ideal S256x2816 .bf16 × Vec Ideal S256x5632 .bf16 × Vec Ideal S2816x1024 .bf16) : Prop where
  half : ∀ i, u.1 i = ((A.half (i 0) (i 1) : ℝ) : EReal)
  h : ∀ i, u.2.1 i = ((A.h (i 0) (i 1) : ℝ) : EReal)
  dgu : ∀ i, u.2.2.1 i = ((A.dgu (i 0) (i 1) : ℝ) : EReal)
  o : u.2.2.2 = o

set_option maxHeartbeats 1000000 in
/-- The first point. -/
theorem leaves_A {A : Ffn.Hid} (H : HoldsAt m A c t (V m c main_v0)) (h0 : t.val % 32 = 0) :
    Leaves A (V m c main_v0) (outsAt0 m c t.val t.isLt) := by
  rw [outsAt0_A m c t h0]
  revert H
  generalize V m c main_v0 = o
  intro H
  constructor
  case o => exact funext fun i => by dsimp only; frame_open; frame_out; exact congrFun (canon_whole _) i
  all_goals
    intro i
    dsimp only
    frame_open
    simp (disch := decide) only [↓ View.readCov_skip, ↓ View.readCov_cons_toLoadRect, ↓ View.readCov_fill]
    frame_out
    try simp only [readCov_all, readCov_whole, canon_whole]
  · exact half_apply H.dy i
  · exact h_stores H i
  · exact dgu_stores H i

set_option maxHeartbeats 1000000 in
/-- A later point, from what the point before it left. -/
theorem leaves_B {A : Ffn.Hid} {o : Vec Ideal S2816x1024 .bf16} (H : HoldsAt m A c t o) (h0 : ¬t.val % 32 = 0)
    (ho : (outsAt0 m c (t.val - 1) (Nat.lt_of_le_of_lt (Nat.sub_le _ _) t.isLt)).2.2.2 = o) :
    Leaves A o (outsAt0 m c t.val t.isLt) := by
  rw [outsAt0_B m c t h0]
  revert ho
  generalize (outsAt0 m c (t.val - 1) (Nat.lt_of_le_of_lt (Nat.sub_le _ _) t.isLt)) = acc
  intro ho
  subst ho
  constructor
  case o => rfl
  all_goals
    intro i
    dsimp only
    frame_open
    simp (disch := decide) only [↓ View.readCov_skip, ↓ View.readCov_cons_toLoadRect, ↓ View.readCov_fill]
    frame_out
    try simp only [readCov_all, read_unread_whole]
  · exact half_apply H.dy i
  · exact h_stores H i
  · exact dgu_stores H i

end Cert.Kernel6Ideal.Block

end
-- ==== Proof.HidVjp.lean ====
/-
  The hidden half's reference at an index: each printed operation of the forward and backward pass is the real quantity of
  Proof/HidSpec.lean, at whole-array rows; and arrays that pass the precondition hold the reals of a `Hid`.
-/
module

public import proofs.«01_k».proof.Proof.HidSpec
public import proofs.«01_k».proof.Proof.Finite
public import proofs.«01_k».proof.Proof.Gen.Reference6Ideal.Read
public import proofs.«01_k».proof.Pre_finite6
public import Idealize.ShloMosaic.Lib.Pointwise

@[expose] public section

set_option maxRecDepth 16384

noncomputable section

open Idealize.ShloMosaic Idealize.ShloMosaic.TcCoe Idealize.SL.Sem Cert.Sgu Cert.Ffn

namespace Cert.Reference6Ideal.Vjp

open Cert.Reference6Ideal Cert.Reference6Ideal.Gen Cert.Reference6Ideal.Read

/-- The three arguments hold the reals of `A`. -/
structure Holds (A : Ffn.Hid) (x0 : Vec Ideal S8192x1024 .f32) (x1 : Vec Ideal S8192x5632 .bf16) (x2 : Vec Ideal S2816x1024 .f32) :
    Prop where
  dy : ∀ i, x0 i = ((A.dy (i 0) (i 1) : ℝ) : EReal)
  gu : ∀ i, x1 i = ((A.gu (i 0) (i 1) : ℝ) : EReal)
  o : ∀ i, x2 i = ((A.o (i 0) (i 1) : ℝ) : EReal)

variable {A : Ffn.Hid} {x0 : Vec Ideal S8192x1024 .f32} {x1 : Vec Ideal S8192x5632 .bf16} {x2 : Vec Ideal S2816x1024 .f32}

/-- The gate. -/
theorem v1_apply (H : Holds A x0 x1 x2) (i : S8192x2816.Idx) :
    val_main_v1 (F := Ideal) x1 i = ((A.gu (i 0) (i 1) : ℝ) : EReal) := by
  rw [val_main_v1_apply, val_main_v0_apply, H.gu, Ideal.extf_def]

/-- The other half. -/
theorem v2_apply (H : Holds A x0 x1 x2) (i : S8192x2816.Idx) :
    val_main_v2 (F := Ideal) x1 i = ((A.gu (i 0) (2816 + i 1) : ℝ) : EReal) := by
  rw [val_main_v2_apply, val_main_v0_apply, H.gu, Ideal.extf_def]

/-- The gate's logistic. -/
theorem v3_2_apply (H : Holds A x0 x1 x2) (i : S8192x2816.Idx) :
    val_main_v3_2 (F := Ideal) x1 i = ((logistic (A.gu (i 0) (i 1)) : ℝ) : EReal) := by
  simp only [val_main_v3_2_apply, val_main_call0_v4_apply, val_main_call0_cst_0_apply, val_main_call0_v3_apply,
    val_main_call0_v2_apply, val_main_call0_cst_apply, val_main_call0_v1_apply, val_main_call0_v0_apply, v1_apply H,
    Ideal.hostNegf_def, Ideal.negf_def, ← EReal.coe_neg, Ideal.hostUnary_exp_def, Ideal.exp_coe, Ideal.addf_def, Ideal.ofBits_def,
    ofBits_one, ← EReal.coe_add, Ideal.hostDivf_def]
  exact one_div_coe (by have := Real.exp_pos (-A.gu (i 0) (i 1)); linarith)

/-- The logistic's derivative. -/
theorem v3_1_apply (H : Holds A x0 x1 x2) (i : S8192x2816.Idx) :
    val_main_v3_1 (F := Ideal) x1 i
      = ((logistic (A.gu (i 0) (i 1)) * (1 - logistic (A.gu (i 0) (i 1))) : ℝ) : EReal) := by
  simp only [val_main_v3_1_apply, val_main_call0_v7_apply, val_main_call0_v6_apply, val_main_call0_cst_1_apply, v3_2_apply H,
    Ideal.subf_def, Ideal.mulf_def, Ideal.ofBits_def, ofBits_one, ← EReal.coe_sub, ← EReal.coe_mul]

/-- The activated gate. -/
theorem v3_0_apply (H : Holds A x0 x1 x2) (i : S8192x2816.Idx) :
    val_main_v3_0 (F := Ideal) x1 i = ((silu (A.gu (i 0) (i 1)) : ℝ) : EReal) := by
  rw [val_main_v3_0_apply, v1_apply H, v3_2_apply H, Ideal.mulf_def, ← EReal.coe_mul]
  rfl

/-- Result 1, the gated hidden layer. -/
theorem v11_apply (H : Holds A x0 x1 x2) (i : S8192x2816.Idx) :
    val_main_v11 (F := Ideal) x1 i = ((A.h (i 0) (i 1) : ℝ) : EReal) := by
  rw [val_main_v11_apply, val_main_v4_apply, v3_0_apply H, v2_apply H, Ideal.truncf_def, Ideal.mulf_def, ← EReal.coe_mul]
  rfl

/-- Result 0, half the incoming gradient. -/
theorem v10_apply (H : Holds A x0 x1 x2) (i : S8192x1024.Idx) :
    val_main_v10 (F := Ideal) x0 i = ((A.half (i 0) (i 1) : ℝ) : EReal) := by
  simp only [val_main_v10_apply, val_main_v9_apply, val_main_v8_apply, val_main_cst_0_apply, H.dy, Ideal.truncf_def,
    Ideal.mulf_def, Ideal.ofBits_def, ofBits_half, ← EReal.coe_mul]
  rfl

/-- The gradient of the gated hidden layer. -/
theorem v14_apply (H : Holds A x0 x1 x2) (i : S8192x2816.Idx) :
    val_main_v14 (F := Ideal) x0 x2 i = ((A.dh (i 0) (i 1) : ℝ) : EReal) := by
  simp only [val_main_v14_apply, val_main_v13_apply, val_main_v12_apply, val_main_cst_1_apply, H.dy, H.o,
    Ideal.mulf_def, Ideal.ofBits_def, ofBits_half, ← EReal.coe_mul, coe_sum]
  rfl

/-- The gradient of the gate. -/
theorem v17_apply (H : Holds A x0 x1 x2) (i : S8192x2816.Idx) :
    val_main_v17 (F := Ideal) x0 x1 x2 i = ((A.dgate (i 0) (i 1) : ℝ) : EReal) := by
  simp only [val_main_v17_apply, val_main_call1_v2_apply, val_main_call1_v1_apply, val_main_call1_v0_apply, val_main_v16_apply,
    v3_1_apply H, v3_2_apply H, v14_apply H, v1_apply H, v2_apply H, Ideal.mulf_def, Ideal.addf_def, ← EReal.coe_mul,
    ← EReal.coe_add]
  congr 1
  unfold Hid.dgate
  ring

/-- The gradient of the up projection's output. -/
theorem v15_apply (H : Holds A x0 x1 x2) (i : S8192x2816.Idx) :
    val_main_v15 (F := Ideal) x0 x1 x2 i = ((A.dup (i 0) (i 1) : ℝ) : EReal) := by
  rw [val_main_v15_apply, v3_0_apply H, v14_apply H, Ideal.mulf_def, ← EReal.coe_mul, mul_comm]
  rfl

/-- Both, side by side. -/
theorem v18_apply (H : Holds A x0 x1 x2) (i : S8192x5632.Idx) :
    val_main_v18 (F := Ideal) x0 x1 x2 i = ((A.dgu (i 0) (i 1) : ℝ) : EReal) := by
  have h1 : (i 1).val < 5632 := (i 1).isLt
  rw [Hid.dgu]
  pointwise [val_main_v18]
  split
  · rw [v17_apply H]
    rfl
  · rw [v15_apply H]
    rfl

/-- Result 2, the gradient of the hidden layer. -/
theorem v19_apply (H : Holds A x0 x1 x2) (i : S8192x5632.Idx) :
    val_main_v19 (F := Ideal) x0 x1 x2 i = ((A.dgu (i 0) (i 1) : ℝ) : EReal) := by
  rw [val_main_v19_apply, v18_apply H]
  rfl

end Cert.Reference6Ideal.Vjp

namespace Cert.Ffn.Hid

/-- The facts the precondition's printed function states. -/
instance pre_facts : Cert.Pre_finite6.Facts where
  bcast_S_S8192x1024 := ⟨fun a => a.elim0, fun a => a.elim0⟩
  bcast_S_S8192x5632 := ⟨fun a => a.elim0, fun a => a.elim0⟩
  bcast_S_S2816x1024 := ⟨fun a => a.elim0, fun a => a.elim0⟩

open Cert.Reference6Ideal Cert.Reference6Ideal.Vjp

/-- Arrays that pass the precondition hold the reals of some `Hid`. -/
theorem holds_of_pre {x0 : FVec Ideal S8192x1024 .f32} {x1 : FVec Ideal S8192x5632 .bf16} {x2 : FVec Ideal S2816x1024 .f32}
    (h0 : (Cert.Pre_finite6.fn (F := Ideal) x0 x1 x2).1 = fun _ => 1#1)
    (h1 : (Cert.Pre_finite6.fn (F := Ideal) x0 x1 x2).2.1 = fun _ => 1#1)
    (h2 : (Cert.Pre_finite6.fn (F := Ideal) x0 x1 x2).2.2 = fun _ => 1#1) : ∃ A : Hid, Holds A x0 x1 x2 :=
  ⟨{ dy := nat2 x0, gu := nat2 x1, o := nat2 x2 },
    { dy := fun i => nat2_apply x0 i (finite_of_pre ofBits_inf h0 i)
      gu := fun i => nat2_apply x1 i (finite_of_pre ofBits_inf_bf16 h1 i)
      o := fun i => nat2_apply x2 i (finite_of_pre ofBits_inf h2 i) }⟩

end Cert.Ffn.Hid

end
-- ==== Proof.HidArrays.lean ====
/-
  From the grid points to the arrays: the host rounds the weight before the kernel; each point's blocks are 256 rows of the
  arguments; and after the last point the result arrays hold the quantities of Proof/HidSpec.lean over all 8192 rows.
-/
module

public import proofs.«01_k».proof.Proof.HidPoint
public import proofs.«01_k».proof.Proof.HidVjp
public import proofs.«01_k».proof.Proof.Gen.Kernel6Ideal.Value
public import Idealize.ShloMosaic.Lib.StableHlo.Run

@[expose] public section

set_option maxRecDepth 16384

noncomputable section

open Idealize.ShloMosaic Idealize.ShloMosaic.TcCoe Idealize.SL.Sem Cert.Sgu Cert.Ffn Cert.Stores

namespace Cert.Kernel6Ideal.Block

open Cert.Kernel6Ideal Cert.Kernel6Ideal.Gen Cert.Kernel6Ideal.Value

variable {m : (ℓ : Loc nD τ sig) → Buf (Elt Ideal) ℓ} {A : Ffn.Hid} {c : Dev nD}

/-- The argument arrays hold the reals of `A`. -/
abbrev Input (m : (ℓ : Loc nD τ sig) → Buf (Elt Ideal) ℓ) (A : Ffn.Hid) (c : Dev nD) : Prop :=
  Cert.Reference6Ideal.Vjp.Holds A (m ((c : Thread nD τ).loc main_arg0)) (m ((c : Thread nD τ).loc main_arg1))
    (m ((c : Thread nD τ).loc main_arg2))

/-- The projection out, as the kernel is given it. -/
theorem V_main_v0 : (V m c main_v0 : FVec Ideal S2816x1024 .bf16)
    = truncf (F := Ideal) .bf16 (m ((c : Thread nD τ).loc main_arg2)) bitsLt_bf16_f32 := by
  show StableHlo.after hostOps0 _ (Proc.devRef .tc main_v0) = _
  after_results

/-- It holds the reals of `A`. -/
theorem o_apply (H : Input m A c) (i : S2816x1024.Idx) : V m c main_v0 i = ((A.o (i 0) (i 1) : ℝ) : EReal) := by
  rw [V_main_v0]
  exact H.o i

/-- Which block of its array each window shows at point `t`: the `t`-th 256 rows. -/
theorem index_at : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

/-- The input blocks of point `t` hold the `t`-th rows of `A`. -/
theorem holdsAt (H : Input m A c) (t : Fin cfg0.N) : HoldsAt m (A.block t.val) c t (V m c main_v0) := by
  obtain ⟨⟨a0, a1⟩, ⟨b0, b1⟩, -⟩ := index_at t
  refine ⟨fun y => ?_, fun y => ?_, fun i => o_apply H i⟩
  · show V m c main_arg0 (((cfg0.win 0).blk t).view.emb y) = _
    rw [V_main_arg0]
    refine (H.dy _).trans ?_
    show ((A.dy (win0_0.index t (0 : Fin 2) * 256 + 1 * (y 0 : ℕ)) (win0_0.index t (1 : Fin 2) * 1024 + 1 * (y 1 : ℕ)) : ℝ) : EReal)
      = ((A.dy (256 * t.val + y 0) (y 1) : ℝ) : EReal)
    rw [a0, a1, zero_mul, zero_add, one_mul, one_mul, Nat.mul_comm]
  · show V m c main_arg1 (((cfg0.win 1).blk t).view.emb y) = _
    rw [V_main_arg1]
    refine (H.gu _).trans ?_
    show ((A.gu (win0_1.index t (0 : Fin 2) * 256 + 1 * (y 0 : ℕ)) (win0_1.index t (1 : Fin 2) * 5632 + 1 * (y 1 : ℕ)) : ℝ) : EReal)
      = ((A.gu (256 * t.val + y 0) (y 1) : ℝ) : EReal)
    rw [b0, b1, zero_mul, zero_add, one_mul, one_mul, Nat.mul_comm]

/-- Every point leaves its rows' blocks. -/
theorem leaves (H : Input m A c) (n : ℕ) : ∀ h : n < cfg0.N, Leaves (A.block n) (V m c main_v0) (outsAt0 m c n h) := by
  induction n with
  | zero =>
    intro h
    have l := leaves_A m (holdsAt H ⟨0, h⟩) (Nat.zero_mod 32)
    generalize V m c main_v0 = o at l ⊢
    exact l
  | succ n ih =>
    intro h
    have hN : n + 1 < 32 := lt_of_lt_of_eq h N_0
    have i1 := ih (Nat.lt_of_succ_lt h)
    have hh := holdsAt H ⟨n + 1, h⟩
    generalize V m c main_v0 = o at i1 hh ⊢
    have l := leaves_B m hh (by show ¬(n + 1) % 32 = 0; omega) i1.o
    exact l

/-- The point whose block holds row `r`. -/
def pointOf (r : Fin 8192) : Fin cfg0.N := ⟨r.val / 256, lt_of_lt_of_eq (by omega) N_0.symm⟩

/-- The result array of window 2, half the gradient handed in, rounded. -/
theorem half_array (H : Input m A c) :
    (dats m 0 c).arrAt 2 cfg0.N = fun i : S8192x1024.Idx => ((A.half (i 0) (i 1) : ℝ) : EReal) := by
  refine (dats m 0 c).arrAt_eq_of_cover 2 _ (fun t _ => ?_) fun i => ⟨pointOf (i 0), flush0_2 _, ?_⟩
  · rw [flushed2]
    exact funext fun y => ((leaves H t.val t.isLt).half ((cfg0.win 2).xinj (grid0.coords t) y)).trans
      (shown A.half 256 1024 (index_at t).2.2.1 (y 0) (y 1))
  · show i ∈ ((View.whole main_v1_0).slice (win0_2.rect (pointOf (i 0)))).set
    rw [View.set_slice_whole, Rect.mem_set_unit]
    exact Fin.forall_fin_two.mpr (inside (b := 256) (n := 1024) (by decide) (index_at (pointOf (i 0))).2.2.1 (i 1).isLt)

/-- The result array of window 3, the gated hidden layer, rounded. -/
theorem h_array (H : Input m A c) :
    (dats m 0 c).arrAt 3 cfg0.N = fun i : S8192x2816.Idx => ((A.h (i 0) (i 1) : ℝ) : EReal) := by
  refine (dats m 0 c).arrAt_eq_of_cover 3 _ (fun t _ => ?_) fun i => ⟨pointOf (i 0), flush0_3 _, ?_⟩
  · rw [flushed3]
    exact funext fun y => ((leaves H t.val t.isLt).h ((cfg0.win 3).xinj (grid0.coords t) y)).trans
      (shown A.h 256 2816 (index_at t).2.2.2.1 (y 0) (y 1))
  · show i ∈ ((View.whole main_v1_1).slice (win0_3.rect (pointOf (i 0)))).set
    rw [View.set_slice_whole, Rect.mem_set_unit]
    exact Fin.forall_fin_two.mpr (inside (b := 256) (n := 2816) (by decide) (index_at (pointOf (i 0))).2.2.2.1 (i 1).isLt)

/-- The result array of window 4, the hidden layer's gradient, rounded. -/
theorem dgu_array (H : Input m A c) :
    (dats m 0 c).arrAt 4 cfg0.N = fun i : S8192x5632.Idx => ((A.dgu (i 0) (i 1) : ℝ) : EReal) := by
  refine (dats m 0 c).arrAt_eq_of_cover 4 _ (fun t _ => ?_) fun i => ⟨pointOf (i 0), flush0_4 _, ?_⟩
  · rw [flushed4]
    exact funext fun y => ((leaves H t.val t.isLt).dgu ((cfg0.win 4).xinj (grid0.coords t) y)).trans
      (shown A.dgu 256 5632 (index_at t).2.2.2.2 (y 0) (y 1))
  · show i ∈ ((View.whole main_v1_2).slice (win0_4.rect (pointOf (i 0)))).set
    rw [View.set_slice_whole, Rect.mem_set_unit]
    exact Fin.forall_fin_two.mpr (inside (b := 256) (n := 5632) (by decide) (index_at (pointOf (i 0))).2.2.2.2 (i 1).isLt)

end Cert.Kernel6Ideal.Block

end
-- ==== Proof.DwinArrays.lean ====
/-
  The gradient of the projection in, computed by the kernel and by the reference: a grid point adds its 2048 rows to the sum it
  carries, which starts from zero at every fourth point, and the fourth point writes a quarter of the columns' gradient; the
  reference contracts all 8192 rows at once. In `Grad`, `h` is here the gradient of the hidden layer and `d` the normalized rows.
-/
module

public import proofs.«01_k».proof.Proof.GradSpec
public import proofs.«01_k».proof.Proof.Stores
public import proofs.«01_k».proof.Proof.Gen.Kernel7Ideal.Value
public import proofs.«01_k».proof.Proof.Gen.Reference7Ideal.Read
public import Idealize.ShloMosaic.Lib.Pointwise

@[expose] public section

set_option maxRecDepth 16384

noncomputable section

open Idealize.ShloMosaic Idealize.ShloMosaic.TcCoe Idealize.SL.Sem Cert.Sgu Cert.Ffn Cert.Stores

namespace Cert.Reference7Ideal.Grad

open Cert.Reference7Ideal Cert.Reference7Ideal.Gen Cert.Reference7Ideal.Read

/-- The result: a quarter of the columns' gradient at each first index. -/
theorem v8_apply {A : Ffn.Grad} {x0 : Vec Ideal S8192x5632 .bf16} {x1 : Vec Ideal S8192x1024 .bf16}
    (h0 : ∀ i, x0 i = A.h (i 0) (i 1)) (h1 : ∀ i, x1 i = A.d (i 0) (i 1)) (i : S4x1408x1024.Idx) :
    val_main_v8 (F := Ideal) x0 x1 i = A.dw 8192 (1408 * (i 0 : ℕ) + (i 1 : ℕ)) (i 2) := by
  have k2 : (i 2 : ℕ) < 1024 := (i 2).isLt
  simp only [val_main_v8_apply, val_main_v7_apply, val_main_v6_apply, val_main_v5_apply, val_main_v4_apply, val_main_v3_apply, val_main_v1_apply,
    h0, h1, Ideal.extf_def, Ideal.truncf_def]
  rw [Ffn.Grad.dw, Finset.sum_range]
  refine Finset.sum_congr rfl fun k _ => ?_
  show A.h k ((((i 0 : ℕ) * 1408 + (i 1 : ℕ)) * 1024 + (i 2 : ℕ)) / 1024)
      * A.d k ((((i 0 : ℕ) * 1408 + (i 1 : ℕ)) * 1024 + (i 2 : ℕ)) % 1024) = _
  rw [show (((i 0 : ℕ) * 1408 + (i 1 : ℕ)) * 1024 + (i 2 : ℕ)) % 1024 = i 2 by omega,
    show (((i 0 : ℕ) * 1408 + (i 1 : ℕ)) * 1024 + (i 2 : ℕ)) / 1024 = 1408 * (i 0 : ℕ) + (i 1 : ℕ) by omega]

end Cert.Reference7Ideal.Grad

namespace Cert.Kernel7Ideal.Block

open Cert.Kernel7Ideal Cert.Kernel7Ideal.Gen Cert.Kernel7Ideal.Value

/-- The two input blocks hold the entries of `A`. -/
structure Holds (A : Ffn.Grad) (x0 : Vec Ideal S2048x1408 .bf16) (x1 : Vec Ideal S2048x1024 .bf16) : Prop where
  h : ∀ i, x0 i = A.h (i 0) (i 1)
  d : ∀ i, x1 i = A.d (i 0) (i 1)

variable {A : Ffn.Grad} {x0 : Vec Ideal S2048x1408 .bf16} {x1 : Vec Ideal S2048x1024 .bf16}

/-- The sum so far plus the products of this block's rows. -/
theorem sum_apply (H : Holds A x0 x1) {acc : Vec Ideal S1408x1024 .f32} {R : ℕ → ℕ → EReal}
    (hR : ∀ i, acc i = R (i 0) (i 1)) (i : S1408x1024.Idx) :
    k0_pay2 acc x0 x1 i = R (i 0) (i 1) + A.dw 2048 (i 0) (i 1) := by
  pointwise [k0_pay2]
  simp only [H.h, H.d, hR]
  rw [Ffn.Grad.dw, Finset.sum_range]
  rfl

/-- The sum that the first point of a quarter starts from. -/
theorem no_sum (i : S1408x1024.Idx) : k0_pay1 (F := Ideal) i = 0 := by
  pointwise [k0_pay1]

/-- What the last point of a quarter writes. -/
theorem out_apply {acc : Vec Ideal S1408x1024 .f32} {R : ℕ → ℕ → EReal} (hR : ∀ i, acc i = R (i 0) (i 1))
    (i : S1x1408x1024.Idx) : k0_pay3 (F := Ideal) acc i = R (i 1) (i 2) := by
  have k0 : (i 0 : ℕ) < 1 := (i 0).isLt
  pointwise [k0_pay3]
  exact hR _

variable (m : (ℓ : Loc nD τ sig) → Buf (Elt Ideal) ℓ)
variable {c : Dev nD} {t : Fin cfg0.N}

/-- The sum after a point that is the first of its quarter. -/
theorem first (H : Holds A (iblk m c 0 t) (iblk m c 1 t)) (h0 : t.val % 4 = 0) (i : S1408x1024.Idx) :
    (outsAt0 m c t.val t.isLt).2 i = 0 + A.dw 2048 (i 0) (i 1) := by
  rw [outsAt0_A m c t h0 (by omega)]
  dsimp only
  frame_open
  simp (disch := decide) only [↓ View.readCov_skip, ↓ View.readCov_cons_toLoadRect, ↓ View.readCov_fill]
  frame_out
  try simp only [readCov_all, readCov_whole, canon_whole]
  exact sum_apply H (R := fun _ _ => 0) no_sum i

/-- The sum after a later point, from what the point before it left. -/
theorem later (H : Holds A (iblk m c 0 t) (iblk m c 1 t)) (h0 : ¬t.val % 4 = 0) {R : ℕ → ℕ → EReal}
    (hR : ∀ i, (outsAt0 m c (t.val - 1) (Nat.lt_of_le_of_lt (Nat.sub_le _ _) t.isLt)).2 i = R (i 0) (i 1)) (i : S1408x1024.Idx) :
    (outsAt0 m c t.val t.isLt).2 i = R (i 0) (i 1) + A.dw 2048 (i 0) (i 1) := by
  by_cases h1 : t.val % 4 = 3
  · rw [outsAt0_C m c t h0 h1]
    revert hR
    generalize (outsAt0 m c (t.val - 1) (Nat.lt_of_le_of_lt (Nat.sub_le _ _) t.isLt)) = acc
    intro hR
    dsimp only
    frame_open
    simp (disch := decide) only [↓ View.readCov_skip, ↓ View.readCov_cons_toLoadRect, ↓ View.readCov_fill]
    frame_out
    try simp only [readCov_all, read_unread_whole]
    exact sum_apply H hR i
  · rw [outsAt0_B m c t h0 h1]
    revert hR
    generalize (outsAt0 m c (t.val - 1) (Nat.lt_of_le_of_lt (Nat.sub_le _ _) t.isLt)) = acc
    intro hR
    dsimp only
    frame_open
    simp (disch := decide) only [↓ View.readCov_skip, ↓ View.readCov_cons_toLoadRect, ↓ View.readCov_fill]
    frame_out
    try simp only [readCov_all, read_unread_whole]
    exact sum_apply H hR i

/-- The last point of a quarter writes the sum it leaves. -/
theorem last (h1 : t.val % 4 = 3) (i : S1x1408x1024.Idx) : (outsAt0 m c t.val t.isLt).1 i
    = (k0_pay3 (F := Ideal) (outsAt0 m c t.val t.isLt).2) i := by
  rw [outsAt0_C m c t (by omega) h1]
  generalize (outsAt0 m c (t.val - 1) (Nat.lt_of_le_of_lt (Nat.sub_le _ _) t.isLt)) = acc
  dsimp only
  frame_open
  simp (disch := decide) only [↓ View.readCov_skip, ↓ View.readCov_cons_toLoadRect, ↓ View.readCov_fill]
  frame_out
  try simp only [readCov_all, read_unread_whole]

variable {m}

/-- The argument arrays hold the entries of `A`. -/
structure Input (m : (ℓ : Loc nD τ sig) → Buf (Elt Ideal) ℓ) (A : Ffn.Grad) (c : Dev nD) : Prop where
  h : ∀ i, (m ((c : Thread nD τ).loc main_arg0) : Vec Ideal S8192x5632 .bf16) i = A.h (i 0) (i 1)
  d : ∀ i, (m ((c : Thread nD τ).loc main_arg1) : Vec Ideal S8192x1024 .bf16) i = A.d (i 0) (i 1)

/-- Which block of its array each window shows at point `t`: rows by `t mod 4`, columns by `t / 4`. -/
theorem index_at : ∀ t : Fin cfg0.N, (win0_0.index t (0 : Fin 2) = t.val % 4 ∧ win0_0.index t (1 : Fin 2) = t.val / 4)
    ∧ (win0_1.index t (0 : Fin 2) = t.val % 4 ∧ win0_1.index t (1 : Fin 2) = 0)
    ∧ (win0_2.index t (0 : Fin 3) = t.val / 4 ∧ win0_2.index t (1 : Fin 3) = 0 ∧ win0_2.index t (2 : Fin 3) = 0) :=
  (by decide +kernel : ∀ t : Fin grid0.N, _)

/-- The input blocks of point `t` hold its rows and columns of `A`. -/
theorem holdsAt (H : Input m A c) (t : Fin cfg0.N) : Holds (A.block t.val) (iblk m c 0 t) (iblk m c 1 t) := by
  obtain ⟨⟨ih, ih'⟩, ⟨id, id'⟩, -⟩ := index_at t
  refine ⟨fun y => ?_, fun y => ?_⟩
  · show V m c main_arg0 (((cfg0.win 0).blk t).view.emb y) = _
    rw [V_main_arg0]
    refine (H.h _).trans ?_
    show A.h (win0_0.index t (0 : Fin 2) * 2048 + 1 * (y 0 : ℕ)) (win0_0.index t (1 : Fin 2) * 1408 + 1 * (y 1 : ℕ)) = _
    rw [ih, ih']
    rfl
  · show V m c main_arg1 (((cfg0.win 1).blk t).view.emb y) = _
    rw [V_main_arg1]
    refine (H.d _).trans ?_
    show A.d (win0_1.index t (0 : Fin 2) * 2048 + 1 * (y 0 : ℕ)) (win0_1.index t (1 : Fin 2) * 1024 + 1 * (y 1 : ℕ)) = _
    rw [id, id']
    rfl

/-- The sum after a point is over the rows of its quarter so far. -/
theorem sum_at (H : Input m A c) (n : ℕ) : ∀ (h : n < cfg0.N) (i : S1408x1024.Idx),
    (outsAt0 m c n h).2 i = A.dw (2048 * (n % 4) + 2048) (1408 * (n / 4) + (i 0 : ℕ)) (i 1) := by
  induction n with
  | zero =>
    intro h i
    have l := first m (holdsAt H ⟨0, h⟩) (Nat.zero_mod 4) i
    rw [Ffn.Grad.dw_succ]
    exact l
  | succ n ih =>
    intro h i
    rw [Ffn.Grad.dw_succ]
    by_cases h0 : (n + 1) % 4 = 0
    · have l := first m (holdsAt H ⟨n + 1, h⟩) h0 i
      rw [h0]
      refine l.trans (congrArg (· + _) ?_)
      simp [Ffn.Grad.dw]
    · have l := later m (R := fun r k => A.dw (2048 * ((n + 1) % 4)) (1408 * ((n + 1) / 4) + r) k) (holdsAt H ⟨n + 1, h⟩) h0
        (fun i => (ih (Nat.lt_of_succ_lt h) i).trans (by
          rw [show 2048 * (n % 4) + 2048 = 2048 * ((n + 1) % 4) by omega, show n / 4 = (n + 1) / 4 by omega])) i
      exact l

/-- The result array. -/
theorem dw_array (H : Input m A c) : (dats m 0 c).arrAt 2 cfg0.N
    = fun i : S4x1408x1024.Idx => A.dw 8192 (1408 * (i 0 : ℕ) + (i 1 : ℕ)) (i 2) := by
  refine (dats m 0 c).arrAt_eq_of_cover 2 _ (fun t hf => ?_) fun i => ?_
  · have h3 := (flush0_2 t).mp hf
    rw [flushed2]
    funext y
    have y0 : (y 0 : ℕ) < 1 := (y 0).isLt
    refine (last m h3 ((cfg0.win 2).xinj (grid0.coords t) y)).trans ((out_apply (R := fun r k =>
      A.dw (2048 * (t.val % 4) + 2048) (1408 * (t.val / 4) + r) k) (sum_at H t.val t.isLt) _).trans ?_)
    obtain ⟨-, -, i0, i1, i2⟩ := index_at t
    show A.dw (2048 * (t.val % 4) + 2048) (1408 * (t.val / 4) + (y 1 : ℕ)) (y 2 : ℕ)
      = A.dw 8192 (1408 * (win0_2.index t (0 : Fin 3) * 1 + 1 * (y 0 : ℕ)) + (win0_2.index t (1 : Fin 3) * 1408 + 1 * (y 1 : ℕ)))
        (win0_2.index t (2 : Fin 3) * 1024 + 1 * (y 2 : ℕ))
    rw [i0, i1, i2, h3, show (y 0 : ℕ) = 0 by omega]
    simp only [zero_mul, zero_add, one_mul, mul_one, mul_zero, add_zero]
  · exact (covered_iff2 i).mpr ⟨Nat.zero_le _, (i 0).isLt, Nat.zero_le _, (i 1).isLt, Nat.zero_le _, (i 2).isLt⟩

end Cert.Kernel7Ideal.Block

end
-- ==== Proof.FwdSpec.lean ====
/-
  The first feed-forward layer's forward: `Fwd` holds the four arguments as functions of natural indices, and the layer's
  quantities are written over the extended reals, infinite entries and all. Kernel and reference take the same sums and products,
  up to the sigmoid: the kernel writes it with `tanh`, the reference with `exp`, and the two agree at every extended real.
-/
module

public import proofs.«01_k».proof.Proof.FfnSpec
public import proofs.«01_k».proof.Proof.GradSpec

@[expose] public section

noncomputable section

open Idealize.ShloMosaic Cert.Sgu

namespace Cert.Ffn

/-- The kernel's form of the sigmoid, at every extended real. -/
theorem half_tanh (x : EReal) : ((1 / 2 : ℝ) : EReal) * Ideal.tanh (((1 / 2 : ℝ) : EReal) * x) + ((1 / 2 : ℝ) : EReal) = Ideal.logistic x := by
  have p : (0 : ℝ) < 1 / 2 := by norm_num
  induction x with
  | bot =>
    rw [EReal.coe_mul_bot_of_pos p, Ideal.tanh_bot, Ideal.logistic_bot, ← EReal.coe_one, ← EReal.coe_neg, ← EReal.coe_mul,
      ← EReal.coe_add]
    norm_num
  | coe x =>
    rw [← EReal.coe_mul, Ideal.tanh_coe, ← EReal.coe_mul, ← EReal.coe_add, logistic_tanh, Ideal.logistic_coe, logistic, one_div]
  | top =>
    rw [EReal.coe_mul_top_of_pos p, Ideal.tanh_top, Ideal.logistic_top, ← EReal.coe_one, ← EReal.coe_mul, ← EReal.coe_add]
    norm_num

/-- The arguments at natural indices: the layer's input `x` (row, column), the norm's gain `g`, the projections `w` into the hidden
    layer (1024 by 5632, the gate's columns first) and `o` out of it (2816 by 1024). -/
structure Fwd where
  x : ℕ → ℕ → EReal
  g : ℕ → EReal
  w : ℕ → ℕ → EReal
  o : ℕ → ℕ → EReal

namespace Fwd

variable (A : Fwd)

/-- The normalized input. -/
def xn (t c : ℕ) : EReal :=
  A.x t c * Ideal.rsqrt (Ideal.div (∑ k : Fin 1024, A.x t k * A.x t k) ((1024 : ℝ) : EReal) + ((eps : ℝ) : EReal)) * A.g c

/-- The hidden layer: the gate in the first 2816 columns, the other factor in the rest. -/
def gu (t c : ℕ) : EReal := ∑ k : Fin 1024, A.xn t k * A.w k c

/-- The gated hidden layer. -/
def h (t c : ℕ) : EReal := A.gu t c * Ideal.logistic (A.gu t c) * A.gu t (2816 + c)

/-- The layer's output. -/
def out (t c : ℕ) : EReal := A.x t c + ((1 / 2 : ℝ) : EReal) * ∑ k : Fin 2816, A.h t k * A.o k c

/-- The arguments with their rows counted from `256 t`. -/
def block (t : ℕ) : Fwd where
  x := fun r c => A.x (256 * t + r) c
  g := A.g
  w := A.w
  o := A.o

end Fwd

/-- A one-row array at natural indices. -/
def Grad.row {n : ℕ} (x : (⟨2, ![1, n]⟩ : Shape).Idx → EReal) (c : ℕ) : EReal := Grad.nat x 0 c

/-- It holds the array's elements. -/
theorem Grad.row_apply {n : ℕ} (x : (⟨2, ![1, n]⟩ : Shape).Idx → EReal) (i : (⟨2, ![1, n]⟩ : Shape).Idx) : x i = Grad.row x (i 1) := by
  refine (Grad.nat_apply x i).trans ?_
  rw [Grad.row, show (i 0 : ℕ) = 0 by have : (i 0 : ℕ) < 1 := (i 0).isLt; omega]

/-- Row `y` of the block of `b` rows that a window shows at point `t` is row `b * t + y` of the array. -/
theorem shown_at (X : ℕ → ℕ → EReal) (b n : ℕ) {q k t : ℕ} (e : q = t ∧ k = 0) (y z : ℕ) :
    X (b * t + y) z = X (q * b + 1 * y) (k * n + 1 * z) := by
  rw [e.1, e.2, zero_mul, zero_add, one_mul, one_mul, Nat.mul_comm]

end Cert.Ffn

end
-- ==== Proof.FwdPoint.lean ====
/-
  What a grid point of the first layer's forward kernel leaves: its 256 rows of the three results. The first point copies the weights
  into the kernel's own memory; the later ones find them there. The hidden layer is worked in two halves of 1408 columns; the
  kernel's text names the second half's payloads apart from the first's, and the lemmas of a half serve both.
-/
module

public import proofs.«01_k».proof.Proof.FwdSpec
public import proofs.«01_k».proof.Proof.Stores
public import proofs.«01_k».proof.Proof.Gen.Kernel8Ideal.Frame
public import Idealize.ShloMosaic.Lib.Pointwise

@[expose] public section

set_option maxRecDepth 16384

noncomputable section

open Idealize.ShloMosaic Idealize.ShloMosaic.TcCoe Idealize.SL.Sem Cert.Sgu Cert.Ffn Cert.Stores

namespace Cert.Kernel8Ideal.Block

open Cert.Kernel8Ideal Cert.Kernel8Ideal.Gen

/-- The two input blocks and the two weight arrays hold the entries of `A`. -/
structure Holds (A : Fwd) (x0 : Vec Ideal S256x1024 .f32) (x1 : Vec Ideal S1x1024 .f32)
    (w : Vec Ideal S5632x1024 .bf16) (o : Vec Ideal S2816x1024 .bf16) : Prop where
  x : ∀ i, x0 i = A.x (i 0) (i 1)
  g : ∀ i, x1 i = A.g (i 1)
  w : ∀ i, w i = A.w (i 1) (i 0)
  o : ∀ i, o i = A.o (i 0) (i 1)

variable {A : Fwd} {x0 : Vec Ideal S256x1024 .f32} {x1 : Vec Ideal S1x1024 .f32}
  {w : Vec Ideal S5632x1024 .bf16} {o : Vec Ideal S2816x1024 .bf16}

/-- The normalized input. -/
theorem xn_apply (H : Holds A x0 x1 w o) (i : S256x1024.Idx) : k0_pay2 x0 x1 i = A.xn (i 0) (i 1) := by
  pointwise [k0_pay2]
  simp only [H.x, H.g, ofBits_1024, ofBits_eps]
  rfl

/-- The hidden layer's columns that the rows `v` of the projection give. -/
theorem gu_apply (H : Holds A x0 x1 w o) {v : Vec Ideal S1408x1024 .bf16} {q : ℕ}
    (hv : ∀ i, v i = A.w (i 1) (q + i 0)) (i : S256x1408.Idx) : k0_pay3 x0 x1 v i = A.gu (i 0) (q + i 1) := by
  pointwise [k0_pay3]
  simp only [xn_apply H, hv]
  rfl

/-- The gated hidden layer's columns, from the gate's rows and the other factor's. -/
theorem h_apply (H : Holds A x0 x1 w o) {v u : Vec Ideal S1408x1024 .bf16} {q p : ℕ}
    (hv : ∀ i, v i = A.w (i 1) (q + i 0)) (hu : ∀ i, u i = A.w (i 1) (p + i 0))
    (e : p = 2816 + q) (i : S256x1408.Idx) :
    k0_pay8 (k0_pay3 x0 x1 v) (k0_pay4 x0 x1 u) (k0_pay7 x0 x1 v) i = A.h (i 0) (q + i 1) := by
  have hu' : k0_pay4 x0 x1 u i = A.gu (i 0) (2816 + (q + i 1)) :=
    (gu_apply H hu i).trans (by rw [e, Nat.add_assoc])
  pointwise [k0_pay8, k0_pay7]
  rw [gu_apply H hv, hu', ofBits_half, half_tanh]
  rfl

/-- The layer's output, from the gated hidden layer. -/
theorem out_apply (H : Holds A x0 x1 w o) {h : Vec Ideal S256x2816 .bf16} (hh : ∀ i, h i = A.h (i 0) (i 1))
    (i : S256x1024.Idx) :
    k0_pay1 x0 (k0_pay14 h o) (Scalar.ofBits (F := Ideal) .f32 0x3F000000#32) i = A.out (i 0) (i 1) := by
  pointwise [k0_pay1, k0_pay14]
  simp only [H.x, hh, H.o, ofBits_half]
  rfl

/-- The rows of the projection from `q` on, as the kernel loads them. -/
theorem rows_of (H : Holds A x0 x1 w o) (q : ℕ)
    (b : ∀ a, (![q, 0] : Fin 2 → ℕ) a + (![1408, 1024] : Fin 2 → ℕ) a ≤ S5632x1024.size a) (i : S1408x1024.Idx) :
    View.ld w (Rect.unit (s := S5632x1024) ![q, 0] ![1408, 1024] b) i = A.w (i 1) (q + i 0) :=
  (ld_apply w b (X := fun r k => A.w k r) H.w i).trans (by rw [zero_add])

/-- The four stores of the hidden layer leave it. -/
theorem gu_stores (H : Holds A x0 x1 w o) (i : S256x5632.Idx) :
    View.canon [(⟨Rect.unit ![0, 4224] ![256, 1408] inb_S256x5632_S256x1408_0_4224,
        k0_pay12 (k0_pay2 x0 x1) (View.ld w (Rect.unit ![4224, 0] ![1408, 1024] inb_S5632x1024_S1408x1024_4224_0))⟩
          : View.Piece (Elt Ideal) S256x5632 .bf16),
      ⟨Rect.unit ![0, 1408] ![256, 1408] inb_S256x5632_S256x1408_0_1408,
        k0_pay11 (k0_pay2 x0 x1) (View.ld w (Rect.unit ![1408, 0] ![1408, 1024] inb_S5632x1024_S1408x1024_1408_0))⟩,
      ⟨Rect.unit ![0, 2816] ![256, 1408] inb_S256x5632_S256x1408_0_2816,
        k0_pay6 x0 x1 (View.ld w (Rect.unit ![2816, 0] ![1408, 1024] inb_S5632x1024_S1408x1024_2816_0))⟩,
      ⟨Rect.unit ![0, 0] ![256, 1408] inb_S256x5632_S256x1408_0_0,
        k0_pay5 x0 x1 (View.ld w (Rect.unit ![0, 0] ![1408, 1024] inb_S5632x1024_S1408x1024_0_0))⟩] i
      = A.gu (i 0) (i 1) := by
  canon_tiles x h
  · exact (gu_apply H (rows_of H 4224 _) x).trans (by rw [h0, h1])
  · exact (gu_apply H (rows_of H 1408 _) x).trans (by rw [h0, h1])
  · exact (gu_apply H (rows_of H 2816 _) x).trans (by rw [h0, h1])
  · exact (gu_apply H (rows_of H 0 _) x).trans (by rw [h0, h1, zero_add])

/-- The two stores of the gated hidden layer. -/
abbrev hStores (x0 : Vec Ideal S256x1024 .f32) (x1 : Vec Ideal S1x1024 .f32) (w : Vec Ideal S5632x1024 .bf16) :
    List (View.Piece (Elt Ideal) S256x2816 .bf16) :=
  [⟨Rect.unit ![0, 1408] ![256, 1408] inb_S256x2816_S256x1408_0_1408,
      k0_pay13 (k0_pay2 x0 x1) (View.ld w (Rect.unit ![1408, 0] ![1408, 1024] inb_S5632x1024_S1408x1024_1408_0))
        (View.ld w (Rect.unit ![4224, 0] ![1408, 1024] inb_S5632x1024_S1408x1024_4224_0))⟩,
    ⟨Rect.unit ![0, 0] ![256, 1408] inb_S256x2816_S256x1408_0_0,
      k0_pay8 (k0_pay3 x0 x1 (View.ld w (Rect.unit ![0, 0] ![1408, 1024] inb_S5632x1024_S1408x1024_0_0)))
        (k0_pay4 x0 x1 (View.ld w (Rect.unit ![2816, 0] ![1408, 1024] inb_S5632x1024_S1408x1024_2816_0)))
        (k0_pay7 x0 x1 (View.ld w (Rect.unit ![0, 0] ![1408, 1024] inb_S5632x1024_S1408x1024_0_0)))⟩]

/-- They leave the gated hidden layer. -/
theorem h_stores (H : Holds A x0 x1 w o) (i : S256x2816.Idx) : View.canon (hStores x0 x1 w) i = A.h (i 0) (i 1) := by
  canon_tiles x h
  · exact (h_apply H (rows_of H 1408 _) (rows_of H 4224 _) rfl x).trans (by rw [h0, h1])
  · exact (h_apply H (rows_of H 0 _) (rows_of H 2816 _) rfl x).trans (by rw [h0, h1, zero_add])

variable (m : (ℓ : Loc nD τ sig) → Buf (Elt Ideal) ℓ)
variable {c : Dev nD} {t : Fin cfg0.N}

/-- The input blocks of point `t` and the weights it finds hold the entries of `A`. -/
abbrev HoldsAt (A : Fwd) (c : Dev nD) (t : Fin cfg0.N) (w : Vec Ideal S5632x1024 .bf16) (o : Vec Ideal S2816x1024 .bf16) : Prop :=
  Holds A (iblk m c 0 t) (iblk m c 1 t) w o

/-- What a point leaves: the blocks of its rows, and the weights as found. -/
structure Leaves (A : Fwd) (w : Vec Ideal S5632x1024 .bf16) (o : Vec Ideal S2816x1024 .bf16)
    (u : Vec Ideal S256x1024 .f32 × Vec Ideal S256x1024 .bf16 × Vec Ideal S256x5632 .bf16
      × Vec Ideal S5632x1024 .bf16 × Vec Ideal S2816x1024 .bf16) : Prop where
  out : ∀ i, u.1 i = A.out (i 0) (i 1)
  xn : ∀ i, u.2.1 i = A.xn (i 0) (i 1)
  gu : ∀ i, u.2.2.1 i = A.gu (i 0) (i 1)
  w : u.2.2.2.1 = w
  o : u.2.2.2.2 = o

set_option maxHeartbeats 1000000 in
/-- The first point. -/
theorem leaves_A (H : HoldsAt m A c t (V m c main_v1) (V m c main_v2)) (h0 : t.val % 32 = 0) :
    Leaves A (V m c main_v1) (V m c main_v2) (outsAt0 m c t.val t.isLt) := by
  rw [outsAt0_A m c t h0]
  revert H
  generalize V m c main_v1 = w
  generalize V m c main_v2 = o
  intro H
  constructor
  case w | o => exact funext fun i => by dsimp only; frame_open; frame_out; exact congrFun (canon_whole _) i
  all_goals
    intro i
    dsimp only
    frame_open
    simp (disch := decide) only [↓ View.readCov_skip, ↓ View.readCov_cons_toLoadRect, ↓ View.readCov_fill]
    frame_out
    try simp only [readCov_all, readCov_whole, canon_whole]
  · exact out_apply H (h_stores H) i
  · exact xn_apply H i
  · exact gu_stores H i

set_option maxHeartbeats 1000000 in
/-- A later point, from what the point before it left. -/
theorem leaves_B {w : Vec Ideal S5632x1024 .bf16} {o : Vec Ideal S2816x1024 .bf16} (H : HoldsAt m A c t w o) (h0 : ¬t.val % 32 = 0)
    (hw : (outsAt0 m c (t.val - 1) (Nat.lt_of_le_of_lt (Nat.sub_le _ _) t.isLt)).2.2.2.1 = w)
    (ho : (outsAt0 m c (t.val - 1) (Nat.lt_of_le_of_lt (Nat.sub_le _ _) t.isLt)).2.2.2.2 = o) :
    Leaves A w o (outsAt0 m c t.val t.isLt) := by
  rw [outsAt0_B m c t h0]
  revert hw ho
  generalize (outsAt0 m c (t.val - 1) (Nat.lt_of_le_of_lt (Nat.sub_le _ _) t.isLt)) = acc
  intro hw ho
  subst hw ho
  constructor
  case w | o => rfl
  all_goals
    intro i
    dsimp only
    frame_open
    simp (disch := decide) only [↓ View.readCov_skip, ↓ View.readCov_cons_toLoadRect, ↓ View.readCov_fill]
    frame_out
    try simp only [readCov_all, read_unread_whole]
  · exact out_apply H (h_stores H) i
  · exact xn_apply H i
  · exact gu_stores H i

end Cert.Kernel8Ideal.Block

end
-- ==== Proof.FwdArrays.lean ====
/-
  The first layer's forward, from the points to whole arrays: the kernel's arguments hold the entries of `A`, so each point's blocks
  hold the entries of its rows, and the result arrays hold the layer's quantities; and so do the reference's values.
-/
module

public import proofs.«01_k».proof.Proof.FwdPoint
public import proofs.«01_k».proof.Proof.Gen.Kernel8Ideal.Value
public import proofs.«01_k».proof.Proof.Gen.Reference8Ideal.Read

@[expose] public section

set_option maxRecDepth 16384

noncomputable section

open Idealize.ShloMosaic Idealize.ShloMosaic.TcCoe Idealize.SL.Sem Cert.Sgu Cert.Ffn Cert.Stores

namespace Cert.Reference8Ideal.Fwd

open Cert.Reference8Ideal Cert.Reference8Ideal.Gen Cert.Reference8Ideal.Read

/-- The four arguments hold the entries of `A`. -/
structure Holds (A : Ffn.Fwd) (x0 : Vec Ideal S8192x1024 .f32) (x1 : Vec Ideal S1x1024 .f32) (x2 : Vec Ideal S1024x5632 .f32)
    (x3 : Vec Ideal S2816x1024 .f32) : Prop where
  x : ∀ i, x0 i = A.x (i 0) (i 1)
  g : ∀ i, x1 i = A.g (i 1)
  w : ∀ i, x2 i = A.w (i 0) (i 1)
  o : ∀ i, x3 i = A.o (i 0) (i 1)

variable {A : Ffn.Fwd} {x0 : Vec Ideal S8192x1024 .f32} {x1 : Vec Ideal S1x1024 .f32} {x2 : Vec Ideal S1024x5632 .f32}
  {x3 : Vec Ideal S2816x1024 .f32}

/-- The normalized input. -/
theorem v11_apply (H : Holds A x0 x1 x2 x3) (i : S8192x1024.Idx) :
    val_main_v11 (F := Ideal) x0 x1 i = A.xn (i 0) (i 1) := by
  simp only [val_main_v11_apply, val_main_v10_apply, val_main_v9_apply, val_main_v8_apply, val_main_v7_apply, val_main_v6_apply,
    val_main_v5_apply, val_main_cst_1_apply, val_main_v4_apply, val_main_v3_apply, val_main_cst_0_apply, val_main_v2_apply,
    val_main_v1_apply, val_main_v0_apply, val_main_cst_apply, H.x, H.g, Ideal.mulf_def, Ideal.addf_def, Ideal.hostDivf_def,
    Ideal.ofBits_def, ofBits_zero, zero_add, ofBits_1024, ofBits_eps]
  rfl

/-- The hidden layer. -/
theorem v12_apply (H : Holds A x0 x1 x2 x3) (i : S8192x5632.Idx) :
    val_main_v12 (F := Ideal) x0 x1 x2 i = A.gu (i 0) (i 1) := by
  simp only [val_main_v12_apply, v11_apply H, H.w]
  rfl

/-- The gated hidden layer. -/
theorem v16_apply (H : Holds A x0 x1 x2 x3) (i : S8192x2816.Idx) :
    val_main_v16 (F := Ideal) x0 x1 x2 i = A.h (i 0) (i 1) := by
  simp only [val_main_v16_apply, val_main_v15_apply, val_main_v14_apply, val_main_v13_apply, val_main_call0_v5_apply,
    val_main_call0_v4_apply, val_main_call0_cst_0_apply, val_main_call0_v3_apply, val_main_call0_v2_apply, val_main_call0_cst_apply,
    val_main_call0_v1_apply, val_main_call0_v0_apply, v12_apply H, Ideal.hostNegf_def, Ideal.negf_def, Ideal.hostUnary_exp_def,
    Ideal.addf_def, Ideal.mulf_def, Ideal.ofBits_def, ofBits_one, EReal.coe_one, Ideal.hostDivf_def]
  rfl

/-- Result 0, the layer's output. -/
theorem v20_apply (H : Holds A x0 x1 x2 x3) (i : S8192x1024.Idx) :
    val_main_v20 (F := Ideal) x0 x1 x2 x3 i = A.out (i 0) (i 1) := by
  simp only [val_main_v20_apply, val_main_v19_apply, val_main_v18_apply, val_main_cst_2_apply, val_main_v17_apply, v16_apply H, H.x,
    H.o, Ideal.mulf_def, Ideal.addf_def, Ideal.ofBits_def, ofBits_half]
  rfl

/-- Result 1, the normalized input, rounded. -/
theorem v21_apply (H : Holds A x0 x1 x2 x3) (i : S8192x1024.Idx) :
    val_main_v21 (F := Ideal) x0 x1 i = A.xn (i 0) (i 1) := by
  rw [val_main_v21_apply, v11_apply H]
  rfl

/-- Result 2, the hidden layer, rounded. -/
theorem v22_apply (H : Holds A x0 x1 x2 x3) (i : S8192x5632.Idx) :
    val_main_v22 (F := Ideal) x0 x1 x2 i = A.gu (i 0) (i 1) := by
  rw [val_main_v22_apply, v12_apply H]
  rfl

end Cert.Reference8Ideal.Fwd

namespace Cert.Kernel8Ideal.Block

open Cert.Kernel8Ideal Cert.Kernel8Ideal.Gen Cert.Kernel8Ideal.Value

variable {m : (ℓ : Loc nD τ sig) → Buf (Elt Ideal) ℓ} {A : Ffn.Fwd} {c : Dev nD}

/-- The argument arrays hold the entries of `A`. -/
abbrev Input (m : (ℓ : Loc nD τ sig) → Buf (Elt Ideal) ℓ) (A : Ffn.Fwd) (c : Dev nD) : Prop :=
  Cert.Reference8Ideal.Fwd.Holds A (m ((c : Thread nD τ).loc main_arg0)) (m ((c : Thread nD τ).loc main_arg1))
    (m ((c : Thread nD τ).loc main_arg2)) (m ((c : Thread nD τ).loc main_arg3))

/-- Any argument arrays hold the entries of some `A`. -/
theorem input (m : (ℓ : Loc nD τ sig) → Buf (Elt Ideal) ℓ) (c : Dev nD) : ∃ A, Input m A c :=
  ⟨⟨Grad.nat _, Grad.row _, Grad.nat _, Grad.nat _⟩, Grad.nat_apply _, Grad.row_apply _, Grad.nat_apply _, Grad.nat_apply _⟩

/-- The projection in, as the kernel is given it. -/
theorem V_main_v1 : (V m c main_v1 : FVec Ideal S5632x1024 .bf16)
    = truncf (F := Ideal) .bf16 (transpose S5632x1024 [1, 0] (m ((c : Thread nD τ).loc main_arg2)) transposes_S1024x5632_S5632x1024_1_0)
        bitsLt_bf16_f32 := by
  show StableHlo.after hostOps0 _ (Proc.devRef .tc main_v1) = _
  after_results

/-- The projection out, as the kernel is given it. -/
theorem V_main_v2 : (V m c main_v2 : FVec Ideal S2816x1024 .bf16)
    = truncf (F := Ideal) .bf16 (m ((c : Thread nD τ).loc main_arg3)) bitsLt_bf16_f32 := by
  show StableHlo.after hostOps0 _ (Proc.devRef .tc main_v2) = _
  after_results

/-- The kernel's weights hold the entries of `A`. -/
theorem w_apply (H : Input m A c) (i : S5632x1024.Idx) : V m c main_v1 i = A.w (i 1) (i 0) := by
  rw [V_main_v1]
  pointwise []
  exact H.w _

theorem o_apply (H : Input m A c) (i : S2816x1024.Idx) : V m c main_v2 i = A.o (i 0) (i 1) := by
  rw [V_main_v2]
  exact H.o i

/-- Which block of its array each window shows at point `t`: the `t`-th 256 rows, or all of it. -/
theorem index_at : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

/-- The input blocks of point `t` hold the `t`-th rows of `A`. -/
theorem holdsAt (H : Input m A c) (t : Fin cfg0.N) : HoldsAt m (A.block t.val) c t (V m c main_v1) (V m c main_v2) := by
  obtain ⟨ix, ⟨-, ig⟩, -⟩ := index_at t
  refine ⟨fun y => ?_, fun y => ?_, fun i => w_apply H i, fun i => o_apply H i⟩
  · show V m c main_arg0 (((cfg0.win 0).blk t).view.emb y) = _
    rw [V_main_arg0]
    exact (H.x _).trans (shown_at A.x 256 1024 ix (y 0) (y 1)).symm
  · show V m c main_arg1 (((cfg0.win 1).blk t).view.emb y) = _
    rw [V_main_arg1]
    refine (H.g _).trans ?_
    show A.g (win0_1.index t (1 : Fin 2) * 1024 + 1 * (y 1 : ℕ)) = A.g (y 1)
    rw [ig, zero_mul, zero_add, one_mul]

/-- Every point leaves its rows' blocks. -/
theorem leaves (H : Input m A c) (n : ℕ) : ∀ h : n < cfg0.N,
    Leaves (A.block n) (V m c main_v1) (V m c main_v2) (outsAt0 m c n h) := by
  induction n with
  | zero =>
    intro h
    have l := leaves_A m (holdsAt H ⟨0, h⟩) (Nat.zero_mod 32)
    generalize V m c main_v1 = w, V m c main_v2 = o at l ⊢
    exact l
  | succ n ih =>
    intro h
    have hN : n + 1 < 32 := lt_of_lt_of_eq h N_0
    have i1 := ih (Nat.lt_of_succ_lt h)
    have hh := holdsAt H ⟨n + 1, h⟩
    generalize V m c main_v1 = w, V m c main_v2 = o at i1 hh ⊢
    have l := leaves_B m hh (by show ¬(n + 1) % 32 = 0; omega) i1.w i1.o
    exact l

/-- The point whose block holds row `r`. -/
def pointOf (r : Fin 8192) : Fin cfg0.N := ⟨r.val / 256, lt_of_lt_of_eq (by omega) N_0.symm⟩

/-- The result array of window 2, the layer's output. -/
theorem out_array (H : Input m A c) : (dats m 0 c).arrAt 2 cfg0.N = fun i : S8192x1024.Idx => A.out (i 0) (i 1) := by
  refine (dats m 0 c).arrAt_eq_of_cover 2 _ (fun t _ => ?_) fun i => ⟨pointOf (i 0), flush0_2 _, ?_⟩
  · rw [flushed2]
    exact funext fun y => ((leaves H t.val t.isLt).out ((cfg0.win 2).xinj (grid0.coords t) y)).trans
      (shown_at A.out 256 1024 (index_at t).2.2.1 (y 0) (y 1))
  · show i ∈ ((View.whole main_v3_0).slice (win0_2.rect (pointOf (i 0)))).set
    rw [View.set_slice_whole, Rect.mem_set_unit]
    exact Fin.forall_fin_two.mpr (inside (b := 256) (n := 1024) (by decide) (index_at (pointOf (i 0))).2.2.1 (i 1).isLt)

/-- The result array of window 3, the normalized input, rounded. -/
theorem xn_array (H : Input m A c) : (dats m 0 c).arrAt 3 cfg0.N = fun i : S8192x1024.Idx => A.xn (i 0) (i 1) := by
  refine (dats m 0 c).arrAt_eq_of_cover 3 _ (fun t _ => ?_) fun i => ⟨pointOf (i 0), flush0_3 _, ?_⟩
  · rw [flushed3]
    exact funext fun y => ((leaves H t.val t.isLt).xn ((cfg0.win 3).xinj (grid0.coords t) y)).trans
      (shown_at A.xn 256 1024 (index_at t).2.2.2.1 (y 0) (y 1))
  · show i ∈ ((View.whole main_v3_1).slice (win0_3.rect (pointOf (i 0)))).set
    rw [View.set_slice_whole, Rect.mem_set_unit]
    exact Fin.forall_fin_two.mpr (inside (b := 256) (n := 1024) (by decide) (index_at (pointOf (i 0))).2.2.2.1 (i 1).isLt)

/-- The result array of window 4, the hidden layer, rounded. -/
theorem gu_array (H : Input m A c) : (dats m 0 c).arrAt 4 cfg0.N = fun i : S8192x5632.Idx => A.gu (i 0) (i 1) := by
  refine (dats m 0 c).arrAt_eq_of_cover 4 _ (fun t _ => ?_) fun i => ⟨pointOf (i 0), flush0_4 _, ?_⟩
  · rw [flushed4]
    exact funext fun y => ((leaves H t.val t.isLt).gu ((cfg0.win 4).xinj (grid0.coords t) y)).trans
      (shown_at A.gu 256 5632 (index_at t).2.2.2.2 (y 0) (y 1))
  · show i ∈ ((View.whole main_v3_2).slice (win0_4.rect (pointOf (i 0)))).set
    rw [View.set_slice_whole, Rect.mem_set_unit]
    exact Fin.forall_fin_two.mpr (inside (b := 256) (n := 5632) (by decide) (index_at (pointOf (i 0))).2.2.2.2 (i 1).isLt)

end Cert.Kernel8Ideal.Block

end
-- ==== Proof.DxSpec.lean ====
/-
  The first feed-forward layer's projection into its hidden layer, backwards, over the reals: `Dx` holds the five arguments as
  functions of natural indices, each definition below is one line of the backward pass. Proof/DxArrays.lean shows that the kernel
  computes the results and Proof/DxVjp.lean that the reference does.
-/
module

public import proofs.«01_k».proof.Proof.FfnSpec

@[expose] public section

noncomputable section

open Idealize.ShloMosaic Cert.Sgu

namespace Cert.Ffn

/-- The arguments at natural indices: the gradient `dz` of the projection's output and `dres` of the residual branch, the
    rows `x`, the norm's gain `g` and the projection `w` (1024 by 5632). -/
structure Dx where
  dz : ℕ → ℕ → ℝ
  dres : ℕ → ℕ → ℝ
  x : ℕ → ℕ → ℝ
  g : ℕ → ℝ
  w : ℕ → ℕ → ℝ

namespace Dx

variable (A : Dx)

/-- The arguments as grid point `t` sees them: rows counted from `256 t`. -/
def block (t : ℕ) : Dx :=
  { A with
    dz := fun r c => A.dz (256 * t + r) c, dres := fun r c => A.dres (256 * t + r) c, x := fun r c => A.x (256 * t + r) c }

/-- The norm. -/
def norm : Args := { dy := A.dres, x := A.x, g := A.g, w := fun _ _ => 0, o := fun _ _ => 0 }

/-- The gradient of the norm's output. -/
def dxn (t k : ℕ) : ℝ := ∑ j : Fin 5632, A.dz t j * A.w k j

/-- The gradient of the gain over the first `n` rows. -/
def dgam (n k : ℕ) : ℝ := ∑ t ∈ Finset.range n, A.dxn t k * A.norm.y t k

/-- The gradient of the normalized row. -/
def dyn (t k : ℕ) : ℝ := A.dxn t k * A.g k

/-- The gradient of the rows. -/
def dx (t k : ℕ) : ℝ := A.dres t k + A.norm.back (A.dyn t) t k

/-- One more block of rows. -/
theorem dgam_succ (n k : ℕ) : A.dgam (256 * (n + 1)) k = A.dgam (256 * n) k + (A.block n).dgam 256 k := by
  unfold dgam
  rw [Nat.mul_succ, Finset.sum_range_add]
  rfl

end Dx

end Cert.Ffn

end
-- ==== Proof.DxPoint.lean ====
/-
  What one grid point of the backward kernel computes from its blocks, at an index, and what it leaves: its payloads are the real
  quantities of Proof/DxSpec.lean at the block's own rows, and the gain's gradient is summed from point to point, from zero at the
  first. The kernel is given the projection transposed.
-/
module

public import proofs.«01_k».proof.Proof.DxSpec
public import proofs.«01_k».proof.Proof.Stores
public import proofs.«01_k».proof.Proof.Gen.Kernel9Ideal.Frame

@[expose] public section

set_option maxRecDepth 16384

noncomputable section

open Idealize.ShloMosaic Idealize.ShloMosaic.TcCoe Idealize.SL.Sem Cert.Sgu Cert.Ffn Cert.Stores

namespace Cert.Kernel9Ideal.Block

open Cert.Kernel9Ideal Cert.Kernel9Ideal.Gen

/-- The five input blocks hold the reals of `A`. -/
structure Holds (A : Dx) (x0 : Vec Ideal S256x5632 .bf16) (x1 : Vec Ideal S5632x1024 .bf16) (x2 x3 : Vec Ideal S256x1024 .f32)
    (x4 : Vec Ideal S1x1024 .f32) : Prop where
  dz : ∀ i, x0 i = ((A.dz (i 0) (i 1) : ℝ) : EReal)
  w : ∀ i, x1 i = ((A.w (i 1) (i 0) : ℝ) : EReal)
  dres : ∀ i, x2 i = ((A.dres (i 0) (i 1) : ℝ) : EReal)
  x : ∀ i, x3 i = ((A.x (i 0) (i 1) : ℝ) : EReal)
  g : ∀ i, x4 i = ((A.g (i 1) : ℝ) : EReal)

variable {A : Dx} {x0 : Vec Ideal S256x5632 .bf16} {x1 : Vec Ideal S5632x1024 .bf16} {x2 x3 : Vec Ideal S256x1024 .f32}
  {x4 : Vec Ideal S1x1024 .f32}

/-- The gradient of the norm's output. -/
theorem dxn_apply (H : Holds A x0 x1 x2 x3 x4) (i : S256x1024.Idx) :
    k0_pay3 x0 x1 i = ((A.dxn (i 0) (i 1) : ℝ) : EReal) := by
  pointwise [k0_pay3]
  simp only [H.dz, H.w, ← EReal.coe_mul, coe_sum]
  rfl

/-- The reciprocal root mean square of a row. -/
theorem rms_apply (H : Holds A x0 x1 x2 x3 x4) (i : S256x1.Idx) :
    k0_pay4 x3 i = ((A.norm.rms (i 0) : ℝ) : EReal) := by
  pointwise [k0_pay4]
  simp only [H.x, ← EReal.coe_mul, coe_sum, ofBits_1024, ofBits_eps, div_1024, ← EReal.coe_add]
  exact rsqrt_pos _ (A.norm.ms_eps_pos _)

/-- The normalized row. -/
theorem y_apply (H : Holds A x0 x1 x2 x3 x4) (i : S256x1024.Idx) :
    k0_pay5 x3 i = ((A.norm.y (i 0) (i 1) : ℝ) : EReal) := by
  pointwise [k0_pay5]
  rw [rms_apply H, H.x, ← EReal.coe_mul]
  rfl

/-- The gradient of the gain: the sum so far plus this block's rows. -/
theorem dgam_apply (H : Holds A x0 x1 x2 x3 x4) {acc : Vec Ideal S1x1024 .f32} {R : ℕ → ℝ}
    (hR : ∀ i, acc i = ((R (i 1) : ℝ) : EReal)) (i : S1x1024.Idx) :
    k0_pay6 x0 x1 x3 acc i = ((R (i 1) + A.dgam 256 (i 1) : ℝ) : EReal) := by
  pointwise [k0_pay6]
  simp only [dxn_apply H, y_apply H, hR, ← EReal.coe_mul, coe_sum, ← EReal.coe_add]
  rw [Dx.dgam, Finset.sum_range]
  rfl

/-- The gradient of the normalized row. -/
theorem dyn_apply (H : Holds A x0 x1 x2 x3 x4) (i : S256x1024.Idx) :
    k0_pay7 x0 x1 x4 i = ((A.dyn (i 0) (i 1) : ℝ) : EReal) := by
  pointwise [k0_pay7]
  rw [dxn_apply H, H.g, ← EReal.coe_mul]
  rfl

/-- The gradient of the rows. -/
theorem dx_apply (H : Holds A x0 x1 x2 x3 x4) (i : S256x1024.Idx) :
    k0_pay1 (k0_pay4 x3) (k0_pay5 x3) (k0_pay7 x0 x1 x4) x2 (k0_pay8 x0 x1 x3 x4) i = ((A.dx (i 0) (i 1) : ℝ) : EReal) := by
  pointwise [k0_pay1, k0_pay8]
  simp only [dyn_apply H, y_apply H, rms_apply H, H.dres, ← EReal.coe_mul, coe_sum, ofBits_1024, div_1024, ← EReal.coe_sub,
    ← EReal.coe_add]
  rfl

/-- The sum that the first point starts from. -/
theorem no_sum (i : S1x1024.Idx) : k0_pay2 (F := Ideal) i = ((0 : ℝ) : EReal) := by
  pointwise [k0_pay2]
  rfl

variable (m : (ℓ : Loc nD τ sig) → Buf (Elt Ideal) ℓ)
variable {c : Dev nD} {t : Fin cfg0.N}

/-- The input blocks of point `t` hold the reals of `A`. -/
abbrev HoldsAt (A : Dx) (c : Dev nD) (t : Fin cfg0.N) : Prop :=
  Holds A (iblk m c 0 t) (iblk m c 1 t) (iblk m c 2 t) (iblk m c 3 t) (iblk m c 4 t)

/-- What a point leaves: the block of its rows, and the gain's gradient `R` plus theirs. -/
structure Leaves (A : Dx) (R : ℕ → ℝ) (u : Vec Ideal S256x1024 .f32 × Vec Ideal S1x1024 .f32) : Prop where
  dx : ∀ i, u.1 i = ((A.dx (i 0) (i 1) : ℝ) : EReal)
  dgam : ∀ i, u.2 i = ((R (i 1) + A.dgam 256 (i 1) : ℝ) : EReal)

/-- The first point. -/
theorem leaves_A (H : HoldsAt m A c t) (h0 : t.val % 32 = 0) : Leaves A (fun _ => 0) (outsAt0 m c t.val t.isLt) := by
  rw [outsAt0_A m c t h0]
  constructor
  all_goals
    intro i
    dsimp only
    frame_open
    simp (disch := decide) only [↓ View.readCov_skip, ↓ View.readCov_cons_toLoadRect, ↓ View.readCov_fill]
    frame_out
    try simp only [readCov_all, readCov_whole, canon_whole]
  · exact dx_apply H i
  · exact dgam_apply H (R := fun _ => 0) no_sum i

/-- A later point, from what the point before it left. -/
theorem leaves_B (H : HoldsAt m A c t) (h0 : ¬t.val % 32 = 0) {R : ℕ → ℝ}
    (hR : ∀ i, (outsAt0 m c (t.val - 1) (Nat.lt_of_le_of_lt (Nat.sub_le _ _) t.isLt)).2 i = ((R (i 1) : ℝ) : EReal)) :
    Leaves A R (outsAt0 m c t.val t.isLt) := by
  rw [outsAt0_B m c t h0]
  revert hR
  generalize (outsAt0 m c (t.val - 1) (Nat.lt_of_le_of_lt (Nat.sub_le _ _) t.isLt)) = acc
  intro hR
  constructor
  all_goals
    intro i
    dsimp only
    frame_open
    simp (disch := decide) only [↓ View.readCov_skip, ↓ View.readCov_cons_toLoadRect, ↓ View.readCov_fill]
    frame_out
    try simp only [readCov_all, read_unread_whole]
  · exact dx_apply H i
  · exact dgam_apply H hR i

end Cert.Kernel9Ideal.Block

end
-- ==== Proof.DxVjp.lean ====
/-
  The reference of the projection's backward pass at an index: each printed operation is the real quantity of Proof/DxSpec.lean, at
  whole-array rows.
-/
module

public import proofs.«01_k».proof.Proof.DxSpec
public import proofs.«01_k».proof.Proof.Gen.Reference9Ideal.Read
public import Idealize.ShloMosaic.Lib.Pointwise

@[expose] public section

set_option maxRecDepth 16384

noncomputable section

open Idealize.ShloMosaic Idealize.ShloMosaic.TcCoe Idealize.SL.Sem Cert.Sgu Cert.Ffn

namespace Cert.Reference9Ideal.Vjp

open Cert.Reference9Ideal Cert.Reference9Ideal.Gen Cert.Reference9Ideal.Read

/-- The five arguments hold the reals of `A`. -/
structure Holds (A : Dx) (x0 : Vec Ideal S8192x5632 .bf16) (x1 x2 : Vec Ideal S8192x1024 .f32) (x3 : Vec Ideal S1x1024 .f32)
    (x4 : Vec Ideal S1024x5632 .f32) : Prop where
  dz : ∀ i, x0 i = ((A.dz (i 0) (i 1) : ℝ) : EReal)
  dres : ∀ i, x1 i = ((A.dres (i 0) (i 1) : ℝ) : EReal)
  x : ∀ i, x2 i = ((A.x (i 0) (i 1) : ℝ) : EReal)
  g : ∀ i, x3 i = ((A.g (i 1) : ℝ) : EReal)
  w : ∀ i, x4 i = ((A.w (i 0) (i 1) : ℝ) : EReal)

variable {A : Dx} {x0 : Vec Ideal S8192x5632 .bf16} {x1 x2 : Vec Ideal S8192x1024 .f32} {x3 : Vec Ideal S1x1024 .f32}
  {x4 : Vec Ideal S1024x5632 .f32}

/-- A row's mean square plus `eps`. -/
theorem v6_apply (H : Holds A x0 x1 x2 x3 x4) (i : S8192x1.Idx) :
    val_main_v6 (F := Ideal) x2 i = ((A.norm.ms (i 0) + eps : ℝ) : EReal) := by
  simp only [val_main_v6_apply, val_main_v4_apply, val_main_v2_apply, val_main_v1_apply, val_main_v0_apply, val_main_cst_apply,
    val_main_v3_apply, val_main_cst_0_apply, val_main_v5_apply, val_main_cst_1_apply, H.x, Ideal.mulf_def, Ideal.addf_def,
    Ideal.hostDivf_def, Ideal.ofBits_def, ofBits_zero, zero_add, ← EReal.coe_mul, coe_sum, ofBits_1024, div_1024, ofBits_eps,
    ← EReal.coe_add]
  rfl

/-- The reciprocal root mean square of a row. -/
theorem v7_apply (H : Holds A x0 x1 x2 x3 x4) (i : S8192x1.Idx) :
    val_main_v7 (F := Ideal) x2 i = ((A.norm.rms (i 0) : ℝ) : EReal) := by
  rw [val_main_v7_apply, v6_apply H]
  exact rsqrt_pos _ (A.norm.ms_eps_pos _)

/-- The derivative of the reciprocal root. -/
theorem v10_apply (H : Holds A x0 x1 x2 x3 x4) (i : S8192x1.Idx) :
    val_main_v10 (F := Ideal) x2 i
      = ((-(1 / 2) * (A.norm.rms (i 0) * A.norm.rms (i 0) * A.norm.rms (i 0)) : ℝ) : EReal) := by
  have h := A.norm.ms_eps_pos (i 0)
  simp only [val_main_v10_apply, val_main_v9_apply, val_main_cst_2_apply, val_main_v8_apply, v6_apply H, v7_apply H,
    Ideal.hostDivf_def, Ideal.mulf_def, Ideal.ofBits_def, ofBits_neg_half, Ideal.div_coe h.ne', ← EReal.coe_mul]
  congr 2
  rw [mul_assoc, A.norm.rms_sq]

/-- The normalized row. -/
theorem v12_apply (H : Holds A x0 x1 x2 x3 x4) (i : S8192x1024.Idx) :
    val_main_v12 (F := Ideal) x2 i = ((A.norm.y (i 0) (i 1) : ℝ) : EReal) := by
  simp only [val_main_v12_apply, val_main_v11_apply, v7_apply H, H.x, Ideal.mulf_def, ← EReal.coe_mul]
  rfl

/-- The gradient of the norm's output. -/
theorem v17_apply (H : Holds A x0 x1 x2 x3 x4) (i : S8192x1024.Idx) :
    val_main_v17 (F := Ideal) x0 x4 i = ((A.dxn (i 0) (i 1) : ℝ) : EReal) := by
  simp only [val_main_v17_apply, val_main_v16_apply, H.dz, H.w, Ideal.extf_def, ← EReal.coe_mul, coe_sum]
  rfl

/-- Result 1, the gradient of the gain. -/
theorem v20_apply (H : Holds A x0 x1 x2 x3 x4) (i : S1x1024.Idx) :
    val_main_v20 (F := Ideal) x0 x2 x4 i = ((A.dgam 8192 (i 1) : ℝ) : EReal) := by
  have h0 : (i 0 : ℕ) < 1 := (i 0).isLt
  simp only [val_main_v20_apply, val_main_v19_apply, val_main_cst_3_apply, val_main_v18_apply, v12_apply H, v17_apply H,
    Ideal.mulf_def, Ideal.ofBits_def, ofBits_zero, zero_add, ← EReal.coe_mul, coe_sum]
  rw [Dx.dgam, Finset.sum_range]
  refine congrArg _ (Finset.sum_congr rfl fun k _ => ?_)
  show A.norm.y k ((i 0 : ℕ) * 1024 + (i 1 : ℕ)) * A.dxn k ((i 0 : ℕ) * 1024 + (i 1 : ℕ)) = _
  rw [show (i 0 : ℕ) * 1024 + (i 1 : ℕ) = i 1 by omega, mul_comm]

/-- The gradient of the normalized row. -/
theorem v22_apply (H : Holds A x0 x1 x2 x3 x4) (i : S8192x1024.Idx) :
    val_main_v22 (F := Ideal) x0 x3 x4 i = ((A.dyn (i 0) (i 1) : ℝ) : EReal) := by
  simp only [val_main_v22_apply, val_main_v21_apply, v17_apply H, H.g, Ideal.mulf_def, ← EReal.coe_mul]
  rfl

/-- The gradient of a row's mean square, over the 1024 columns. -/
theorem v31_apply (H : Holds A x0 x1 x2 x3 x4) (i : S8192x1.Idx) :
    val_main_v31 (F := Ideal) x0 x2 x3 x4 i
      = (((∑ j : Fin 1024, A.x (i 0) j * A.dyn (i 0) j)
          * (-(1 / 2) * (A.norm.rms (i 0) * A.norm.rms (i 0) * A.norm.rms (i 0))) / 1024 : ℝ) : EReal) := by
  have h1 : (i 1 : ℕ) < 1 := (i 1).isLt
  simp only [val_main_v31_apply, val_main_v30_apply, val_main_cst_5_apply, val_main_v29_apply, val_main_v25_apply,
    val_main_v24_apply, val_main_cst_4_apply, val_main_v23_apply, v22_apply H, v10_apply H, H.x, Ideal.mulf_def,
    Ideal.hostDivf_def, Ideal.ofBits_def, ofBits_zero, zero_add, ← EReal.coe_mul, coe_sum, ofBits_1024, div_1024]
  refine congrArg _ (congrArg (· * _ / 1024) (Finset.sum_congr rfl fun k _ => ?_))
  show A.x ((i 0 : ℕ) * 1 + (i 1 : ℕ)) k * A.dyn ((i 0 : ℕ) * 1 + (i 1 : ℕ)) k = _
  rw [show (i 0 : ℕ) * 1 + (i 1 : ℕ) = i 0 by omega]

/-- Result 0, the gradient of the rows. -/
theorem v37_apply (H : Holds A x0 x1 x2 x3 x4) (i : S8192x1024.Idx) :
    val_main_v37 (F := Ideal) x0 x1 x2 x3 x4 i = ((A.dx (i 0) (i 1) : ℝ) : EReal) := by
  simp only [val_main_v37_apply, val_main_v36_apply, val_main_v35_apply, val_main_v34_apply, val_main_v33_apply,
    val_main_v32_apply, val_main_cst_6_apply, val_main_v28_apply, val_main_v27_apply, val_main_v26_apply, v22_apply H, v7_apply H,
    v31_apply H, H.x, H.dres, Fin.sum_univ_one, Ideal.mulf_def, Ideal.addf_def, Ideal.ofBits_def, ofBits_zero, zero_add,
    ← EReal.coe_mul, ← EReal.coe_add]
  refine congrArg _ ?_
  rw [Dx.dx, ← A.norm.back_vjp (A.dyn (i 0)) (i 0) (i 1), ← add_assoc, ← add_assoc]
  rfl

end Cert.Reference9Ideal.Vjp

end
-- ==== Proof.DxArrays.lean ====
/-
  From the grid points to the arrays, for the projection's backward pass: the host's lines before the kernel leave the weights
  transposed and rounded; each point's blocks are 256 rows of the arguments; the gain's gradient grows by one block of rows per
  point; and after the last point the result arrays hold the quantities of Proof/DxSpec.lean over all 8192 rows.
-/
module

public import proofs.«01_k».proof.Proof.DxPoint
public import proofs.«01_k».proof.Proof.DxVjp
public import proofs.«01_k».proof.Proof.Gen.Kernel9Ideal.Value
public import Idealize.ShloMosaic.Lib.StableHlo.Run

@[expose] public section

set_option maxRecDepth 16384

noncomputable section

open Idealize.ShloMosaic Idealize.ShloMosaic.TcCoe Idealize.SL.Sem Cert.Sgu Cert.Ffn Cert.Stores

namespace Cert.Kernel9Ideal.Block

open Cert.Kernel9Ideal Cert.Kernel9Ideal.Gen Cert.Kernel9Ideal.Value

variable {m : (ℓ : Loc nD τ sig) → Buf (Elt Ideal) ℓ} {A : Dx} {c : Dev nD}

/-- The argument arrays hold the reals of `A`. -/
abbrev Input (m : (ℓ : Loc nD τ sig) → Buf (Elt Ideal) ℓ) (A : Dx) (c : Dev nD) : Prop :=
  Cert.Reference9Ideal.Vjp.Holds A (m ((c : Thread nD τ).loc main_arg0)) (m ((c : Thread nD τ).loc main_arg1))
    (m ((c : Thread nD τ).loc main_arg2)) (m ((c : Thread nD τ).loc main_arg3)) (m ((c : Thread nD τ).loc main_arg4))

/-- The projection, as the kernel is given it. -/
theorem V_main_v1 : (V m c main_v1 : FVec Ideal S5632x1024 .bf16)
    = truncf (F := Ideal) .bf16 (transpose S5632x1024 [1, 0] (m ((c : Thread nD τ).loc main_arg4)) transposes_S1024x5632_S5632x1024_1_0)
        bitsLt_bf16_f32 := by
  show StableHlo.after hostOps0 _ (Proc.devRef .tc main_v1) = _
  after_results

/-- The kernel's weights hold the reals of `A`. -/
theorem w_apply (H : Input m A c) (i : S5632x1024.Idx) : V m c main_v1 i = ((A.w (i 1) (i 0) : ℝ) : EReal) := by
  rw [V_main_v1]
  pointwise []
  exact H.w _

/-- Which block of its array each window shows at point `t`: the `t`-th 256 rows, or all of it. -/
theorem index_at : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0) :=
  (by decide +kernel : ∀ t : Fin grid0.N, _)

/-- The input blocks of point `t` hold the `t`-th rows of `A`. -/
theorem holdsAt (H : Input m A c) (t : Fin cfg0.N) : HoldsAt m (A.block t.val) c t := by
  obtain ⟨iz, ⟨iw, iw'⟩, ir, ix, ⟨-, ig⟩, -⟩ := index_at t
  refine ⟨fun y => ?_, fun y => ?_, fun y => ?_, fun y => ?_, fun y => ?_⟩
  · show V m c main_arg0 (((cfg0.win 0).blk t).view.emb y) = _
    rw [V_main_arg0]
    exact (H.dz _).trans (shown A.dz 256 5632 iz (y 0) (y 1)).symm
  · show V m c main_v1 (((cfg0.win 1).blk t).view.emb y) = _
    refine (w_apply H _).trans ?_
    show ((A.w (win0_1.index t (1 : Fin 2) * 1024 + 1 * (y 1 : ℕ)) (win0_1.index t (0 : Fin 2) * 5632 + 1 * (y 0 : ℕ)) : ℝ) : EReal)
      = ((A.w (y 1) (y 0) : ℝ) : EReal)
    rw [iw, iw', zero_mul, zero_add, zero_mul, zero_add, one_mul, one_mul]
  · show V m c main_arg1 (((cfg0.win 2).blk t).view.emb y) = _
    rw [V_main_arg1]
    exact (H.dres _).trans (shown A.dres 256 1024 ir (y 0) (y 1)).symm
  · show V m c main_arg2 (((cfg0.win 3).blk t).view.emb y) = _
    rw [V_main_arg2]
    exact (H.x _).trans (shown A.x 256 1024 ix (y 0) (y 1)).symm
  · show V m c main_arg3 (((cfg0.win 4).blk t).view.emb y) = _
    rw [V_main_arg3]
    refine (H.g _).trans ?_
    show ((A.g (win0_4.index t (1 : Fin 2) * 1024 + 1 * (y 1 : ℕ)) : ℝ) : EReal) = ((A.g (y 1) : ℝ) : EReal)
    rw [ig, zero_mul, zero_add, one_mul]

/-- Every point leaves its rows' block, and the gain's gradient over all the rows so far. -/
theorem leaves (H : Input m A c) (n : ℕ) : ∀ h : n < cfg0.N,
    Leaves (A.block n) (A.dgam (256 * n)) (outsAt0 m c n h) := by
  induction n with
  | zero =>
    intro h
    have z : A.dgam (256 * 0) = fun _ => 0 := funext fun _ => by simp [Dx.dgam]
    rw [z]
    have l := leaves_A m (holdsAt H ⟨0, h⟩) (Nat.zero_mod 32)
    exact l
  | succ n ih =>
    intro h
    have hN : n + 1 < 32 := lt_of_lt_of_eq h N_0
    have l := leaves_B m (R := A.dgam (256 * (n + 1))) (holdsAt H ⟨n + 1, h⟩) (by show ¬(n + 1) % 32 = 0; omega)
      fun i => ((ih (Nat.lt_of_succ_lt h)).dgam i).trans (by rw [Dx.dgam_succ])
    exact l

/-- The point whose block holds row `r`. -/
def pointOf (r : Fin 8192) : Fin cfg0.N := ⟨r.val / 256, lt_of_lt_of_eq (by omega) N_0.symm⟩

/-- The result array of window 5, the gradient of the rows. -/
theorem dx_array (H : Input m A c) :
    (dats m 0 c).arrAt 5 cfg0.N = fun i : S8192x1024.Idx => ((A.dx (i 0) (i 1) : ℝ) : EReal) := by
  refine (dats m 0 c).arrAt_eq_of_cover 5 _ (fun t _ => ?_) fun i => ⟨pointOf (i 0), flush0_5 _, ?_⟩
  · rw [flushed5]
    exact funext fun y => ((leaves H t.val t.isLt).dx ((cfg0.win 5).xinj (grid0.coords t) y)).trans
      (shown A.dx 256 1024 (index_at t).2.2.2.2.2.1 (y 0) (y 1))
  · show i ∈ ((View.whole main_v2_0).slice (win0_5.rect (pointOf (i 0)))).set
    rw [View.set_slice_whole, Rect.mem_set_unit]
    exact Fin.forall_fin_two.mpr
      (inside (b := 256) (n := 1024) (by decide) (index_at (pointOf (i 0))).2.2.2.2.2.1 (i 1).isLt)

/-- The result array of window 6, the gain's gradient: the last point writes it. -/
theorem dgam_array (H : Input m A c) :
    (dats m 0 c).arrAt 6 cfg0.N = fun i : S1x1024.Idx => ((A.dgam 8192 (i 1) : ℝ) : EReal) := by
  refine (dats m 0 c).arrAt_eq_of_cover 6 _ (fun t hf => ?_) fun i => ⟨pointOf 8191, (flush0_6 _).mpr rfl, ?_⟩
  · have hN : t.val < 32 := lt_of_lt_of_eq t.isLt N_0
    have ht : t.val = 31 := by have := (flush0_6 t).mp hf; omega
    rw [flushed6]
    funext y
    refine ((leaves H t.val t.isLt).dgam ((cfg0.win 6).xinj (grid0.coords t) y)).trans ?_
    show ((A.dgam (256 * t.val) (y 1 : ℕ) + (A.block t.val).dgam 256 (y 1 : ℕ) : ℝ) : EReal)
      = ((A.dgam 8192 (win0_6.index t (1 : Fin 2) * 1024 + 1 * (y 1 : ℕ)) : ℝ) : EReal)
    rw [(index_at t).2.2.2.2.2.2.2, zero_mul, zero_add, one_mul, ← Dx.dgam_succ, ht]
  · show i ∈ ((View.whole main_v2_1).slice (win0_6.rect (pointOf 8191))).set
    rw [View.set_slice_whole, Rect.mem_set_unit]
    exact Fin.forall_fin_two.mpr
      (inside_row (n := 1024) (index_at (pointOf 8191)).2.2.2.2.2.2 (i 0).isLt (i 1).isLt)

end Cert.Kernel9Ideal.Block

end
-- ==== Proof.DxFinite.lean ====
/-
  The precondition of the ninth call: arrays whose elements are all finite hold the reals of a `Dx`.
-/
module

public import proofs.«01_k».proof.Proof.HeadFinite
public import proofs.«01_k».proof.Proof.DxVjp
public import proofs.«01_k».proof.Pre_finite9

@[expose] public section

noncomputable section

open Idealize.ShloMosaic Cert.Sgu

namespace Cert.Ffn.Dx

/-- The facts the precondition's printed function states. -/
instance pre_facts : Cert.Pre_finite9.Facts where
  bcast_S_S8192x5632 := ⟨fun a => a.elim0, fun a => a.elim0⟩
  bcast_S_S8192x1024 := ⟨fun a => a.elim0, fun a => a.elim0⟩
  bcast_S_S1x1024 := ⟨fun a => a.elim0, fun a => a.elim0⟩
  bcast_S_S1024x5632 := ⟨fun a => a.elim0, fun a => a.elim0⟩

open Cert.Reference9Ideal Cert.Reference9Ideal.Vjp

/-- Arrays that pass the precondition hold the reals of some `Dx`. -/
theorem holds_of_pre {x0 : FVec Ideal S8192x5632 .bf16} {x1 x2 : FVec Ideal S8192x1024 .f32} {x3 : FVec Ideal S1x1024 .f32}
    {x4 : FVec Ideal S1024x5632 .f32}
    (h0 : (Cert.Pre_finite9.fn (F := Ideal) x0 x1 x2 x3 x4).1 = fun _ => 1#1)
    (h1 : (Cert.Pre_finite9.fn (F := Ideal) x0 x1 x2 x3 x4).2.1 = fun _ => 1#1)
    (h2 : (Cert.Pre_finite9.fn (F := Ideal) x0 x1 x2 x3 x4).2.2.1 = fun _ => 1#1)
    (h3 : (Cert.Pre_finite9.fn (F := Ideal) x0 x1 x2 x3 x4).2.2.2.1 = fun _ => 1#1)
    (h4 : (Cert.Pre_finite9.fn (F := Ideal) x0 x1 x2 x3 x4).2.2.2.2 = fun _ => 1#1) :
    ∃ A : Dx, Holds A x0 x1 x2 x3 x4 :=
  ⟨{ dz := nat2 x0, dres := nat2 x1, x := nat2 x2, g := nat2 x3 0, w := nat2 x4 },
    { dz := fun i => nat2_apply x0 i (finite_of_pre ofBits_inf_bf16 h0 i)
      dres := fun i => nat2_apply x1 i (finite_of_pre ofBits_inf h1 i)
      x := fun i => nat2_apply x2 i (finite_of_pre ofBits_inf h2 i)
      g := row_apply (finite_of_pre ofBits_inf h3)
      w := fun i => nat2_apply x4 i (finite_of_pre ofBits_inf h4 i) }⟩

end Cert.Ffn.Dx

end
-- ==== Proof.PreSpec.lean ====
/-
  The forward of a feed-forward layer that first adds the mixer's projection out: `Pre` holds the six arguments as functions of
  natural indices; the layer is `Fwd`'s at the rows with the projection added.
-/
module

public import proofs.«01_k».proof.Proof.FwdSpec

@[expose] public section

noncomputable section

open Idealize.ShloMosaic Cert.Sgu

namespace Cert.Ffn

/-- The arguments at natural indices: the rows `x` before the mixer, the mixer's output `q` (row, column) and its projection `p`,
    and the layer's gain and projections as in `Fwd`. -/
structure Pre where
  x : ℕ → ℕ → EReal
  q : ℕ → ℕ → EReal
  p : ℕ → ℕ → EReal
  g : ℕ → EReal
  w : ℕ → ℕ → EReal
  o : ℕ → ℕ → EReal

namespace Pre

variable (A : Pre)

/-- The layer's input: the rows with the mixer's projected output. -/
def xin (t c : ℕ) : EReal := A.x t c + ∑ k : Fin 1024, A.q t k * A.p k c

/-- The layer at that input. -/
def layer : Fwd where
  x := A.xin
  g := A.g
  w := A.w
  o := A.o

/-- The arguments with their rows counted from `256 t`. -/
def block (t : ℕ) : Pre where
  x := fun r c => A.x (256 * t + r) c
  q := fun r c => A.q (256 * t + r) c
  p := A.p
  g := A.g
  w := A.w
  o := A.o

end Pre

end Cert.Ffn

end
-- ==== Proof.PrePoint.lean ====
/-
  What a grid point of the forward kernel with the mixer's projection leaves: its 256 rows of the four results. The first point
  copies the weights into the kernel's own memory; the later ones find them there. The hidden layer is worked in two halves of 1408
  columns; the kernel's text names the second half's payloads apart from the first's, and the lemmas of a half serve both.
-/
module

public import proofs.«01_k».proof.Proof.PreSpec
public import proofs.«01_k».proof.Proof.Stores
public import proofs.«01_k».proof.Proof.Gen.Kernel10Ideal.Frame
public import Idealize.ShloMosaic.Lib.Pointwise

@[expose] public section

set_option maxRecDepth 16384

noncomputable section

open Idealize.ShloMosaic Idealize.ShloMosaic.TcCoe Idealize.SL.Sem Cert.Sgu Cert.Ffn Cert.Stores

namespace Cert.Kernel10Ideal.Block

open Cert.Kernel10Ideal Cert.Kernel10Ideal.Gen

/-- The four input blocks and the two weight arrays hold the entries of `A`. -/
structure Holds (A : Pre) (x0 : Vec Ideal S256x1024 .f32) (x1 : Vec Ideal S1x1024 .f32)
    (x2 : Vec Ideal S256x1024 .bf16) (x3 : Vec Ideal S1024x1024 .bf16) (w : Vec Ideal S5632x1024 .bf16) (o : Vec Ideal S2816x1024 .bf16) : Prop where
  x : ∀ i, x0 i = A.x (i 0) (i 1)
  g : ∀ i, x1 i = A.g (i 1)
  q : ∀ i, x2 i = A.q (i 0) (i 1)
  p : ∀ i, x3 i = A.p (i 0) (i 1)
  w : ∀ i, w i = A.w (i 1) (i 0)
  o : ∀ i, o i = A.o (i 0) (i 1)

variable {A : Pre} {x0 : Vec Ideal S256x1024 .f32} {x1 : Vec Ideal S1x1024 .f32} {x2 : Vec Ideal S256x1024 .bf16}
  {x3 : Vec Ideal S1024x1024 .bf16}  {w : Vec Ideal S5632x1024 .bf16} {o : Vec Ideal S2816x1024 .bf16}

/-- The layer's input. -/
theorem xin_apply (H : Holds A x0 x1 x2 x3 w o) (i : S256x1024.Idx) : k0_pay3 x0 x2 x3 i = A.xin (i 0) (i 1) := by
  pointwise [k0_pay3]
  simp only [H.x, H.q, H.p]
  rfl

/-- The layer's normalized input. -/
theorem xn_apply (H : Holds A x0 x1 x2 x3 w o) (i : S256x1024.Idx) : k0_pay4 x0 x2 x3 x1 i = A.layer.xn (i 0) (i 1) := by
  pointwise [k0_pay4]
  simp only [xin_apply H, H.g, ofBits_1024, ofBits_eps]
  rfl

/-- The hidden layer's columns that the rows `v` of the projection give. -/
theorem gu_apply (H : Holds A x0 x1 x2 x3 w o) {v : Vec Ideal S1408x1024 .bf16} {q : ℕ}
    (hv : ∀ i, v i = A.w (i 1) (q + i 0)) (i : S256x1408.Idx) : k0_pay5 x0 x2 x3 x1 v i = A.layer.gu (i 0) (q + i 1) := by
  pointwise [k0_pay5]
  simp only [xn_apply H, hv]
  rfl

/-- The gated hidden layer's columns, from the gate's rows and the other factor's. -/
theorem h_apply (H : Holds A x0 x1 x2 x3 w o) {v u : Vec Ideal S1408x1024 .bf16} {q p : ℕ}
    (hv : ∀ i, v i = A.w (i 1) (q + i 0)) (hu : ∀ i, u i = A.w (i 1) (p + i 0))
    (e : p = 2816 + q) (i : S256x1408.Idx) :
    k0_pay9 (k0_pay5 x0 x2 x3 x1 v) (k0_pay6 x0 x2 x3 x1 u) i = A.layer.h (i 0) (q + i 1) := by
  have hu' : k0_pay6 x0 x2 x3 x1 u i = A.layer.gu (i 0) (2816 + (q + i 1)) :=
    (gu_apply H hu i).trans (by rw [e, Nat.add_assoc])
  pointwise [k0_pay9]
  rw [gu_apply H hv, hu', ofBits_half, half_tanh]
  rfl

/-- The layer's output, from the gated hidden layer. -/
theorem out_apply (H : Holds A x0 x1 x2 x3 w o) {h : Vec Ideal S256x2816 .bf16} (hh : ∀ i, h i = A.layer.h (i 0) (i 1))
    (i : S256x1024.Idx) :
    k0_pay2 (k0_pay3 x0 x2 x3) h o i = A.layer.out (i 0) (i 1) := by
  pointwise [k0_pay2]
  simp only [xin_apply H, hh, H.o, ofBits_half]
  rfl

/-- The rows of the projection from `q` on, as the kernel loads them. -/
theorem rows_of (H : Holds A x0 x1 x2 x3 w o) (q : ℕ)
    (b : ∀ a, (![q, 0] : Fin 2 → ℕ) a + (![1408, 1024] : Fin 2 → ℕ) a ≤ S5632x1024.size a) (i : S1408x1024.Idx) :
    View.ld w (Rect.unit (s := S5632x1024) ![q, 0] ![1408, 1024] b) i = A.w (i 1) (q + i 0) :=
  (ld_apply w b (X := fun r k => A.w k r) H.w i).trans (by rw [zero_add])

/-- The four stores of the hidden layer leave it. -/
theorem gu_stores (H : Holds A x0 x1 x2 x3 w o) (i : S256x5632.Idx) :
    View.canon [(⟨Rect.unit ![0, 4224] ![256, 1408] inb_S256x5632_S256x1408_0_4224,
        k0_pay13 (k0_pay4 x0 x2 x3 x1) (View.ld w (Rect.unit ![4224, 0] ![1408, 1024] inb_S5632x1024_S1408x1024_4224_0))⟩
          : View.Piece (Elt Ideal) S256x5632 .bf16),
      ⟨Rect.unit ![0, 1408] ![256, 1408] inb_S256x5632_S256x1408_0_1408,
        k0_pay12 (k0_pay4 x0 x2 x3 x1) (View.ld w (Rect.unit ![1408, 0] ![1408, 1024] inb_S5632x1024_S1408x1024_1408_0))⟩,
      ⟨Rect.unit ![0, 2816] ![256, 1408] inb_S256x5632_S256x1408_0_2816,
        k0_pay8 (k0_pay6 x0 x2 x3 x1 (View.ld w (Rect.unit ![2816, 0] ![1408, 1024] inb_S5632x1024_S1408x1024_2816_0)))⟩,
      ⟨Rect.unit ![0, 0] ![256, 1408] inb_S256x5632_S256x1408_0_0,
        k0_pay7 x0 x2 x3 x1 (View.ld w (Rect.unit ![0, 0] ![1408, 1024] inb_S5632x1024_S1408x1024_0_0))⟩] i
      = A.layer.gu (i 0) (i 1) := by
  canon_tiles x h
  · exact (gu_apply H (rows_of H 4224 _) x).trans (by rw [h0, h1])
  · exact (gu_apply H (rows_of H 1408 _) x).trans (by rw [h0, h1])
  · exact (gu_apply H (rows_of H 2816 _) x).trans (by rw [h0, h1])
  · exact (gu_apply H (rows_of H 0 _) x).trans (by rw [h0, h1, zero_add])

/-- The two stores of the gated hidden layer. -/
abbrev hStores (x0 : Vec Ideal S256x1024 .f32) (x1 : Vec Ideal S1x1024 .f32)
    (x2 : Vec Ideal S256x1024 .bf16) (x3 : Vec Ideal S1024x1024 .bf16) (w : Vec Ideal S5632x1024 .bf16) :
    List (View.Piece (Elt Ideal) S256x2816 .bf16) :=
  [⟨Rect.unit ![0, 1408] ![256, 1408] inb_S256x2816_S256x1408_0_1408,
      k0_pay1 (k0_pay14 (k0_pay4 x0 x2 x3 x1) (View.ld w (Rect.unit ![1408, 0] ![1408, 1024] inb_S5632x1024_S1408x1024_1408_0))
        (View.ld w (Rect.unit ![4224, 0] ![1408, 1024] inb_S5632x1024_S1408x1024_4224_0)))⟩,
    ⟨Rect.unit ![0, 0] ![256, 1408] inb_S256x2816_S256x1408_0_0,
      k0_pay9 (k0_pay5 x0 x2 x3 x1 (View.ld w (Rect.unit ![0, 0] ![1408, 1024] inb_S5632x1024_S1408x1024_0_0)))
        (k0_pay6 x0 x2 x3 x1 (View.ld w (Rect.unit ![2816, 0] ![1408, 1024] inb_S5632x1024_S1408x1024_2816_0)))⟩]

/-- They leave the gated hidden layer. -/
theorem h_stores (H : Holds A x0 x1 x2 x3 w o) (i : S256x2816.Idx) : View.canon (hStores x0 x1 x2 x3 w) i = A.layer.h (i 0) (i 1) := by
  canon_tiles x h
  · exact (h_apply H (rows_of H 1408 _) (rows_of H 4224 _) rfl x).trans (by rw [h0, h1])
  · exact (h_apply H (rows_of H 0 _) (rows_of H 2816 _) rfl x).trans (by rw [h0, h1, zero_add])

variable (m : (ℓ : Loc nD τ sig) → Buf (Elt Ideal) ℓ)
variable {c : Dev nD} {t : Fin cfg0.N}

/-- The input blocks of point `t` and the weights it finds hold the entries of `A`. -/
abbrev HoldsAt (A : Pre) (c : Dev nD) (t : Fin cfg0.N) (w : Vec Ideal S5632x1024 .bf16) (o : Vec Ideal S2816x1024 .bf16) : Prop :=
  Holds A (iblk m c 0 t) (iblk m c 1 t) (iblk m c 2 t) (iblk m c 3 t) w o

/-- What a point leaves: the blocks of its rows, and the weights as found. -/
structure Leaves (A : Pre) (w : Vec Ideal S5632x1024 .bf16) (o : Vec Ideal S2816x1024 .bf16)
    (u : Vec Ideal S256x1024 .f32 × Vec Ideal S256x1024 .f32 × Vec Ideal S256x1024 .bf16 × Vec Ideal S256x5632 .bf16
      × Vec Ideal S5632x1024 .bf16 × Vec Ideal S2816x1024 .bf16) : Prop where
  xin : ∀ i, u.1 i = A.xin (i 0) (i 1)
  out : ∀ i, u.2.1 i = A.layer.out (i 0) (i 1)
  xn : ∀ i, u.2.2.1 i = A.layer.xn (i 0) (i 1)
  gu : ∀ i, u.2.2.2.1 i = A.layer.gu (i 0) (i 1)
  w : u.2.2.2.2.1 = w
  o : u.2.2.2.2.2 = o

set_option maxHeartbeats 1000000 in
/-- The first point. -/
theorem leaves_A (H : HoldsAt m A c t (V m c main_v1) (V m c main_v2)) (h0 : t.val % 32 = 0) :
    Leaves A (V m c main_v1) (V m c main_v2) (outsAt0 m c t.val t.isLt) := by
  rw [outsAt0_A m c t h0]
  revert H
  generalize V m c main_v1 = w
  generalize V m c main_v2 = o
  intro H
  constructor
  case w | o => exact funext fun i => by dsimp only; frame_open; frame_out; exact congrFun (canon_whole _) i
  all_goals
    intro i
    dsimp only
    frame_open
    simp (disch := decide) only [↓ View.readCov_skip, ↓ View.readCov_cons_toLoadRect, ↓ View.readCov_fill]
    frame_out
    try simp only [readCov_all, readCov_whole, canon_whole]
  · exact xin_apply H i
  · exact out_apply H (h_stores H) i
  · exact xn_apply H i
  · exact gu_stores H i

set_option maxHeartbeats 1000000 in
/-- A later point, from what the point before it left. -/
theorem leaves_B {w : Vec Ideal S5632x1024 .bf16} {o : Vec Ideal S2816x1024 .bf16} (H : HoldsAt m A c t w o) (h0 : ¬t.val % 32 = 0)
    (hw : (outsAt0 m c (t.val - 1) (Nat.lt_of_le_of_lt (Nat.sub_le _ _) t.isLt)).2.2.2.2.1 = w)
    (ho : (outsAt0 m c (t.val - 1) (Nat.lt_of_le_of_lt (Nat.sub_le _ _) t.isLt)).2.2.2.2.2 = o) :
    Leaves A w o (outsAt0 m c t.val t.isLt) := by
  rw [outsAt0_B m c t h0]
  revert hw ho
  generalize (outsAt0 m c (t.val - 1) (Nat.lt_of_le_of_lt (Nat.sub_le _ _) t.isLt)) = acc
  intro hw ho
  subst hw ho
  constructor
  case w | o => rfl
  all_goals
    intro i
    dsimp only
    frame_open
    simp (disch := decide) only [↓ View.readCov_skip, ↓ View.readCov_cons_toLoadRect, ↓ View.readCov_fill]
    frame_out
    try simp only [readCov_all, read_unread_whole]
  · exact xin_apply H i
  · exact out_apply H (h_stores H) i
  · exact xn_apply H i
  · exact gu_stores H i

end Cert.Kernel10Ideal.Block

end
-- ==== Proof.PreArrays.lean ====
/-
  The forward with the mixer's projection, from the points to whole arrays: the kernel's arguments hold the entries of `A`, so each
  point's blocks hold the entries of its rows, and the result arrays hold the layer's quantities; and so do the reference's values.
-/
module

public import proofs.«01_k».proof.Proof.PrePoint
public import proofs.«01_k».proof.Proof.Gen.Kernel10Ideal.Value
public import proofs.«01_k».proof.Proof.Gen.Reference10Ideal.Read

@[expose] public section

set_option maxRecDepth 16384

noncomputable section

open Idealize.ShloMosaic Idealize.ShloMosaic.TcCoe Idealize.SL.Sem Cert.Sgu Cert.Ffn Cert.Stores

namespace Cert.Reference10Ideal.Fwd

open Cert.Reference10Ideal Cert.Reference10Ideal.Gen Cert.Reference10Ideal.Read

/-- The six arguments hold the entries of `A`. -/
structure Holds (A : Ffn.Pre) (x0 : Vec Ideal S8192x1024 .f32) (x1 : Vec Ideal S8192x1024 .bf16)
    (x2 : Vec Ideal S1024x1024 .f32) (x3 : Vec Ideal S1x1024 .f32) (x4 : Vec Ideal S1024x5632 .f32)
    (x5 : Vec Ideal S2816x1024 .f32) : Prop where
  x : ∀ i, x0 i = A.x (i 0) (i 1)
  q : ∀ i, x1 i = A.q (i 0) (i 1)
  p : ∀ i, x2 i = A.p (i 0) (i 1)
  g : ∀ i, x3 i = A.g (i 1)
  w : ∀ i, x4 i = A.w (i 0) (i 1)
  o : ∀ i, x5 i = A.o (i 0) (i 1)

variable {A : Ffn.Pre} {x0 : Vec Ideal S8192x1024 .f32} {x1 : Vec Ideal S8192x1024 .bf16}
  {x2 : Vec Ideal S1024x1024 .f32} {x3 : Vec Ideal S1x1024 .f32} {x4 : Vec Ideal S1024x5632 .f32} {x5 : Vec Ideal S2816x1024 .f32}

/-- Result 0, the layer's input. -/
theorem v2_apply (H : Holds A x0 x1 x2 x3 x4 x5) (i : S8192x1024.Idx) :
    val_main_v2 (F := Ideal) x0 x1 x2 i = A.xin (i 0) (i 1) := by
  simp only [val_main_v2_apply, val_main_v1_apply, val_main_v0_apply, H.x, Ideal.addf_def]
  exact congrArg (_ + ·) (Finset.sum_congr rfl fun k _ => congrArg₂ (· * ·) (H.q _) (H.p _))

/-- The normalized input. -/
theorem v14_apply (H : Holds A x0 x1 x2 x3 x4 x5) (i : S8192x1024.Idx) :
    val_main_v14 (F := Ideal) x0 x1 x2 x3 i = A.layer.xn (i 0) (i 1) := by
  simp only [val_main_v14_apply, val_main_v13_apply, val_main_v12_apply, val_main_v11_apply, val_main_v10_apply, val_main_v9_apply,
    val_main_v8_apply, val_main_cst_1_apply, val_main_v7_apply, val_main_v6_apply, val_main_cst_0_apply, val_main_v5_apply,
    val_main_v4_apply, val_main_v3_apply, val_main_cst_apply, v2_apply H, H.g, Ideal.mulf_def, Ideal.addf_def, Ideal.hostDivf_def,
    Ideal.ofBits_def, ofBits_zero, zero_add, ofBits_1024, ofBits_eps]
  rfl

/-- The hidden layer. -/
theorem v15_apply (H : Holds A x0 x1 x2 x3 x4 x5) (i : S8192x5632.Idx) :
    val_main_v15 (F := Ideal) x0 x1 x2 x3 x4 i = A.layer.gu (i 0) (i 1) := by
  simp only [val_main_v15_apply, v14_apply H, H.w]
  rfl

/-- The gated hidden layer. -/
theorem v19_apply (H : Holds A x0 x1 x2 x3 x4 x5) (i : S8192x2816.Idx) :
    val_main_v19 (F := Ideal) x0 x1 x2 x3 x4 i = A.layer.h (i 0) (i 1) := by
  simp only [val_main_v19_apply, val_main_v18_apply, val_main_v17_apply, val_main_v16_apply, val_main_call0_v5_apply,
    val_main_call0_v4_apply, val_main_call0_cst_0_apply, val_main_call0_v3_apply, val_main_call0_v2_apply, val_main_call0_cst_apply,
    val_main_call0_v1_apply, val_main_call0_v0_apply, v15_apply H, Ideal.hostNegf_def, Ideal.negf_def, Ideal.hostUnary_exp_def,
    Ideal.addf_def, Ideal.mulf_def, Ideal.ofBits_def, ofBits_one, EReal.coe_one, Ideal.hostDivf_def]
  rfl

/-- Result 1, the layer's output. -/
theorem v23_apply (H : Holds A x0 x1 x2 x3 x4 x5) (i : S8192x1024.Idx) :
    val_main_v23 (F := Ideal) x0 x1 x2 x3 x4 x5 i = A.layer.out (i 0) (i 1) := by
  simp only [val_main_v23_apply, val_main_v22_apply, val_main_v21_apply, val_main_cst_2_apply, val_main_v20_apply, v19_apply H,
    v2_apply H, H.o, Ideal.mulf_def, Ideal.addf_def, Ideal.ofBits_def, ofBits_half]
  rfl

/-- Result 2, the normalized input, rounded. -/
theorem v24_apply (H : Holds A x0 x1 x2 x3 x4 x5) (i : S8192x1024.Idx) :
    val_main_v24 (F := Ideal) x0 x1 x2 x3 i = A.layer.xn (i 0) (i 1) := by
  rw [val_main_v24_apply, v14_apply H]
  rfl

/-- Result 3, the hidden layer, rounded. -/
theorem v25_apply (H : Holds A x0 x1 x2 x3 x4 x5) (i : S8192x5632.Idx) :
    val_main_v25 (F := Ideal) x0 x1 x2 x3 x4 i = A.layer.gu (i 0) (i 1) := by
  rw [val_main_v25_apply, v15_apply H]
  rfl

end Cert.Reference10Ideal.Fwd

namespace Cert.Kernel10Ideal.Block

open Cert.Kernel10Ideal Cert.Kernel10Ideal.Gen Cert.Kernel10Ideal.Value

variable {m : (ℓ : Loc nD τ sig) → Buf (Elt Ideal) ℓ} {A : Ffn.Pre} {c : Dev nD}

/-- The argument arrays hold the entries of `A`. -/
abbrev Input (m : (ℓ : Loc nD τ sig) → Buf (Elt Ideal) ℓ) (A : Ffn.Pre) (c : Dev nD) : Prop :=
  Cert.Reference10Ideal.Fwd.Holds A (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

/-- Any argument arrays hold the entries of some `A`. -/
theorem input (m : (ℓ : Loc nD τ sig) → Buf (Elt Ideal) ℓ) (c : Dev nD) : ∃ A, Input m A c :=
  ⟨⟨Grad.nat _, Grad.nat _, Grad.nat _, Grad.row _, Grad.nat _, Grad.nat _⟩, Grad.nat_apply _, Grad.nat_apply _, Grad.nat_apply _,
    Grad.row_apply _, Grad.nat_apply _, Grad.nat_apply _⟩

/-- The projection in, as the kernel is given it. -/
theorem V_main_v1 : (V m c main_v1 : FVec Ideal S5632x1024 .bf16)
    = truncf (F := Ideal) .bf16 (transpose S5632x1024 [1, 0] (m ((c : Thread nD τ).loc main_arg4)) transposes_S1024x5632_S5632x1024_1_0)
        bitsLt_bf16_f32 := by
  show StableHlo.after hostOps0 _ (Proc.devRef .tc main_v1) = _
  after_results

/-- The projection out, as the kernel is given it. -/
theorem V_main_v2 : (V m c main_v2 : FVec Ideal S2816x1024 .bf16)
    = truncf (F := Ideal) .bf16 (m ((c : Thread nD τ).loc main_arg5)) bitsLt_bf16_f32 := by
  show StableHlo.after hostOps0 _ (Proc.devRef .tc main_v2) = _
  after_results

/-- The mixer's projection out, as the kernel is given it. -/
theorem V_main_v3 : (V m c main_v3 : FVec Ideal S1024x1024 .bf16)
    = truncf (F := Ideal) .bf16 (m ((c : Thread nD τ).loc main_arg2)) bitsLt_bf16_f32 := by
  show StableHlo.after hostOps0 _ (Proc.devRef .tc main_v3) = _
  after_results

/-- The kernel's weights hold the entries of `A`. -/
theorem w_apply (H : Input m A c) (i : S5632x1024.Idx) : V m c main_v1 i = A.w (i 1) (i 0) := by
  rw [V_main_v1]
  pointwise []
  exact H.w _

theorem o_apply (H : Input m A c) (i : S2816x1024.Idx) : V m c main_v2 i = A.o (i 0) (i 1) := by
  rw [V_main_v2]
  exact H.o i

theorem p_apply (H : Input m A c) (i : S1024x1024.Idx) : V m c main_v3 i = A.p (i 0) (i 1) := by
  rw [V_main_v3]
  exact H.p i

/-- Which block of its array each window shows at point `t`: the `t`-th 256 rows, or all of it. -/
theorem index_at : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- The input blocks of point `t` hold the `t`-th rows of `A`. -/
theorem holdsAt (H : Input m A c) (t : Fin cfg0.N) : HoldsAt m (A.block t.val) c t (V m c main_v1) (V m c main_v2) := by
  obtain ⟨ix, ⟨-, ig⟩, iq, ⟨ip, ip'⟩, -⟩ := index_at t
  refine ⟨fun y => ?_, fun y => ?_, fun y => ?_, fun y => ?_, fun i => w_apply H i, fun i => o_apply H i⟩
  · show V m c main_arg0 (((cfg0.win 0).blk t).view.emb y) = _
    rw [V_main_arg0]
    exact (H.x _).trans (shown_at A.x 256 1024 ix (y 0) (y 1)).symm
  · show V m c main_arg3 (((cfg0.win 1).blk t).view.emb y) = _
    rw [V_main_arg3]
    refine (H.g _).trans ?_
    show A.g (win0_1.index t (1 : Fin 2) * 1024 + 1 * (y 1 : ℕ)) = A.g (y 1)
    rw [ig, zero_mul, zero_add, one_mul]
  · show V m c main_arg1 (((cfg0.win 2).blk t).view.emb y) = _
    rw [V_main_arg1]
    exact (H.q _).trans (shown_at A.q 256 1024 iq (y 0) (y 1)).symm
  · show V m c main_v3 (((cfg0.win 3).blk t).view.emb y) = _
    refine (p_apply H _).trans ?_
    show A.p (win0_3.index t (0 : Fin 2) * 1024 + 1 * (y 0 : ℕ)) (win0_3.index t (1 : Fin 2) * 1024 + 1 * (y 1 : ℕ)) = A.p (y 0) (y 1)
    rw [ip, ip', zero_mul, zero_add, one_mul, zero_add, one_mul]

/-- Every point leaves its rows' blocks. -/
theorem leaves (H : Input m A c) (n : ℕ) : ∀ h : n < cfg0.N,
    Leaves (A.block n) (V m c main_v1) (V m c main_v2) (outsAt0 m c n h) := by
  induction n with
  | zero =>
    intro h
    have l := leaves_A m (holdsAt H ⟨0, h⟩) (Nat.zero_mod 32)
    generalize V m c main_v1 = w, V m c main_v2 = o at l ⊢
    exact l
  | succ n ih =>
    intro h
    have hN : n + 1 < 32 := lt_of_lt_of_eq h N_0
    have i1 := ih (Nat.lt_of_succ_lt h)
    have hh := holdsAt H ⟨n + 1, h⟩
    generalize V m c main_v1 = w, V m c main_v2 = o at i1 hh ⊢
    have l := leaves_B m hh (by show ¬(n + 1) % 32 = 0; omega) i1.w i1.o
    exact l

/-- The point whose block holds row `r`. -/
def pointOf (r : Fin 8192) : Fin cfg0.N := ⟨r.val / 256, lt_of_lt_of_eq (by omega) N_0.symm⟩

/-- The result array of window 4, the layer's input. -/
theorem xin_array (H : Input m A c) : (dats m 0 c).arrAt 4 cfg0.N = fun i : S8192x1024.Idx => A.xin (i 0) (i 1) := by
  refine (dats m 0 c).arrAt_eq_of_cover 4 _ (fun t _ => ?_) fun i => ⟨pointOf (i 0), flush0_4 _, ?_⟩
  · rw [flushed4]
    exact funext fun y => ((leaves H t.val t.isLt).xin ((cfg0.win 4).xinj (grid0.coords t) y)).trans
      (shown_at A.xin 256 1024 (index_at t).2.2.2.2.1 (y 0) (y 1))
  · show i ∈ ((View.whole main_v4_0).slice (win0_4.rect (pointOf (i 0)))).set
    rw [View.set_slice_whole, Rect.mem_set_unit]
    exact Fin.forall_fin_two.mpr (inside (b := 256) (n := 1024) (by decide) (index_at (pointOf (i 0))).2.2.2.2.1 (i 1).isLt)

/-- The result array of window 5, the layer's output. -/
theorem out_array (H : Input m A c) : (dats m 0 c).arrAt 5 cfg0.N = fun i : S8192x1024.Idx => A.layer.out (i 0) (i 1) := by
  refine (dats m 0 c).arrAt_eq_of_cover 5 _ (fun t _ => ?_) fun i => ⟨pointOf (i 0), flush0_5 _, ?_⟩
  · rw [flushed5]
    exact funext fun y => ((leaves H t.val t.isLt).out ((cfg0.win 5).xinj (grid0.coords t) y)).trans
      (shown_at A.layer.out 256 1024 (index_at t).2.2.2.2.2.1 (y 0) (y 1))
  · show i ∈ ((View.whole main_v4_1).slice (win0_5.rect (pointOf (i 0)))).set
    rw [View.set_slice_whole, Rect.mem_set_unit]
    exact Fin.forall_fin_two.mpr (inside (b := 256) (n := 1024) (by decide) (index_at (pointOf (i 0))).2.2.2.2.2.1 (i 1).isLt)

/-- The result array of window 6, the normalized input, rounded. -/
theorem xn_array (H : Input m A c) : (dats m 0 c).arrAt 6 cfg0.N = fun i : S8192x1024.Idx => A.layer.xn (i 0) (i 1) := by
  refine (dats m 0 c).arrAt_eq_of_cover 6 _ (fun t _ => ?_) fun i => ⟨pointOf (i 0), flush0_6 _, ?_⟩
  · rw [flushed6]
    exact funext fun y => ((leaves H t.val t.isLt).xn ((cfg0.win 6).xinj (grid0.coords t) y)).trans
      (shown_at A.layer.xn 256 1024 (index_at t).2.2.2.2.2.2.1 (y 0) (y 1))
  · show i ∈ ((View.whole main_v4_2).slice (win0_6.rect (pointOf (i 0)))).set
    rw [View.set_slice_whole, Rect.mem_set_unit]
    exact Fin.forall_fin_two.mpr (inside (b := 256) (n := 1024) (by decide) (index_at (pointOf (i 0))).2.2.2.2.2.2.1 (i 1).isLt)

/-- The result array of window 7, the hidden layer, rounded. -/
theorem gu_array (H : Input m A c) : (dats m 0 c).arrAt 7 cfg0.N = fun i : S8192x5632.Idx => A.layer.gu (i 0) (i 1) := by
  refine (dats m 0 c).arrAt_eq_of_cover 7 _ (fun t _ => ?_) fun i => ⟨pointOf (i 0), flush0_7 _, ?_⟩
  · rw [flushed7]
    exact funext fun y => ((leaves H t.val t.isLt).gu ((cfg0.win 7).xinj (grid0.coords t) y)).trans
      (shown_at A.layer.gu 256 5632 (index_at t).2.2.2.2.2.2.2 (y 0) (y 1))
  · show i ∈ ((View.whole main_v4_3).slice (win0_7.rect (pointOf (i 0)))).set
    rw [View.set_slice_whole, Rect.mem_set_unit]
    exact Fin.forall_fin_two.mpr (inside (b := 256) (n := 5632) (by decide) (index_at (pointOf (i 0))).2.2.2.2.2.2.2 (i 1).isLt)

end Cert.Kernel10Ideal.Block

end
-- ==== Proof.UnitDwinArrays.lean ====
/-
  The gradient of the gating unit's projection in,
  computed by the kernel and by the reference: a grid point adds its
  2048 rows to the sum it carries, which starts from zero at the first point, and the fourth point writes it; the reference contracts
  all 8192 rows at once, with the factors the other way round. In `Grad`, `h` is here the normalized rows and `d` the gradient
  of the hidden layer. `Grad.block`'s column offset is zero here, the grid having four points.
-/
module

public import proofs.«01_k».proof.Proof.GradSpec
public import proofs.«01_k».proof.Proof.Stores
public import proofs.«01_k».proof.Proof.Gen.Kernel11Ideal.Value
public import proofs.«01_k».proof.Proof.Gen.Reference11Ideal.Read
public import Idealize.ShloMosaic.Lib.Pointwise

@[expose] public section

set_option maxRecDepth 16384

noncomputable section

open Idealize.ShloMosaic Idealize.ShloMosaic.TcCoe Idealize.SL.Sem Cert.Sgu Cert.Ffn Cert.Stores

namespace Cert.Reference11Ideal.Grad

open Cert.Reference11Ideal Cert.Reference11Ideal.Gen Cert.Reference11Ideal.Read

/-- The result: the projection's gradient, under a first axis of one. -/
theorem v7_apply {A : Ffn.Grad} {x0 : Vec Ideal S8192x1024 .bf16} {x1 : Vec Ideal S8192x2048 .bf16}
    (h0 : ∀ i, x0 i = A.h (i 0) (i 1)) (h1 : ∀ i, x1 i = A.d (i 0) (i 1)) (i : S1x1024x2048.Idx) :
    val_main_v7 (F := Ideal) x0 x1 i = A.dw 8192 (i 1) (i 2) := by
  simp only [val_main_v7_apply, val_main_v6_apply, val_main_v5_apply, val_main_v4_apply, val_main_v3_apply, val_main_v1_apply,
    h0, h1, Ideal.extf_def, Ideal.truncf_def]
  rw [Ffn.Grad.dw, Finset.sum_range]
  refine Finset.sum_congr rfl fun k _ => ?_
  exact mul_comm _ _

end Cert.Reference11Ideal.Grad

namespace Cert.Kernel11Ideal.Block

open Cert.Kernel11Ideal Cert.Kernel11Ideal.Gen Cert.Kernel11Ideal.Value

/-- The two input blocks hold the entries of `A`. -/
structure Holds (A : Ffn.Grad) (x0 : Vec Ideal S2048x1024 .bf16) (x1 : Vec Ideal S2048x2048 .bf16) : Prop where
  h : ∀ i, x0 i = A.h (i 0) (i 1)
  d : ∀ i, x1 i = A.d (i 0) (i 1)

variable {A : Ffn.Grad} {x0 : Vec Ideal S2048x1024 .bf16} {x1 : Vec Ideal S2048x2048 .bf16}

/-- The sum so far plus the products of this block's rows. -/
theorem sum_apply (H : Holds A x0 x1) {acc : Vec Ideal S1024x2048 .f32} {R : ℕ → ℕ → EReal}
    (hR : ∀ i, acc i = R (i 0) (i 1)) (i : S1024x2048.Idx) :
    k0_pay2 acc x0 x1 i = R (i 0) (i 1) + A.dw 2048 (i 0) (i 1) := by
  pointwise [k0_pay2]
  simp only [H.h, H.d, hR]
  rw [Ffn.Grad.dw, Finset.sum_range]
  rfl

/-- The sum that the first point starts from. -/
theorem no_sum (i : S1024x2048.Idx) : k0_pay1 (F := Ideal) i = 0 := by
  pointwise [k0_pay1]

/-- What the last point writes. -/
theorem out_apply {acc : Vec Ideal S1024x2048 .f32} {R : ℕ → ℕ → EReal} (hR : ∀ i, acc i = R (i 0) (i 1))
    (i : S1x1024x2048.Idx) : k0_pay3 (F := Ideal) acc i = R (i 1) (i 2) := by
  have k0 : (i 0 : ℕ) < 1 := (i 0).isLt
  pointwise [k0_pay3]
  exact hR _

variable (m : (ℓ : Loc nD τ sig) → Buf (Elt Ideal) ℓ)
variable {c : Dev nD} {t : Fin cfg0.N}

/-- The sum after a point that is the first. -/
theorem first (H : Holds A (iblk m c 0 t) (iblk m c 1 t)) (h0 : t.val % 4 = 0) (i : S1024x2048.Idx) :
    (outsAt0 m c t.val t.isLt).2 i = 0 + A.dw 2048 (i 0) (i 1) := by
  rw [outsAt0_A m c t h0 (by omega)]
  dsimp only
  frame_open
  simp (disch := decide) only [↓ View.readCov_skip, ↓ View.readCov_cons_toLoadRect, ↓ View.readCov_fill]
  frame_out
  try simp only [readCov_all, readCov_whole, canon_whole]
  exact sum_apply H (R := fun _ _ => 0) no_sum i

/-- The sum after a later point, from what the point before it left. -/
theorem later (H : Holds A (iblk m c 0 t) (iblk m c 1 t)) (h0 : ¬t.val % 4 = 0) {R : ℕ → ℕ → EReal}
    (hR : ∀ i, (outsAt0 m c (t.val - 1) (Nat.lt_of_le_of_lt (Nat.sub_le _ _) t.isLt)).2 i = R (i 0) (i 1)) (i : S1024x2048.Idx) :
    (outsAt0 m c t.val t.isLt).2 i = R (i 0) (i 1) + A.dw 2048 (i 0) (i 1) := by
  by_cases h1 : t.val % 4 = 3
  · rw [outsAt0_C m c t h0 h1]
    revert hR
    generalize (outsAt0 m c (t.val - 1) (Nat.lt_of_le_of_lt (Nat.sub_le _ _) t.isLt)) = acc
    intro hR
    dsimp only
    frame_open
    simp (disch := decide) only [↓ View.readCov_skip, ↓ View.readCov_cons_toLoadRect, ↓ View.readCov_fill]
    frame_out
    try simp only [readCov_all, read_unread_whole]
    exact sum_apply H hR i
  · rw [outsAt0_B m c t h0 h1]
    revert hR
    generalize (outsAt0 m c (t.val - 1) (Nat.lt_of_le_of_lt (Nat.sub_le _ _) t.isLt)) = acc
    intro hR
    dsimp only
    frame_open
    simp (disch := decide) only [↓ View.readCov_skip, ↓ View.readCov_cons_toLoadRect, ↓ View.readCov_fill]
    frame_out
    try simp only [readCov_all, read_unread_whole]
    exact sum_apply H hR i

/-- The last point writes the sum it leaves. -/
theorem last (h1 : t.val % 4 = 3) (i : S1x1024x2048.Idx) : (outsAt0 m c t.val t.isLt).1 i
    = (k0_pay3 (F := Ideal) (outsAt0 m c t.val t.isLt).2) i := by
  rw [outsAt0_C m c t (by omega) h1]
  generalize (outsAt0 m c (t.val - 1) (Nat.lt_of_le_of_lt (Nat.sub_le _ _) t.isLt)) = acc
  dsimp only
  frame_open
  simp (disch := decide) only [↓ View.readCov_skip, ↓ View.readCov_cons_toLoadRect, ↓ View.readCov_fill]
  frame_out
  try simp only [readCov_all, read_unread_whole]

variable {m}

/-- The argument arrays hold the entries of `A`. -/
structure Input (m : (ℓ : Loc nD τ sig) → Buf (Elt Ideal) ℓ) (A : Ffn.Grad) (c : Dev nD) : Prop where
  h : ∀ i, (m ((c : Thread nD τ).loc main_arg0) : Vec Ideal S8192x1024 .bf16) i = A.h (i 0) (i 1)
  d : ∀ i, (m ((c : Thread nD τ).loc main_arg1) : Vec Ideal S8192x2048 .bf16) i = A.d (i 0) (i 1)

/-- Which block of its array each window shows at point `t`: the `t`-th 2048 rows. -/
theorem index_at : ∀ t : Fin cfg0.N, (win0_0.index t (0 : Fin 2) = t.val % 4 ∧ win0_0.index t (1 : Fin 2) = 0)
    ∧ (win0_1.index t (0 : Fin 2) = t.val % 4 ∧ win0_1.index t (1 : Fin 2) = 0)
    ∧ (win0_2.index t (0 : Fin 3) = 0 ∧ win0_2.index t (1 : Fin 3) = 0 ∧ win0_2.index t (2 : Fin 3) = 0) :=
  (by decide +kernel : ∀ t : Fin grid0.N, _)

/-- The input blocks of point `t` hold its rows and columns of `A`. -/
theorem holdsAt (H : Input m A c) (t : Fin cfg0.N) : Holds (A.block t.val) (iblk m c 0 t) (iblk m c 1 t) := by
  obtain ⟨⟨ih, ih'⟩, ⟨id, id'⟩, -⟩ := index_at t
  have t0 : t.val / 4 = 0 := Nat.div_eq_of_lt (lt_of_lt_of_eq t.isLt N_0)
  refine ⟨fun y => ?_, fun y => ?_⟩
  · show V m c main_arg0 (((cfg0.win 0).blk t).view.emb y) = _
    rw [V_main_arg0]
    refine (H.h _).trans ?_
    show A.h (win0_0.index t (0 : Fin 2) * 2048 + 1 * (y 0 : ℕ)) (win0_0.index t (1 : Fin 2) * 1024 + 1 * (y 1 : ℕ)) = _
    show _ = A.h (t.val % 4 * 2048 + 1 * (y 0 : ℕ)) (t.val / 4 * 1408 + 1 * (y 1 : ℕ))
    simp only [ih, ih', t0, zero_mul]
  · show V m c main_arg1 (((cfg0.win 1).blk t).view.emb y) = _
    rw [V_main_arg1]
    refine (H.d _).trans ?_
    show A.d (win0_1.index t (0 : Fin 2) * 2048 + 1 * (y 0 : ℕ)) (win0_1.index t (1 : Fin 2) * 2048 + 1 * (y 1 : ℕ)) = _
    show _ = A.d (t.val % 4 * 2048 + 1 * (y 0 : ℕ)) (0 * 1024 + 1 * (y 1 : ℕ))
    simp only [id, id', zero_mul]

/-- The sum after a point is over the rows so far. -/
theorem sum_at (H : Input m A c) (n : ℕ) : ∀ (h : n < cfg0.N) (i : S1024x2048.Idx),
    (outsAt0 m c n h).2 i = A.dw (2048 * (n % 4) + 2048) (1408 * (n / 4) + (i 0 : ℕ)) (i 1) := by
  induction n with
  | zero =>
    intro h i
    have l := first m (holdsAt H ⟨0, h⟩) (Nat.zero_mod 4) i
    rw [Ffn.Grad.dw_succ]
    exact l
  | succ n ih =>
    intro h i
    rw [Ffn.Grad.dw_succ]
    by_cases h0 : (n + 1) % 4 = 0
    · have l := first m (holdsAt H ⟨n + 1, h⟩) h0 i
      rw [h0]
      refine l.trans (congrArg (· + _) ?_)
      simp [Ffn.Grad.dw]
    · have l := later m (R := fun r k => A.dw (2048 * ((n + 1) % 4)) (1408 * ((n + 1) / 4) + r) k) (holdsAt H ⟨n + 1, h⟩) h0
        (fun i => (ih (Nat.lt_of_succ_lt h) i).trans (by
          rw [show 2048 * (n % 4) + 2048 = 2048 * ((n + 1) % 4) by omega, show n / 4 = (n + 1) / 4 by omega])) i
      exact l

/-- The result array. -/
theorem dw_array (H : Input m A c) : (dats m 0 c).arrAt 2 cfg0.N = fun i : S1x1024x2048.Idx => A.dw 8192 (i 1) (i 2) := by
  refine (dats m 0 c).arrAt_eq_of_cover 2 _ (fun t hf => ?_) fun i => ?_
  · have h3 := (flush0_2 t).mp hf
    have t0 : t.val / 4 = 0 := Nat.div_eq_of_lt (lt_of_lt_of_eq t.isLt N_0)
    rw [flushed2]
    funext y
    refine (last m h3 ((cfg0.win 2).xinj (grid0.coords t) y)).trans ((out_apply (R := fun r k =>
      A.dw (2048 * (t.val % 4) + 2048) (1408 * (t.val / 4) + r) k) (sum_at H t.val t.isLt) _).trans ?_)
    obtain ⟨-, -, -, i1, i2⟩ := index_at t
    show A.dw (2048 * (t.val % 4) + 2048) (1408 * (t.val / 4) + (y 1 : ℕ)) (y 2 : ℕ)
      = A.dw 8192 (win0_2.index t (1 : Fin 3) * 1024 + 1 * (y 1 : ℕ)) (win0_2.index t (2 : Fin 3) * 2048 + 1 * (y 2 : ℕ))
    rw [i1, i2, h3, t0]
    simp only [zero_mul, zero_add, one_mul, mul_zero]
  · exact (covered_iff2 i).mpr ⟨Nat.zero_le _, (i 0).isLt, Nat.zero_le _, (i 1).isLt, Nat.zero_le _, (i 2).isLt⟩

end Cert.Kernel11Ideal.Block

end
-- ==== Proof.MixDwinArrays.lean ====
/-
  The gradient of the pooling and convolution mixer's projection in,
  computed by the kernel and by the reference: a grid point adds its
  2048 rows to the sum it carries, which starts from zero at the first point, and the fourth point writes it; the reference contracts
  all 8192 rows at once, with the factors the other way round. In `Grad`, `h` is here the normalized rows and `d` the gradient
  of the hidden layer. `Grad.block`'s column offset is zero here, the grid having four points.
-/
module

public import proofs.«01_k».proof.Proof.GradSpec
public import proofs.«01_k».proof.Proof.Stores
public import proofs.«01_k».proof.Proof.Gen.Kernel12Ideal.Value
public import proofs.«01_k».proof.Proof.Gen.Reference12Ideal.Read
public import Idealize.ShloMosaic.Lib.Pointwise

@[expose] public section

set_option maxRecDepth 16384

noncomputable section

open Idealize.ShloMosaic Idealize.ShloMosaic.TcCoe Idealize.SL.Sem Cert.Sgu Cert.Ffn Cert.Stores

namespace Cert.Reference12Ideal.Grad

open Cert.Reference12Ideal Cert.Reference12Ideal.Gen Cert.Reference12Ideal.Read

/-- The result: the projection's gradient, under a first axis of one. -/
theorem v7_apply {A : Ffn.Grad} {x0 : Vec Ideal S8192x1024 .bf16} {x1 : Vec Ideal S8192x1536 .bf16}
    (h0 : ∀ i, x0 i = A.h (i 0) (i 1)) (h1 : ∀ i, x1 i = A.d (i 0) (i 1)) (i : S1x1024x1536.Idx) :
    val_main_v7 (F := Ideal) x0 x1 i = A.dw 8192 (i 1) (i 2) := by
  simp only [val_main_v7_apply, val_main_v6_apply, val_main_v5_apply, val_main_v4_apply, val_main_v3_apply, val_main_v1_apply,
    h0, h1, Ideal.extf_def, Ideal.truncf_def]
  rw [Ffn.Grad.dw, Finset.sum_range]
  refine Finset.sum_congr rfl fun k _ => ?_
  exact mul_comm _ _

end Cert.Reference12Ideal.Grad

namespace Cert.Kernel12Ideal.Block

open Cert.Kernel12Ideal Cert.Kernel12Ideal.Gen Cert.Kernel12Ideal.Value

/-- The two input blocks hold the entries of `A`. -/
structure Holds (A : Ffn.Grad) (x0 : Vec Ideal S2048x1024 .bf16) (x1 : Vec Ideal S2048x1536 .bf16) : Prop where
  h : ∀ i, x0 i = A.h (i 0) (i 1)
  d : ∀ i, x1 i = A.d (i 0) (i 1)

variable {A : Ffn.Grad} {x0 : Vec Ideal S2048x1024 .bf16} {x1 : Vec Ideal S2048x1536 .bf16}

/-- The sum so far plus the products of this block's rows. -/
theorem sum_apply (H : Holds A x0 x1) {acc : Vec Ideal S1024x1536 .f32} {R : ℕ → ℕ → EReal}
    (hR : ∀ i, acc i = R (i 0) (i 1)) (i : S1024x1536.Idx) :
    k0_pay2 acc x0 x1 i = R (i 0) (i 1) + A.dw 2048 (i 0) (i 1) := by
  pointwise [k0_pay2]
  simp only [H.h, H.d, hR]
  rw [Ffn.Grad.dw, Finset.sum_range]
  rfl

/-- The sum that the first point starts from. -/
theorem no_sum (i : S1024x1536.Idx) : k0_pay1 (F := Ideal) i = 0 := by
  pointwise [k0_pay1]

/-- What the last point writes. -/
theorem out_apply {acc : Vec Ideal S1024x1536 .f32} {R : ℕ → ℕ → EReal} (hR : ∀ i, acc i = R (i 0) (i 1))
    (i : S1x1024x1536.Idx) : k0_pay3 (F := Ideal) acc i = R (i 1) (i 2) := by
  have k0 : (i 0 : ℕ) < 1 := (i 0).isLt
  pointwise [k0_pay3]
  exact hR _

variable (m : (ℓ : Loc nD τ sig) → Buf (Elt Ideal) ℓ)
variable {c : Dev nD} {t : Fin cfg0.N}

/-- The sum after a point that is the first. -/
theorem first (H : Holds A (iblk m c 0 t) (iblk m c 1 t)) (h0 : t.val % 4 = 0) (i : S1024x1536.Idx) :
    (outsAt0 m c t.val t.isLt).2 i = 0 + A.dw 2048 (i 0) (i 1) := by
  rw [outsAt0_A m c t h0 (by omega)]
  dsimp only
  frame_open
  simp (disch := decide) only [↓ View.readCov_skip, ↓ View.readCov_cons_toLoadRect, ↓ View.readCov_fill]
  frame_out
  try simp only [readCov_all, readCov_whole, canon_whole]
  exact sum_apply H (R := fun _ _ => 0) no_sum i

/-- The sum after a later point, from what the point before it left. -/
theorem later (H : Holds A (iblk m c 0 t) (iblk m c 1 t)) (h0 : ¬t.val % 4 = 0) {R : ℕ → ℕ → EReal}
    (hR : ∀ i, (outsAt0 m c (t.val - 1) (Nat.lt_of_le_of_lt (Nat.sub_le _ _) t.isLt)).2 i = R (i 0) (i 1)) (i : S1024x1536.Idx) :
    (outsAt0 m c t.val t.isLt).2 i = R (i 0) (i 1) + A.dw 2048 (i 0) (i 1) := by
  by_cases h1 : t.val % 4 = 3
  · rw [outsAt0_C m c t h0 h1]
    revert hR
    generalize (outsAt0 m c (t.val - 1) (Nat.lt_of_le_of_lt (Nat.sub_le _ _) t.isLt)) = acc
    intro hR
    dsimp only
    frame_open
    simp (disch := decide) only [↓ View.readCov_skip, ↓ View.readCov_cons_toLoadRect, ↓ View.readCov_fill]
    frame_out
    try simp only [readCov_all, read_unread_whole]
    exact sum_apply H hR i
  · rw [outsAt0_B m c t h0 h1]
    revert hR
    generalize (outsAt0 m c (t.val - 1) (Nat.lt_of_le_of_lt (Nat.sub_le _ _) t.isLt)) = acc
    intro hR
    dsimp only
    frame_open
    simp (disch := decide) only [↓ View.readCov_skip, ↓ View.readCov_cons_toLoadRect, ↓ View.readCov_fill]
    frame_out
    try simp only [readCov_all, read_unread_whole]
    exact sum_apply H hR i

/-- The last point writes the sum it leaves. -/
theorem last (h1 : t.val % 4 = 3) (i : S1x1024x1536.Idx) : (outsAt0 m c t.val t.isLt).1 i
    = (k0_pay3 (F := Ideal) (outsAt0 m c t.val t.isLt).2) i := by
  rw [outsAt0_C m c t (by omega) h1]
  generalize (outsAt0 m c (t.val - 1) (Nat.lt_of_le_of_lt (Nat.sub_le _ _) t.isLt)) = acc
  dsimp only
  frame_open
  simp (disch := decide) only [↓ View.readCov_skip, ↓ View.readCov_cons_toLoadRect, ↓ View.readCov_fill]
  frame_out
  try simp only [readCov_all, read_unread_whole]

variable {m}

/-- The argument arrays hold the entries of `A`. -/
structure Input (m : (ℓ : Loc nD τ sig) → Buf (Elt Ideal) ℓ) (A : Ffn.Grad) (c : Dev nD) : Prop where
  h : ∀ i, (m ((c : Thread nD τ).loc main_arg0) : Vec Ideal S8192x1024 .bf16) i = A.h (i 0) (i 1)
  d : ∀ i, (m ((c : Thread nD τ).loc main_arg1) : Vec Ideal S8192x1536 .bf16) i = A.d (i 0) (i 1)

/-- Which block of its array each window shows at point `t`: the `t`-th 2048 rows. -/
theorem index_at : ∀ t : Fin cfg0.N, (win0_0.index t (0 : Fin 2) = t.val % 4 ∧ win0_0.index t (1 : Fin 2) = 0)
    ∧ (win0_1.index t (0 : Fin 2) = t.val % 4 ∧ win0_1.index t (1 : Fin 2) = 0)
    ∧ (win0_2.index t (0 : Fin 3) = 0 ∧ win0_2.index t (1 : Fin 3) = 0 ∧ win0_2.index t (2 : Fin 3) = 0) :=
  (by decide +kernel : ∀ t : Fin grid0.N, _)

/-- The input blocks of point `t` hold its rows and columns of `A`. -/
theorem holdsAt (H : Input m A c) (t : Fin cfg0.N) : Holds (A.block t.val) (iblk m c 0 t) (iblk m c 1 t) := by
  obtain ⟨⟨ih, ih'⟩, ⟨id, id'⟩, -⟩ := index_at t
  have t0 : t.val / 4 = 0 := Nat.div_eq_of_lt (lt_of_lt_of_eq t.isLt N_0)
  refine ⟨fun y => ?_, fun y => ?_⟩
  · show V m c main_arg0 (((cfg0.win 0).blk t).view.emb y) = _
    rw [V_main_arg0]
    refine (H.h _).trans ?_
    show A.h (win0_0.index t (0 : Fin 2) * 2048 + 1 * (y 0 : ℕ)) (win0_0.index t (1 : Fin 2) * 1024 + 1 * (y 1 : ℕ)) = _
    show _ = A.h (t.val % 4 * 2048 + 1 * (y 0 : ℕ)) (t.val / 4 * 1408 + 1 * (y 1 : ℕ))
    simp only [ih, ih', t0, zero_mul]
  · show V m c main_arg1 (((cfg0.win 1).blk t).view.emb y) = _
    rw [V_main_arg1]
    refine (H.d _).trans ?_
    show A.d (win0_1.index t (0 : Fin 2) * 2048 + 1 * (y 0 : ℕ)) (win0_1.index t (1 : Fin 2) * 1536 + 1 * (y 1 : ℕ)) = _
    show _ = A.d (t.val % 4 * 2048 + 1 * (y 0 : ℕ)) (0 * 1024 + 1 * (y 1 : ℕ))
    simp only [id, id', zero_mul]

/-- The sum after a point is over the rows so far. -/
theorem sum_at (H : Input m A c) (n : ℕ) : ∀ (h : n < cfg0.N) (i : S1024x1536.Idx),
    (outsAt0 m c n h).2 i = A.dw (2048 * (n % 4) + 2048) (1408 * (n / 4) + (i 0 : ℕ)) (i 1) := by
  induction n with
  | zero =>
    intro h i
    have l := first m (holdsAt H ⟨0, h⟩) (Nat.zero_mod 4) i
    rw [Ffn.Grad.dw_succ]
    exact l
  | succ n ih =>
    intro h i
    rw [Ffn.Grad.dw_succ]
    by_cases h0 : (n + 1) % 4 = 0
    · have l := first m (holdsAt H ⟨n + 1, h⟩) h0 i
      rw [h0]
      refine l.trans (congrArg (· + _) ?_)
      simp [Ffn.Grad.dw]
    · have l := later m (R := fun r k => A.dw (2048 * ((n + 1) % 4)) (1408 * ((n + 1) / 4) + r) k) (holdsAt H ⟨n + 1, h⟩) h0
        (fun i => (ih (Nat.lt_of_succ_lt h) i).trans (by
          rw [show 2048 * (n % 4) + 2048 = 2048 * ((n + 1) % 4) by omega, show n / 4 = (n + 1) / 4 by omega])) i
      exact l

/-- The result array. -/
theorem dw_array (H : Input m A c) : (dats m 0 c).arrAt 2 cfg0.N = fun i : S1x1024x1536.Idx => A.dw 8192 (i 1) (i 2) := by
  refine (dats m 0 c).arrAt_eq_of_cover 2 _ (fun t hf => ?_) fun i => ?_
  · have h3 := (flush0_2 t).mp hf
    have t0 : t.val / 4 = 0 := Nat.div_eq_of_lt (lt_of_lt_of_eq t.isLt N_0)
    rw [flushed2]
    funext y
    refine (last m h3 ((cfg0.win 2).xinj (grid0.coords t) y)).trans ((out_apply (R := fun r k =>
      A.dw (2048 * (t.val % 4) + 2048) (1408 * (t.val / 4) + r) k) (sum_at H t.val t.isLt) _).trans ?_)
    obtain ⟨-, -, -, i1, i2⟩ := index_at t
    show A.dw (2048 * (t.val % 4) + 2048) (1408 * (t.val / 4) + (y 1 : ℕ)) (y 2 : ℕ)
      = A.dw 8192 (win0_2.index t (1 : Fin 3) * 1024 + 1 * (y 1 : ℕ)) (win0_2.index t (2 : Fin 3) * 1536 + 1 * (y 2 : ℕ))
    rw [i1, i2, h3, t0]
    simp only [zero_mul, zero_add, one_mul, mul_zero]
  · exact (covered_iff2 i).mpr ⟨Nat.zero_le _, (i 0).isLt, Nat.zero_le _, (i 1).isLt, Nat.zero_le _, (i 2).isLt⟩

end Cert.Kernel12Ideal.Block

end
-- ==== Proof.UnitDwoutArrays.lean ====
/-
  The gradient of the gating unit's projection out,
  computed by the kernel and by the reference: a grid point adds its
  2048 rows to the sum it carries, which starts from zero at the first point, and the fourth point writes it; the reference contracts
  all 8192 rows at once, with the factors the other way round. In `Grad`, `h` is here the gating unit's output and `d` the gradient
  of the rows. `Grad.block`'s column offset is zero here, the grid having four points.
-/
module

public import proofs.«01_k».proof.Proof.GradSpec
public import proofs.«01_k».proof.Proof.Stores
public import proofs.«01_k».proof.Proof.Gen.Kernel13Ideal.Value
public import proofs.«01_k».proof.Proof.Gen.Reference13Ideal.Read
public import Idealize.ShloMosaic.Lib.Pointwise

@[expose] public section

set_option maxRecDepth 16384

noncomputable section

open Idealize.ShloMosaic Idealize.ShloMosaic.TcCoe Idealize.SL.Sem Cert.Sgu Cert.Ffn Cert.Stores

namespace Cert.Reference13Ideal.Grad

open Cert.Reference13Ideal Cert.Reference13Ideal.Gen Cert.Reference13Ideal.Read

/-- The result: the projection's gradient, under a first axis of one. -/
theorem v7_apply {A : Ffn.Grad} {x0 : Vec Ideal S8192x1024 .bf16} {x1 : Vec Ideal S8192x1024 .bf16}
    (h0 : ∀ i, x0 i = A.h (i 0) (i 1)) (h1 : ∀ i, x1 i = A.d (i 0) (i 1)) (i : S1x1024x1024.Idx) :
    val_main_v7 (F := Ideal) x0 x1 i = A.dw 8192 (i 1) (i 2) := by
  simp only [val_main_v7_apply, val_main_v6_apply, val_main_v5_apply, val_main_v4_apply, val_main_v3_apply, val_main_v1_apply,
    h0, h1, Ideal.extf_def, Ideal.truncf_def]
  rw [Ffn.Grad.dw, Finset.sum_range]
  refine Finset.sum_congr rfl fun k _ => ?_
  exact mul_comm _ _

end Cert.Reference13Ideal.Grad

namespace Cert.Kernel13Ideal.Block

open Cert.Kernel13Ideal Cert.Kernel13Ideal.Gen Cert.Kernel13Ideal.Value

/-- The two input blocks hold the entries of `A`. -/
structure Holds (A : Ffn.Grad) (x0 : Vec Ideal S2048x1024 .bf16) (x1 : Vec Ideal S2048x1024 .bf16) : Prop where
  h : ∀ i, x0 i = A.h (i 0) (i 1)
  d : ∀ i, x1 i = A.d (i 0) (i 1)

variable {A : Ffn.Grad} {x0 : Vec Ideal S2048x1024 .bf16} {x1 : Vec Ideal S2048x1024 .bf16}

/-- The sum so far plus the products of this block's rows. -/
theorem sum_apply (H : Holds A x0 x1) {acc : Vec Ideal S1024x1024 .f32} {R : ℕ → ℕ → EReal}
    (hR : ∀ i, acc i = R (i 0) (i 1)) (i : S1024x1024.Idx) :
    k0_pay2 acc x0 x1 i = R (i 0) (i 1) + A.dw 2048 (i 0) (i 1) := by
  pointwise [k0_pay2]
  simp only [H.h, H.d, hR]
  rw [Ffn.Grad.dw, Finset.sum_range]
  rfl

/-- The sum that the first point starts from. -/
theorem no_sum (i : S1024x1024.Idx) : k0_pay1 (F := Ideal) i = 0 := by
  pointwise [k0_pay1]

/-- What the last point writes. -/
theorem out_apply {acc : Vec Ideal S1024x1024 .f32} {R : ℕ → ℕ → EReal} (hR : ∀ i, acc i = R (i 0) (i 1))
    (i : S1x1024x1024.Idx) : k0_pay3 (F := Ideal) acc i = R (i 1) (i 2) := by
  have k0 : (i 0 : ℕ) < 1 := (i 0).isLt
  pointwise [k0_pay3]
  exact hR _

variable (m : (ℓ : Loc nD τ sig) → Buf (Elt Ideal) ℓ)
variable {c : Dev nD} {t : Fin cfg0.N}

/-- The sum after a point that is the first. -/
theorem first (H : Holds A (iblk m c 0 t) (iblk m c 1 t)) (h0 : t.val % 4 = 0) (i : S1024x1024.Idx) :
    (outsAt0 m c t.val t.isLt).2 i = 0 + A.dw 2048 (i 0) (i 1) := by
  rw [outsAt0_A m c t h0 (by omega)]
  dsimp only
  frame_open
  simp (disch := decide) only [↓ View.readCov_skip, ↓ View.readCov_cons_toLoadRect, ↓ View.readCov_fill]
  frame_out
  try simp only [readCov_all, readCov_whole, canon_whole]
  exact sum_apply H (R := fun _ _ => 0) no_sum i

/-- The sum after a later point, from what the point before it left. -/
theorem later (H : Holds A (iblk m c 0 t) (iblk m c 1 t)) (h0 : ¬t.val % 4 = 0) {R : ℕ → ℕ → EReal}
    (hR : ∀ i, (outsAt0 m c (t.val - 1) (Nat.lt_of_le_of_lt (Nat.sub_le _ _) t.isLt)).2 i = R (i 0) (i 1)) (i : S1024x1024.Idx) :
    (outsAt0 m c t.val t.isLt).2 i = R (i 0) (i 1) + A.dw 2048 (i 0) (i 1) := by
  by_cases h1 : t.val % 4 = 3
  · rw [outsAt0_C m c t h0 h1]
    revert hR
    generalize (outsAt0 m c (t.val - 1) (Nat.lt_of_le_of_lt (Nat.sub_le _ _) t.isLt)) = acc
    intro hR
    dsimp only
    frame_open
    simp (disch := decide) only [↓ View.readCov_skip, ↓ View.readCov_cons_toLoadRect, ↓ View.readCov_fill]
    frame_out
    try simp only [readCov_all, read_unread_whole]
    exact sum_apply H hR i
  · rw [outsAt0_B m c t h0 h1]
    revert hR
    generalize (outsAt0 m c (t.val - 1) (Nat.lt_of_le_of_lt (Nat.sub_le _ _) t.isLt)) = acc
    intro hR
    dsimp only
    frame_open
    simp (disch := decide) only [↓ View.readCov_skip, ↓ View.readCov_cons_toLoadRect, ↓ View.readCov_fill]
    frame_out
    try simp only [readCov_all, read_unread_whole]
    exact sum_apply H hR i

/-- The last point writes the sum it leaves. -/
theorem last (h1 : t.val % 4 = 3) (i : S1x1024x1024.Idx) : (outsAt0 m c t.val t.isLt).1 i
    = (k0_pay3 (F := Ideal) (outsAt0 m c t.val t.isLt).2) i := by
  rw [outsAt0_C m c t (by omega) h1]
  generalize (outsAt0 m c (t.val - 1) (Nat.lt_of_le_of_lt (Nat.sub_le _ _) t.isLt)) = acc
  dsimp only
  frame_open
  simp (disch := decide) only [↓ View.readCov_skip, ↓ View.readCov_cons_toLoadRect, ↓ View.readCov_fill]
  frame_out
  try simp only [readCov_all, read_unread_whole]

variable {m}

/-- The argument arrays hold the entries of `A`. -/
structure Input (m : (ℓ : Loc nD τ sig) → Buf (Elt Ideal) ℓ) (A : Ffn.Grad) (c : Dev nD) : Prop where
  h : ∀ i, (m ((c : Thread nD τ).loc main_arg0) : Vec Ideal S8192x1024 .bf16) i = A.h (i 0) (i 1)
  d : ∀ i, (m ((c : Thread nD τ).loc main_arg1) : Vec Ideal S8192x1024 .bf16) i = A.d (i 0) (i 1)

/-- Which block of its array each window shows at point `t`: the `t`-th 2048 rows. -/
theorem index_at : ∀ t : Fin cfg0.N, (win0_0.index t (0 : Fin 2) = t.val % 4 ∧ win0_0.index t (1 : Fin 2) = 0)
    ∧ (win0_1.index t (0 : Fin 2) = t.val % 4 ∧ win0_1.index t (1 : Fin 2) = 0)
    ∧ (win0_2.index t (0 : Fin 3) = 0 ∧ win0_2.index t (1 : Fin 3) = 0 ∧ win0_2.index t (2 : Fin 3) = 0) :=
  (by decide +kernel : ∀ t : Fin grid0.N, _)

/-- The input blocks of point `t` hold its rows and columns of `A`. -/
theorem holdsAt (H : Input m A c) (t : Fin cfg0.N) : Holds (A.block t.val) (iblk m c 0 t) (iblk m c 1 t) := by
  obtain ⟨⟨ih, ih'⟩, ⟨id, id'⟩, -⟩ := index_at t
  have t0 : t.val / 4 = 0 := Nat.div_eq_of_lt (lt_of_lt_of_eq t.isLt N_0)
  refine ⟨fun y => ?_, fun y => ?_⟩
  · show V m c main_arg0 (((cfg0.win 0).blk t).view.emb y) = _
    rw [V_main_arg0]
    refine (H.h _).trans ?_
    show A.h (win0_0.index t (0 : Fin 2) * 2048 + 1 * (y 0 : ℕ)) (win0_0.index t (1 : Fin 2) * 1024 + 1 * (y 1 : ℕ)) = _
    show _ = A.h (t.val % 4 * 2048 + 1 * (y 0 : ℕ)) (t.val / 4 * 1408 + 1 * (y 1 : ℕ))
    simp only [ih, ih', t0, zero_mul]
  · show V m c main_arg1 (((cfg0.win 1).blk t).view.emb y) = _
    rw [V_main_arg1]
    refine (H.d _).trans ?_
    show A.d (win0_1.index t (0 : Fin 2) * 2048 + 1 * (y 0 : ℕ)) (win0_1.index t (1 : Fin 2) * 1024 + 1 * (y 1 : ℕ)) = _
    show _ = A.d (t.val % 4 * 2048 + 1 * (y 0 : ℕ)) (0 * 1024 + 1 * (y 1 : ℕ))
    simp only [id, id', zero_mul]

/-- The sum after a point is over the rows so far. -/
theorem sum_at (H : Input m A c) (n : ℕ) : ∀ (h : n < cfg0.N) (i : S1024x1024.Idx),
    (outsAt0 m c n h).2 i = A.dw (2048 * (n % 4) + 2048) (1408 * (n / 4) + (i 0 : ℕ)) (i 1) := by
  induction n with
  | zero =>
    intro h i
    have l := first m (holdsAt H ⟨0, h⟩) (Nat.zero_mod 4) i
    rw [Ffn.Grad.dw_succ]
    exact l
  | succ n ih =>
    intro h i
    rw [Ffn.Grad.dw_succ]
    by_cases h0 : (n + 1) % 4 = 0
    · have l := first m (holdsAt H ⟨n + 1, h⟩) h0 i
      rw [h0]
      refine l.trans (congrArg (· + _) ?_)
      simp [Ffn.Grad.dw]
    · have l := later m (R := fun r k => A.dw (2048 * ((n + 1) % 4)) (1408 * ((n + 1) / 4) + r) k) (holdsAt H ⟨n + 1, h⟩) h0
        (fun i => (ih (Nat.lt_of_succ_lt h) i).trans (by
          rw [show 2048 * (n % 4) + 2048 = 2048 * ((n + 1) % 4) by omega, show n / 4 = (n + 1) / 4 by omega])) i
      exact l

/-- The result array. -/
theorem dw_array (H : Input m A c) : (dats m 0 c).arrAt 2 cfg0.N = fun i : S1x1024x1024.Idx => A.dw 8192 (i 1) (i 2) := by
  refine (dats m 0 c).arrAt_eq_of_cover 2 _ (fun t hf => ?_) fun i => ?_
  · have h3 := (flush0_2 t).mp hf
    have t0 : t.val / 4 = 0 := Nat.div_eq_of_lt (lt_of_lt_of_eq t.isLt N_0)
    rw [flushed2]
    funext y
    refine (last m h3 ((cfg0.win 2).xinj (grid0.coords t) y)).trans ((out_apply (R := fun r k =>
      A.dw (2048 * (t.val % 4) + 2048) (1408 * (t.val / 4) + r) k) (sum_at H t.val t.isLt) _).trans ?_)
    obtain ⟨-, -, -, i1, i2⟩ := index_at t
    show A.dw (2048 * (t.val % 4) + 2048) (1408 * (t.val / 4) + (y 1 : ℕ)) (y 2 : ℕ)
      = A.dw 8192 (win0_2.index t (1 : Fin 3) * 1024 + 1 * (y 1 : ℕ)) (win0_2.index t (2 : Fin 3) * 1024 + 1 * (y 2 : ℕ))
    rw [i1, i2, h3, t0]
    simp only [zero_mul, zero_add, one_mul, mul_zero]
  · exact (covered_iff2 i).mpr ⟨Nat.zero_le _, (i 0).isLt, Nat.zero_le _, (i 1).isLt, Nat.zero_le _, (i 2).isLt⟩

end Cert.Kernel13Ideal.Block

end
-- ==== Proof.MixSpec.lean ====
/-
  A projection after a norm, backwards, over the reals: `Mix` holds the five arguments as functions of natural indices, each
  definition below is one line of the backward pass. Proof/MixArrays.lean shows that the kernel computes the results and
  Proof/MixVjp.lean that the reference does.
-/
module

public import proofs.«01_k».proof.Proof.FfnSpec

@[expose] public section

noncomputable section

open Idealize.ShloMosaic Cert.Sgu

namespace Cert.Ffn

/-- The arguments at natural indices: the gradient `dz` of the projection's output and `dres` of the residual branch, the
    rows `x`, the norm's gain `g` and the projection `w` (1024 by 1536). -/
structure Mix where
  dz : ℕ → ℕ → ℝ
  dres : ℕ → ℕ → ℝ
  x : ℕ → ℕ → ℝ
  g : ℕ → ℝ
  w : ℕ → ℕ → ℝ

namespace Mix

variable (A : Mix)

/-- The arguments as grid point `t` sees them: rows counted from `512 t`. -/
def block (t : ℕ) : Mix :=
  { A with
    dz := fun r c => A.dz (512 * t + r) c, dres := fun r c => A.dres (512 * t + r) c, x := fun r c => A.x (512 * t + r) c }

/-- The norm. -/
def norm : Args := { dy := A.dres, x := A.x, g := A.g, w := fun _ _ => 0, o := fun _ _ => 0 }

/-- The gradient of the norm's output. -/
def dxn (t k : ℕ) : ℝ := ∑ j : Fin 1536, A.dz t j * A.w k j

/-- The gradient of the gain over the first `n` rows. -/
def dgam (n k : ℕ) : ℝ := ∑ t ∈ Finset.range n, A.dxn t k * A.norm.y t k

/-- The gradient of the normalized row. -/
def dyn (t k : ℕ) : ℝ := A.dxn t k * A.g k

/-- The gradient of the rows. -/
def dx (t k : ℕ) : ℝ := A.dres t k + A.norm.back (A.dyn t) t k

/-- One more block of rows. -/
theorem dgam_succ (n k : ℕ) : A.dgam (512 * (n + 1)) k = A.dgam (512 * n) k + (A.block n).dgam 512 k := by
  unfold dgam
  rw [Nat.mul_succ, Finset.sum_range_add]
  rfl

end Mix

end Cert.Ffn

end
-- ==== Proof.MixPoint.lean ====
/-
  What one grid point of the projection's backward kernel computes from its blocks, at an index, and what it leaves: its
  payloads are the real quantities of Proof/MixSpec.lean at the block's own rows, and the gain's gradient is summed from
  point to point, from zero at the first.
-/
module

public import proofs.«01_k».proof.Proof.MixSpec
public import proofs.«01_k».proof.Proof.Stores
public import proofs.«01_k».proof.Proof.Gen.Kernel14Ideal.Frame

@[expose] public section

set_option maxRecDepth 16384

noncomputable section

open Idealize.ShloMosaic Idealize.ShloMosaic.TcCoe Idealize.SL.Sem Cert.Sgu Cert.Ffn Cert.Stores

namespace Cert.Kernel14Ideal.Block

open Cert.Kernel14Ideal Cert.Kernel14Ideal.Gen

/-- The five input blocks hold the reals of `A`. -/
structure Holds (A : Mix) (x0 : Vec Ideal S512x1536 .bf16) (x1 : Vec Ideal S1024x1536 .bf16) (x2 x3 : Vec Ideal S512x1024 .f32)
    (x4 : Vec Ideal S1x1024 .f32) : Prop where
  dz : ∀ i, x0 i = ((A.dz (i 0) (i 1) : ℝ) : EReal)
  w : ∀ i, x1 i = ((A.w (i 0) (i 1) : ℝ) : EReal)
  dres : ∀ i, x2 i = ((A.dres (i 0) (i 1) : ℝ) : EReal)
  x : ∀ i, x3 i = ((A.x (i 0) (i 1) : ℝ) : EReal)
  g : ∀ i, x4 i = ((A.g (i 1) : ℝ) : EReal)

variable {A : Mix} {x0 : Vec Ideal S512x1536 .bf16} {x1 : Vec Ideal S1024x1536 .bf16} {x2 x3 : Vec Ideal S512x1024 .f32}
  {x4 : Vec Ideal S1x1024 .f32}

/-- The gradient of the norm's output. -/
theorem dxn_apply (H : Holds A x0 x1 x2 x3 x4) (i : S512x1024.Idx) :
    k0_pay3 x0 x1 i = ((A.dxn (i 0) (i 1) : ℝ) : EReal) := by
  pointwise [k0_pay3]
  simp only [H.dz, H.w, ← EReal.coe_mul, coe_sum]
  rfl

/-- The reciprocal root mean square of a row. -/
theorem rms_apply (H : Holds A x0 x1 x2 x3 x4) (i : S512x1.Idx) :
    k0_pay4 x3 i = ((A.norm.rms (i 0) : ℝ) : EReal) := by
  pointwise [k0_pay4]
  simp only [H.x, ← EReal.coe_mul, coe_sum, ofBits_1024, ofBits_eps, div_1024, ← EReal.coe_add]
  exact rsqrt_pos _ (A.norm.ms_eps_pos _)

/-- The normalized row. -/
theorem y_apply (H : Holds A x0 x1 x2 x3 x4) (i : S512x1024.Idx) :
    k0_pay5 x3 i = ((A.norm.y (i 0) (i 1) : ℝ) : EReal) := by
  pointwise [k0_pay5]
  rw [rms_apply H, H.x, ← EReal.coe_mul]
  rfl

/-- The gradient of the gain: the sum so far plus this block's rows. -/
theorem dgam_apply (H : Holds A x0 x1 x2 x3 x4) {acc : Vec Ideal S1x1024 .f32} {R : ℕ → ℝ}
    (hR : ∀ i, acc i = ((R (i 1) : ℝ) : EReal)) (i : S1x1024.Idx) :
    k0_pay6 x0 x1 x3 acc i = ((R (i 1) + A.dgam 512 (i 1) : ℝ) : EReal) := by
  pointwise [k0_pay6]
  simp only [dxn_apply H, y_apply H, hR, ← EReal.coe_mul, coe_sum, ← EReal.coe_add]
  rw [Mix.dgam, Finset.sum_range]
  rfl

/-- The gradient of the normalized row. -/
theorem dyn_apply (H : Holds A x0 x1 x2 x3 x4) (i : S512x1024.Idx) :
    k0_pay7 x0 x1 x4 i = ((A.dyn (i 0) (i 1) : ℝ) : EReal) := by
  pointwise [k0_pay7]
  rw [dxn_apply H, H.g, ← EReal.coe_mul]
  rfl

/-- The gradient of the rows. -/
theorem dx_apply (H : Holds A x0 x1 x2 x3 x4) (i : S512x1024.Idx) :
    k0_pay1 (k0_pay4 x3) (k0_pay5 x3) (k0_pay7 x0 x1 x4) x2 (k0_pay8 x0 x1 x3 x4) i = ((A.dx (i 0) (i 1) : ℝ) : EReal) := by
  pointwise [k0_pay1, k0_pay8]
  simp only [dyn_apply H, y_apply H, rms_apply H, H.dres, ← EReal.coe_mul, coe_sum, ofBits_1024, div_1024, ← EReal.coe_sub,
    ← EReal.coe_add]
  rfl

/-- The sum that the first point starts from. -/
theorem no_sum (i : S1x1024.Idx) : k0_pay2 (F := Ideal) i = ((0 : ℝ) : EReal) := by
  pointwise [k0_pay2]
  rfl

variable (m : (ℓ : Loc nD τ sig) → Buf (Elt Ideal) ℓ)
variable {c : Dev nD} {t : Fin cfg0.N}

/-- The input blocks of point `t` hold the reals of `A`. -/
abbrev HoldsAt (A : Mix) (c : Dev nD) (t : Fin cfg0.N) : Prop :=
  Holds A (iblk m c 0 t) (iblk m c 1 t) (iblk m c 2 t) (iblk m c 3 t) (iblk m c 4 t)

/-- What a point leaves: the block of its rows, and the gain's gradient `R` plus theirs. -/
structure Leaves (A : Mix) (R : ℕ → ℝ) (u : Vec Ideal S512x1024 .f32 × Vec Ideal S1x1024 .f32) : Prop where
  dx : ∀ i, u.1 i = ((A.dx (i 0) (i 1) : ℝ) : EReal)
  dgam : ∀ i, u.2 i = ((R (i 1) + A.dgam 512 (i 1) : ℝ) : EReal)

/-- The first point. -/
theorem leaves_A (H : HoldsAt m A c t) (h0 : t.val % 16 = 0) : Leaves A (fun _ => 0) (outsAt0 m c t.val t.isLt) := by
  rw [outsAt0_A m c t h0]
  constructor
  all_goals
    intro i
    dsimp only
    frame_open
    simp (disch := decide) only [↓ View.readCov_skip, ↓ View.readCov_cons_toLoadRect, ↓ View.readCov_fill]
    frame_out
    try simp only [readCov_all, readCov_whole, canon_whole]
  · exact dx_apply H i
  · exact dgam_apply H (R := fun _ => 0) no_sum i

/-- A later point, from what the point before it left. -/
theorem leaves_B (H : HoldsAt m A c t) (h0 : ¬t.val % 16 = 0) {R : ℕ → ℝ}
    (hR : ∀ i, (outsAt0 m c (t.val - 1) (Nat.lt_of_le_of_lt (Nat.sub_le _ _) t.isLt)).2 i = ((R (i 1) : ℝ) : EReal)) :
    Leaves A R (outsAt0 m c t.val t.isLt) := by
  rw [outsAt0_B m c t h0]
  revert hR
  generalize (outsAt0 m c (t.val - 1) (Nat.lt_of_le_of_lt (Nat.sub_le _ _) t.isLt)) = acc
  intro hR
  constructor
  all_goals
    intro i
    dsimp only
    frame_open
    simp (disch := decide) only [↓ View.readCov_skip, ↓ View.readCov_cons_toLoadRect, ↓ View.readCov_fill]
    frame_out
    try simp only [readCov_all, read_unread_whole]
  · exact dx_apply H i
  · exact dgam_apply H hR i

end Cert.Kernel14Ideal.Block

end
-- ==== Proof.MixVjp.lean ====
/-
  The projection's reference at an index: each printed operation of the backward pass is the real quantity of
  Proof/MixSpec.lean, at whole-array rows.
-/
module

public import proofs.«01_k».proof.Proof.MixSpec
public import proofs.«01_k».proof.Proof.Gen.Reference14Ideal.Read
public import Idealize.ShloMosaic.Lib.Pointwise

@[expose] public section

set_option maxRecDepth 16384

noncomputable section

open Idealize.ShloMosaic Idealize.ShloMosaic.TcCoe Idealize.SL.Sem Cert.Sgu Cert.Ffn

namespace Cert.Reference14Ideal.Vjp

open Cert.Reference14Ideal Cert.Reference14Ideal.Gen Cert.Reference14Ideal.Read

/-- The five arguments hold the reals of `A`. -/
structure Holds (A : Mix) (x0 : Vec Ideal S8192x1536 .bf16) (x1 x2 : Vec Ideal S8192x1024 .f32) (x3 : Vec Ideal S1x1024 .f32)
    (x4 : Vec Ideal S1024x1536 .f32) : Prop where
  dz : ∀ i, x0 i = ((A.dz (i 0) (i 1) : ℝ) : EReal)
  dres : ∀ i, x1 i = ((A.dres (i 0) (i 1) : ℝ) : EReal)
  x : ∀ i, x2 i = ((A.x (i 0) (i 1) : ℝ) : EReal)
  g : ∀ i, x3 i = ((A.g (i 1) : ℝ) : EReal)
  w : ∀ i, x4 i = ((A.w (i 0) (i 1) : ℝ) : EReal)

variable {A : Mix} {x0 : Vec Ideal S8192x1536 .bf16} {x1 x2 : Vec Ideal S8192x1024 .f32} {x3 : Vec Ideal S1x1024 .f32}
  {x4 : Vec Ideal S1024x1536 .f32}

/-- A row's mean square plus `eps`. -/
theorem v6_apply (H : Holds A x0 x1 x2 x3 x4) (i : S8192x1.Idx) :
    val_main_v6 (F := Ideal) x2 i = ((A.norm.ms (i 0) + eps : ℝ) : EReal) := by
  simp only [val_main_v6_apply, val_main_v4_apply, val_main_v2_apply, val_main_v1_apply, val_main_v0_apply, val_main_cst_apply,
    val_main_v3_apply, val_main_cst_0_apply, val_main_v5_apply, val_main_cst_1_apply, H.x, Ideal.mulf_def, Ideal.addf_def,
    Ideal.hostDivf_def, Ideal.ofBits_def, ofBits_zero, zero_add, ← EReal.coe_mul, coe_sum, ofBits_1024, div_1024, ofBits_eps,
    ← EReal.coe_add]
  rfl

/-- The reciprocal root mean square of a row. -/
theorem v7_apply (H : Holds A x0 x1 x2 x3 x4) (i : S8192x1.Idx) :
    val_main_v7 (F := Ideal) x2 i = ((A.norm.rms (i 0) : ℝ) : EReal) := by
  rw [val_main_v7_apply, v6_apply H]
  exact rsqrt_pos _ (A.norm.ms_eps_pos _)

/-- The derivative of the reciprocal root. -/
theorem v10_apply (H : Holds A x0 x1 x2 x3 x4) (i : S8192x1.Idx) :
    val_main_v10 (F := Ideal) x2 i
      = ((-(1 / 2) * (A.norm.rms (i 0) * A.norm.rms (i 0) * A.norm.rms (i 0)) : ℝ) : EReal) := by
  have h := A.norm.ms_eps_pos (i 0)
  simp only [val_main_v10_apply, val_main_v9_apply, val_main_cst_2_apply, val_main_v8_apply, v6_apply H, v7_apply H,
    Ideal.hostDivf_def, Ideal.mulf_def, Ideal.ofBits_def, ofBits_neg_half, Ideal.div_coe h.ne', ← EReal.coe_mul]
  congr 2
  rw [mul_assoc, A.norm.rms_sq]

/-- The normalized row. -/
theorem v12_apply (H : Holds A x0 x1 x2 x3 x4) (i : S8192x1024.Idx) :
    val_main_v12 (F := Ideal) x2 i = ((A.norm.y (i 0) (i 1) : ℝ) : EReal) := by
  simp only [val_main_v12_apply, val_main_v11_apply, v7_apply H, H.x, Ideal.mulf_def, ← EReal.coe_mul]
  rfl

/-- The gradient of the norm's output. -/
theorem v17_apply (H : Holds A x0 x1 x2 x3 x4) (i : S8192x1024.Idx) :
    val_main_v17 (F := Ideal) x0 x4 i = ((A.dxn (i 0) (i 1) : ℝ) : EReal) := by
  simp only [val_main_v17_apply, val_main_v16_apply, H.dz, H.w, Ideal.extf_def, ← EReal.coe_mul, coe_sum]
  rfl

/-- Result 1, the gradient of the gain. -/
theorem v20_apply (H : Holds A x0 x1 x2 x3 x4) (i : S1x1024.Idx) :
    val_main_v20 (F := Ideal) x0 x2 x4 i = ((A.dgam 8192 (i 1) : ℝ) : EReal) := by
  have h0 : (i 0 : ℕ) < 1 := (i 0).isLt
  simp only [val_main_v20_apply, val_main_v19_apply, val_main_cst_3_apply, val_main_v18_apply, v12_apply H, v17_apply H,
    Ideal.mulf_def, Ideal.ofBits_def, ofBits_zero, zero_add, ← EReal.coe_mul, coe_sum]
  rw [Mix.dgam, Finset.sum_range]
  refine congrArg _ (Finset.sum_congr rfl fun k _ => ?_)
  show A.norm.y k ((i 0 : ℕ) * 1024 + (i 1 : ℕ)) * A.dxn k ((i 0 : ℕ) * 1024 + (i 1 : ℕ)) = _
  rw [show (i 0 : ℕ) * 1024 + (i 1 : ℕ) = i 1 by omega, mul_comm]

/-- The gradient of the normalized row. -/
theorem v22_apply (H : Holds A x0 x1 x2 x3 x4) (i : S8192x1024.Idx) :
    val_main_v22 (F := Ideal) x0 x3 x4 i = ((A.dyn (i 0) (i 1) : ℝ) : EReal) := by
  simp only [val_main_v22_apply, val_main_v21_apply, v17_apply H, H.g, Ideal.mulf_def, ← EReal.coe_mul]
  rfl

/-- The gradient of a row's mean square, over the 1024 columns. -/
theorem v31_apply (H : Holds A x0 x1 x2 x3 x4) (i : S8192x1.Idx) :
    val_main_v31 (F := Ideal) x0 x2 x3 x4 i
      = (((∑ j : Fin 1024, A.x (i 0) j * A.dyn (i 0) j)
          * (-(1 / 2) * (A.norm.rms (i 0) * A.norm.rms (i 0) * A.norm.rms (i 0))) / 1024 : ℝ) : EReal) := by
  have h1 : (i 1 : ℕ) < 1 := (i 1).isLt
  simp only [val_main_v31_apply, val_main_v30_apply, val_main_cst_5_apply, val_main_v29_apply, val_main_v25_apply,
    val_main_v24_apply, val_main_cst_4_apply, val_main_v23_apply, v22_apply H, v10_apply H, H.x, Ideal.mulf_def,
    Ideal.hostDivf_def, Ideal.ofBits_def, ofBits_zero, zero_add, ← EReal.coe_mul, coe_sum, ofBits_1024, div_1024]
  refine congrArg _ (congrArg (· * _ / 1024) (Finset.sum_congr rfl fun k _ => ?_))
  show A.x ((i 0 : ℕ) * 1 + (i 1 : ℕ)) k * A.dyn ((i 0 : ℕ) * 1 + (i 1 : ℕ)) k = _
  rw [show (i 0 : ℕ) * 1 + (i 1 : ℕ) = i 0 by omega]

/-- Result 0, the gradient of the rows. -/
theorem v37_apply (H : Holds A x0 x1 x2 x3 x4) (i : S8192x1024.Idx) :
    val_main_v37 (F := Ideal) x0 x1 x2 x3 x4 i = ((A.dx (i 0) (i 1) : ℝ) : EReal) := by
  simp only [val_main_v37_apply, val_main_v36_apply, val_main_v35_apply, val_main_v34_apply, val_main_v33_apply,
    val_main_v32_apply, val_main_cst_6_apply, val_main_v28_apply, val_main_v27_apply, val_main_v26_apply, v22_apply H, v7_apply H,
    v31_apply H, H.x, H.dres, Fin.sum_univ_one, Ideal.mulf_def, Ideal.addf_def, Ideal.ofBits_def, ofBits_zero, zero_add,
    ← EReal.coe_mul, ← EReal.coe_add]
  refine congrArg _ ?_
  rw [Mix.dx, ← A.norm.back_vjp (A.dyn (i 0)) (i 0) (i 1), ← add_assoc, ← add_assoc]
  rfl

end Cert.Reference14Ideal.Vjp

end
-- ==== Proof.MixArrays.lean ====
/-
  From the grid points to the arrays, for the projection after a norm, backwards: the host's line before the kernel leaves the
  weights rounded; each point's blocks are 512 rows of the arguments; the gain's gradient grows by one block of rows per point;
  and after the last point the result arrays hold the quantities of Proof/MixSpec.lean over all 8192 rows.
-/
module

public import proofs.«01_k».proof.Proof.MixPoint
public import proofs.«01_k».proof.Proof.MixVjp
public import proofs.«01_k».proof.Proof.Gen.Kernel14Ideal.Value
public import Idealize.ShloMosaic.Lib.StableHlo.Run

@[expose] public section

set_option maxRecDepth 16384

noncomputable section

open Idealize.ShloMosaic Idealize.ShloMosaic.TcCoe Idealize.SL.Sem Cert.Sgu Cert.Ffn Cert.Stores

namespace Cert.Kernel14Ideal.Block

open Cert.Kernel14Ideal Cert.Kernel14Ideal.Gen Cert.Kernel14Ideal.Value

variable {m : (ℓ : Loc nD τ sig) → Buf (Elt Ideal) ℓ} {A : Mix} {c : Dev nD}

/-- The argument arrays hold the reals of `A`. -/
abbrev Input (m : (ℓ : Loc nD τ sig) → Buf (Elt Ideal) ℓ) (A : Mix) (c : Dev nD) : Prop :=
  Cert.Reference14Ideal.Vjp.Holds A (m ((c : Thread nD τ).loc main_arg0)) (m ((c : Thread nD τ).loc main_arg1))
    (m ((c : Thread nD τ).loc main_arg2)) (m ((c : Thread nD τ).loc main_arg3)) (m ((c : Thread nD τ).loc main_arg4))

/-- The projection, as the kernel is given it. -/
theorem V_main_v0 : (V m c main_v0 : FVec Ideal S1024x1536 .bf16)
    = truncf (F := Ideal) .bf16 (m ((c : Thread nD τ).loc main_arg4)) bitsLt_bf16_f32 := by
  show StableHlo.after hostOps0 _ (Proc.devRef .tc main_v0) = _
  after_results

/-- The kernel's weights hold the reals of `A`. -/
theorem w_apply (H : Input m A c) (i : S1024x1536.Idx) : V m c main_v0 i = ((A.w (i 0) (i 1) : ℝ) : EReal) := by
  rw [V_main_v0]
  exact H.w i

/-- Which block of its array each window shows at point `t`: the `t`-th 512 rows, or all of it. -/
theorem index_at : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0) :=
  (by decide +kernel : ∀ t : Fin grid0.N, _)

/-- The input blocks of point `t` hold the `t`-th rows of `A`. -/
theorem holdsAt (H : Input m A c) (t : Fin cfg0.N) : HoldsAt m (A.block t.val) c t := by
  obtain ⟨iz, ⟨iw, iw'⟩, ir, ix, ⟨-, ig⟩, -⟩ := index_at t
  refine ⟨fun y => ?_, fun y => ?_, fun y => ?_, fun y => ?_, fun y => ?_⟩
  · show V m c main_arg0 (((cfg0.win 0).blk t).view.emb y) = _
    rw [V_main_arg0]
    exact (H.dz _).trans (shown A.dz 512 1536 iz (y 0) (y 1)).symm
  · show V m c main_v0 (((cfg0.win 1).blk t).view.emb y) = _
    refine (w_apply H _).trans ?_
    show ((A.w (win0_1.index t (0 : Fin 2) * 1024 + 1 * (y 0 : ℕ)) (win0_1.index t (1 : Fin 2) * 1536 + 1 * (y 1 : ℕ)) : ℝ) : EReal)
      = ((A.w (y 0) (y 1) : ℝ) : EReal)
    rw [iw, iw', zero_mul, zero_add, zero_mul, zero_add, one_mul, one_mul]
  · show V m c main_arg1 (((cfg0.win 2).blk t).view.emb y) = _
    rw [V_main_arg1]
    exact (H.dres _).trans (shown A.dres 512 1024 ir (y 0) (y 1)).symm
  · show V m c main_arg2 (((cfg0.win 3).blk t).view.emb y) = _
    rw [V_main_arg2]
    exact (H.x _).trans (shown A.x 512 1024 ix (y 0) (y 1)).symm
  · show V m c main_arg3 (((cfg0.win 4).blk t).view.emb y) = _
    rw [V_main_arg3]
    refine (H.g _).trans ?_
    show ((A.g (win0_4.index t (1 : Fin 2) * 1024 + 1 * (y 1 : ℕ)) : ℝ) : EReal) = ((A.g (y 1) : ℝ) : EReal)
    rw [ig, zero_mul, zero_add, one_mul]

/-- Every point leaves its rows' block, and the gain's gradient over all the rows so far. -/
theorem leaves (H : Input m A c) (n : ℕ) : ∀ h : n < cfg0.N,
    Leaves (A.block n) (A.dgam (512 * n)) (outsAt0 m c n h) := by
  induction n with
  | zero =>
    intro h
    have z : A.dgam (512 * 0) = fun _ => 0 := funext fun _ => by simp [Mix.dgam]
    rw [z]
    have l := leaves_A m (holdsAt H ⟨0, h⟩) (Nat.zero_mod 16)
    exact l
  | succ n ih =>
    intro h
    have hN : n + 1 < 16 := lt_of_lt_of_eq h N_0
    have l := leaves_B m (R := A.dgam (512 * (n + 1))) (holdsAt H ⟨n + 1, h⟩) (by show ¬(n + 1) % 16 = 0; omega)
      fun i => ((ih (Nat.lt_of_succ_lt h)).dgam i).trans (by rw [Mix.dgam_succ])
    exact l

/-- The point whose block holds row `r`. -/
def pointOf (r : Fin 8192) : Fin cfg0.N := ⟨r.val / 512, lt_of_lt_of_eq (by omega) N_0.symm⟩

/-- The result array of window 5, the gradient of the rows. -/
theorem dx_array (H : Input m A c) :
    (dats m 0 c).arrAt 5 cfg0.N = fun i : S8192x1024.Idx => ((A.dx (i 0) (i 1) : ℝ) : EReal) := by
  refine (dats m 0 c).arrAt_eq_of_cover 5 _ (fun t _ => ?_) fun i => ⟨pointOf (i 0), flush0_5 _, ?_⟩
  · rw [flushed5]
    exact funext fun y => ((leaves H t.val t.isLt).dx ((cfg0.win 5).xinj (grid0.coords t) y)).trans
      (shown A.dx 512 1024 (index_at t).2.2.2.2.2.1 (y 0) (y 1))
  · show i ∈ ((View.whole main_v1_0).slice (win0_5.rect (pointOf (i 0)))).set
    rw [View.set_slice_whole, Rect.mem_set_unit]
    exact Fin.forall_fin_two.mpr
      (inside (b := 512) (n := 1024) (by decide) (index_at (pointOf (i 0))).2.2.2.2.2.1 (i 1).isLt)

/-- The result array of window 6, the gain's gradient: the last point writes it. -/
theorem dgam_array (H : Input m A c) :
    (dats m 0 c).arrAt 6 cfg0.N = fun i : S1x1024.Idx => ((A.dgam 8192 (i 1) : ℝ) : EReal) := by
  refine (dats m 0 c).arrAt_eq_of_cover 6 _ (fun t hf => ?_) fun i => ⟨pointOf 8191, (flush0_6 _).mpr rfl, ?_⟩
  · have hN : t.val < 16 := lt_of_lt_of_eq t.isLt N_0
    have ht : t.val = 15 := by have := (flush0_6 t).mp hf; omega
    rw [flushed6]
    funext y
    refine ((leaves H t.val t.isLt).dgam ((cfg0.win 6).xinj (grid0.coords t) y)).trans ?_
    show ((A.dgam (512 * t.val) (y 1 : ℕ) + (A.block t.val).dgam 512 (y 1 : ℕ) : ℝ) : EReal)
      = ((A.dgam 8192 (win0_6.index t (1 : Fin 2) * 1024 + 1 * (y 1 : ℕ)) : ℝ) : EReal)
    rw [(index_at t).2.2.2.2.2.2.2, zero_mul, zero_add, one_mul, ← Mix.dgam_succ, ht]
  · show i ∈ ((View.whole main_v1_1).slice (win0_6.rect (pointOf 8191))).set
    rw [View.set_slice_whole, Rect.mem_set_unit]
    exact Fin.forall_fin_two.mpr
      (inside_row (n := 1024) (index_at (pointOf 8191)).2.2.2.2.2.2 (i 0).isLt (i 1).isLt)

end Cert.Kernel14Ideal.Block

end
-- ==== Proof.MixFinite.lean ====
/-
  Arrays that pass the precondition `finite14` hold real numbers, those of some `Mix`.
-/
module

public import proofs.«01_k».proof.Proof.HeadFinite
public import proofs.«01_k».proof.Proof.MixVjp
public import proofs.«01_k».proof.Pre_finite14

@[expose] public section

noncomputable section

open Idealize.ShloMosaic Cert.Sgu

namespace Cert.Ffn

namespace Mix

/-- The facts the precondition's printed function states. -/
instance pre_facts : Cert.Pre_finite14.Facts where
  bcast_S_S8192x1536 := ⟨fun a => a.elim0, fun a => a.elim0⟩
  bcast_S_S8192x1024 := ⟨fun a => a.elim0, fun a => a.elim0⟩
  bcast_S_S1x1024 := ⟨fun a => a.elim0, fun a => a.elim0⟩
  bcast_S_S1024x1536 := ⟨fun a => a.elim0, fun a => a.elim0⟩

open Cert.Reference14Ideal Cert.Reference14Ideal.Vjp

/-- Arrays that pass the precondition hold the reals of some `Mix`. -/
theorem holds_of_pre {x0 : FVec Ideal S8192x1536 .bf16} {x1 x2 : FVec Ideal S8192x1024 .f32} {x3 : FVec Ideal S1x1024 .f32}
    {x4 : FVec Ideal S1024x1536 .f32}
    (h0 : (Cert.Pre_finite14.fn (F := Ideal) x0 x1 x2 x3 x4).1 = fun _ => 1#1)
    (h1 : (Cert.Pre_finite14.fn (F := Ideal) x0 x1 x2 x3 x4).2.1 = fun _ => 1#1)
    (h2 : (Cert.Pre_finite14.fn (F := Ideal) x0 x1 x2 x3 x4).2.2.1 = fun _ => 1#1)
    (h3 : (Cert.Pre_finite14.fn (F := Ideal) x0 x1 x2 x3 x4).2.2.2.1 = fun _ => 1#1)
    (h4 : (Cert.Pre_finite14.fn (F := Ideal) x0 x1 x2 x3 x4).2.2.2.2 = fun _ => 1#1) :
    ∃ A : Mix, Holds A x0 x1 x2 x3 x4 :=
  ⟨{ dz := nat2 x0, dres := nat2 x1, x := nat2 x2, g := nat2 x3 0, w := nat2 x4 },
    { dz := fun i => nat2_apply x0 i (finite_of_pre ofBits_inf_bf16 h0 i)
      dres := fun i => nat2_apply x1 i (finite_of_pre ofBits_inf h1 i)
      x := fun i => nat2_apply x2 i (finite_of_pre ofBits_inf h2 i)
      g := row_apply (finite_of_pre ofBits_inf h3)
      w := fun i => nat2_apply x4 i (finite_of_pre ofBits_inf h4 i) }⟩

end Mix

end Cert.Ffn

end
-- ==== Proof.Whole.lean ====
/-
  A store or a load of a whole matrix, written with the offsets and the extent that the printed program has.
-/
module

public import proofs.«01_k».proof.Proof.Stores

@[expose] public section

noncomputable section

open Idealize.ShloMosaic Idealize.ShloMosaic.TcCoe Idealize.SL.Sem

namespace Cert.Stores

/-- What one store of a whole matrix leaves. -/
theorem canon_all {n0 n1 : ℕ} {e : EltTy} (inb : ∀ a, (![0, 0] : Fin 2 → ℕ) a + (![n0, n1] : Fin 2 → ℕ) a ≤ (⟨2, ![n0, n1]⟩ : Shape).size a)
    (w : (⟨2, ![n0, n1]⟩ : Shape).Idx → Elt Ideal e) (i : (⟨2, ![n0, n1]⟩ : Shape).Idx) :
    View.canon [(⟨Rect.unit (s := ⟨2, ![n0, n1]⟩) ![0, 0] ![n0, n1] inb, w⟩ : View.Piece (Elt Ideal) ⟨2, ![n0, n1]⟩ e)] i = w i := by
  have h := View.canon_cons_emb (Val := Elt Ideal) (Rect.unit (s := ⟨2, ![n0, n1]⟩) ![0, 0] ![n0, n1] inb) w [] i
  have k : (Rect.unit (s := ⟨2, ![n0, n1]⟩) ![0, 0] ![n0, n1] inb).emb i = i := funext fun a => Fin.ext (by
    match a with
    | 0 => show 0 + 1 * (i 0 : ℕ) = i 0; omega
    | 1 => show 0 + 1 * (i 1 : ℕ) = i 1; omega)
  rwa [k] at h

/-- A load of a whole matrix. -/
theorem ld_all {n0 n1 : ℕ} {e : EltTy} (inb : ∀ a, (![0, 0] : Fin 2 → ℕ) a + (![n0, n1] : Fin 2 → ℕ) a ≤ (⟨2, ![n0, n1]⟩ : Shape).size a)
    (x : (⟨2, ![n0, n1]⟩ : Shape).Idx → Elt Ideal e) (i : (⟨2, ![n0, n1]⟩ : Shape).Idx) :
    View.ld x (Rect.unit (s := ⟨2, ![n0, n1]⟩) ![0, 0] ![n0, n1] inb) i = x i := by
  refine congrArg x (funext fun a => Fin.ext ?_)
  match a with
  | 0 => show 0 + 1 * (i 0 : ℕ) = i 0; omega
  | 1 => show 0 + 1 * (i 1 : ℕ) = i 1; omega

end Cert.Stores

end
-- ==== Proof.MixOutArrays.lean ====
/-
  The pooling and convolution mixer's projection out, backwards, computed by the kernel and by the reference: each grid point
  multiplies its 512 rows by the transpose and writes the rows themselves, rounded. Both programs take the same sums of products,
  so nothing here asks for finite entries.
-/
module

public import proofs.«01_k».proof.Proof.FwdSpec
public import proofs.«01_k».proof.Proof.Whole
public import proofs.«01_k».proof.Proof.Gen.Kernel15Ideal.Value
public import proofs.«01_k».proof.Proof.Gen.Reference15Ideal.Read
public import Idealize.ShloMosaic.Lib.Pointwise

@[expose] public section

set_option maxRecDepth 16384

noncomputable section

open Idealize.ShloMosaic Idealize.ShloMosaic.TcCoe Idealize.SL.Sem Cert.Sgu Cert.Ffn Cert.Stores

namespace Cert.Ffn

/-- The two arguments at natural indices: the gradient `d` of the rows and the projection `w`. -/
structure Out where
  d : ℕ → ℕ → EReal
  w : ℕ → ℕ → EReal

/-- The gradient of the mixer's output. -/
def Out.dq (A : Out) (t c : ℕ) : EReal := ∑ k : Fin 1024, A.d t k * A.w c k

/-- The arguments with their rows counted from `512 t`. -/
def Out.block (A : Out) (t : ℕ) : Out := { A with d := fun r c => A.d (512 * t + r) c }

end Cert.Ffn

namespace Cert.Reference15Ideal.Out

open Cert.Reference15Ideal Cert.Reference15Ideal.Gen Cert.Reference15Ideal.Read

/-- The two arguments hold the entries of `A`. -/
structure Holds (A : Ffn.Out) (x0 : Vec Ideal S8192x1024 .f32) (x1 : Vec Ideal S1024x1024 .f32) : Prop where
  d : ∀ i, x0 i = A.d (i 0) (i 1)
  w : ∀ i, x1 i = A.w (i 0) (i 1)

variable {A : Ffn.Out} {x0 : Vec Ideal S8192x1024 .f32} {x1 : Vec Ideal S1024x1024 .f32}

/-- Result 0, the gradient of the mixer's output. -/
theorem v2_apply (H : Holds A x0 x1) (i : S8192x1024.Idx) : val_main_v2 (F := Ideal) x0 x1 i = A.dq (i 0) (i 1) := by
  simp only [val_main_v2_apply, H.d, H.w]
  rfl

/-- Result 1, the rows, rounded. -/
theorem v3_apply (H : Holds A x0 x1) (i : S8192x1024.Idx) : val_main_v3 (F := Ideal) x0 i = A.d (i 0) (i 1) := by
  simp only [val_main_v3_apply, H.d, Ideal.truncf_def]

end Cert.Reference15Ideal.Out

namespace Cert.Kernel15Ideal.Block

open Cert.Kernel15Ideal Cert.Kernel15Ideal.Gen Cert.Kernel15Ideal.Value

/-- The two input blocks hold the entries of `A`. -/
structure Holds (A : Ffn.Out) (x0 : Vec Ideal S512x1024 .f32) (x1 : Vec Ideal S1024x1024 .bf16) : Prop where
  d : ∀ i, x0 i = A.d (i 0) (i 1)
  w : ∀ i, x1 i = A.w (i 0) (i 1)

variable {A : Ffn.Out}

/-- A block's product with the transpose. -/
theorem dq_apply {v0 : Vec Ideal S512x1024 .f32} {v3 : Vec Ideal S1024x1024 .bf16} (H : Holds A v0 v3) (i : S512x1024.Idx) :
    k0_pay2 (F := Ideal) v0 v3 i = A.dq (i 0) (i 1) := by
  pointwise [k0_pay2, k0_pay1]
  simp only [H.d, H.w]
  rfl

/-- What a point leaves in the first result's block. -/
theorem out_dq {x0 : Vec Ideal S512x1024 .f32} {x1 : Vec Ideal S1024x1024 .bf16} (H : Holds A x0 x1) (i : S512x1024.Idx) :
    out0_2 (F := Ideal) x0 x1 i = A.dq (i 0) (i 1) := by
  have h := canon_all (e := .f32) inb_S512x1024_S512x1024_0_0 (k0_pay2 (F := Ideal) (View.ld x0 r0_0) (View.ld x1 r0_1)) i
  refine Eq.trans h (dq_apply ⟨fun i => ?_, fun i => ?_⟩ i)
  · exact (ld_all _ x0 i).trans (H.d i)
  · exact (ld_all _ x1 i).trans (H.w i)

/-- What a point leaves in the second result's block. -/
theorem out_rows {x0 : Vec Ideal S512x1024 .f32} {x1 : Vec Ideal S1024x1024 .bf16} (H : Holds A x0 x1) (i : S512x1024.Idx) :
    out0_3 (F := Ideal) x0 x1 i = A.d (i 0) (i 1) := by
  have h := canon_all (e := .bf16) inb_S512x1024_S512x1024_0_0 (k0_pay1 (F := Ideal) (View.ld x0 r0_0)) i
  exact Eq.trans h ((ld_all _ x0 i).trans (H.d i))

variable {m : (ℓ : Loc nD τ sig) → Buf (Elt Ideal) ℓ} {c : Dev nD}

/-- The argument arrays hold the entries of `A`. -/
abbrev Input (m : (ℓ : Loc nD τ sig) → Buf (Elt Ideal) ℓ) (A : Ffn.Out) (c : Dev nD) : Prop :=
  Cert.Reference15Ideal.Out.Holds A (m ((c : Thread nD τ).loc main_arg0)) (m ((c : Thread nD τ).loc main_arg1))

/-- Any argument arrays hold the entries of some `A`. -/
theorem input (m : (ℓ : Loc nD τ sig) → Buf (Elt Ideal) ℓ) (c : Dev nD) : ∃ A, Input m A c :=
  ⟨⟨Grad.nat _, Grad.nat _⟩, Grad.nat_apply _, Grad.nat_apply _⟩

/-- The projection, as the kernel is given it. -/
theorem V_main_v0 : (V m c main_v0 : FVec Ideal S1024x1024 .bf16)
    = truncf (F := Ideal) .bf16 (m ((c : Thread nD τ).loc main_arg1)) bitsLt_bf16_f32 := by
  show StableHlo.after hostOps0 _ (Proc.devRef .tc main_v0) = _
  after_results

/-- The kernel's weights hold the entries of `A`. -/
theorem w_apply (H : Input m A c) (i : S1024x1024.Idx) : V m c main_v0 i = A.w (i 0) (i 1) := by
  rw [V_main_v0]
  exact H.w i

/-- Which block of its array each window shows at point `t`: the `t`-th 512 rows, or all of it. -/
theorem index_at : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- The input blocks of point `t` hold the `t`-th rows of `A`. -/
theorem holdsAt (H : Input m A c) (t : Fin cfg0.N) : Holds (A.block t.val) (iblk m c 0 t) (iblk m c 1 t) := by
  obtain ⟨ix, ⟨iw, iw'⟩, -⟩ := index_at t
  refine ⟨fun y => ?_, fun y => ?_⟩
  · show V m c main_arg0 (((cfg0.win 0).blk t).view.emb y) = _
    rw [V_main_arg0]
    exact (H.d _).trans (shown_at A.d 512 1024 ix (y 0) (y 1)).symm
  · show V m c main_v0 (((cfg0.win 1).blk t).view.emb y) = _
    refine (w_apply H _).trans ?_
    show A.w (win0_1.index t (0 : Fin 2) * 1024 + 1 * (y 0 : ℕ)) (win0_1.index t (1 : Fin 2) * 1024 + 1 * (y 1 : ℕ)) = A.w (y 0) (y 1)
    rw [iw, iw', zero_mul, zero_add, one_mul, zero_add, one_mul]

/-- The point whose block holds row `r`. -/
def pointOf (r : Fin 8192) : Fin cfg0.N := ⟨r.val / 512, lt_of_lt_of_eq (by omega) N_0.symm⟩

/-- The result array of window 2, the gradient of the mixer's output. -/
theorem dq_array (H : Input m A c) : (dats m 0 c).arrAt 2 cfg0.N = fun i : S8192x1024.Idx => A.dq (i 0) (i 1) := by
  refine (dats m 0 c).arrAt_eq_of_cover 2 _ (fun t _ => ?_) fun i => ⟨pointOf (i 0), flush0_2 _, ?_⟩
  · rw [flushed2]
    exact funext fun y => (out_dq (holdsAt H t) ((cfg0.win 2).xinj (grid0.coords t) y)).trans
      (shown_at A.dq 512 1024 (index_at t).2.2.1 (y 0) (y 1))
  · show i ∈ ((View.whole main_v1_0).slice (win0_2.rect (pointOf (i 0)))).set
    rw [View.set_slice_whole, Rect.mem_set_unit]
    exact Fin.forall_fin_two.mpr (inside (b := 512) (n := 1024) (by decide) (index_at (pointOf (i 0))).2.2.1 (i 1).isLt)

/-- The result array of window 3, the rows, rounded. -/
theorem rows_array (H : Input m A c) : (dats m 0 c).arrAt 3 cfg0.N = fun i : S8192x1024.Idx => A.d (i 0) (i 1) := by
  refine (dats m 0 c).arrAt_eq_of_cover 3 _ (fun t _ => ?_) fun i => ⟨pointOf (i 0), flush0_3 _, ?_⟩
  · rw [flushed3]
    exact funext fun y => (out_rows (holdsAt H t) ((cfg0.win 3).xinj (grid0.coords t) y)).trans
      (shown_at A.d 512 1024 (index_at t).2.2.2 (y 0) (y 1))
  · show i ∈ ((View.whole main_v1_1).slice (win0_3.rect (pointOf (i 0)))).set
    rw [View.set_slice_whole, Rect.mem_set_unit]
    exact Fin.forall_fin_two.mpr (inside (b := 512) (n := 1024) (by decide) (index_at (pointOf (i 0))).2.2.2 (i 1).isLt)

end Cert.Kernel15Ideal.Block

end
-- ==== Proof.UnitSpec.lean ====
/-
  The gating unit's forward: `Unit` holds the seven arguments as functions of natural indices, and the unit's quantities are written
  over the extended reals, infinite entries and all. Kernel and reference take the same sums and products, up to the GELU: the
  kernel writes it with `erf`, the reference with `erfc`, and the two agree at every extended real.
-/
module

public import proofs.«01_k».proof.Proof.Chunks
public import proofs.«01_k».proof.Proof.FwdSpec

@[expose] public section

noncomputable section

open Idealize.ShloMosaic Cert.Sgu

namespace Cert.Ffn

/-- The kernel's form of the GELU. -/
def gelu (z : EReal) : EReal :=
  z * (((1 / 2 : ℝ) : EReal) * (1 + Ideal.erf (z * (((Real.sqrt 2)⁻¹ : ℝ) : EReal))))

/-- The reference's form of it, at every extended real. -/
theorem gelu_erfc (z : EReal) :
    ((1 / 2 : ℝ) : EReal) * z * Ideal.erfc (Ideal.div (-z) ((Real.sqrt 2 : ℝ) : EReal)) = gelu z := by
  rw [Ideal.div_coe (Real.sqrt_pos.mpr (by norm_num)).ne', one_div (Real.sqrt 2), EReal.neg_mul, Ideal.erfc_neg, mul_comm ((1 / 2 : ℝ) : EReal) z,
    mul_assoc, gelu]

/-- The arguments at natural indices: the rows `x`, the norm's gain `g`, the projection `w` (1024 by 2048), the layer norm's gain
    `lg` and bias `lb`, the spatial weights `s` (head, row, row) and biases `d` (head, row). -/
structure Unit where
  x : ℕ → ℕ → EReal
  g : ℕ → EReal
  w : ℕ → ℕ → EReal
  lg : ℕ → EReal
  lb : ℕ → EReal
  s : ℕ → ℕ → ℕ → EReal
  d : ℕ → ℕ → EReal

namespace Unit

variable (A : Unit)

/-- The normalized input. -/
def xn (t c : ℕ) : EReal :=
  A.x t c * Ideal.rsqrt (Ideal.div (∑ k : Fin 1024, A.x t k * A.x t k) ((1024 : ℝ) : EReal) + ((eps : ℝ) : EReal)) * A.g c

/-- The projected rows. -/
def zp (t c : ℕ) : EReal := ∑ k : Fin 1024, A.xn t k * A.w k c

/-- The gate's left half. -/
def U (t c : ℕ) : EReal := gelu (A.zp t c)

/-- The gate's right half. -/
def V (t c : ℕ) : EReal := gelu (A.zp t (1024 + c))

/-- A row of the right half less its mean. -/
def cen (t c : ℕ) : EReal := A.V t c - Ideal.div (∑ k : Fin 1024, A.V t k) ((1024 : ℝ) : EReal)

/-- The reciprocal standard deviation of a row. -/
def rstd (t : ℕ) : EReal :=
  Ideal.rsqrt (Ideal.div (∑ k : Fin 1024, A.cen t k * A.cen t k) ((1024 : ℝ) : EReal) + ((eps : ℝ) : EReal))

/-- The layer norm's output. -/
def vb (t c : ℕ) : EReal := A.cen t c * A.rstd t * A.lg c + A.lb c

/-- A head's spatial weights under the causal mask. -/
def wm (h p k : ℕ) : EReal := A.s h p k * ((Args.mask p k : ℝ) : EReal)

/-- The spatial mixer's output. -/
def vo (t c : ℕ) : EReal :=
  (∑ k : Fin 128, A.wm (c / 128) (t % 128) k * A.vb (t / 128 * 128 + k) c) + A.d (c / 128) (t % 128)

/-- The gated rows. -/
def q (t c : ℕ) : EReal := A.U t c * A.vo t c

/-- The arguments with their rows counted from `512 t`. -/
def block (t : ℕ) : Unit where
  x := fun r c => A.x (512 * t + r) c
  g := A.g
  w := A.w
  lg := A.lg
  lb := A.lb
  s := A.s
  d := A.d

/-- A chunk of 128 rows lies in one block of 512, so a block's gated rows are those of its rows. -/
theorem block_q (t r c : ℕ) : (A.block t).q r c = A.q (512 * t + r) c := by
  have e0 : (512 * t + r) % 128 = r % 128 := by omega
  have e1 (k : ℕ) : (512 * t + r) / 128 * 128 + k = 512 * t + (r / 128 * 128 + k) := by omega
  unfold q vo
  simp only [e0, e1]
  rfl

/-- The spatial mixer in its chunk-by-head layout. -/
theorem mixed_eq {t c q p h l : ℕ} (h0 : q = t / 128) (h1 : p = t % 128) (h2 : h = c / 128) (h3 : l = c % 128) :
    (∑ k : Fin 128, A.vb (128 * q + k) (128 * h + l) * A.wm h p k) + A.d h p = A.vo t c := by
  subst h0 h1 h2 h3
  unfold vo
  simp only [Nat.div_add_mod, mul_comm 128 (t / 128), mul_comm (A.vb _ _)]

end Unit

/-- A three-dimensional array at natural indices. -/
def nat3 {n0 n1 n2 : ℕ} (x : (⟨3, ![n0, n1, n2]⟩ : Shape).Idx → EReal) (a b c : ℕ) : EReal :=
  if h : a < n0 ∧ b < n1 ∧ c < n2 then x (ValueIdx.ix3 ⟨a, h.1⟩ ⟨b, h.2.1⟩ ⟨c, h.2.2⟩) else 0

/-- It holds the array's elements. -/
theorem nat3_apply {n0 n1 n2 : ℕ} (x : (⟨3, ![n0, n1, n2]⟩ : Shape).Idx → EReal) (i : (⟨3, ![n0, n1, n2]⟩ : Shape).Idx) :
    x i = nat3 x (i 0) (i 1) (i 2) := by
  have h0 : (i 0 : ℕ) < n0 := (i 0).isLt
  have h1 : (i 1 : ℕ) < n1 := (i 1).isLt
  have h2 : (i 2 : ℕ) < n2 := (i 2).isLt
  rw [nat3, dif_pos ⟨h0, h1, h2⟩]
  exact congrArg x (ValueIdx.eq_ix3 i)

end Cert.Ffn

end
-- ==== Proof.UnitPoint.lean ====
/-
  What a grid point of the gating unit's forward kernel leaves: its 512 rows of the three results. The spatial mixer's output is
  written to scratch in 32 tiles, one for each head and chunk, and read back whole.
-/
module

public import proofs.«01_k».proof.Proof.UnitSpec
public import proofs.«01_k».proof.Proof.Whole
public import proofs.«01_k».proof.Proof.Gen.Kernel16Ideal.Frame
public import Idealize.ShloMosaic.Lib.Pointwise

@[expose] public section

set_option maxRecDepth 16384

noncomputable section

open Idealize.ShloMosaic Idealize.ShloMosaic.TcCoe Idealize.SL.Sem Cert.Sgu Cert.Stores

namespace Cert.Kernel16Ideal.Block

open Cert.Kernel16Ideal Cert.Kernel16Ideal.Gen

/-- The seven input blocks hold the entries of `A`. -/
structure Holds (A : Ffn.Unit) (x0 : Vec Ideal S512x1024 .f32) (x1 : Vec Ideal S1x1024 .f32) (x2 : Vec Ideal S1024x2048 .bf16)
    (x3 x4 : Vec Ideal S1x1024 .f32) (x5 : Vec Ideal S8x128x128 .f32) (x6 : Vec Ideal S8x128x1 .f32) : Prop where
  x : ∀ i, x0 i = A.x (i 0) (i 1)
  g : ∀ i, x1 i = A.g (i 1)
  w : ∀ i, x2 i = A.w (i 0) (i 1)
  lg : ∀ i, x3 i = A.lg (i 1)
  lb : ∀ i, x4 i = A.lb (i 1)
  s : ∀ i, x5 i = A.s (i 0) (i 1) (i 2)
  d : ∀ i, x6 i = A.d (i 0) (i 1)

variable {A : Ffn.Unit} {x0 : Vec Ideal S512x1024 .f32} {x1 : Vec Ideal S1x1024 .f32} {x2 : Vec Ideal S1024x2048 .bf16}
  {x3 x4 : Vec Ideal S1x1024 .f32} {x5 : Vec Ideal S8x128x128 .f32} {x6 : Vec Ideal S8x128x1 .f32}

/-- The kernel's named constant reads as the real it stands for. -/
theorem named_sqrt_half : Named.named (F := Ideal) (φ := .f32) κ "sqrt_half" 0x3F3504F3#32 = (((Real.sqrt 2)⁻¹ : ℝ) : EReal) := rfl

/-- The normalized input. -/
theorem xn_apply (H : Holds A x0 x1 x2 x3 x4 x5 x6) (i : S512x1024.Idx) : k0_pay2 x0 x1 i = A.xn (i 0) (i 1) := by
  pointwise [k0_pay2]
  simp only [H.x, H.g, ofBits_1024, ofBits_eps]
  rfl

/-- The projected rows. -/
theorem zp_apply (H : Holds A x0 x1 x2 x3 x4 x5 x6) (i : S512x2048.Idx) : k0_pay3 x0 x1 x2 i = A.zp (i 0) (i 1) := by
  pointwise [k0_pay3]
  simp only [xn_apply H, H.w]
  rfl

/-- Their GELU. -/
theorem gelu_apply (H : Holds A x0 x1 x2 x3 x4 x5 x6) (i : S512x2048.Idx) :
    k0_pay4 (k0_pay3 x0 x1 x2) i = Ffn.gelu (A.zp (i 0) (i 1)) := by
  pointwise [k0_pay4]
  rw [zp_apply H, named_sqrt_half, ofBits_half]
  rfl

/-- The gate's left half. -/
theorem U_apply (H : Holds A x0 x1 x2 x3 x4 x5 x6) (i : S512x1024.Idx) :
    k0_pay5 (k0_pay3 x0 x1 x2) i = A.U (i 0) (i 1) := by
  pointwise [k0_pay5]
  rw [gelu_apply H]
  rfl

/-- The gate's right half. -/
theorem V_apply (H : Holds A x0 x1 x2 x3 x4 x5 x6) (i : S512x1024.Idx) :
    k0_pay6 (k0_pay3 x0 x1 x2) i = A.V (i 0) (i 1) := by
  pointwise [k0_pay6]
  rw [gelu_apply H]
  rfl

/-- A row's sum of it. -/
theorem sum_apply (H : Holds A x0 x1 x2 x3 x4 x5 x6) (i : S512x1.Idx) :
    k0_pay7 (k0_pay3 x0 x1 x2) i = ∑ k : Fin 1024, A.V (i 0) k := by
  pointwise [k0_pay7]
  simp only [V_apply H]
  rfl

/-- The layer norm's output. -/
theorem vb_apply (H : Holds A x0 x1 x2 x3 x4 x5 x6) (i : S512x1024.Idx) :
    k0_pay8 (k0_pay6 (k0_pay3 x0 x1 x2)) (k0_pay7 (k0_pay3 x0 x1 x2)) (Scalar.ofBits (F := Ideal) .f32 0x44800000#32) x3 x4 i
      = A.vb (i 0) (i 1) := by
  pointwise [k0_pay8]
  simp only [V_apply H, sum_apply H, H.lg, H.lb, ofBits_1024, ofBits_eps]
  rfl

/-- The causal mask. -/
theorem mask_apply (i : S128x128.Idx) : k0_pay9 (F := Ideal) i = ((Args.mask (i 0) (i 1) : ℝ) : EReal) := by
  pointwise [k0_pay9]
  exact mask_word (i 0).isLt (i 1).isLt

/-- A tile of the spatial mixer's output: head `hd`'s masked weights times the chunk at row `p`, plus the bias. -/
theorem vo_tile (H : Holds A x0 x1 x2 x3 x4 x5 x6) (M : FVec Ideal S128x128 .f32) (VB : FVec Ideal S512x1024 .bf16)
    (hM : ∀ i, M i = ((Args.mask (i 0) (i 1) : ℝ) : EReal)) (hVB : ∀ i, VB i = A.vb (i 0) (i 1))
    (p q hd y0 y1 : ℕ) (x : S128x128.Idx) (hp : p % 128 = 0) (hq : q = 128 * hd) (e0 : y0 = p + x 0) (e1 : y1 = q + x 1)
    (i5 : ∀ a, (![hd, 0, 0] : Fin 3 → ℕ) a + (![1, 128, 128] : Fin 3 → ℕ) a ≤ S8x128x128.size a)
    (i6 : ∀ a, (![hd, 0, 0] : Fin 3 → ℕ) a + (![1, 128, 1] : Fin 3 → ℕ) a ≤ S8x128x1.size a)
    (hsl : S512x1024.Slices ![p, q] S128x128) :
    shapeCast S128x128 (addf (matmul dot_S128x128_S128x128_S128x128_1_0_0_1_n_n none
        (truncf .bf16 (mulf (shapeCast S128x128 (View.ld x5 (Rect.unit ![hd, 0, 0] ![1, 128, 128] i5)) shapeCasts_S1x128x128_S128x128) M)
          bitsLt_bf16_f32)
        (extractStridedSlice S128x128 ![p, q] VB hsl) (constant S128x128 .f32 0x00000000#32))
      (broadcastTo S128x128 (shapeCast S128x1 (View.ld x6 (Rect.unit ![hd, 0, 0] ![1, 128, 1] i6)) shapeCasts_S1x128x1_S128x1)
        broadcasts_S128x1_S128x128))
      shapeCasts_S128x128_S128x128 x = A.vo y0 y1 := by
  have hx0 : (x 0 : ℕ) < 128 := (x 0).isLt
  have hx1 : (x 1 : ℕ) < 128 := (x 1).isLt
  have r0 : y0 % 128 = x 0 := by omega
  have r1 : y0 / 128 * 128 = p := by omega
  have r2 : y1 / 128 = hd := by omega
  pointwise []
  simp only [H.s, H.d, hM, hVB]
  rw [Ffn.Unit.vo, r0, r1, r2, e1]
  rfl

/-- The gated rows, from the spatial mixer's output. -/
theorem q_apply (H : Holds A x0 x1 x2 x3 x4 x5 x6) {v : Vec Ideal S512x1024 .f32} (hv : ∀ i, v i = A.vo (i 0) (i 1))
    (i : S512x1024.Idx) : k0_pay1 (k0_pay5 (k0_pay3 x0 x1 x2)) v i = A.q (i 0) (i 1) := by
  pointwise [k0_pay1]
  rw [U_apply H, hv]
  rfl

variable (m : (ℓ : Loc nD τ sig) → Buf (Elt Ideal) ℓ)
variable {c : Dev nD} {t : Fin cfg0.N}

/-- The input blocks of point `t` hold the entries of `A`. -/
abbrev HoldsAt (A : Ffn.Unit) (c : Dev nD) (t : Fin cfg0.N) : Prop :=
  Holds A (iblk m c 0 t) (iblk m c 1 t) (iblk m c 2 t) (iblk m c 3 t) (iblk m c 4 t) (iblk m c 5 t) (iblk m c 6 t)

set_option maxHeartbeats 1000000 in
/-- A point leaves its rows of the normalized input. -/
theorem xn_at (H : HoldsAt m A c t) (i : S512x1024.Idx) : (outsAt0 m c t).1 i = A.xn (i 0) (i 1) := by
  unfold outsAt0
  dsimp only
  frame_open
  simp (disch := decide) only [↓ View.readCov_skip, ↓ View.readCov_cons_toLoadRect, ↓ View.readCov_fill]
  frame_out
  exact xn_apply H i

set_option maxHeartbeats 1000000 in
/-- A point leaves its projected rows. -/
theorem zp_at (H : HoldsAt m A c t) (i : S512x2048.Idx) : (outsAt0 m c t).2.1 i = A.zp (i 0) (i 1) := by
  unfold outsAt0
  dsimp only
  frame_open
  simp (disch := decide) only [↓ View.readCov_skip, ↓ View.readCov_cons_toLoadRect, ↓ View.readCov_fill]
  frame_out
  exact zp_apply H i

set_option maxHeartbeats 2000000 in
/-- A point leaves its gated rows. -/
theorem q_at (H : HoldsAt m A c t) (i : S512x1024.Idx) : (outsAt0 m c t).2.2 i = A.q (i 0) (i 1) := by
  unfold outsAt0
  dsimp only
  frame_open
  simp (disch := decide) only [↓ View.readCov_skip, ↓ View.readCov_cons_toLoadRect, ↓ View.readCov_fill]
  frame_out
  refine q_apply H (fun y => ?_) i
  rw [readCov_all]
  canon_tiles z e
  all_goals first
    | exact vo_tile H _ _ mask_apply (vb_apply H) _ _ _ _ _ z (by decide) (by decide) (by omega) (by omega) _ _ _
    | (unfold k0_pay44
       exact vo_tile H _ _ mask_apply (vb_apply H) 128 512 4 _ _ z (by decide) (by decide) (by omega) (by omega) _ _ _)
    | (unfold k0_pay27
       exact vo_tile H _ _ mask_apply (vb_apply H) 256 128 1 _ _ z (by decide) (by decide) (by omega) (by omega) _ _ _)

end Cert.Kernel16Ideal.Block

end
-- ==== Proof.UnitArrays.lean ====
/-
  The gating unit's forward, from the points to whole arrays: the kernel's arguments hold the entries of `A`, so each point's blocks
  hold the entries of its rows, and the result arrays hold the unit's quantities; and so do the reference's values.
-/
module

public import proofs.«01_k».proof.Proof.UnitPoint
public import proofs.«01_k».proof.Proof.Gen.Kernel16Ideal.Value
public import proofs.«01_k».proof.Proof.Gen.Reference16Ideal.Read

@[expose] public section

set_option maxRecDepth 16384

noncomputable section

open Idealize.ShloMosaic Idealize.ShloMosaic.TcCoe Idealize.SL.Sem Cert.Sgu Cert.Stores

namespace Cert.Reference16Ideal.Unit

open Cert.Reference16Ideal Cert.Reference16Ideal.Gen Cert.Reference16Ideal.Read

/-- The seven arguments hold the entries of `A`. -/
structure Holds (A : Ffn.Unit) (x0 : Vec Ideal S8192x1024 .f32) (x1 : Vec Ideal S1x1024 .f32) (x2 : Vec Ideal S1024x2048 .f32)
    (x3 x4 : Vec Ideal S1x1024 .f32) (x5 : Vec Ideal S8x128x128 .f32) (x6 : Vec Ideal S8x128x1 .f32) : Prop where
  x : ∀ i, x0 i = A.x (i 0) (i 1)
  g : ∀ i, x1 i = A.g (i 1)
  w : ∀ i, x2 i = A.w (i 0) (i 1)
  lg : ∀ i, x3 i = A.lg (i 1)
  lb : ∀ i, x4 i = A.lb (i 1)
  s : ∀ i, x5 i = A.s (i 0) (i 1) (i 2)
  d : ∀ i, x6 i = A.d (i 0) (i 1)

variable {A : Ffn.Unit} {x0 : Vec Ideal S8192x1024 .f32} {x1 : Vec Ideal S1x1024 .f32} {x2 : Vec Ideal S1024x2048 .f32}
  {x3 x4 : Vec Ideal S1x1024 .f32} {x5 : Vec Ideal S8x128x128 .f32} {x6 : Vec Ideal S8x128x1 .f32}

/-- The normalized input. -/
theorem v11_apply (H : Holds A x0 x1 x2 x3 x4 x5 x6) (i : S8192x1024.Idx) :
    val_main_v11 (F := Ideal) x0 x1 i = A.xn (i 0) (i 1) := by
  simp only [val_main_v11_apply, val_main_v10_apply, val_main_v9_apply, val_main_v8_apply, val_main_v7_apply, val_main_v6_apply,
    val_main_v5_apply, val_main_cst_1_apply, val_main_v4_apply, val_main_v3_apply, val_main_cst_0_apply, val_main_v2_apply,
    val_main_v1_apply, val_main_v0_apply, val_main_cst_apply, H.x, H.g, Ideal.mulf_def, Ideal.addf_def, Ideal.hostDivf_def,
    Ideal.ofBits_def, ofBits_zero, zero_add, ofBits_1024, ofBits_eps]
  rfl

/-- The projected rows. -/
theorem v12_apply (H : Holds A x0 x1 x2 x3 x4 x5 x6) (i : S8192x2048.Idx) :
    val_main_v12 (F := Ideal) x0 x1 x2 i = A.zp (i 0) (i 1) := by
  simp only [val_main_v12_apply, v11_apply H, H.w]
  rfl

/-- Result 0, the normalized input, rounded. -/
theorem v13_apply (H : Holds A x0 x1 x2 x3 x4 x5 x6) (i : S8192x1024.Idx) :
    val_main_v13 (F := Ideal) x0 x1 i = A.xn (i 0) (i 1) := by
  rw [val_main_v13_apply, v11_apply H]
  rfl

/-- Result 1, the projected rows, rounded. -/
theorem v14_apply (H : Holds A x0 x1 x2 x3 x4 x5 x6) (i : S8192x2048.Idx) :
    val_main_v14 (F := Ideal) x0 x1 x2 i = A.zp (i 0) (i 1) := by
  rw [val_main_v14_apply, v12_apply H]
  rfl

/-- The root the reference takes at run time. -/
theorem root_two (i : S_.Idx) : val_main_v19 (F := Ideal) i = ((Real.sqrt 2 : ℝ) : EReal) := by
  simp only [val_main_v19_apply, val_main_cst_3_apply, Ideal.ofBits_def, ofBits_two, Ideal.hostUnary_sqrt_def, Ideal.sqrt_coe]
  rw [if_neg (by norm_num)]

/-- The GELU of the projected rows. -/
theorem v23_apply (H : Holds A x0 x1 x2 x3 x4 x5 x6) (i : S8192x2048.Idx) :
    val_main_v23 (F := Ideal) x0 x1 x2 i = Ffn.gelu (A.zp (i 0) (i 1)) := by
  simp only [val_main_v23_apply, val_main_v22_apply, val_main_v21_apply, val_main_v20_apply, val_main_v18_apply, val_main_v17_apply,
    val_main_v16_apply, val_main_cst_2_apply, root_two, v12_apply H, Ideal.ofBits_def, ofBits_half, Ideal.hostNegf_def, Ideal.negf_def,
    Ideal.hostDivf_def, Ideal.hostUnary_erfc_def, Ideal.mulf_def]
  exact Ffn.gelu_erfc _

/-- The gate's left half. -/
theorem v24_apply (H : Holds A x0 x1 x2 x3 x4 x5 x6) (i : S8192x1024.Idx) :
    val_main_v24 (F := Ideal) x0 x1 x2 i = A.U (i 0) (i 1) := by
  rw [val_main_v24_apply, v23_apply H]
  rfl

/-- The gate's right half. -/
theorem v25_apply (H : Holds A x0 x1 x2 x3 x4 x5 x6) (i : S8192x1024.Idx) :
    val_main_v25 (F := Ideal) x0 x1 x2 i = A.V (i 0) (i 1) := by
  rw [val_main_v25_apply, v23_apply H]
  rfl

/-- A row's mean. -/
theorem v29_apply (H : Holds A x0 x1 x2 x3 x4 x5 x6) (i : S8192x1.Idx) :
    val_main_v29 (F := Ideal) x0 x1 x2 i = Ideal.div (∑ k : Fin 1024, A.V (i 0) k) ((1024 : ℝ) : EReal) := by
  simp only [val_main_v29_apply, val_main_v27_apply, val_main_v26_apply, val_main_cst_4_apply, val_main_v28_apply,
    val_main_cst_5_apply, Ideal.ofBits_def, ofBits_zero, zero_add, v25_apply H, ofBits_1024, Ideal.hostDivf_def]

/-- A row less its mean, as the variance takes it. -/
theorem v31_apply (H : Holds A x0 x1 x2 x3 x4 x5 x6) (i : S8192x1024.Idx) :
    val_main_v31 (F := Ideal) x0 x1 x2 i = A.cen (i 0) (i 1) := by
  simp only [val_main_v31_apply, val_main_v30_apply, v25_apply H, v29_apply H, Ideal.subf_def]
  rfl

/-- A row less its mean, as the normalization takes it. -/
theorem v38_apply (H : Holds A x0 x1 x2 x3 x4 x5 x6) (i : S8192x1024.Idx) :
    val_main_v38 (F := Ideal) x0 x1 x2 i = A.cen (i 0) (i 1) := by
  simp only [val_main_v38_apply, val_main_v37_apply, v25_apply H, v29_apply H, Ideal.subf_def]
  rfl

/-- The reciprocal standard deviation of a row. -/
theorem v41_apply (H : Holds A x0 x1 x2 x3 x4 x5 x6) (i : S8192x1.Idx) :
    val_main_v41 (F := Ideal) x0 x1 x2 i = A.rstd (i 0) := by
  simp only [val_main_v41_apply, val_main_v40_apply, val_main_v36_apply, val_main_v34_apply, val_main_v33_apply, val_main_v32_apply,
    val_main_cst_6_apply, val_main_v35_apply, val_main_cst_7_apply, val_main_v39_apply, val_main_cst_8_apply, v31_apply H,
    Ideal.mulf_def, Ideal.addf_def, Ideal.hostDivf_def, Ideal.ofBits_def, ofBits_zero, zero_add, ofBits_1024, ofBits_eps]
  rfl

/-- The layer norm's output. -/
theorem v47_apply (H : Holds A x0 x1 x2 x3 x4 x5 x6) (i : S8192x1024.Idx) :
    val_main_v47 (F := Ideal) x0 x1 x2 x3 x4 i = A.vb (i 0) (i 1) := by
  simp only [val_main_v47_apply, val_main_v46_apply, val_main_v45_apply, val_main_v44_apply, val_main_v43_apply, val_main_v42_apply,
    v38_apply H, v41_apply H, H.lg, H.lb, Ideal.mulf_def, Ideal.addf_def]
  rfl

/-- The causal mask. -/
theorem v50_apply (i : S128x128.Idx) : val_main_v50 (F := Ideal) i = ((Args.mask (i 0) (i 1) : ℝ) : EReal) := by
  simp only [val_main_v50_apply, val_main_call0_v4_apply, val_main_call0_v2_apply, val_main_call0_v0_apply,
    val_main_call0_v1_apply, val_main_call0_c_apply, val_main_call0_v3_apply, val_main_call0_v5_apply, val_main_call0_cst_apply,
    val_main_v49_apply, val_main_cst_9_apply, Ideal.ofBits_def, ofBits_one, ofBits_zero]
  exact mask_select (i 0).isLt (i 1).isLt

/-- The masked weights. -/
theorem v53_apply (H : Holds A x0 x1 x2 x3 x4 x5 x6) (i : S8x128x128.Idx) :
    val_main_v53 (F := Ideal) x5 i = A.wm (i 0) (i 1) (i 2) := by
  rw [val_main_v53_apply, val_main_v52_apply, val_main_v51_apply, v50_apply, H.s, Ideal.mulf_def]
  rfl

/-- The layer norm's output by chunk, row, head and lane. -/
theorem v48_apply (H : Holds A x0 x1 x2 x3 x4 x5 x6) (i : S64x128x8x128.Idx) :
    val_main_v48 (F := Ideal) x0 x1 x2 x3 x4 i = A.vb (128 * (i 0 : ℕ) + (i 1 : ℕ)) (128 * (i 2 : ℕ) + (i 3 : ℕ)) := by
  rw [val_main_v48_apply, v47_apply H]
  obtain ⟨h0, h1⟩ := chunk_index (i 0).val (i 1).val (i 2).isLt (i 3).isLt
  exact congrArg₂ (fun r c => A.vb r c) h0 h1

/-- The spatial mixer's bias, spread over chunks and lanes. -/
theorem v58_apply (H : Holds A x0 x1 x2 x3 x4 x5 x6) (i : S64x128x8x128.Idx) :
    val_main_v58 (F := Ideal) x6 i = A.d (i 2) (i 1) := by
  rw [val_main_v58_apply, val_main_v57_apply, val_main_v56_apply, val_main_v15_apply, H.d]
  refine congrArg₂ (fun r c => A.d r c) ?_ ?_
  · have h : (i 1).val < 128 := (i 1).isLt
    show ((i 2).val * 128 + (i 1).val) / 128 = (i 2).val
    omega
  · have h : (i 1).val < 128 := (i 1).isLt
    show ((i 2).val * 128 + (i 1).val) / 1 % 128 = (i 1).val
    omega

/-- The spatial mixer's output by chunk, row, head and lane. -/
theorem v59_apply (H : Holds A x0 x1 x2 x3 x4 x5 x6) (i : S64x128x8x128.Idx) :
    val_main_v59 (F := Ideal) x0 x1 x2 x3 x4 x5 x6 i
      = (∑ k : Fin 128, A.vb (128 * (i 0 : ℕ) + k) (128 * (i 2 : ℕ) + (i 3 : ℕ)) * A.wm (i 2) (i 1) k) + A.d (i 2) (i 1) := by
  simp only [val_main_v59_apply, val_main_v55_apply, val_main_v54_apply, v48_apply H, v53_apply H, v58_apply H, Ideal.addf_def]

/-- The spatial mixer's output. -/
theorem v60_apply (H : Holds A x0 x1 x2 x3 x4 x5 x6) (i : S8192x1024.Idx) :
    val_main_v60 (F := Ideal) x0 x1 x2 x3 x4 x5 x6 i = A.vo (i 0) (i 1) := by
  rw [val_main_v60_apply, v59_apply H]
  obtain ⟨h0, h1, h2, h3⟩ := flat_index (i 0).val (i 1).isLt
  exact A.mixed_eq h0 h1 h2 h3

/-- Result 2, the gated rows, rounded. -/
theorem v62_apply (H : Holds A x0 x1 x2 x3 x4 x5 x6) (i : S8192x1024.Idx) :
    val_main_v62 (F := Ideal) x0 x1 x2 x3 x4 x5 x6 i = A.q (i 0) (i 1) := by
  rw [val_main_v62_apply, val_main_v61_apply, v24_apply H, v60_apply H]
  rfl

end Cert.Reference16Ideal.Unit

namespace Cert.Kernel16Ideal.Block

open Cert.Kernel16Ideal Cert.Kernel16Ideal.Gen Cert.Kernel16Ideal.Value

variable {m : (ℓ : Loc nD τ sig) → Buf (Elt Ideal) ℓ} {A : Ffn.Unit} {c : Dev nD}

/-- The argument arrays hold the entries of `A`. -/
abbrev Input (m : (ℓ : Loc nD τ sig) → Buf (Elt Ideal) ℓ) (A : Ffn.Unit) (c : Dev nD) : Prop :=
  Cert.Reference16Ideal.Unit.Holds A (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- An array of spatial biases, whose last axis has length one. -/
def bias (x : Vec Ideal S8x128x1 .f32) (a b : ℕ) : EReal := Ffn.nat3 x a b 0

/-- It holds the array's elements. -/
theorem bias_apply (x : Vec Ideal S8x128x1 .f32) (i : S8x128x1.Idx) : x i = bias x (i 0) (i 1) := by
  refine (Ffn.nat3_apply x i).trans ?_
  rw [bias, show (i 2 : ℕ) = 0 by have : (i 2 : ℕ) < 1 := (i 2).isLt; omega]

/-- Any argument arrays hold the entries of some `A`. -/
theorem input (m : (ℓ : Loc nD τ sig) → Buf (Elt Ideal) ℓ) (c : Dev nD) : ∃ A, Input m A c :=
  ⟨⟨Ffn.Grad.nat _, Ffn.Grad.row _, Ffn.Grad.nat _, Ffn.Grad.row _, Ffn.Grad.row _, Ffn.nat3 _, bias _⟩,
    Ffn.Grad.nat_apply _, Ffn.Grad.row_apply _, Ffn.Grad.nat_apply _, Ffn.Grad.row_apply _, Ffn.Grad.row_apply _,
    Ffn.nat3_apply _, bias_apply _⟩

/-- The projection, as the kernel is given it. -/
theorem V_main_v0 : (V m c main_v0 : FVec Ideal S1024x2048 .bf16)
    = truncf (F := Ideal) .bf16 (m ((c : Thread nD τ).loc main_arg2)) bitsLt_bf16_f32 := by
  show StableHlo.after hostOps0 _ (Proc.devRef .tc main_v0) = _
  after_results

/-- Which block of its array each window shows at point `t`: the `t`-th 512 rows, or all of it. -/
theorem index_in : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = 0 ∧ win0_5.index t (1 : Fin 3) = 0 ∧ win0_5.index t (2 : Fin 3) = 0)
    ∧ (win0_6.index t (0 : Fin 3) = 0 ∧ win0_6.index t (1 : Fin 3) = 0 ∧ win0_6.index t (2 : Fin 3) = 0) :=
  (by decide +kernel : ∀ t : Fin grid0.N, _)

/-- The same of the windows of the results. -/
theorem index_out : ∀ t : Fin cfg0.N, (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- The input blocks of point `t` hold the `t`-th rows of `A`. -/
theorem holdsAt (H : Input m A c) (t : Fin cfg0.N) : HoldsAt m (A.block t.val) c t := by
  obtain ⟨ix, ⟨-, ig⟩, ⟨iw, iw'⟩, ⟨-, il⟩, ⟨-, ib⟩, ⟨s0, s1, s2⟩, d0, d1, -⟩ := index_in t
  refine ⟨fun y => ?_, fun y => ?_, fun y => ?_, fun y => ?_, fun y => ?_, fun y => ?_, fun y => ?_⟩
  · show V m c main_arg0 (((cfg0.win 0).blk t).view.emb y) = _
    rw [V_main_arg0]
    exact (H.x _).trans (Ffn.shown_at A.x 512 1024 ix (y 0) (y 1)).symm
  · show V m c main_arg1 (((cfg0.win 1).blk t).view.emb y) = _
    rw [V_main_arg1]
    refine (H.g _).trans ?_
    show A.g (win0_1.index t (1 : Fin 2) * 1024 + 1 * (y 1 : ℕ)) = A.g (y 1)
    rw [ig, zero_mul, zero_add, one_mul]
  · show V m c main_v0 (((cfg0.win 2).blk t).view.emb y) = _
    rw [V_main_v0]
    refine (H.w _).trans ?_
    show A.w (win0_2.index t (0 : Fin 2) * 1024 + 1 * (y 0 : ℕ)) (win0_2.index t (1 : Fin 2) * 2048 + 1 * (y 1 : ℕ)) = A.w (y 0) (y 1)
    rw [iw, iw', zero_mul, zero_mul, zero_add, zero_add, one_mul, one_mul]
  · show V m c main_arg3 (((cfg0.win 3).blk t).view.emb y) = _
    rw [V_main_arg3]
    refine (H.lg _).trans ?_
    show A.lg (win0_3.index t (1 : Fin 2) * 1024 + 1 * (y 1 : ℕ)) = A.lg (y 1)
    rw [il, zero_mul, zero_add, one_mul]
  · show V m c main_arg4 (((cfg0.win 4).blk t).view.emb y) = _
    rw [V_main_arg4]
    refine (H.lb _).trans ?_
    show A.lb (win0_4.index t (1 : Fin 2) * 1024 + 1 * (y 1 : ℕ)) = A.lb (y 1)
    rw [ib, zero_mul, zero_add, one_mul]
  · show V m c main_arg5 (((cfg0.win 5).blk t).view.emb y) = _
    rw [V_main_arg5]
    refine (H.s _).trans ?_
    show A.s (win0_5.index t (0 : Fin 3) * 8 + 1 * (y 0 : ℕ)) (win0_5.index t (1 : Fin 3) * 128 + 1 * (y 1 : ℕ))
      (win0_5.index t (2 : Fin 3) * 128 + 1 * (y 2 : ℕ)) = A.s (y 0) (y 1) (y 2)
    rw [s0, s1, s2]
    simp only [zero_mul, zero_add, one_mul]
  · show V m c main_arg6 (((cfg0.win 6).blk t).view.emb y) = _
    rw [V_main_arg6]
    refine (H.d _).trans ?_
    show A.d (win0_6.index t (0 : Fin 3) * 8 + 1 * (y 0 : ℕ)) (win0_6.index t (1 : Fin 3) * 128 + 1 * (y 1 : ℕ)) = A.d (y 0) (y 1)
    rw [d0, d1]
    simp only [zero_mul, zero_add, one_mul]

/-- The point whose block holds row `r`. -/
def pointOf (r : Fin 8192) : Fin cfg0.N := ⟨r.val / 512, lt_of_lt_of_eq (by omega) N_0.symm⟩

/-- The result array of window 7, the normalized input, rounded. -/
theorem xn_array (H : Input m A c) : (dats m 0 c).arrAt 7 cfg0.N = fun i : S8192x1024.Idx => A.xn (i 0) (i 1) := by
  refine (dats m 0 c).arrAt_eq_of_cover 7 _ (fun t _ => ?_) fun i => ⟨pointOf (i 0), flush0_7 _, ?_⟩
  · rw [flushed7]
    exact funext fun y => (xn_at m (holdsAt H t) ((cfg0.win 7).xinj (grid0.coords t) y)).trans
      (Ffn.shown_at A.xn 512 1024 (index_out t).1 (y 0) (y 1))
  · show i ∈ ((View.whole main_v1_0).slice (win0_7.rect (pointOf (i 0)))).set
    rw [View.set_slice_whole, Rect.mem_set_unit]
    exact Fin.forall_fin_two.mpr (inside (b := 512) (n := 1024) (by decide) (index_out (pointOf (i 0))).1 (i 1).isLt)

/-- The result array of window 8, the projected rows, rounded. -/
theorem zp_array (H : Input m A c) : (dats m 0 c).arrAt 8 cfg0.N = fun i : S8192x2048.Idx => A.zp (i 0) (i 1) := by
  refine (dats m 0 c).arrAt_eq_of_cover 8 _ (fun t _ => ?_) fun i => ⟨pointOf (i 0), flush0_8 _, ?_⟩
  · rw [flushed8]
    exact funext fun y => (zp_at m (holdsAt H t) ((cfg0.win 8).xinj (grid0.coords t) y)).trans
      (Ffn.shown_at A.zp 512 2048 (index_out t).2.1 (y 0) (y 1))
  · show i ∈ ((View.whole main_v1_1).slice (win0_8.rect (pointOf (i 0)))).set
    rw [View.set_slice_whole, Rect.mem_set_unit]
    exact Fin.forall_fin_two.mpr (inside (b := 512) (n := 2048) (by decide) (index_out (pointOf (i 0))).2.1 (i 1).isLt)

/-- The result array of window 9, the gated rows, rounded. -/
theorem q_array (H : Input m A c) : (dats m 0 c).arrAt 9 cfg0.N = fun i : S8192x1024.Idx => A.q (i 0) (i 1) := by
  refine (dats m 0 c).arrAt_eq_of_cover 9 _ (fun t _ => ?_) fun i => ⟨pointOf (i 0), flush0_9 _, ?_⟩
  · rw [flushed9]
    exact funext fun y => ((q_at m (holdsAt H t) ((cfg0.win 9).xinj (grid0.coords t) y)).trans (A.block_q t.val _ _)).trans
      (Ffn.shown_at A.q 512 1024 (index_out t).2.2 (y 0) (y 1))
  · show i ∈ ((View.whole main_v1_2).slice (win0_9.rect (pointOf (i 0)))).set
    rw [View.set_slice_whole, Rect.mem_set_unit]
    exact Fin.forall_fin_two.mpr (inside (b := 512) (n := 1024) (by decide) (index_out (pointOf (i 0))).2.2 (i 1).isLt)

end Cert.Kernel16Ideal.Block

end
-- ==== Proof.VjpBackward.lean ====
/-
  The reference's backward pass at an index, down to its five results: each is the real quantity of Proof/Spec.lean.
-/
module

public import proofs.«01_k».proof.Proof.VjpForward
public import Idealize.ShloMosaic.Lib.TwoAxisContraction
public import Idealize.ShloMosaic.Lib.IdealHost
public import Idealize.ShloMosaic.Lib.Pointwise

@[expose] public section

set_option maxRecDepth 16384

noncomputable section

open Idealize.ShloMosaic Idealize.ShloMosaic.TcCoe Idealize.SL.Sem Cert.Sgu

namespace Cert.ReferenceIdeal.Vjp

open Cert.ReferenceIdeal Cert.ReferenceIdeal.Gen Cert.ReferenceIdeal.Read

variable {A : Args} {x0 : Vec Ideal S8192x2048 .bf16} {x1 : Vec Ideal S8192x1024 .f32} {x2 : Vec Ideal S1024x1024 .bf16}
  {x3 x4 : Vec Ideal S1x1024 .f32} {x5 : Vec Ideal S8x128x128 .f32} {x6 : Vec Ideal S8x128x1 .f32}

/-- A host sum over the first and last of four axes is the double sum over them. -/
theorem sum_first_last {n0 n1 n2 n3 : ℕ} {t : Shape} (h : (⟨4, ![n0, n1, n2, n3]⟩ : Shape).ReducesTo [0, 3] t)
    (v : (⟨4, ![n0, n1, n2, n3]⟩ : Shape).Idx → EReal) (init : EReal) (j : t.Idx) (a : Fin n1) (b : Fin n2)
    (h0 : 0 < t.rank) (h1 : 1 < t.rank) (ha : (j ⟨0, h0⟩).val = a.val) (hb : (j ⟨1, h1⟩).val = b.val) :
    Ideal.hostReduceAdd h v init j = init + ∑ k : Fin n0, ∑ l : Fin n3, v (ValueIdx.ix4 k a b l) := by
  refine congrArg (init + ·) ((Finset.sum_filter_eq_sum_of_fiber _ (fun k : Fin n0 × Fin n3 => ValueIdx.ix4 k.1 a b k.2)
    (fun _ _ e => Prod.ext (congrFun e 0) (congrFun e 3)) (fun i => ⟨fun e => ?_, ?_⟩) v).trans ?_)
  · refine ⟨(i 0, i 3), ?_⟩
    funext c
    apply Fin.ext
    match c with
    | ⟨0, _⟩ => rfl
    | ⟨1, _⟩ => exact ha.symm.trans (congrArg Fin.val (congrFun e ⟨0, h0⟩)).symm
    | ⟨2, _⟩ => exact hb.symm.trans (congrArg Fin.val (congrFun e ⟨1, h1⟩)).symm
    | ⟨3, _⟩ => rfl
  · rintro ⟨k, rfl⟩
    funext c
    apply Fin.ext
    match c with
    | ⟨0, _⟩ => exact ha.symm
    | ⟨1, _⟩ => exact hb.symm
    | ⟨_ + 2, hc⟩ => exact absurd hc (by have e : t.rank = 2 := h.1; omega)
  · simp only [Fintype.sum_prod_type]

/-- The gradient of the gated product. -/
theorem v60_apply (H : Holds A x0 x1 x2 x3 x4 x5 x6) (i : S8192x1024.Idx) :
    val_main_v60 (F := Ideal) x1 x2 i = ((A.dq (i 0) (i 1) : ℝ) : EReal) := by
  simp only [val_main_v60_apply, val_main_v2_apply, H.dy, H.w, Ideal.extf_def, ← EReal.coe_mul, coe_sum]
  rfl

/-- The gradient of the spatial mixer's output. -/
theorem v61_apply (H : Holds A x0 x1 x2 x3 x4 x5 x6) (i : S8192x1024.Idx) :
    val_main_v61 (F := Ideal) x0 x1 x2 i = ((A.dvo (i 0) (i 1) : ℝ) : EReal) := by
  rw [val_main_v61_apply, v14_apply H, v60_apply H, Ideal.mulf_def, ← EReal.coe_mul, mul_comm]
  rfl

/-- The gradient of the left half. -/
theorem v62_apply (H : Holds A x0 x1 x2 x3 x4 x5 x6) (i : S8192x1024.Idx) :
    val_main_v62 (F := Ideal) x0 x1 x2 x3 x4 x5 x6 i = ((A.du (i 0) (i 1) : ℝ) : EReal) := by
  rw [val_main_v62_apply, v60_apply H, v55_apply H, Ideal.mulf_def, ← EReal.coe_mul]
  rfl

/-- The gradient of the spatial mixer's output by chunk, row, head and lane. -/
theorem v63_apply (H : Holds A x0 x1 x2 x3 x4 x5 x6) (i : S64x128x8x128.Idx) :
    val_main_v63 (F := Ideal) x0 x1 x2 i = ((A.dvo (128 * (i 0 : ℕ) + (i 1 : ℕ)) (128 * (i 2 : ℕ) + (i 3 : ℕ)) : ℝ) : EReal) := by
  rw [val_main_v63_apply, v61_apply H]
  obtain ⟨h0, h1⟩ := chunk_index (i 0).val (i 1).val (i 2).isLt (i 3).isLt
  exact congrArg₂ (fun r c => ((A.dvo r c : ℝ) : EReal)) h0 h1

/-- The same by head, chunk, lane and row. -/
theorem v68_apply (H : Holds A x0 x1 x2 x3 x4 x5 x6) (i : S8x64x128x128.Idx) :
    val_main_v68 (F := Ideal) x0 x1 x2 i = ((A.dvo (128 * (i 1 : ℕ) + (i 3 : ℕ)) (128 * (i 0 : ℕ) + (i 2 : ℕ)) : ℝ) : EReal) := by
  rw [val_main_v68_apply, v63_apply H]

/-- The mixer's bias gradient, before its unit axes are summed away. -/
theorem v64_apply (H : Holds A x0 x1 x2 x3 x4 x5 x6) (i : S128x8.Idx) :
    val_main_v64 (F := Ideal) x0 x1 x2 i = ((A.dbs 64 (i 1) (i 0) : ℝ) : EReal) := by
  unfold val_main_v64
  rw [ValueIdx.hostReduceAdd_apply]
  refine (sum_first_last reducesTo_S64x128x8x128_S128x8_d0_3 _ _ i (i 0) (i 1) (by decide) (by decide) rfl rfl).trans ?_
  rw [val_main_cst_9_apply, Ideal.ofBits_def, ofBits_zero, zero_add]
  simp only [v63_apply H, coe_sum]
  unfold Args.dbs
  rw [Finset.sum_range]

/-- Result 4, the mixer's bias gradient. -/
theorem v119_apply (H : Holds A x0 x1 x2 x3 x4 x5 x6) (i : S8x128x1.Idx) :
    val_main_v119 (F := Ideal) x0 x1 x2 i = ((A.dbs 64 (i 0) (i 1) : ℝ) : EReal) := by
  rw [val_main_v119_apply, val_main_v67_apply]
  unfold val_main_v66
  rw [ValueIdx.hostReduceAdd_apply]
  refine (sum_first_last reducesTo_S1x128x8x1_S128x8_d0_3 _ _ (idx_main_v67 (idx_main_v119 i)) (⟨(i 1).val, (i 1).isLt⟩ : Fin 128)
    (⟨(i 0).val, (i 0).isLt⟩ : Fin 8) (by decide) (by decide) rfl rfl).trans ?_
  rw [val_main_cst_10_apply, Ideal.ofBits_def, ofBits_zero, zero_add, Fin.sum_univ_one,
    Fin.sum_univ_one, val_main_v65_apply, v64_apply H]
  have h0 : (i 0).val < 8 := (i 0).isLt
  refine congrArg₂ (fun h p => ((A.dbs 64 h p : ℝ) : EReal)) ?_ ?_
  · show (((0 * 128 + (i 1).val) * 8 + (i 0).val) * 1 + 0) % 8 = (i 0).val
    omega
  · show (((0 * 128 + (i 1).val) * 8 + (i 0).val) * 1 + 0) / 8 = (i 1).val
    omega

/-- The masked weights' gradient: a contraction over chunks and lanes. -/
theorem v69_apply (H : Holds A x0 x1 x2 x3 x4 x5 x6) (i : S8x128x128.Idx) :
    val_main_v69 (F := Ideal) x0 x1 x2 x3 x4 i = ((A.dwm 64 (i 0) (i 1) (i 2) : ℝ) : EReal) := by
  unfold val_main_v69
  simp only [Host.dotGeneral]
  rw [Ideal.dotGeneral_apply, ValueIdx.sum_contr2 _ 64 128 rfl rfl rfl]
  simp only [v68_apply H, v43_apply H, ← EReal.coe_mul, coe_sum]
  unfold Args.dwm
  rw [Finset.sum_range]
  rfl

/-- Result 3, the weights' gradient. -/
theorem v73_apply (H : Holds A x0 x1 x2 x3 x4 x5 x6) (i : S8x128x128.Idx) :
    val_main_v73 (F := Ideal) x0 x1 x2 x3 x4 i = ((A.dwm 64 (i 0) (i 1) (i 2) * Args.mask (i 1) (i 2) : ℝ) : EReal) := by
  rw [val_main_v73_apply, v69_apply H, v72_apply, Ideal.mulf_def, ← EReal.coe_mul]

/-- The gradient of the layer norm's output. -/
theorem v74_apply (H : Holds A x0 x1 x2 x3 x4 x5 x6) (i : S8192x1024.Idx) :
    val_main_v74 (F := Ideal) x0 x1 x2 x5 i = ((A.dvl (i 0) (i 1) : ℝ) : EReal) := by
  simp only [val_main_v74_apply, val_main_v71_apply, val_main_v70_apply, v68_apply H, v48_apply H, ← EReal.coe_mul, coe_sum]
  obtain ⟨h0, h1, h2, h3⟩ := flat_index (i 0).val (i 1).isLt
  exact A.unmixed_eq h0 h1 h2 h3

/-- Result 2, the gradient of the layer norm's bias. -/
theorem v76_apply (H : Holds A x0 x1 x2 x3 x4 x5 x6) (i : S1x1024.Idx) :
    val_main_v76 (F := Ideal) x0 x1 x2 x5 i = ((A.dlb 8192 (i 1) : ℝ) : EReal) := by
  simp only [val_main_v76_apply, val_main_v75_apply, v74_apply H, val_main_cst_11_apply, Ideal.ofBits_def, ofBits_zero, zero_add,
    coe_sum]
  unfold Args.dlb
  rw [Finset.sum_range]
  refine congrArg (fun c => ((∑ t : Fin 8192, A.dvl t c : ℝ) : EReal)) ?_
  have h0 : (i 0).val < 1 := (i 0).isLt
  show (i 0).val * 1024 + (i 1).val = (i 1).val
  omega

/-- Result 1, the gradient of the gain. -/
theorem v79_apply (H : Holds A x0 x1 x2 x3 x4 x5 x6) (i : S1x1024.Idx) :
    val_main_v79 (F := Ideal) x0 x1 x2 x5 i = ((A.dlg 8192 (i 1) : ℝ) : EReal) := by
  simp only [val_main_v79_apply, val_main_v78_apply, val_main_v77_apply, v38_apply H, v74_apply H, val_main_cst_12_apply,
    Ideal.mulf_def, Ideal.ofBits_def, ofBits_zero, zero_add, ← EReal.coe_mul, coe_sum]
  unfold Args.dlg
  rw [Finset.sum_range]
  simp only [mul_comm (A.norm _ _)]
  refine congrArg (fun c => ((∑ t : Fin 8192, A.dvl t c * A.norm t c : ℝ) : EReal)) ?_
  have h0 : (i 0).val < 1 := (i 0).isLt
  show (i 0).val * 1024 + (i 1).val = (i 1).val
  omega

/-- The gradient of the normalized row. -/
theorem v81_apply (H : Holds A x0 x1 x2 x3 x4 x5 x6) (i : S8192x1024.Idx) :
    val_main_v81 (F := Ideal) x0 x1 x2 x3 x5 i = ((A.dnorm (i 0) (i 1) : ℝ) : EReal) := by
  rw [val_main_v81_apply, v74_apply H, val_main_v80_apply, H.g, Ideal.mulf_def, ← EReal.coe_mul]
  rfl

/-- The gradient of a row's variance, over 1024. -/
def mid (A : Args) (t : ℕ) : ℝ :=
  (∑ k : Fin 1024, A.cen t k * A.dnorm t k) * (-(1 / 2) * (A.rstd t * A.rstd t * A.rstd t)) / 1024

theorem v92_apply (H : Holds A x0 x1 x2 x3 x4 x5 x6) (i : S8192x1.Idx) :
    val_main_v92 (F := Ideal) x0 x1 x2 x3 x5 i = ((mid A (i 0) : ℝ) : EReal) := by
  simp only [val_main_v92_apply, val_main_v87_apply, val_main_v84_apply, val_main_v83_apply, val_main_v82_apply, v30_apply H,
    v81_apply H, v36_apply H, val_main_cst_13_apply, val_main_v91_apply, val_main_cst_15_apply, Ideal.mulf_def, Ideal.hostDivf_def,
    Ideal.ofBits_def, ofBits_zero, zero_add, ofBits_1024, ← EReal.coe_mul, coe_sum, div_1024]
  have h1 : (i 1).val < 1 := (i 1).isLt
  rw [show (i 0).val * 1 + (i 1).val = (i 0).val by omega]
  rfl

/-- The path through the variance. -/
theorem v95_apply (H : Holds A x0 x1 x2 x3 x4 x5 x6) (i : S8192x1024.Idx) :
    val_main_v95 (F := Ideal) x0 x1 x2 x3 x5 i = ((mid A (i 0) * (2 * A.cen (i 0) (i 1)) : ℝ) : EReal) := by
  simp only [val_main_v95_apply, val_main_v94_apply, val_main_v93_apply, v92_apply H, val_main_cst_16_apply, val_main_v24_apply,
    val_main_v23_apply, val_main_cst_3_apply, v21_apply H, Ideal.mulf_def, Ideal.ofBits_def, ofBits_zero, ofBits_two, zero_add,
    Fin.sum_univ_one, ← EReal.coe_mul]

/-- The path through the row itself. -/
theorem v86_apply (H : Holds A x0 x1 x2 x3 x4 x5 x6) (i : S8192x1024.Idx) :
    val_main_v86 (F := Ideal) x0 x1 x2 x3 x5 i = ((A.dnorm (i 0) (i 1) * A.rstd (i 0) : ℝ) : EReal) := by
  simp only [val_main_v86_apply, val_main_v85_apply, v81_apply H, v33_apply H, Ideal.mulf_def, ← EReal.coe_mul]

/-- The path through the mean. -/
theorem v102_apply (H : Holds A x0 x1 x2 x3 x4 x5 x6) (i : S8192x1.Idx) :
    val_main_v102 (F := Ideal) x0 x1 x2 x3 x5 i
      = (((∑ k : Fin 1024, -(A.dnorm (i 0) k * A.rstd (i 0)) + ∑ k : Fin 1024, -(mid A (i 0) * (2 * A.cen (i 0) k))) / 1024 : ℝ) : EReal) := by
  simp only [val_main_v102_apply, val_main_v100_apply, val_main_v90_apply, val_main_v89_apply, val_main_v88_apply,
    val_main_v98_apply, val_main_v97_apply, val_main_v96_apply, v86_apply H, v95_apply H, val_main_cst_14_apply,
    val_main_cst_17_apply, val_main_v101_apply, val_main_cst_18_apply, Ideal.hostNegf_def, Ideal.negf_def, Ideal.addf_def,
    Ideal.hostDivf_def, Ideal.ofBits_def, ofBits_zero, zero_add, ofBits_1024, ← EReal.coe_neg, coe_sum, ← EReal.coe_add, div_1024]
  refine congrArg (fun t => (((∑ k : Fin 1024, -(A.dnorm t k * A.rstd t) + ∑ k : Fin 1024, -(mid A t * (2 * A.cen t k))) / 1024 : ℝ)
    : EReal)) ?_
  have h1 : (i 1).val < 1 := (i 1).isLt
  show (i 0).val * 1 + (i 1).val = (i 0).val
  omega

/-- The gradient of the right half. -/
theorem v105_apply (H : Holds A x0 x1 x2 x3 x4 x5 x6) (i : S8192x1024.Idx) :
    val_main_v105 (F := Ideal) x0 x1 x2 x3 x5 i = ((A.dv (i 0) (i 1) : ℝ) : EReal) := by
  simp only [val_main_v105_apply, val_main_v104_apply, val_main_v103_apply, val_main_v99_apply, v86_apply H, v95_apply H,
    v102_apply H, val_main_cst_19_apply, Ideal.addf_def, Ideal.ofBits_def, ofBits_zero, zero_add, Fin.sum_univ_one,
    ← EReal.coe_add]
  exact congrArg _ (A.dv_eq (i 0) (i 1) _ rfl)

/-- The gradient of the GELU's output, both halves. -/
theorem v106_apply (H : Holds A x0 x1 x2 x3 x4 x5 x6) (i : S8192x2048.Idx) :
    val_main_v106 (F := Ideal) x0 x1 x2 x3 x4 x5 x6 i
      = ((if (i 1).val < 1024 then A.du (i 0) (i 1) else A.dv (i 0) ((i 1).val - 1024) : ℝ) : EReal) := by
  have h1 : (i 1).val < 2048 := (i 1).isLt
  pointwise [val_main_v106]
  split
  · rw [v62_apply H]
    rfl
  · rw [v105_apply H]
    rfl

/-- Result 0, the gradient of the hidden layer. -/
theorem v118_apply (H : Holds A x0 x1 x2 x3 x4 x5 x6) (i : S8192x2048.Idx) :
    val_main_v118 (F := Ideal) x0 x1 x2 x3 x4 x5 x6 i = ((A.dzp (i 0) (i 1) : ℝ) : EReal) := by
  simp only [val_main_v118_apply, val_main_v117_apply, val_main_v116_apply, val_main_v115_apply, val_main_v114_apply,
    val_main_v113_apply, val_main_v112_apply, val_main_v111_apply, val_main_v110_apply, val_main_v109_apply, val_main_v108_apply,
    val_main_v107_apply, val_main_cst_20_apply, val_main_cst_21_apply, v106_apply H, v4_apply H, v9_apply H, v12_apply H,
    root_two, Ideal.truncf_def, Ideal.mulf_def, Ideal.addf_def, Ideal.hostNegf_def, Ideal.negf_def, Ideal.hostDivf_def,
    Ideal.ofBits_def, ofBits_half, ofBits_erf_slope, ← EReal.coe_mul, div_root_two, ← EReal.coe_neg, ← EReal.coe_add]
  refine congrArg _ ((dgelu_eq _ _).trans ?_)
  unfold Args.dzp
  exact ite_mul _ _ _ _

end Cert.ReferenceIdeal.Vjp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel16Ideal.Value
public import proofs.«01_k».proof.Proof.Gen.Reference16Ideal.Run
public import proofs.«01_k».proof.Proof.Gen.Reference16Ideal.Read
public import proofs.«01_k».proof.Proof.DyCast
public import proofs.«01_k».proof.Proof.FfnArrays
public import proofs.«01_k».proof.Proof.FfnFinite
public import proofs.«01_k».proof.Proof.Finite
public import proofs.«01_k».proof.Proof.HeadArrays
public import proofs.«01_k».proof.Proof.HeadFinite
public import proofs.«01_k».proof.Proof.ProjArrays
public import proofs.«01_k».proof.Proof.GradArrays
public import proofs.«01_k».proof.Proof.HidArrays
public import proofs.«01_k».proof.Proof.DwinArrays
public import proofs.«01_k».proof.Proof.FwdArrays
public import proofs.«01_k».proof.Proof.DxArrays
public import proofs.«01_k».proof.Proof.DxFinite
public import proofs.«01_k».proof.Proof.PreArrays
public import proofs.«01_k».proof.Proof.UnitDwinArrays
public import proofs.«01_k».proof.Proof.MixDwinArrays
public import proofs.«01_k».proof.Proof.UnitDwoutArrays
public import proofs.«01_k».proof.Proof.MixArrays
public import proofs.«01_k».proof.Proof.MixFinite
public import proofs.«01_k».proof.Proof.MixOutArrays
public import proofs.«01_k».proof.Proof.UnitArrays
public import proofs.«01_k».proof.Proof.VjpBackward
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments as they were and has no semaphore. -/
theorem reference_frame : quiescent_ReferenceIdeal (hReferenceIdeal := Cert.ReferenceIdeal.Gen.facts) := fun m g _ =>
  (θ_run Cert.ReferenceIdeal.defs _ _).mono (fun r h => ⟨fun c => (h c).2.2.2.2.2.2, sem_eq_zero_of_no_sems (by decide) r.2⟩)
    (Cert.ReferenceIdeal.Value.run m g)

/-- The two named constants are what their literals round. -/
theorem named : preserves_Kernel_KernelIdeal :=
  ⟨IdealRules.named_const.statement Cert.KernelIdeal.κ "sqrt_half" .f32 0x3F3504F3#32 (((Real.sqrt 2)⁻¹ : ℝ) : EReal) rfl,
    IdealRules.named_const.statement Cert.KernelIdeal.κ "erf_slope_over_sqrt_8" .f32 0x3ECC422A#32
      (((9465531 / 8388608) * (Real.sqrt 8)⁻¹ : ℝ) : EReal) rfl⟩

/-- The kernel's six results are the reference's: each is the same real expression of the arguments' reals. -/
theorem equal_results : algebraic_KernelIdeal_ReferenceIdeal_pre_finite (hKernelIdeal := Cert.KernelIdeal.Gen.facts)
    (hReferenceIdeal := Cert.ReferenceIdeal.Gen.facts) (hPre_finite := Cert.Sgu.pre_facts) := by
  intro m g m' g' hpre hargs
  refine ⟨Cert.KernelIdeal.Value.G7 m, Cert.KernelIdeal.Value.G8 m, Cert.KernelIdeal.Value.G9 m, Cert.KernelIdeal.Value.G10 m,
    Cert.KernelIdeal.Value.G11 m, Cert.KernelIdeal.Value.G12 m, Cert.KernelIdeal.Value.run m g,
    (θ_run Cert.ReferenceIdeal.defs _ _).mono (fun r h c => ?_) (Cert.ReferenceIdeal.Value.run m' g')⟩
  obtain ⟨p0, p1, p2, p3, p4, p5, p6⟩ := hpre c
  obtain ⟨A, R⟩ : ∃ A, Cert.ReferenceIdeal.Vjp.Holds A _ _ _ _ _ _ _ := ⟨_, Cert.Sgu.holds_of_pre p0 p1 p2 p3 p4 p5 p6⟩
  have K : Cert.KernelIdeal.Block.Input m A c := ⟨R.z, R.dy, R.w, R.g, R.b, R.s, R.d⟩
  obtain ⟨e0, e1, e2, e3, e4, e5, e6⟩ := hargs c
  rw [← e0, ← e1, ← e2, ← e3, ← e4, ← e5, ← e6] at R
  obtain ⟨h0, h1, h2, h3, h4, h5, rest⟩ := h c
  refine ⟨h0.trans ?_, h1.trans ?_, h2.trans ?_, h3.trans ?_, h4.trans ?_, h5.trans ?_, rest⟩
  · rw [Cert.ReferenceIdeal.Read.val_main_v118_eq]
    exact funext fun i => (Cert.ReferenceIdeal.Vjp.v118_apply R i).trans (Cert.KernelIdeal.Block.dzp_array K i).symm
  · exact funext fun i => (R.dy i).trans (Cert.KernelIdeal.Block.dyb_array K i).symm
  · rw [Cert.ReferenceIdeal.Read.val_main_v79_eq]
    exact funext fun i => (Cert.ReferenceIdeal.Vjp.v79_apply R i).trans (Cert.KernelIdeal.Block.dlg_array K i).symm
  · exact funext fun i => (Cert.ReferenceIdeal.Vjp.v76_apply R i).trans (Cert.KernelIdeal.Block.dlb_array K i).symm
  · rw [Cert.ReferenceIdeal.Read.val_main_v73_eq]
    exact funext fun i => (Cert.ReferenceIdeal.Vjp.v73_apply R i).trans (Cert.KernelIdeal.Block.dws_array K i).symm
  · exact funext fun i => (Cert.ReferenceIdeal.Vjp.v119_apply R i).trans (Cert.KernelIdeal.Block.dbs_array K i).symm

/-- The second call's reference runs, leaves its arguments as they were and has no semaphore. -/
theorem reference2_frame : quiescent_Reference2Ideal (hReference2Ideal := Cert.Reference2Ideal.Gen.facts) := fun m g _ =>
  (θ_run Cert.Reference2Ideal.defs _ _).mono (fun r h => ⟨fun c => (h c).2.2.2.2.2, sem_eq_zero_of_no_sems (by decide) r.2⟩)
    (Cert.Reference2Ideal.Value.run m g)

/-- The second call's five results are its reference's. -/
theorem equal_results2 : algebraic_Kernel2Ideal_Reference2Ideal_pre_finite2 (hKernel2Ideal := Cert.Kernel2Ideal.Gen.facts)
    (hReference2Ideal := Cert.Reference2Ideal.Gen.facts) (hPre_finite2 := Cert.Ffn.pre_facts) := by
  intro m g m' g' hpre hargs
  refine ⟨fun c => (Cert.Kernel2Ideal.Gen.dats m 0 c).arrAt 4 Cert.Kernel2Ideal.cfg0.N,
    fun c => (Cert.Kernel2Ideal.Gen.dats m 0 c).arrAt 5 Cert.Kernel2Ideal.cfg0.N,
    fun c => (Cert.Kernel2Ideal.Gen.dats m 0 c).arrAt 6 Cert.Kernel2Ideal.cfg0.N,
    fun c => (Cert.Kernel2Ideal.Gen.dats m 0 c).arrAt 7 Cert.Kernel2Ideal.cfg0.N,
    fun c => (Cert.Kernel2Ideal.Gen.dats m 0 c).arrAt 8 Cert.Kernel2Ideal.cfg0.N, Cert.Kernel2Ideal.Value.run_blocks m g,
    (θ_run Cert.Reference2Ideal.defs _ _).mono (fun r h c => ?_) (Cert.Reference2Ideal.Value.run m' g')⟩
  obtain ⟨p0, p1, p2, p3, p4⟩ := hpre c
  obtain ⟨A, R⟩ : ∃ A, Cert.Reference2Ideal.Vjp.Holds A _ _ _ _ _ := ⟨_, Cert.Ffn.holds_of_pre p0 p1 p2 p3 p4⟩
  have K : Cert.Kernel2Ideal.Block.Input m A c := R
  obtain ⟨e0, e1, e2, e3, e4⟩ := hargs c
  rw [← e0, ← e1, ← e2, ← e3, ← e4] at R
  obtain ⟨h0, h1, h2, h3, h4, rest⟩ := h c
  refine ⟨h0.trans ?_, h1.trans ?_, h2.trans ?_, h3.trans ?_, h4.trans ?_, rest⟩
  · rw [Cert.Reference2Ideal.Read.val_main_v54_eq]
    exact (funext fun i => Cert.Reference2Ideal.Vjp.v54_apply R i).trans (Cert.Kernel2Ideal.Block.dx_array K).symm
  · rw [Cert.Reference2Ideal.Read.val_main_v37_eq]
    exact (funext fun i => Cert.Reference2Ideal.Vjp.v37_apply R i).trans (Cert.Kernel2Ideal.Block.dgam_array K).symm
  · exact (funext fun i => Cert.Reference2Ideal.Vjp.v57_apply R i).trans (Cert.Kernel2Ideal.Block.half_array K).symm
  · exact (funext fun i => Cert.Reference2Ideal.Vjp.v58_apply R i).trans (Cert.Kernel2Ideal.Block.h_array K).symm
  · rw [Cert.Reference2Ideal.Read.val_main_v59_eq]
    exact (funext fun i => Cert.Reference2Ideal.Vjp.v59_apply R i).trans (Cert.Kernel2Ideal.Block.dgu_array K).symm

/-- The third call's reference runs, leaves its arguments as they were and has no semaphore. -/
theorem reference3_frame : quiescent_Reference3Ideal (hReference3Ideal := Cert.Reference3Ideal.Gen.facts) := fun m g _ =>
  (θ_run Cert.Reference3Ideal.defs _ _).mono (fun r h => ⟨fun c => (h c).2.2.2.2.2.2, sem_eq_zero_of_no_sems (by decide) r.2⟩)
    (Cert.Reference3Ideal.Value.run m g)

/-- The third call's six results are its reference's. -/
theorem equal_results3 : algebraic_Kernel3Ideal_Reference3Ideal_pre_finite3 (hKernel3Ideal := Cert.Kernel3Ideal.Gen.facts)
    (hReference3Ideal := Cert.Reference3Ideal.Gen.facts) (hPre_finite3 := Cert.Ffn.Head.pre_facts) := by
  intro m g m' g' hpre hargs
  refine ⟨fun c => (Cert.Kernel3Ideal.Gen.dats m 0 c).arrAt 6 Cert.Kernel3Ideal.cfg0.N,
    fun c => (Cert.Kernel3Ideal.Gen.dats m 0 c).arrAt 7 Cert.Kernel3Ideal.cfg0.N,
    fun c => (Cert.Kernel3Ideal.Gen.dats m 0 c).arrAt 8 Cert.Kernel3Ideal.cfg0.N,
    fun c => (Cert.Kernel3Ideal.Gen.dats m 0 c).arrAt 9 Cert.Kernel3Ideal.cfg0.N,
    fun c => (Cert.Kernel3Ideal.Gen.dats m 0 c).arrAt 10 Cert.Kernel3Ideal.cfg0.N,
    fun c => (Cert.Kernel3Ideal.Gen.dats m 0 c).arrAt 11 Cert.Kernel3Ideal.cfg0.N, Cert.Kernel3Ideal.Value.run_blocks m g,
    (θ_run Cert.Reference3Ideal.defs _ _).mono (fun r h c => ?_) (Cert.Reference3Ideal.Value.run m' g')⟩
  obtain ⟨p0, p1, p2, p3, p4, p5, p6, p7⟩ := hpre c
  obtain ⟨A, R⟩ := Cert.Ffn.Head.holds_of_pre p0 p1 p2 p3 p4 p5 p6 p7
  have K : Cert.Kernel3Ideal.Block.Input m A c := R
  obtain ⟨e0, e1, e2, e3, e4, e5, e6, e7⟩ := hargs c
  rw [← e0, ← e1, ← e2, ← e3, ← e4, ← e5, ← e6, ← e7] at R
  obtain ⟨h0, h1, h2, h3, h4, h5, rest⟩ := h c
  refine ⟨h0.trans ?_, h1.trans ?_, h2.trans ?_, h3.trans ?_, h4.trans ?_, h5.trans ?_, rest⟩
  · rw [Cert.Reference3Ideal.Read.val_main_v2_eq]
    exact (funext fun i => Cert.Reference3Ideal.Vjp.v2_apply R i).trans (Cert.Kernel3Ideal.Block.xin_array K).symm
  · rw [Cert.Reference3Ideal.Read.val_main_v73_eq]
    exact (funext fun i => Cert.Reference3Ideal.Vjp.v73_apply R i).trans (Cert.Kernel3Ideal.Block.loss_array K).symm
  · rw [Cert.Reference3Ideal.Read.val_main_v72_eq]
    exact (funext fun i => Cert.Reference3Ideal.Vjp.v72_apply R i).trans (Cert.Kernel3Ideal.Block.dout_array K).symm
  · rw [Cert.Reference3Ideal.Read.val_main_v56_eq]
    exact (funext fun i => Cert.Reference3Ideal.Vjp.v56_apply R i).trans (Cert.Kernel3Ideal.Block.dgain_array K).symm
  · rw [Cert.Reference3Ideal.Read.val_main_v74_eq]
    exact (funext fun i => Cert.Reference3Ideal.Vjp.v74_apply R i).trans (Cert.Kernel3Ideal.Block.xn_array K).symm
  · rw [Cert.Reference3Ideal.Read.val_main_v75_eq]
    exact (funext fun i => Cert.Reference3Ideal.Vjp.v75_apply R i).trans (Cert.Kernel3Ideal.Block.gu_array K).symm

/-- The fourth call's reference runs, leaves its arguments as they were and has no semaphore. -/
theorem reference4_frame : quiescent_Reference4Ideal (hReference4Ideal := Cert.Reference4Ideal.Gen.facts) := fun m g _ =>
  (θ_run Cert.Reference4Ideal.defs _ _).mono (fun r h => ⟨fun c => (h c).2.2, sem_eq_zero_of_no_sems (by decide) r.2⟩)
    (Cert.Reference4Ideal.Value.run m g)

/-- The fourth call's two results are its reference's. -/
theorem equal_results4 : algebraic_Kernel4Ideal_Reference4Ideal_pre_finite4 (hKernel4Ideal := Cert.Kernel4Ideal.Gen.facts)
    (hReference4Ideal := Cert.Reference4Ideal.Gen.facts) (hPre_finite4 := Cert.Ffn.Proj.pre_facts) := by
  intro m g m' g' hpre hargs
  refine ⟨fun c => (Cert.Kernel4Ideal.Gen.dats m 0 c).arrAt 5 Cert.Kernel4Ideal.cfg0.N,
    fun c => (Cert.Kernel4Ideal.Gen.dats m 0 c).arrAt 6 Cert.Kernel4Ideal.cfg0.N, Cert.Kernel4Ideal.Value.run_blocks m g,
    (θ_run Cert.Reference4Ideal.defs _ _).mono (fun r h c => ?_) (Cert.Reference4Ideal.Value.run m' g')⟩
  obtain ⟨p0, p1, p2, p3, p4⟩ := hpre c
  obtain ⟨A, R⟩ := Cert.Ffn.Proj.holds_of_pre p0 p1 p2 p3 p4
  have K : Cert.Kernel4Ideal.Block.Input m A c := R
  obtain ⟨e0, e1, e2, e3, e4⟩ := hargs c
  rw [← e0, ← e1, ← e2, ← e3, ← e4] at R
  obtain ⟨h0, h1, rest⟩ := h c
  refine ⟨h0.trans ?_, h1.trans ?_, rest⟩
  · rw [Cert.Reference4Ideal.Read.val_main_v37_eq]
    exact (funext fun i => Cert.Reference4Ideal.Vjp.v37_apply R i).trans (Cert.Kernel4Ideal.Block.dx_array K).symm
  · rw [Cert.Reference4Ideal.Read.val_main_v20_eq]
    exact (funext fun i => Cert.Reference4Ideal.Vjp.v20_apply R i).trans (Cert.Kernel4Ideal.Block.dgam_array K).symm

/-- The fifth call's reference runs, leaves its arguments as they were and has no semaphore. -/
theorem reference5_frame : quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩)
    (Cert.Reference5Ideal.Value.run m g)

/-- The fifth call's result is its reference's, whatever the arguments. -/
theorem equal_results5 : algebraic_Kernel5Ideal_Reference5Ideal (hKernel5Ideal := Cert.Kernel5Ideal.Gen.facts)
    (hReference5Ideal := Cert.Reference5Ideal.Gen.facts) := by
  intro m g m' g' _ hargs
  refine ⟨fun c => (Cert.Kernel5Ideal.Gen.dats m 0 c).arrAt 2 Cert.Kernel5Ideal.cfg0.N, Cert.Kernel5Ideal.Value.run_blocks m g,
    (θ_run Cert.Reference5Ideal.defs _ _).mono (fun r h c => ?_) (Cert.Reference5Ideal.Value.run m' g')⟩
  obtain ⟨A, K⟩ : ∃ A, Cert.Kernel5Ideal.Block.Input m A c :=
    ⟨⟨Cert.Ffn.Grad.nat _, Cert.Ffn.Grad.nat _⟩, Cert.Ffn.Grad.nat_apply _, Cert.Ffn.Grad.nat_apply _⟩
  obtain ⟨e0, e1⟩ := hargs c
  obtain ⟨h0, rest⟩ := h c
  refine ⟨h0.trans ?_, rest⟩
  rw [Cert.Reference5Ideal.Read.val_main_v7_eq, e0, e1]
  exact (funext fun i => Cert.Reference5Ideal.Grad.v7_apply K.h K.d i).trans (Cert.Kernel5Ideal.Block.dw_array K).symm

/-- The sixth call's reference runs, leaves its arguments as they were and has no semaphore. -/
theorem reference6_frame : quiescent_Reference6Ideal (hReference6Ideal := Cert.Reference6Ideal.Gen.facts) := fun m g _ =>
  (θ_run Cert.Reference6Ideal.defs _ _).mono (fun r h => ⟨fun c => (h c).2.2.2, sem_eq_zero_of_no_sems (by decide) r.2⟩)
    (Cert.Reference6Ideal.Value.run m g)

/-- The sixth call's three results are its reference's. -/
theorem equal_results6 : algebraic_Kernel6Ideal_Reference6Ideal_pre_finite6 (hKernel6Ideal := Cert.Kernel6Ideal.Gen.facts)
    (hReference6Ideal := Cert.Reference6Ideal.Gen.facts) (hPre_finite6 := Cert.Ffn.Hid.pre_facts) := by
  intro m g m' g' hpre hargs
  refine ⟨fun c => (Cert.Kernel6Ideal.Gen.dats m 0 c).arrAt 2 Cert.Kernel6Ideal.cfg0.N,
    fun c => (Cert.Kernel6Ideal.Gen.dats m 0 c).arrAt 3 Cert.Kernel6Ideal.cfg0.N,
    fun c => (Cert.Kernel6Ideal.Gen.dats m 0 c).arrAt 4 Cert.Kernel6Ideal.cfg0.N, Cert.Kernel6Ideal.Value.run_blocks m g,
    (θ_run Cert.Reference6Ideal.defs _ _).mono (fun r h c => ?_) (Cert.Reference6Ideal.Value.run m' g')⟩
  obtain ⟨p0, p1, p2⟩ := hpre c
  obtain ⟨A, R⟩ := Cert.Ffn.Hid.holds_of_pre p0 p1 p2
  have K : Cert.Kernel6Ideal.Block.Input m A c := R
  obtain ⟨e0, e1, e2⟩ := hargs c
  rw [← e0, ← e1, ← e2] at R
  obtain ⟨h0, h1, h2, rest⟩ := h c
  refine ⟨h0.trans ?_, h1.trans ?_, h2.trans ?_, rest⟩
  · rw [Cert.Reference6Ideal.Read.val_main_v10_eq]
    exact (funext fun i => Cert.Reference6Ideal.Vjp.v10_apply R i).trans (Cert.Kernel6Ideal.Block.half_array K).symm
  · rw [Cert.Reference6Ideal.Read.val_main_v11_eq]
    exact (funext fun i => Cert.Reference6Ideal.Vjp.v11_apply R i).trans (Cert.Kernel6Ideal.Block.h_array K).symm
  · rw [Cert.Reference6Ideal.Read.val_main_v19_eq]
    exact (funext fun i => Cert.Reference6Ideal.Vjp.v19_apply R i).trans (Cert.Kernel6Ideal.Block.dgu_array K).symm

/-- The seventh call's reference runs, leaves its arguments as they were and has no semaphore. -/
theorem reference7_frame : quiescent_Reference7Ideal (hReference7Ideal := Cert.Reference7Ideal.Gen.facts) := fun m g _ =>
  (θ_run Cert.Reference7Ideal.defs _ _).mono (fun r h => ⟨fun c => (h c).2, sem_eq_zero_of_no_sems (by decide) r.2⟩)
    (Cert.Reference7Ideal.Value.run m g)

/-- The seventh call's result is its reference's, whatever the arguments. -/
theorem equal_results7 : algebraic_Kernel7Ideal_Reference7Ideal (hKernel7Ideal := Cert.Kernel7Ideal.Gen.facts)
    (hReference7Ideal := Cert.Reference7Ideal.Gen.facts) := by
  intro m g m' g' _ hargs
  refine ⟨fun c => (Cert.Kernel7Ideal.Gen.dats m 0 c).arrAt 2 Cert.Kernel7Ideal.cfg0.N, Cert.Kernel7Ideal.Value.run_blocks m g,
    (θ_run Cert.Reference7Ideal.defs _ _).mono (fun r h c => ?_) (Cert.Reference7Ideal.Value.run m' g')⟩
  obtain ⟨A, K⟩ : ∃ A, Cert.Kernel7Ideal.Block.Input m A c :=
    ⟨⟨Cert.Ffn.Grad.nat _, Cert.Ffn.Grad.nat _⟩, Cert.Ffn.Grad.nat_apply _, Cert.Ffn.Grad.nat_apply _⟩
  obtain ⟨e0, e1⟩ := hargs c
  obtain ⟨h0, rest⟩ := h c
  refine ⟨h0.trans ?_, rest⟩
  rw [Cert.Reference7Ideal.Read.val_main_v8_eq, e0, e1]
  exact (funext fun i => Cert.Reference7Ideal.Grad.v8_apply K.h K.d i).trans (Cert.Kernel7Ideal.Block.dw_array K).symm

/-- The eighth call's reference runs, leaves its arguments as they were and has no semaphore. -/
theorem reference8_frame : quiescent_Reference8Ideal (hReference8Ideal := Cert.Reference8Ideal.Gen.facts) := fun m g _ =>
  (θ_run Cert.Reference8Ideal.defs _ _).mono (fun r h => ⟨fun c => (h c).2.2.2, sem_eq_zero_of_no_sems (by decide) r.2⟩)
    (Cert.Reference8Ideal.Value.run m g)

/-- The eighth call's three results are its reference's, whatever the arguments. -/
theorem equal_results8 : algebraic_Kernel8Ideal_Reference8Ideal (hKernel8Ideal := Cert.Kernel8Ideal.Gen.facts)
    (hReference8Ideal := Cert.Reference8Ideal.Gen.facts) := by
  intro m g m' g' _ hargs
  refine ⟨fun c => (Cert.Kernel8Ideal.Gen.dats m 0 c).arrAt 2 Cert.Kernel8Ideal.cfg0.N,
    fun c => (Cert.Kernel8Ideal.Gen.dats m 0 c).arrAt 3 Cert.Kernel8Ideal.cfg0.N,
    fun c => (Cert.Kernel8Ideal.Gen.dats m 0 c).arrAt 4 Cert.Kernel8Ideal.cfg0.N, Cert.Kernel8Ideal.Value.run_blocks m g,
    (θ_run Cert.Reference8Ideal.defs _ _).mono (fun r h c => ?_) (Cert.Reference8Ideal.Value.run m' g')⟩
  obtain ⟨A, K⟩ := Cert.Kernel8Ideal.Block.input m c
  have R : Cert.Reference8Ideal.Fwd.Holds A _ _ _ _ := K
  obtain ⟨e0, e1, e2, e3⟩ := hargs c
  rw [← e0, ← e1, ← e2, ← e3] at R
  obtain ⟨h0, h1, h2, rest⟩ := h c
  refine ⟨h0.trans ?_, h1.trans ?_, h2.trans ?_, rest⟩
  · rw [Cert.Reference8Ideal.Read.val_main_v20_eq]
    exact (funext fun i => Cert.Reference8Ideal.Fwd.v20_apply R i).trans (Cert.Kernel8Ideal.Block.out_array K).symm
  · rw [Cert.Reference8Ideal.Read.val_main_v21_eq]
    exact (funext fun i => Cert.Reference8Ideal.Fwd.v21_apply R i).trans (Cert.Kernel8Ideal.Block.xn_array K).symm
  · rw [Cert.Reference8Ideal.Read.val_main_v22_eq]
    exact (funext fun i => Cert.Reference8Ideal.Fwd.v22_apply R i).trans (Cert.Kernel8Ideal.Block.gu_array K).symm

/-- The ninth call's reference runs, leaves its arguments as they were and has no semaphore. -/
theorem reference9_frame : quiescent_Reference9Ideal (hReference9Ideal := Cert.Reference9Ideal.Gen.facts) := fun m g _ =>
  (θ_run Cert.Reference9Ideal.defs _ _).mono (fun r h => ⟨fun c => (h c).2.2, sem_eq_zero_of_no_sems (by decide) r.2⟩)
    (Cert.Reference9Ideal.Value.run m g)

/-- The ninth call's two results are its reference's. -/
theorem equal_results9 : algebraic_Kernel9Ideal_Reference9Ideal_pre_finite9 (hKernel9Ideal := Cert.Kernel9Ideal.Gen.facts)
    (hReference9Ideal := Cert.Reference9Ideal.Gen.facts) (hPre_finite9 := Cert.Ffn.Dx.pre_facts) := by
  intro m g m' g' hpre hargs
  refine ⟨fun c => (Cert.Kernel9Ideal.Gen.dats m 0 c).arrAt 5 Cert.Kernel9Ideal.cfg0.N,
    fun c => (Cert.Kernel9Ideal.Gen.dats m 0 c).arrAt 6 Cert.Kernel9Ideal.cfg0.N, Cert.Kernel9Ideal.Value.run_blocks m g,
    (θ_run Cert.Reference9Ideal.defs _ _).mono (fun r h c => ?_) (Cert.Reference9Ideal.Value.run m' g')⟩
  obtain ⟨p0, p1, p2, p3, p4⟩ := hpre c
  obtain ⟨A, R⟩ := Cert.Ffn.Dx.holds_of_pre p0 p1 p2 p3 p4
  have K : Cert.Kernel9Ideal.Block.Input m A c := R
  obtain ⟨e0, e1, e2, e3, e4⟩ := hargs c
  rw [← e0, ← e1, ← e2, ← e3, ← e4] at R
  obtain ⟨h0, h1, rest⟩ := h c
  refine ⟨h0.trans ?_, h1.trans ?_, rest⟩
  · rw [Cert.Reference9Ideal.Read.val_main_v37_eq]
    exact (funext fun i => Cert.Reference9Ideal.Vjp.v37_apply R i).trans (Cert.Kernel9Ideal.Block.dx_array K).symm
  · rw [Cert.Reference9Ideal.Read.val_main_v20_eq]
    exact (funext fun i => Cert.Reference9Ideal.Vjp.v20_apply R i).trans (Cert.Kernel9Ideal.Block.dgam_array K).symm

/-- The tenth call's reference runs, leaves its arguments as they were and has no semaphore. -/
theorem reference10_frame : quiescent_Reference10Ideal (hReference10Ideal := Cert.Reference10Ideal.Gen.facts) := fun m g _ =>
  (θ_run Cert.Reference10Ideal.defs _ _).mono (fun r h => ⟨fun c => (h c).2.2.2.2, sem_eq_zero_of_no_sems (by decide) r.2⟩)
    (Cert.Reference10Ideal.Value.run m g)

/-- The tenth call's four results are its reference's, whatever the arguments. -/
theorem equal_results10 : algebraic_Kernel10Ideal_Reference10Ideal (hKernel10Ideal := Cert.Kernel10Ideal.Gen.facts)
    (hReference10Ideal := Cert.Reference10Ideal.Gen.facts) := by
  intro m g m' g' _ hargs
  refine ⟨fun c => (Cert.Kernel10Ideal.Gen.dats m 0 c).arrAt 4 Cert.Kernel10Ideal.cfg0.N,
    fun c => (Cert.Kernel10Ideal.Gen.dats m 0 c).arrAt 5 Cert.Kernel10Ideal.cfg0.N,
    fun c => (Cert.Kernel10Ideal.Gen.dats m 0 c).arrAt 6 Cert.Kernel10Ideal.cfg0.N,
    fun c => (Cert.Kernel10Ideal.Gen.dats m 0 c).arrAt 7 Cert.Kernel10Ideal.cfg0.N, Cert.Kernel10Ideal.Value.run_blocks m g,
    (θ_run Cert.Reference10Ideal.defs _ _).mono (fun r h c => ?_) (Cert.Reference10Ideal.Value.run m' g')⟩
  obtain ⟨A, K⟩ := Cert.Kernel10Ideal.Block.input m c
  have R : Cert.Reference10Ideal.Fwd.Holds A _ _ _ _ _ _ := K
  obtain ⟨e0, e1, e2, e3, e4, e5⟩ := hargs c
  rw [← e0, ← e1, ← e2, ← e3, ← e4, ← e5] at R
  obtain ⟨h0, h1, h2, h3, rest⟩ := h c
  refine ⟨h0.trans ?_, h1.trans ?_, h2.trans ?_, h3.trans ?_, rest⟩
  · rw [Cert.Reference10Ideal.Read.val_main_v2_eq]
    exact (funext fun i => Cert.Reference10Ideal.Fwd.v2_apply R i).trans (Cert.Kernel10Ideal.Block.xin_array K).symm
  · rw [Cert.Reference10Ideal.Read.val_main_v23_eq]
    exact (funext fun i => Cert.Reference10Ideal.Fwd.v23_apply R i).trans (Cert.Kernel10Ideal.Block.out_array K).symm
  · rw [Cert.Reference10Ideal.Read.val_main_v24_eq]
    exact (funext fun i => Cert.Reference10Ideal.Fwd.v24_apply R i).trans (Cert.Kernel10Ideal.Block.xn_array K).symm
  · rw [Cert.Reference10Ideal.Read.val_main_v25_eq]
    exact (funext fun i => Cert.Reference10Ideal.Fwd.v25_apply R i).trans (Cert.Kernel10Ideal.Block.gu_array K).symm

/-- The eleventh call's reference runs, leaves its arguments as they were and has no semaphore. -/
theorem reference11_frame : quiescent_Reference11Ideal (hReference11Ideal := Cert.Reference11Ideal.Gen.facts) := fun m g _ =>
  (θ_run Cert.Reference11Ideal.defs _ _).mono (fun r h => ⟨fun c => (h c).2, sem_eq_zero_of_no_sems (by decide) r.2⟩)
    (Cert.Reference11Ideal.Value.run m g)

/-- The eleventh call's result is its reference's, whatever the arguments. -/
theorem equal_results11 : algebraic_Kernel11Ideal_Reference11Ideal (hKernel11Ideal := Cert.Kernel11Ideal.Gen.facts)
    (hReference11Ideal := Cert.Reference11Ideal.Gen.facts) := by
  intro m g m' g' _ hargs
  refine ⟨fun c => (Cert.Kernel11Ideal.Gen.dats m 0 c).arrAt 2 Cert.Kernel11Ideal.cfg0.N, Cert.Kernel11Ideal.Value.run_blocks m g,
    (θ_run Cert.Reference11Ideal.defs _ _).mono (fun r h c => ?_) (Cert.Reference11Ideal.Value.run m' g')⟩
  obtain ⟨A, K⟩ : ∃ A, Cert.Kernel11Ideal.Block.Input m A c :=
    ⟨⟨Cert.Ffn.Grad.nat _, Cert.Ffn.Grad.nat _⟩, Cert.Ffn.Grad.nat_apply _, Cert.Ffn.Grad.nat_apply _⟩
  obtain ⟨e0, e1⟩ := hargs c
  obtain ⟨h0, rest⟩ := h c
  refine ⟨h0.trans ?_, rest⟩
  rw [Cert.Reference11Ideal.Read.val_main_v7_eq, e0, e1]
  exact (funext fun i => Cert.Reference11Ideal.Grad.v7_apply K.h K.d i).trans (Cert.Kernel11Ideal.Block.dw_array K).symm

/-- The twelfth call's reference runs, leaves its arguments as they were and has no semaphore. -/
theorem reference12_frame : quiescent_Reference12Ideal (hReference12Ideal := Cert.Reference12Ideal.Gen.facts) := fun m g _ =>
  (θ_run Cert.Reference12Ideal.defs _ _).mono (fun r h => ⟨fun c => (h c).2, sem_eq_zero_of_no_sems (by decide) r.2⟩)
    (Cert.Reference12Ideal.Value.run m g)

/-- The twelfth call's result is its reference's, whatever the arguments. -/
theorem equal_results12 : algebraic_Kernel12Ideal_Reference12Ideal (hKernel12Ideal := Cert.Kernel12Ideal.Gen.facts)
    (hReference12Ideal := Cert.Reference12Ideal.Gen.facts) := by
  intro m g m' g' _ hargs
  refine ⟨fun c => (Cert.Kernel12Ideal.Gen.dats m 0 c).arrAt 2 Cert.Kernel12Ideal.cfg0.N, Cert.Kernel12Ideal.Value.run_blocks m g,
    (θ_run Cert.Reference12Ideal.defs _ _).mono (fun r h c => ?_) (Cert.Reference12Ideal.Value.run m' g')⟩
  obtain ⟨A, K⟩ : ∃ A, Cert.Kernel12Ideal.Block.Input m A c :=
    ⟨⟨Cert.Ffn.Grad.nat _, Cert.Ffn.Grad.nat _⟩, Cert.Ffn.Grad.nat_apply _, Cert.Ffn.Grad.nat_apply _⟩
  obtain ⟨e0, e1⟩ := hargs c
  obtain ⟨h0, rest⟩ := h c
  refine ⟨h0.trans ?_, rest⟩
  rw [Cert.Reference12Ideal.Read.val_main_v7_eq, e0, e1]
  exact (funext fun i => Cert.Reference12Ideal.Grad.v7_apply K.h K.d i).trans (Cert.Kernel12Ideal.Block.dw_array K).symm

/-- The thirteenth call's reference runs, leaves its arguments as they were and has no semaphore. -/
theorem reference13_frame : quiescent_Reference13Ideal (hReference13Ideal := Cert.Reference13Ideal.Gen.facts) := fun m g _ =>
  (θ_run Cert.Reference13Ideal.defs _ _).mono (fun r h => ⟨fun c => (h c).2, sem_eq_zero_of_no_sems (by decide) r.2⟩)
    (Cert.Reference13Ideal.Value.run m g)

/-- The thirteenth call's result is its reference's, whatever the arguments. -/
theorem equal_results13 : algebraic_Kernel13Ideal_Reference13Ideal (hKernel13Ideal := Cert.Kernel13Ideal.Gen.facts)
    (hReference13Ideal := Cert.Reference13Ideal.Gen.facts) := by
  intro m g m' g' _ hargs
  refine ⟨fun c => (Cert.Kernel13Ideal.Gen.dats m 0 c).arrAt 2 Cert.Kernel13Ideal.cfg0.N, Cert.Kernel13Ideal.Value.run_blocks m g,
    (θ_run Cert.Reference13Ideal.defs _ _).mono (fun r h c => ?_) (Cert.Reference13Ideal.Value.run m' g')⟩
  obtain ⟨A, K⟩ : ∃ A, Cert.Kernel13Ideal.Block.Input m A c :=
    ⟨⟨Cert.Ffn.Grad.nat _, Cert.Ffn.Grad.nat _⟩, Cert.Ffn.Grad.nat_apply _, Cert.Ffn.Grad.nat_apply _⟩
  obtain ⟨e0, e1⟩ := hargs c
  obtain ⟨h0, rest⟩ := h c
  refine ⟨h0.trans ?_, rest⟩
  rw [Cert.Reference13Ideal.Read.val_main_v7_eq, e0, e1]
  exact (funext fun i => Cert.Reference13Ideal.Grad.v7_apply K.h K.d i).trans (Cert.Kernel13Ideal.Block.dw_array K).symm

/-- The fourteenth call's reference runs, leaves its arguments as they were and has no semaphore. -/
theorem reference14_frame : quiescent_Reference14Ideal (hReference14Ideal := Cert.Reference14Ideal.Gen.facts) := fun m g _ =>
  (θ_run Cert.Reference14Ideal.defs _ _).mono (fun r h => ⟨fun c => (h c).2.2, sem_eq_zero_of_no_sems (by decide) r.2⟩)
    (Cert.Reference14Ideal.Value.run m g)

/-- The fourteenth call's two results are its reference's. -/
theorem equal_results14 : algebraic_Kernel14Ideal_Reference14Ideal_pre_finite14 (hKernel14Ideal := Cert.Kernel14Ideal.Gen.facts)
    (hReference14Ideal := Cert.Reference14Ideal.Gen.facts) (hPre_finite14 := Cert.Ffn.Mix.pre_facts) := by
  intro m g m' g' hpre hargs
  refine ⟨fun c => (Cert.Kernel14Ideal.Gen.dats m 0 c).arrAt 5 Cert.Kernel14Ideal.cfg0.N,
    fun c => (Cert.Kernel14Ideal.Gen.dats m 0 c).arrAt 6 Cert.Kernel14Ideal.cfg0.N, Cert.Kernel14Ideal.Value.run_blocks m g,
    (θ_run Cert.Reference14Ideal.defs _ _).mono (fun r h c => ?_) (Cert.Reference14Ideal.Value.run m' g')⟩
  obtain ⟨p0, p1, p2, p3, p4⟩ := hpre c
  obtain ⟨A, R⟩ := Cert.Ffn.Mix.holds_of_pre p0 p1 p2 p3 p4
  have K : Cert.Kernel14Ideal.Block.Input m A c := R
  obtain ⟨e0, e1, e2, e3, e4⟩ := hargs c
  rw [← e0, ← e1, ← e2, ← e3, ← e4] at R
  obtain ⟨h0, h1, rest⟩ := h c
  refine ⟨h0.trans ?_, h1.trans ?_, rest⟩
  · rw [Cert.Reference14Ideal.Read.val_main_v37_eq]
    exact (funext fun i => Cert.Reference14Ideal.Vjp.v37_apply R i).trans (Cert.Kernel14Ideal.Block.dx_array K).symm
  · rw [Cert.Reference14Ideal.Read.val_main_v20_eq]
    exact (funext fun i => Cert.Reference14Ideal.Vjp.v20_apply R i).trans (Cert.Kernel14Ideal.Block.dgam_array K).symm

/-- The fifteenth call's reference runs, leaves its arguments as they were and has no semaphore. -/
theorem reference15_frame : quiescent_Reference15Ideal (hReference15Ideal := Cert.Reference15Ideal.Gen.facts) := fun m g _ =>
  (θ_run Cert.Reference15Ideal.defs _ _).mono (fun r h => ⟨fun c => (h c).2.2, sem_eq_zero_of_no_sems (by decide) r.2⟩)
    (Cert.Reference15Ideal.Value.run m g)

/-- The fifteenth call's two results are its reference's, whatever the arguments. -/
theorem equal_results15 : algebraic_Kernel15Ideal_Reference15Ideal (hKernel15Ideal := Cert.Kernel15Ideal.Gen.facts)
    (hReference15Ideal := Cert.Reference15Ideal.Gen.facts) := by
  intro m g m' g' _ hargs
  refine ⟨fun c => (Cert.Kernel15Ideal.Gen.dats m 0 c).arrAt 2 Cert.Kernel15Ideal.cfg0.N,
    fun c => (Cert.Kernel15Ideal.Gen.dats m 0 c).arrAt 3 Cert.Kernel15Ideal.cfg0.N, Cert.Kernel15Ideal.Value.run_blocks m g,
    (θ_run Cert.Reference15Ideal.defs _ _).mono (fun r h c => ?_) (Cert.Reference15Ideal.Value.run m' g')⟩
  obtain ⟨A, K⟩ := Cert.Kernel15Ideal.Block.input m c
  have R : Cert.Reference15Ideal.Out.Holds A _ _ := K
  obtain ⟨e0, e1⟩ := hargs c
  rw [← e0, ← e1] at R
  obtain ⟨h0, h1, rest⟩ := h c
  refine ⟨h0.trans ?_, h1.trans ?_, rest⟩
  · rw [Cert.Reference15Ideal.Read.val_main_v2_eq]
    exact (funext fun i => Cert.Reference15Ideal.Out.v2_apply R i).trans (Cert.Kernel15Ideal.Block.dq_array K).symm
  · rw [Cert.Reference15Ideal.Read.val_main_v3_eq]
    exact (funext fun i => Cert.Reference15Ideal.Out.v3_apply R i).trans (Cert.Kernel15Ideal.Block.rows_array K).symm

/-- The sixteenth call's reference runs, leaves its arguments as they were and has no semaphore. -/
theorem reference16_frame : quiescent_Reference16Ideal (hReference16Ideal := Cert.Reference16Ideal.Gen.facts) := fun m g _ =>
  (θ_run Cert.Reference16Ideal.defs _ _).mono (fun r h => ⟨fun c => (h c).2.2.2, sem_eq_zero_of_no_sems (by decide) r.2⟩)
    (Cert.Reference16Ideal.Value.run m g)

/-- The constant that the sixteenth call names has the real it stands for. -/
theorem named16 : preserves_Kernel16_Kernel16Ideal :=
  IdealRules.named_const.statement Cert.Kernel16Ideal.κ "sqrt_half" .f32 0x3F3504F3#32 (((Real.sqrt 2)⁻¹ : ℝ) : EReal) rfl

/-- The sixteenth call's three results are its reference's, whatever the arguments. -/
theorem equal_results16 : algebraic_Kernel16Ideal_Reference16Ideal (hKernel16Ideal := Cert.Kernel16Ideal.Gen.facts)
    (hReference16Ideal := Cert.Reference16Ideal.Gen.facts) := by
  intro m g m' g' _ hargs
  refine ⟨fun c => (Cert.Kernel16Ideal.Gen.dats m 0 c).arrAt 7 Cert.Kernel16Ideal.cfg0.N,
    fun c => (Cert.Kernel16Ideal.Gen.dats m 0 c).arrAt 8 Cert.Kernel16Ideal.cfg0.N,
    fun c => (Cert.Kernel16Ideal.Gen.dats m 0 c).arrAt 9 Cert.Kernel16Ideal.cfg0.N, Cert.Kernel16Ideal.Value.run_blocks m g,
    (θ_run Cert.Reference16Ideal.defs _ _).mono (fun r h c => ?_) (Cert.Reference16Ideal.Value.run m' g')⟩
  obtain ⟨A, K⟩ := Cert.Kernel16Ideal.Block.input m c
  have R : Cert.Reference16Ideal.Unit.Holds A _ _ _ _ _ _ _ := K
  obtain ⟨e0, e1, e2, e3, e4, e5, e6⟩ := hargs c
  rw [← e0, ← e1, ← e2, ← e3, ← e4, ← e5, ← e6] at R
  obtain ⟨h0, h1, h2, rest⟩ := h c
  refine ⟨h0.trans ?_, h1.trans ?_, h2.trans ?_, rest⟩
  · rw [Cert.Reference16Ideal.Read.val_main_v13_eq]
    exact (funext fun i => Cert.Reference16Ideal.Unit.v13_apply R i).trans (Cert.Kernel16Ideal.Block.xn_array K).symm
  · rw [Cert.Reference16Ideal.Read.val_main_v14_eq]
    exact (funext fun i => Cert.Reference16Ideal.Unit.v14_apply R i).trans (Cert.Kernel16Ideal.Block.zp_array K).symm
  · rw [Cert.Reference16Ideal.Read.val_main_v62_eq]
    exact (funext fun i => Cert.Reference16Ideal.Unit.v62_apply R i).trans (Cert.Kernel16Ideal.Block.q_array K).symm

/-- All the claims. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Sgu.pre_facts, Cert.Ffn.pre_facts, Cert.Ffn.Head.pre_facts, Cert.Ffn.Proj.pre_facts, Cert.Ffn.Hid.pre_facts, Cert.Ffn.Dx.pre_facts,
    Cert.Ffn.Mix.pre_facts,
    fun m g _ => Cert.Kernel.Gen.frame m g, fun m g _ => Cert.KernelIdeal.Gen.frame m g, fun m g _ => Cert.KernelIdeal.Gen.frame m g,
    reference_frame, fun m g _ => reference_frame m g trivial,
    fun m g _ => Cert.Kernel2.Gen.frame m g, fun m g _ => Cert.Kernel2Ideal.Gen.frame m g, fun m g _ => Cert.Kernel2Ideal.Gen.frame m g,
    reference2_frame, fun m g _ => reference2_frame m g trivial,
    fun m g _ => Cert.Kernel3.Gen.frame m g, fun m g _ => Cert.Kernel3Ideal.Gen.frame m g, fun m g _ => Cert.Kernel3Ideal.Gen.frame m g,
    reference3_frame, fun m g _ => reference3_frame m g trivial,
    fun m g _ => Cert.Kernel4.Gen.frame m g, fun m g _ => Cert.Kernel4Ideal.Gen.frame m g, fun m g _ => Cert.Kernel4Ideal.Gen.frame m g,
    reference4_frame, fun m g _ => reference4_frame m g trivial,
    fun m g _ => Cert.Kernel5.Gen.frame m g, fun m g _ => Cert.Kernel5Ideal.Gen.frame m g, reference5_frame,
    fun m g _ => Cert.Kernel6.Gen.frame m g, fun m g _ => Cert.Kernel6Ideal.Gen.frame m g, fun m g _ => Cert.Kernel6Ideal.Gen.frame m g,
    reference6_frame, fun m g _ => reference6_frame m g trivial,
    fun m g _ => Cert.Kernel7.Gen.frame m g, fun m g _ => Cert.Kernel7Ideal.Gen.frame m g, reference7_frame,
    fun m g _ => Cert.Kernel8.Gen.frame m g, fun m g _ => Cert.Kernel8Ideal.Gen.frame m g, reference8_frame,
    fun m g _ => Cert.Kernel9.Gen.frame m g, fun m g _ => Cert.Kernel9Ideal.Gen.frame m g, fun m g _ => Cert.Kernel9Ideal.Gen.frame m g,
    reference9_frame, fun m g _ => reference9_frame m g trivial,
    fun m g _ => Cert.Kernel10.Gen.frame m g, fun m g _ => Cert.Kernel10Ideal.Gen.frame m g, reference10_frame,
    fun m g _ => Cert.Kernel11.Gen.frame m g, fun m g _ => Cert.Kernel11Ideal.Gen.frame m g, reference11_frame,
    fun m g _ => Cert.Kernel12.Gen.frame m g, fun m g _ => Cert.Kernel12Ideal.Gen.frame m g, reference12_frame,
    fun m g _ => Cert.Kernel13.Gen.frame m g, fun m g _ => Cert.Kernel13Ideal.Gen.frame m g, reference13_frame,
    fun m g _ => Cert.Kernel14.Gen.frame m g, fun m g _ => Cert.Kernel14Ideal.Gen.frame m g, fun m g _ => Cert.Kernel14Ideal.Gen.frame m g,
    reference14_frame, fun m g _ => reference14_frame m g trivial,
    fun m g _ => Cert.Kernel15.Gen.frame m g, fun m g _ => Cert.Kernel15Ideal.Gen.frame m g, reference15_frame,
    fun m g _ => Cert.Kernel16.Gen.frame m g, fun m g _ => Cert.Kernel16Ideal.Gen.frame m g, reference16_frame,
    named, equal_results, trivial, equal_results2, trivial, equal_results3, trivial, equal_results4, trivial, equal_results5,
    trivial, equal_results6,
    trivial, equal_results7, trivial, equal_results8, trivial, equal_results9, trivial, equal_results10,
    trivial, equal_results11, trivial, equal_results12, trivial, equal_results13, trivial, equal_results14, trivial, equal_results15, named16, equal_results16⟩

end Cert.Proof

end
